-- ==== Defs.lean ====
def Pre_MlpDa (m : (ℓ : Loc Cert.MlpDa.nD Cert.MlpDa.τ Cert.MlpDa.sig) → Buf (Elt Bits) ℓ) : Prop :=
  True

def Pre_MlpDaIdeal (m : (ℓ : Loc Cert.MlpDaIdeal.nD Cert.MlpDaIdeal.τ Cert.MlpDaIdeal.sig) → Buf (Elt Ideal) ℓ) : Prop :=
  True

def Pre_MlpDaRefIdeal (m : (ℓ : Loc Cert.MlpDaRefIdeal.nD Cert.MlpDaRefIdeal.τ Cert.MlpDaRefIdeal.sig) → Buf (Elt Ideal) ℓ) : Prop :=
  True

def Pre_GradWDown (m : (ℓ : Loc Cert.GradWDown.nD Cert.GradWDown.τ Cert.GradWDown.sig) → Buf (Elt Bits) ℓ) : Prop :=
  True

def Pre_GradWDownIdeal (m : (ℓ : Loc Cert.GradWDownIdeal.nD Cert.GradWDownIdeal.τ Cert.GradWDownIdeal.sig) → Buf (Elt Ideal) ℓ) : Prop :=
  True

def Pre_GradWDownRefIdeal (m : (ℓ : Loc Cert.GradWDownRefIdeal.nD Cert.GradWDownRefIdeal.τ Cert.GradWDownRefIdeal.sig) → Buf (Elt Ideal) ℓ) : Prop :=
  True

def Pre_GradWUp (m : (ℓ : Loc Cert.GradWUp.nD Cert.GradWUp.τ Cert.GradWUp.sig) → Buf (Elt Bits) ℓ) : Prop :=
  True

def Pre_GradWUpIdeal (m : (ℓ : Loc Cert.GradWUpIdeal.nD Cert.GradWUpIdeal.τ Cert.GradWUpIdeal.sig) → Buf (Elt Ideal) ℓ) : Prop :=
  True

def Pre_GradWUpRefIdeal (m : (ℓ : Loc Cert.GradWUpRefIdeal.nD Cert.GradWUpRefIdeal.τ Cert.GradWUpRefIdeal.sig) → Buf (Elt Ideal) ℓ) : Prop :=
  True

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_GradWO (m : (ℓ : Loc Cert.GradWO.nD Cert.GradWO.τ Cert.GradWO.sig) → Buf (Elt Bits) ℓ) : Prop :=
  True

def Pre_GradWOIdeal (m : (ℓ : Loc Cert.GradWOIdeal.nD Cert.GradWOIdeal.τ Cert.GradWOIdeal.sig) → Buf (Elt Ideal) ℓ) : Prop :=
  True

def Pre_GradWORefIdeal (m : (ℓ : Loc Cert.GradWORefIdeal.nD Cert.GradWORefIdeal.τ Cert.GradWORefIdeal.sig) → Buf (Elt Ideal) ℓ) : Prop :=
  True

def Pre_GradWBranch (m : (ℓ : Loc Cert.GradWBranch.nD Cert.GradWBranch.τ Cert.GradWBranch.sig) → Buf (Elt Bits) ℓ) : Prop :=
  True

def Pre_GradWBranchIdeal (m : (ℓ : Loc Cert.GradWBranchIdeal.nD Cert.GradWBranchIdeal.τ Cert.GradWBranchIdeal.sig) → Buf (Elt Ideal) ℓ) : Prop :=
  True

def Pre_GradWBranchRefIdeal (m : (ℓ : Loc Cert.GradWBranchRefIdeal.nD Cert.GradWBranchRefIdeal.τ Cert.GradWBranchRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_MemGrads (m : (ℓ : Loc Cert.MemGrads.nD Cert.MemGrads.τ Cert.MemGrads.sig) → Buf (Elt Bits) ℓ) : Prop :=
  True

def Pre_MemGradsIdeal (m : (ℓ : Loc Cert.MemGradsIdeal.nD Cert.MemGradsIdeal.τ Cert.MemGradsIdeal.sig) → Buf (Elt Ideal) ℓ) : Prop :=
  True

def Pre_MemGradsRefIdeal (m : (ℓ : Loc Cert.MemGradsRefIdeal.nD Cert.MemGradsRefIdeal.τ Cert.MemGradsRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite [hPre_finite : Cert.Pre_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.1 = (fun _ => 1#1)
    ∧ (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite [hPre_finite : Cert.Pre_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).1 = (fun _ => 1#1)
    ∧ (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.1 = (fun _ => 1#1)
    ∧ (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.2 = (fun _ => 1#1)

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_AdamWGateRefIdeal (m : (ℓ : Loc Cert.AdamWGateRefIdeal.nD Cert.AdamWGateRefIdeal.τ Cert.AdamWGateRefIdeal.sig) → Buf (Elt Ideal) ℓ) : Prop :=
  True

def quiescent_MlpDa [hMlpDa : Cert.MlpDa.Facts] : Prop :=
  ∀ (m : (ℓ : Loc Cert.MlpDa.nD Cert.MlpDa.τ Cert.MlpDa.sig) → Buf (Elt Bits) ℓ) (g : Dev Cert.MlpDa.nD → PrngReg), Pre_MlpDa m →
    θ_run (Cert.MlpDa.defs (F := Bits)) (onTc (τ := Cert.MlpDa.τ) (Cert.MlpDa.main (F := Bits))) ⟨m, fun _ => 0, g⟩ (fun r => (∀ c : Dev Cert.MlpDa.nD,
      r.2.mem ((c.tc : Thread Cert.MlpDa.nD Cert.MlpDa.τ).loc Cert.MlpDa.main_arg0) = m ((c.tc : Thread Cert.MlpDa.nD Cert.MlpDa.τ).loc Cert.MlpDa.main_arg0)
      ∧ r.2.mem ((c.tc : Thread Cert.MlpDa.nD Cert.MlpDa.τ).loc Cert.MlpDa.main_arg1) = m ((c.tc : Thread Cert.MlpDa.nD Cert.MlpDa.τ).loc Cert.MlpDa.main_arg1)
      ∧ r.2.mem ((c.tc : Thread Cert.MlpDa.nD Cert.MlpDa.τ).loc Cert.MlpDa.main_arg2) = m ((c.tc : Thread Cert.MlpDa.nD Cert.MlpDa.τ).loc Cert.MlpDa.main_arg2))
      ∧ r.2.sem = fun _ => 0)

def quiescent_MlpDaIdeal [hMlpDaIdeal : Cert.MlpDaIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg), Pre_MlpDaIdeal m →
    θ_run (Cert.MlpDaIdeal.defs (F := Ideal)) (onTc (τ := Cert.MlpDaIdeal.τ) (Cert.MlpDaIdeal.main (F := Ideal))) ⟨m, fun _ => 0, g⟩ (fun r => (∀ c : Dev Cert.MlpDaIdeal.nD,
      r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
      ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
      ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2))
      ∧ r.2.sem = fun _ => 0)

def quiescent_MlpDaRefIdeal [hMlpDaRefIdeal : Cert.MlpDaRefIdeal.Facts] : Prop :=
  ∀ (m : (ℓ : Loc Cert.MlpDaRefIdeal.nD Cert.MlpDaRefIdeal.τ Cert.MlpDaRefIdeal.sig) → Buf (Elt Ideal) ℓ) (g : Dev Cert.MlpDaRefIdeal.nD → PrngReg), Pre_MlpDaRefIdeal m →
    θ_run (Cert.MlpDaRefIdeal.defs (F := Ideal)) (onTc (τ := Cert.MlpDaRefIdeal.τ) (Cert.MlpDaRefIdeal.main (F := Ideal))) ⟨m, fun _ => 0, g⟩ (fun r => (∀ c : Dev Cert.MlpDaRefIdeal.nD,
      r.2.mem ((c.tc : Thread Cert.MlpDaRefIdeal.nD Cert.MlpDaRefIdeal.τ).loc Cert.MlpDaRefIdeal.main_arg0) = m ((c.tc : Thread Cert.MlpDaRefIdeal.nD Cert.MlpDaRefIdeal.τ).loc Cert.MlpDaRefIdeal.main_arg0)
      ∧ r.2.mem ((c.tc : Thread Cert.MlpDaRefIdeal.nD Cert.MlpDaRefIdeal.τ).loc Cert.MlpDaRefIdeal.main_arg1) = m ((c.tc : Thread Cert.MlpDaRefIdeal.nD Cert.MlpDaRefIdeal.τ).loc Cert.MlpDaRefIdeal.main_arg1)
      ∧ r.2.mem ((c.tc : Thread Cert.MlpDaRefIdeal.nD Cert.MlpDaRefIdeal.τ).loc Cert.MlpDaRefIdeal.main_arg2) = m ((c.tc : Thread Cert.MlpDaRefIdeal.nD Cert.MlpDaRefIdeal.τ).loc Cert.MlpDaRefIdeal.main_arg2))
      ∧ r.2.sem = fun _ => 0)

def quiescent_GradWDown [hGradWDown : Cert.GradWDown.Facts] : Prop :=
  ∀ (m : (ℓ : Loc Cert.GradWDown.nD Cert.GradWDown.τ Cert.GradWDown.sig) → Buf (Elt Bits) ℓ) (g : Dev Cert.GradWDown.nD → PrngReg), Pre_GradWDown m →
    θ_run (Cert.GradWDown.defs (F := Bits)) (onTc (τ := Cert.GradWDown.τ) (Cert.GradWDown.main (F := Bits))) ⟨m, fun _ => 0, g⟩ (fun r => (∀ c : Dev Cert.GradWDown.nD,
      r.2.mem ((c.tc : Thread Cert.GradWDown.nD Cert.GradWDown.τ).loc Cert.GradWDown.main_arg0) = m ((c.tc : Thread Cert.GradWDown.nD Cert.GradWDown.τ).loc Cert.GradWDown.main_arg0)
      ∧ r.2.mem ((c.tc : Thread Cert.GradWDown.nD Cert.GradWDown.τ).loc Cert.GradWDown.main_arg1) = m ((c.tc : Thread Cert.GradWDown.nD Cert.GradWDown.τ).loc Cert.GradWDown.main_arg1))
      ∧ r.2.sem = fun _ => 0)

def quiescent_GradWDownIdeal [hGradWDownIdeal : Cert.GradWDownIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg), Pre_GradWDownIdeal m →
    θ_run (Cert.GradWDownIdeal.defs (F := Ideal)) (onTc (τ := Cert.GradWDownIdeal.τ) (Cert.GradWDownIdeal.main (F := Ideal))) ⟨m, fun _ => 0, g⟩ (fun r => (∀ c : Dev Cert.GradWDownIdeal.nD,
      r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
      ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ r.2.sem = fun _ => 0)

def quiescent_GradWDownRefIdeal [hGradWDownRefIdeal : Cert.GradWDownRefIdeal.Facts] : Prop :=
  ∀ (m : (ℓ : Loc Cert.GradWDownRefIdeal.nD Cert.GradWDownRefIdeal.τ Cert.GradWDownRefIdeal.sig) → Buf (Elt Ideal) ℓ) (g : Dev Cert.GradWDownRefIdeal.nD → PrngReg), Pre_GradWDownRefIdeal m →
    θ_run (Cert.GradWDownRefIdeal.defs (F := Ideal)) (onTc (τ := Cert.GradWDownRefIdeal.τ) (Cert.GradWDownRefIdeal.main (F := Ideal))) ⟨m, fun _ => 0, g⟩ (fun r => (∀ c : Dev Cert.GradWDownRefIdeal.nD,
      r.2.mem ((c.tc : Thread Cert.GradWDownRefIdeal.nD Cert.GradWDownRefIdeal.τ).loc Cert.GradWDownRefIdeal.main_arg0) = m ((c.tc : Thread Cert.GradWDownRefIdeal.nD Cert.GradWDownRefIdeal.τ).loc Cert.GradWDownRefIdeal.main_arg0)
      ∧ r.2.mem ((c.tc : Thread Cert.GradWDownRefIdeal.nD Cert.GradWDownRefIdeal.τ).loc Cert.GradWDownRefIdeal.main_arg1) = m ((c.tc : Thread Cert.GradWDownRefIdeal.nD Cert.GradWDownRefIdeal.τ).loc Cert.GradWDownRefIdeal.main_arg1))
      ∧ r.2.sem = fun _ => 0)

def quiescent_GradWUp [hGradWUp : Cert.GradWUp.Facts] : Prop :=
  ∀ (m : (ℓ : Loc Cert.GradWUp.nD Cert.GradWUp.τ Cert.GradWUp.sig) → Buf (Elt Bits) ℓ) (g : Dev Cert.GradWUp.nD → PrngReg), Pre_GradWUp m →
    θ_run (Cert.GradWUp.defs (F := Bits)) (onTc (τ := Cert.GradWUp.τ) (Cert.GradWUp.main (F := Bits))) ⟨m, fun _ => 0, g⟩ (fun r => (∀ c : Dev Cert.GradWUp.nD,
      r.2.mem ((c.tc : Thread Cert.GradWUp.nD Cert.GradWUp.τ).loc Cert.GradWUp.main_arg0) = m ((c.tc : Thread Cert.GradWUp.nD Cert.GradWUp.τ).loc Cert.GradWUp.main_arg0)
      ∧ r.2.mem ((c.tc : Thread Cert.GradWUp.nD Cert.GradWUp.τ).loc Cert.GradWUp.main_arg1) = m ((c.tc : Thread Cert.GradWUp.nD Cert.GradWUp.τ).loc Cert.GradWUp.main_arg1))
      ∧ r.2.sem = fun _ => 0)

def quiescent_GradWUpIdeal [hGradWUpIdeal : Cert.GradWUpIdeal.Facts] : Prop :=
  ∀ (m : (ℓ : Loc Cert.GradWUpIdeal.nD Cert.GradWUpIdeal.τ Cert.GradWUpIdeal.sig) → Buf (Elt Ideal) ℓ) (g : Dev Cert.GradWUpIdeal.nD → PrngReg), Pre_GradWUpIdeal m →
    θ_run (Cert.GradWUpIdeal.defs (F := Ideal)) (onTc (τ := Cert.GradWUpIdeal.τ) (Cert.GradWUpIdeal.main (F := Ideal))) ⟨m, fun _ => 0, g⟩ (fun r => (∀ c : Dev Cert.GradWUpIdeal.nD,
      r.2.mem ((c.tc : Thread Cert.GradWUpIdeal.nD Cert.GradWUpIdeal.τ).loc Cert.GradWUpIdeal.main_arg0) = m ((c.tc : Thread Cert.GradWUpIdeal.nD Cert.GradWUpIdeal.τ).loc Cert.GradWUpIdeal.main_arg0)
      ∧ r.2.mem ((c.tc : Thread Cert.GradWUpIdeal.nD Cert.GradWUpIdeal.τ).loc Cert.GradWUpIdeal.main_arg1) = m ((c.tc : Thread Cert.GradWUpIdeal.nD Cert.GradWUpIdeal.τ).loc Cert.GradWUpIdeal.main_arg1))
      ∧ r.2.sem = fun _ => 0)

def quiescent_GradWUpRefIdeal [hGradWUpRefIdeal : Cert.GradWUpRefIdeal.Facts] : Prop :=
  ∀ (m : (ℓ : Loc Cert.GradWUpRefIdeal.nD Cert.GradWUpRefIdeal.τ Cert.GradWUpRefIdeal.sig) → Buf (Elt Ideal) ℓ) (g : Dev Cert.GradWUpRefIdeal.nD → PrngReg), Pre_GradWUpRefIdeal m →
    θ_run (Cert.GradWUpRefIdeal.defs (F := Ideal)) (onTc (τ := Cert.GradWUpRefIdeal.τ) (Cert.GradWUpRefIdeal.main (F := Ideal))) ⟨m, fun _ => 0, g⟩ (fun r => (∀ c : Dev Cert.GradWUpRefIdeal.nD,
      r.2.mem ((c.tc : Thread Cert.GradWUpRefIdeal.nD Cert.GradWUpRefIdeal.τ).loc Cert.GradWUpRefIdeal.main_arg0) = m ((c.tc : Thread Cert.GradWUpRefIdeal.nD Cert.GradWUpRefIdeal.τ).loc Cert.GradWUpRefIdeal.main_arg0)
      ∧ r.2.mem ((c.tc : Thread Cert.GradWUpRefIdeal.nD Cert.GradWUpRefIdeal.τ).loc Cert.GradWUpRefIdeal.main_arg1) = m ((c.tc : Thread Cert.GradWUpRefIdeal.nD Cert.GradWUpRefIdeal.τ).loc Cert.GradWUpRefIdeal.main_arg1))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2))
      ∧ r.2.sem = fun _ => 0)

def quiescent_GradWO [hGradWO : Cert.GradWO.Facts] : Prop :=
  ∀ (m : (ℓ : Loc Cert.GradWO.nD Cert.GradWO.τ Cert.GradWO.sig) → Buf (Elt Bits) ℓ) (g : Dev Cert.GradWO.nD → PrngReg), Pre_GradWO m →
    θ_run (Cert.GradWO.defs (F := Bits)) (onTc (τ := Cert.GradWO.τ) (Cert.GradWO.main (F := Bits))) ⟨m, fun _ => 0, g⟩ (fun r => (∀ c : Dev Cert.GradWO.nD,
      r.2.mem ((c.tc : Thread Cert.GradWO.nD Cert.GradWO.τ).loc Cert.GradWO.main_arg0) = m ((c.tc : Thread Cert.GradWO.nD Cert.GradWO.τ).loc Cert.GradWO.main_arg0)
      ∧ r.2.mem ((c.tc : Thread Cert.GradWO.nD Cert.GradWO.τ).loc Cert.GradWO.main_arg1) = m ((c.tc : Thread Cert.GradWO.nD Cert.GradWO.τ).loc Cert.GradWO.main_arg1))
      ∧ r.2.sem = fun _ => 0)

def quiescent_GradWOIdeal [hGradWOIdeal : Cert.GradWOIdeal.Facts] : Prop :=
  ∀ (m : (ℓ : Loc Cert.GradWOIdeal.nD Cert.GradWOIdeal.τ Cert.GradWOIdeal.sig) → Buf (Elt Ideal) ℓ) (g : Dev Cert.GradWOIdeal.nD → PrngReg), Pre_GradWOIdeal m →
    θ_run (Cert.GradWOIdeal.defs (F := Ideal)) (onTc (τ := Cert.GradWOIdeal.τ) (Cert.GradWOIdeal.main (F := Ideal))) ⟨m, fun _ => 0, g⟩ (fun r => (∀ c : Dev Cert.GradWOIdeal.nD,
      r.2.mem ((c.tc : Thread Cert.GradWOIdeal.nD Cert.GradWOIdeal.τ).loc Cert.GradWOIdeal.main_arg0) = m ((c.tc : Thread Cert.GradWOIdeal.nD Cert.GradWOIdeal.τ).loc Cert.GradWOIdeal.main_arg0)
      ∧ r.2.mem ((c.tc : Thread Cert.GradWOIdeal.nD Cert.GradWOIdeal.τ).loc Cert.GradWOIdeal.main_arg1) = m ((c.tc : Thread Cert.GradWOIdeal.nD Cert.GradWOIdeal.τ).loc Cert.GradWOIdeal.main_arg1))
      ∧ r.2.sem = fun _ => 0)

def quiescent_GradWORefIdeal [hGradWORefIdeal : Cert.GradWORefIdeal.Facts] : Prop :=
  ∀ (m : (ℓ : Loc Cert.GradWORefIdeal.nD Cert.GradWORefIdeal.τ Cert.GradWORefIdeal.sig) → Buf (Elt Ideal) ℓ) (g : Dev Cert.GradWORefIdeal.nD → PrngReg), Pre_GradWORefIdeal m →
    θ_run (Cert.GradWORefIdeal.defs (F := Ideal)) (onTc (τ := Cert.GradWORefIdeal.τ) (Cert.GradWORefIdeal.main (F := Ideal))) ⟨m, fun _ => 0, g⟩ (fun r => (∀ c : Dev Cert.GradWORefIdeal.nD,
      r.2.mem ((c.tc : Thread Cert.GradWORefIdeal.nD Cert.GradWORefIdeal.τ).loc Cert.GradWORefIdeal.main_arg0) = m ((c.tc : Thread Cert.GradWORefIdeal.nD Cert.GradWORefIdeal.τ).loc Cert.GradWORefIdeal.main_arg0)
      ∧ r.2.mem ((c.tc : Thread Cert.GradWORefIdeal.nD Cert.GradWORefIdeal.τ).loc Cert.GradWORefIdeal.main_arg1) = m ((c.tc : Thread Cert.GradWORefIdeal.nD Cert.GradWORefIdeal.τ).loc Cert.GradWORefIdeal.main_arg1))
      ∧ r.2.sem = fun _ => 0)

def quiescent_GradWBranch [hGradWBranch : Cert.GradWBranch.Facts] : Prop :=
  ∀ (m : (ℓ : Loc Cert.GradWBranch.nD Cert.GradWBranch.τ Cert.GradWBranch.sig) → Buf (Elt Bits) ℓ) (g : Dev Cert.GradWBranch.nD → PrngReg), Pre_GradWBranch m →
    θ_run (Cert.GradWBranch.defs (F := Bits)) (onTc (τ := Cert.GradWBranch.τ) (Cert.GradWBranch.main (F := Bits))) ⟨m, fun _ => 0, g⟩ (fun r => (∀ c : Dev Cert.GradWBranch.nD,
      r.2.mem ((c.tc : Thread Cert.GradWBranch.nD Cert.GradWBranch.τ).loc Cert.GradWBranch.main_arg0) = m ((c.tc : Thread Cert.GradWBranch.nD Cert.GradWBranch.τ).loc Cert.GradWBranch.main_arg0)
      ∧ r.2.mem ((c.tc : Thread Cert.GradWBranch.nD Cert.GradWBranch.τ).loc Cert.GradWBranch.main_arg1) = m ((c.tc : Thread Cert.GradWBranch.nD Cert.GradWBranch.τ).loc Cert.GradWBranch.main_arg1))
      ∧ r.2.sem = fun _ => 0)

def quiescent_GradWBranchIdeal [hGradWBranchIdeal : Cert.GradWBranchIdeal.Facts] : Prop :=
  ∀ (m : (ℓ : Loc Cert.GradWBranchIdeal.nD Cert.GradWBranchIdeal.τ Cert.GradWBranchIdeal.sig) → Buf (Elt Ideal) ℓ) (g : Dev Cert.GradWBranchIdeal.nD → PrngReg), Pre_GradWBranchIdeal m →
    θ_run (Cert.GradWBranchIdeal.defs (F := Ideal)) (onTc (τ := Cert.GradWBranchIdeal.τ) (Cert.GradWBranchIdeal.main (F := Ideal))) ⟨m, fun _ => 0, g⟩ (fun r => (∀ c : Dev Cert.GradWBranchIdeal.nD,
      r.2.mem ((c.tc : Thread Cert.GradWBranchIdeal.nD Cert.GradWBranchIdeal.τ).loc Cert.GradWBranchIdeal.main_arg0) = m ((c.tc : Thread Cert.GradWBranchIdeal.nD Cert.GradWBranchIdeal.τ).loc Cert.GradWBranchIdeal.main_arg0)
      ∧ r.2.mem ((c.tc : Thread Cert.GradWBranchIdeal.nD Cert.GradWBranchIdeal.τ).loc Cert.GradWBranchIdeal.main_arg1) = m ((c.tc : Thread Cert.GradWBranchIdeal.nD Cert.GradWBranchIdeal.τ).loc Cert.GradWBranchIdeal.main_arg1))
      ∧ r.2.sem = fun _ => 0)

def quiescent_GradWBranchRefIdeal [hGradWBranchRefIdeal : Cert.GradWBranchRefIdeal.Facts] : Prop :=
  ∀ (m : (ℓ : Loc Cert.GradWBranchRefIdeal.nD Cert.GradWBranchRefIdeal.τ Cert.GradWBranchRefIdeal.sig) → Buf (Elt Ideal) ℓ) (g : Dev Cert.GradWBranchRefIdeal.nD → PrngReg), Pre_GradWBranchRefIdeal m →
    θ_run (Cert.GradWBranchRefIdeal.defs (F := Ideal)) (onTc (τ := Cert.GradWBranchRefIdeal.τ) (Cert.GradWBranchRefIdeal.main (F := Ideal))) ⟨m, fun _ => 0, g⟩ (fun r => (∀ c : Dev Cert.GradWBranchRefIdeal.nD,
      r.2.mem ((c.tc : Thread Cert.GradWBranchRefIdeal.nD Cert.GradWBranchRefIdeal.τ).loc Cert.GradWBranchRefIdeal.main_arg0) = m ((c.tc : Thread Cert.GradWBranchRefIdeal.nD Cert.GradWBranchRefIdeal.τ).loc Cert.GradWBranchRefIdeal.main_arg0)
      ∧ r.2.mem ((c.tc : Thread Cert.GradWBranchRefIdeal.nD Cert.GradWBranchRefIdeal.τ).loc Cert.GradWBranchRefIdeal.main_arg1) = m ((c.tc : Thread Cert.GradWBranchRefIdeal.nD Cert.GradWBranchRefIdeal.τ).loc Cert.GradWBranchRefIdeal.main_arg1))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1)
      ∧ r.2.mem ((c.tc : Thread Cert.ProjInDx.nD Cert.ProjInDx.τ).loc Cert.ProjInDx.main_arg2) = m ((c.tc : Thread Cert.ProjInDx.nD Cert.ProjInDx.τ).loc Cert.ProjInDx.main_arg2))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
      ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1)
      ∧ r.2.mem ((c.tc : Thread Cert.ProjInDxRefIdeal.nD Cert.ProjInDxRefIdeal.τ).loc Cert.ProjInDxRefIdeal.main_arg2) = m ((c.tc : Thread Cert.ProjInDxRefIdeal.nD Cert.ProjInDxRefIdeal.τ).loc Cert.ProjInDxRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6)
      ∧ r.2.mem ((c.tc : Thread Cert.MlpFwd.nD Cert.MlpFwd.τ).loc Cert.MlpFwd.main_arg7) = m ((c.tc : Thread Cert.MlpFwd.nD Cert.MlpFwd.τ).loc Cert.MlpFwd.main_arg7))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2))
      ∧ r.2.sem = fun _ => 0)

def quiescent_MemGrads [hMemGrads : Cert.MemGrads.Facts] : Prop :=
  ∀ (m : (ℓ : Loc Cert.MemGrads.nD Cert.MemGrads.τ Cert.MemGrads.sig) → Buf (Elt Bits) ℓ) (g : Dev Cert.MemGrads.nD → PrngReg), Pre_MemGrads m →
    θ_run (Cert.MemGrads.defs (F := Bits)) (onTc (τ := Cert.MemGrads.τ) (Cert.MemGrads.main (F := Bits))) ⟨m, fun _ => 0, g⟩ (fun r => (∀ c : Dev Cert.MemGrads.nD,
      r.2.mem ((c.tc : Thread Cert.MemGrads.nD Cert.MemGrads.τ).loc Cert.MemGrads.main_arg0) = m ((c.tc : Thread Cert.MemGrads.nD Cert.MemGrads.τ).loc Cert.MemGrads.main_arg0)
      ∧ r.2.mem ((c.tc : Thread Cert.MemGrads.nD Cert.MemGrads.τ).loc Cert.MemGrads.main_arg1) = m ((c.tc : Thread Cert.MemGrads.nD Cert.MemGrads.τ).loc Cert.MemGrads.main_arg1)
      ∧ r.2.mem ((c.tc : Thread Cert.MemGrads.nD Cert.MemGrads.τ).loc Cert.MemGrads.main_arg2) = m ((c.tc : Thread Cert.MemGrads.nD Cert.MemGrads.τ).loc Cert.MemGrads.main_arg2))
      ∧ r.2.sem = fun _ => 0)

def quiescent_MemGradsIdeal [hMemGradsIdeal : Cert.MemGradsIdeal.Facts] : Prop :=
  ∀ (m : (ℓ : Loc Cert.MemGradsIdeal.nD Cert.MemGradsIdeal.τ Cert.MemGradsIdeal.sig) → Buf (Elt Ideal) ℓ) (g : Dev Cert.MemGradsIdeal.nD → PrngReg), Pre_MemGradsIdeal m →
    θ_run (Cert.MemGradsIdeal.defs (F := Ideal)) (onTc (τ := Cert.MemGradsIdeal.τ) (Cert.MemGradsIdeal.main (F := Ideal))) ⟨m, fun _ => 0, g⟩ (fun r => (∀ c : Dev Cert.MemGradsIdeal.nD,
      r.2.mem ((c.tc : Thread Cert.MemGradsIdeal.nD Cert.MemGradsIdeal.τ).loc Cert.MemGradsIdeal.main_arg0) = m ((c.tc : Thread Cert.MemGradsIdeal.nD Cert.MemGradsIdeal.τ).loc Cert.MemGradsIdeal.main_arg0)
      ∧ r.2.mem ((c.tc : Thread Cert.MemGradsIdeal.nD Cert.MemGradsIdeal.τ).loc Cert.MemGradsIdeal.main_arg1) = m ((c.tc : Thread Cert.MemGradsIdeal.nD Cert.MemGradsIdeal.τ).loc Cert.MemGradsIdeal.main_arg1)
      ∧ r.2.mem ((c.tc : Thread Cert.MemGradsIdeal.nD Cert.MemGradsIdeal.τ).loc Cert.MemGradsIdeal.main_arg2) = m ((c.tc : Thread Cert.MemGradsIdeal.nD Cert.MemGradsIdeal.τ).loc Cert.MemGradsIdeal.main_arg2))
      ∧ r.2.sem = fun _ => 0)

def quiescent_MemGradsRefIdeal [hMemGradsRefIdeal : Cert.MemGradsRefIdeal.Facts] : Prop :=
  ∀ (m : (ℓ : Loc Cert.MemGradsRefIdeal.nD Cert.MemGradsRefIdeal.τ Cert.MemGradsRefIdeal.sig) → Buf (Elt Ideal) ℓ) (g : Dev Cert.MemGradsRefIdeal.nD → PrngReg), Pre_MemGradsRefIdeal m →
    θ_run (Cert.MemGradsRefIdeal.defs (F := Ideal)) (onTc (τ := Cert.MemGradsRefIdeal.τ) (Cert.MemGradsRefIdeal.main (F := Ideal))) ⟨m, fun _ => 0, g⟩ (fun r => (∀ c : Dev Cert.MemGradsRefIdeal.nD,
      r.2.mem ((c.tc : Thread Cert.MemGradsRefIdeal.nD Cert.MemGradsRefIdeal.τ).loc Cert.MemGradsRefIdeal.main_arg0) = m ((c.tc : Thread Cert.MemGradsRefIdeal.nD Cert.MemGradsRefIdeal.τ).loc Cert.MemGradsRefIdeal.main_arg0)
      ∧ r.2.mem ((c.tc : Thread Cert.MemGradsRefIdeal.nD Cert.MemGradsRefIdeal.τ).loc Cert.MemGradsRefIdeal.main_arg1) = m ((c.tc : Thread Cert.MemGradsRefIdeal.nD Cert.MemGradsRefIdeal.τ).loc Cert.MemGradsRefIdeal.main_arg1)
      ∧ r.2.mem ((c.tc : Thread Cert.MemGradsRefIdeal.nD Cert.MemGradsRefIdeal.τ).loc Cert.MemGradsRefIdeal.main_arg2) = m ((c.tc : Thread Cert.MemGradsRefIdeal.nD Cert.MemGradsRefIdeal.τ).loc Cert.MemGradsRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite [hLnBwdIdeal : Cert.LnBwdIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite [hLnBwdRefIdeal : Cert.LnBwdRefIdeal.Facts] [hPre_finite : Cert.Pre_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3)
      ∧ r.2.mem ((c.tc : Thread Cert.AdamWGate.nD Cert.AdamWGate.τ).loc Cert.AdamWGate.main_arg4) = m ((c.tc : Thread Cert.AdamWGate.nD Cert.AdamWGate.τ).loc Cert.AdamWGate.main_arg4))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3)
      ∧ r.2.mem ((c.tc : Thread Cert.AdamWGateIdeal.nD Cert.AdamWGateIdeal.τ).loc Cert.AdamWGateIdeal.main_arg4) = m ((c.tc : Thread Cert.AdamWGateIdeal.nD Cert.AdamWGateIdeal.τ).loc Cert.AdamWGateIdeal.main_arg4))
      ∧ r.2.sem = fun _ => 0)

def quiescent_AdamWGateRefIdeal [hAdamWGateRefIdeal : Cert.AdamWGateRefIdeal.Facts] : Prop :=
  ∀ (m : (ℓ : Loc Cert.AdamWGateRefIdeal.nD Cert.AdamWGateRefIdeal.τ Cert.AdamWGateRefIdeal.sig) → Buf (Elt Ideal) ℓ) (g : Dev Cert.AdamWGateRefIdeal.nD → PrngReg), Pre_AdamWGateRefIdeal m →
    θ_run (Cert.AdamWGateRefIdeal.defs (F := Ideal)) (onTc (τ := Cert.AdamWGateRefIdeal.τ) (Cert.AdamWGateRefIdeal.main (F := Ideal))) ⟨m, fun _ => 0, g⟩ (fun r => (∀ c : Dev Cert.AdamWGateRefIdeal.nD,
      r.2.mem ((c.tc : Thread Cert.AdamWGateRefIdeal.nD Cert.AdamWGateRefIdeal.τ).loc Cert.AdamWGateRefIdeal.main_arg0) = m ((c.tc : Thread Cert.AdamWGateRefIdeal.nD Cert.AdamWGateRefIdeal.τ).loc Cert.AdamWGateRefIdeal.main_arg0)
      ∧ r.2.mem ((c.tc : Thread Cert.AdamWGateRefIdeal.nD Cert.AdamWGateRefIdeal.τ).loc Cert.AdamWGateRefIdeal.main_arg1) = m ((c.tc : Thread Cert.AdamWGateRefIdeal.nD Cert.AdamWGateRefIdeal.τ).loc Cert.AdamWGateRefIdeal.main_arg1)
      ∧ r.2.mem ((c.tc : Thread Cert.AdamWGateRefIdeal.nD Cert.AdamWGateRefIdeal.τ).loc Cert.AdamWGateRefIdeal.main_arg2) = m ((c.tc : Thread Cert.AdamWGateRefIdeal.nD Cert.AdamWGateRefIdeal.τ).loc Cert.AdamWGateRefIdeal.main_arg2)
      ∧ r.2.mem ((c.tc : Thread Cert.AdamWGateRefIdeal.nD Cert.AdamWGateRefIdeal.τ).loc Cert.AdamWGateRefIdeal.main_arg3) = m ((c.tc : Thread Cert.AdamWGateRefIdeal.nD Cert.AdamWGateRefIdeal.τ).loc Cert.AdamWGateRefIdeal.main_arg3)
      ∧ r.2.mem ((c.tc : Thread Cert.AdamWGateRefIdeal.nD Cert.AdamWGateRefIdeal.τ).loc Cert.AdamWGateRefIdeal.main_arg4) = m ((c.tc : Thread Cert.AdamWGateRefIdeal.nD Cert.AdamWGateRefIdeal.τ).loc Cert.AdamWGateRefIdeal.main_arg4))
      ∧ r.2.sem = fun _ => 0)

def preserves_MlpDa_MlpDaIdeal : Prop :=
  True

def algebraic_MlpDaIdeal_MlpDaRefIdeal [hMlpDaIdeal : Cert.MlpDaIdeal.Facts] [hMlpDaRefIdeal : Cert.MlpDaRefIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg)
    (m' : (ℓ : Loc Cert.MlpDaRefIdeal.nD Cert.MlpDaRefIdeal.τ Cert.MlpDaRefIdeal.sig) → Buf (Elt Ideal) ℓ) (g' : Dev Cert.MlpDaRefIdeal.nD → PrngReg), Pre_MlpDaIdeal m →
    (∀ c : Dev Cert.MlpDaIdeal.nD,
      m' ((c.tc : Thread Cert.MlpDaRefIdeal.nD Cert.MlpDaRefIdeal.τ).loc Cert.MlpDaRefIdeal.main_arg0) = m ((c.tc : Thread Cert.MlpDaIdeal.nD Cert.MlpDaIdeal.τ).loc Cert.MlpDaIdeal.main_arg0)
      ∧ m' ((c.tc : Thread Cert.MlpDaRefIdeal.nD Cert.MlpDaRefIdeal.τ).loc Cert.MlpDaRefIdeal.main_arg1) = m ((c.tc : Thread Cert.MlpDaIdeal.nD Cert.MlpDaIdeal.τ).loc Cert.MlpDaIdeal.main_arg1)
      ∧ m' ((c.tc : Thread Cert.MlpDaRefIdeal.nD Cert.MlpDaRefIdeal.τ).loc Cert.MlpDaRefIdeal.main_arg2) = m ((c.tc : Thread Cert.MlpDaIdeal.nD Cert.MlpDaIdeal.τ).loc Cert.MlpDaIdeal.main_arg2)) →
    ∃ (v0 : (c : Dev Cert.MlpDaIdeal.nD) → Buf (Elt Ideal) ((c.tc : Thread Cert.MlpDaIdeal.nD Cert.MlpDaIdeal.τ).loc Cert.MlpDaIdeal.main_v0)),
      θ_run (Cert.MlpDaIdeal.defs (F := Ideal)) (onTc (τ := Cert.MlpDaIdeal.τ) (Cert.MlpDaIdeal.main (F := Ideal))) ⟨m, fun _ => 0, g⟩ (fun r => ∀ c : Dev Cert.MlpDaIdeal.nD,
          r.2.mem ((c.tc : Thread Cert.MlpDaIdeal.nD Cert.MlpDaIdeal.τ).loc Cert.MlpDaIdeal.main_v0) = v0 c
          ∧ r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
          ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
          ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2))
      ∧ θ_run (Cert.MlpDaRefIdeal.defs (F := Ideal)) (onTc (τ := Cert.MlpDaRefIdeal.τ) (Cert.MlpDaRefIdeal.main (F := Ideal))) ⟨m', fun _ => 0, g'⟩ (fun r => ∀ c : Dev Cert.MlpDaRefIdeal.nD,
          r.2.mem ((c.tc : Thread Cert.MlpDaRefIdeal.nD Cert.MlpDaRefIdeal.τ).loc Cert.MlpDaRefIdeal.main_v15) = v0 c
          ∧ r.2.mem ((c.tc : Thread Cert.MlpDaRefIdeal.nD Cert.MlpDaRefIdeal.τ).loc Cert.MlpDaRefIdeal.main_arg0) = m' ((c.tc : Thread Cert.MlpDaRefIdeal.nD Cert.MlpDaRefIdeal.τ).loc Cert.MlpDaRefIdeal.main_arg0)
          ∧ r.2.mem ((c.tc : Thread Cert.MlpDaRefIdeal.nD Cert.MlpDaRefIdeal.τ).loc Cert.MlpDaRefIdeal.main_arg1) = m' ((c.tc : Thread Cert.MlpDaRefIdeal.nD Cert.MlpDaRefIdeal.τ).loc Cert.MlpDaRefIdeal.main_arg1)
          ∧ r.2.mem ((c.tc : Thread Cert.MlpDaRefIdeal.nD Cert.MlpDaRefIdeal.τ).loc Cert.MlpDaRefIdeal.main_arg2) = m' ((c.tc : Thread Cert.MlpDaRefIdeal.nD Cert.MlpDaRefIdeal.τ).loc Cert.MlpDaRefIdeal.main_arg2))

def preserves_GradWDown_GradWDownIdeal : Prop :=
  True

def algebraic_GradWDownIdeal_GradWDownRefIdeal [hGradWDownIdeal : Cert.GradWDownIdeal.Facts] [hGradWDownRefIdeal : Cert.GradWDownRefIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg)
    (m' : (ℓ : Loc Cert.GradWDownRefIdeal.nD Cert.GradWDownRefIdeal.τ Cert.GradWDownRefIdeal.sig) → Buf (Elt Ideal) ℓ) (g' : Dev Cert.GradWDownRefIdeal.nD → PrngReg), Pre_GradWDownIdeal m →
    (∀ c : Dev Cert.GradWDownIdeal.nD,
      m' ((c.tc : Thread Cert.GradWDownRefIdeal.nD Cert.GradWDownRefIdeal.τ).loc Cert.GradWDownRefIdeal.main_arg0) = m ((c.tc : Thread Cert.GradWDownIdeal.nD Cert.GradWDownIdeal.τ).loc Cert.GradWDownIdeal.main_arg0)
      ∧ m' ((c.tc : Thread Cert.GradWDownRefIdeal.nD Cert.GradWDownRefIdeal.τ).loc Cert.GradWDownRefIdeal.main_arg1) = m ((c.tc : Thread Cert.GradWDownIdeal.nD Cert.GradWDownIdeal.τ).loc Cert.GradWDownIdeal.main_arg1)) →
    ∃ (v0 : (c : Dev Cert.GradWDownIdeal.nD) → Buf (Elt Ideal) ((c.tc : Thread Cert.GradWDownIdeal.nD Cert.GradWDownIdeal.τ).loc Cert.GradWDownIdeal.main_v0)),
      θ_run (Cert.GradWDownIdeal.defs (F := Ideal)) (onTc (τ := Cert.GradWDownIdeal.τ) (Cert.GradWDownIdeal.main (F := Ideal))) ⟨m, fun _ => 0, g⟩ (fun r => ∀ c : Dev Cert.GradWDownIdeal.nD,
          r.2.mem ((c.tc : Thread Cert.GradWDownIdeal.nD Cert.GradWDownIdeal.τ).loc Cert.GradWDownIdeal.main_v0) = v0 c
          ∧ r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
          ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ θ_run (Cert.GradWDownRefIdeal.defs (F := Ideal)) (onTc (τ := Cert.GradWDownRefIdeal.τ) (Cert.GradWDownRefIdeal.main (F := Ideal))) ⟨m', fun _ => 0, g'⟩ (fun r => ∀ c : Dev Cert.GradWDownRefIdeal.nD,
          r.2.mem ((c.tc : Thread Cert.GradWDownRefIdeal.nD Cert.GradWDownRefIdeal.τ).loc Cert.GradWDownRefIdeal.main_v8) = v0 c
          ∧ r.2.mem ((c.tc : Thread Cert.GradWDownRefIdeal.nD Cert.GradWDownRefIdeal.τ).loc Cert.GradWDownRefIdeal.main_arg0) = m' ((c.tc : Thread Cert.GradWDownRefIdeal.nD Cert.GradWDownRefIdeal.τ).loc Cert.GradWDownRefIdeal.main_arg0)
          ∧ r.2.mem ((c.tc : Thread Cert.GradWDownRefIdeal.nD Cert.GradWDownRefIdeal.τ).loc Cert.GradWDownRefIdeal.main_arg1) = m' ((c.tc : Thread Cert.GradWDownRefIdeal.nD Cert.GradWDownRefIdeal.τ).loc Cert.GradWDownRefIdeal.main_arg1))

def preserves_GradWUp_GradWUpIdeal : Prop :=
  True

def algebraic_GradWUpIdeal_GradWUpRefIdeal [hGradWUpIdeal : Cert.GradWUpIdeal.Facts] [hGradWUpRefIdeal : Cert.GradWUpRefIdeal.Facts] : Prop :=
  ∀ (m : (ℓ : Loc Cert.GradWUpIdeal.nD Cert.GradWUpIdeal.τ Cert.GradWUpIdeal.sig) → Buf (Elt Ideal) ℓ) (g : Dev Cert.GradWUpIdeal.nD → PrngReg)
    (m' : (ℓ : Loc Cert.GradWUpRefIdeal.nD Cert.GradWUpRefIdeal.τ Cert.GradWUpRefIdeal.sig) → Buf (Elt Ideal) ℓ) (g' : Dev Cert.GradWUpRefIdeal.nD → PrngReg), Pre_GradWUpIdeal m →
    (∀ c : Dev Cert.GradWUpIdeal.nD,
      m' ((c.tc : Thread Cert.GradWUpRefIdeal.nD Cert.GradWUpRefIdeal.τ).loc Cert.GradWUpRefIdeal.main_arg0) = m ((c.tc : Thread Cert.GradWUpIdeal.nD Cert.GradWUpIdeal.τ).loc Cert.GradWUpIdeal.main_arg0)
      ∧ m' ((c.tc : Thread Cert.GradWUpRefIdeal.nD Cert.GradWUpRefIdeal.τ).loc Cert.GradWUpRefIdeal.main_arg1) = m ((c.tc : Thread Cert.GradWUpIdeal.nD Cert.GradWUpIdeal.τ).loc Cert.GradWUpIdeal.main_arg1)) →
    ∃ (v0 : (c : Dev Cert.GradWUpIdeal.nD) → Buf (Elt Ideal) ((c.tc : Thread Cert.GradWUpIdeal.nD Cert.GradWUpIdeal.τ).loc Cert.GradWUpIdeal.main_v0)),
      θ_run (Cert.GradWUpIdeal.defs (F := Ideal)) (onTc (τ := Cert.GradWUpIdeal.τ) (Cert.GradWUpIdeal.main (F := Ideal))) ⟨m, fun _ => 0, g⟩ (fun r => ∀ c : Dev Cert.GradWUpIdeal.nD,
          r.2.mem ((c.tc : Thread Cert.GradWUpIdeal.nD Cert.GradWUpIdeal.τ).loc Cert.GradWUpIdeal.main_v0) = v0 c
          ∧ r.2.mem ((c.tc : Thread Cert.GradWUpIdeal.nD Cert.GradWUpIdeal.τ).loc Cert.GradWUpIdeal.main_arg0) = m ((c.tc : Thread Cert.GradWUpIdeal.nD Cert.GradWUpIdeal.τ).loc Cert.GradWUpIdeal.main_arg0)
          ∧ r.2.mem ((c.tc : Thread Cert.GradWUpIdeal.nD Cert.GradWUpIdeal.τ).loc Cert.GradWUpIdeal.main_arg1) = m ((c.tc : Thread Cert.GradWUpIdeal.nD Cert.GradWUpIdeal.τ).loc Cert.GradWUpIdeal.main_arg1))
      ∧ θ_run (Cert.GradWUpRefIdeal.defs (F := Ideal)) (onTc (τ := Cert.GradWUpRefIdeal.τ) (Cert.GradWUpRefIdeal.main (F := Ideal))) ⟨m', fun _ => 0, g'⟩ (fun r => ∀ c : Dev Cert.GradWUpRefIdeal.nD,
          r.2.mem ((c.tc : Thread Cert.GradWUpRefIdeal.nD Cert.GradWUpRefIdeal.τ).loc Cert.GradWUpRefIdeal.main_v6) = v0 c
          ∧ r.2.mem ((c.tc : Thread Cert.GradWUpRefIdeal.nD Cert.GradWUpRefIdeal.τ).loc Cert.GradWUpRefIdeal.main_arg0) = m' ((c.tc : Thread Cert.GradWUpRefIdeal.nD Cert.GradWUpRefIdeal.τ).loc Cert.GradWUpRefIdeal.main_arg0)
          ∧ r.2.mem ((c.tc : Thread Cert.GradWUpRefIdeal.nD Cert.GradWUpRefIdeal.τ).loc Cert.GradWUpRefIdeal.main_arg1) = m' ((c.tc : Thread Cert.GradWUpRefIdeal.nD Cert.GradWUpRefIdeal.τ).loc Cert.GradWUpRefIdeal.main_arg1))

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)) →
    ∃ (v0 : (c : Dev Cert.MlpDxIdeal.nD) → Buf (Elt Ideal) ((c.tc : Thread Cert.MlpDxIdeal.nD Cert.MlpDxIdeal.τ).loc Cert.MlpDxIdeal.main_v0)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v0) = v0 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v9) = v0 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2))

def preserves_GradWO_GradWOIdeal : Prop :=
  True

def algebraic_GradWOIdeal_GradWORefIdeal [hGradWOIdeal : Cert.GradWOIdeal.Facts] [hGradWORefIdeal : Cert.GradWORefIdeal.Facts] : Prop :=
  ∀ (m : (ℓ : Loc Cert.GradWOIdeal.nD Cert.GradWOIdeal.τ Cert.GradWOIdeal.sig) → Buf (Elt Ideal) ℓ) (g : Dev Cert.GradWOIdeal.nD → PrngReg)
    (m' : (ℓ : Loc Cert.GradWORefIdeal.nD Cert.GradWORefIdeal.τ Cert.GradWORefIdeal.sig) → Buf (Elt Ideal) ℓ) (g' : Dev Cert.GradWORefIdeal.nD → PrngReg), Pre_GradWOIdeal m →
    (∀ c : Dev Cert.GradWOIdeal.nD,
      m' ((c.tc : Thread Cert.GradWORefIdeal.nD Cert.GradWORefIdeal.τ).loc Cert.GradWORefIdeal.main_arg0) = m ((c.tc : Thread Cert.GradWOIdeal.nD Cert.GradWOIdeal.τ).loc Cert.GradWOIdeal.main_arg0)
      ∧ m' ((c.tc : Thread Cert.GradWORefIdeal.nD Cert.GradWORefIdeal.τ).loc Cert.GradWORefIdeal.main_arg1) = m ((c.tc : Thread Cert.GradWOIdeal.nD Cert.GradWOIdeal.τ).loc Cert.GradWOIdeal.main_arg1)) →
    ∃ (v0 : (c : Dev Cert.GradWOIdeal.nD) → Buf (Elt Ideal) ((c.tc : Thread Cert.GradWOIdeal.nD Cert.GradWOIdeal.τ).loc Cert.GradWOIdeal.main_v0)),
      θ_run (Cert.GradWOIdeal.defs (F := Ideal)) (onTc (τ := Cert.GradWOIdeal.τ) (Cert.GradWOIdeal.main (F := Ideal))) ⟨m, fun _ => 0, g⟩ (fun r => ∀ c : Dev Cert.GradWOIdeal.nD,
          r.2.mem ((c.tc : Thread Cert.GradWOIdeal.nD Cert.GradWOIdeal.τ).loc Cert.GradWOIdeal.main_v0) = v0 c
          ∧ r.2.mem ((c.tc : Thread Cert.GradWOIdeal.nD Cert.GradWOIdeal.τ).loc Cert.GradWOIdeal.main_arg0) = m ((c.tc : Thread Cert.GradWOIdeal.nD Cert.GradWOIdeal.τ).loc Cert.GradWOIdeal.main_arg0)
          ∧ r.2.mem ((c.tc : Thread Cert.GradWOIdeal.nD Cert.GradWOIdeal.τ).loc Cert.GradWOIdeal.main_arg1) = m ((c.tc : Thread Cert.GradWOIdeal.nD Cert.GradWOIdeal.τ).loc Cert.GradWOIdeal.main_arg1))
      ∧ θ_run (Cert.GradWORefIdeal.defs (F := Ideal)) (onTc (τ := Cert.GradWORefIdeal.τ) (Cert.GradWORefIdeal.main (F := Ideal))) ⟨m', fun _ => 0, g'⟩ (fun r => ∀ c : Dev Cert.GradWORefIdeal.nD,
          r.2.mem ((c.tc : Thread Cert.GradWORefIdeal.nD Cert.GradWORefIdeal.τ).loc Cert.GradWORefIdeal.main_v6) = v0 c
          ∧ r.2.mem ((c.tc : Thread Cert.GradWORefIdeal.nD Cert.GradWORefIdeal.τ).loc Cert.GradWORefIdeal.main_arg0) = m' ((c.tc : Thread Cert.GradWORefIdeal.nD Cert.GradWORefIdeal.τ).loc Cert.GradWORefIdeal.main_arg0)
          ∧ r.2.mem ((c.tc : Thread Cert.GradWORefIdeal.nD Cert.GradWORefIdeal.τ).loc Cert.GradWORefIdeal.main_arg1) = m' ((c.tc : Thread Cert.GradWORefIdeal.nD Cert.GradWORefIdeal.τ).loc Cert.GradWORefIdeal.main_arg1))

def preserves_GradWBranch_GradWBranchIdeal : Prop :=
  True

def algebraic_GradWBranchIdeal_GradWBranchRefIdeal [hGradWBranchIdeal : Cert.GradWBranchIdeal.Facts] [hGradWBranchRefIdeal : Cert.GradWBranchRefIdeal.Facts] : Prop :=
  ∀ (m : (ℓ : Loc Cert.GradWBranchIdeal.nD Cert.GradWBranchIdeal.τ Cert.GradWBranchIdeal.sig) → Buf (Elt Ideal) ℓ) (g : Dev Cert.GradWBranchIdeal.nD → PrngReg)
    (m' : (ℓ : Loc Cert.GradWBranchRefIdeal.nD Cert.GradWBranchRefIdeal.τ Cert.GradWBranchRefIdeal.sig) → Buf (Elt Ideal) ℓ) (g' : Dev Cert.GradWBranchRefIdeal.nD → PrngReg), Pre_GradWBranchIdeal m →
    (∀ c : Dev Cert.GradWBranchIdeal.nD,
      m' ((c.tc : Thread Cert.GradWBranchRefIdeal.nD Cert.GradWBranchRefIdeal.τ).loc Cert.GradWBranchRefIdeal.main_arg0) = m ((c.tc : Thread Cert.GradWBranchIdeal.nD Cert.GradWBranchIdeal.τ).loc Cert.GradWBranchIdeal.main_arg0)
      ∧ m' ((c.tc : Thread Cert.GradWBranchRefIdeal.nD Cert.GradWBranchRefIdeal.τ).loc Cert.GradWBranchRefIdeal.main_arg1) = m ((c.tc : Thread Cert.GradWBranchIdeal.nD Cert.GradWBranchIdeal.τ).loc Cert.GradWBranchIdeal.main_arg1)) →
    ∃ (v0 : (c : Dev Cert.GradWBranchIdeal.nD) → Buf (Elt Ideal) ((c.tc : Thread Cert.GradWBranchIdeal.nD Cert.GradWBranchIdeal.τ).loc Cert.GradWBranchIdeal.main_v0)),
      θ_run (Cert.GradWBranchIdeal.defs (F := Ideal)) (onTc (τ := Cert.GradWBranchIdeal.τ) (Cert.GradWBranchIdeal.main (F := Ideal))) ⟨m, fun _ => 0, g⟩ (fun r => ∀ c : Dev Cert.GradWBranchIdeal.nD,
          r.2.mem ((c.tc : Thread Cert.GradWBranchIdeal.nD Cert.GradWBranchIdeal.τ).loc Cert.GradWBranchIdeal.main_v0) = v0 c
          ∧ r.2.mem ((c.tc : Thread Cert.GradWBranchIdeal.nD Cert.GradWBranchIdeal.τ).loc Cert.GradWBranchIdeal.main_arg0) = m ((c.tc : Thread Cert.GradWBranchIdeal.nD Cert.GradWBranchIdeal.τ).loc Cert.GradWBranchIdeal.main_arg0)
          ∧ r.2.mem ((c.tc : Thread Cert.GradWBranchIdeal.nD Cert.GradWBranchIdeal.τ).loc Cert.GradWBranchIdeal.main_arg1) = m ((c.tc : Thread Cert.GradWBranchIdeal.nD Cert.GradWBranchIdeal.τ).loc Cert.GradWBranchIdeal.main_arg1))
      ∧ θ_run (Cert.GradWBranchRefIdeal.defs (F := Ideal)) (onTc (τ := Cert.GradWBranchRefIdeal.τ) (Cert.GradWBranchRefIdeal.main (F := Ideal))) ⟨m', fun _ => 0, g'⟩ (fun r => ∀ c : Dev Cert.GradWBranchRefIdeal.nD,
          r.2.mem ((c.tc : Thread Cert.GradWBranchRefIdeal.nD Cert.GradWBranchRefIdeal.τ).loc Cert.GradWBranchRefIdeal.main_v21) = v0 c
          ∧ r.2.mem ((c.tc : Thread Cert.GradWBranchRefIdeal.nD Cert.GradWBranchRefIdeal.τ).loc Cert.GradWBranchRefIdeal.main_arg0) = m' ((c.tc : Thread Cert.GradWBranchRefIdeal.nD Cert.GradWBranchRefIdeal.τ).loc Cert.GradWBranchRefIdeal.main_arg0)
          ∧ r.2.mem ((c.tc : Thread Cert.GradWBranchRefIdeal.nD Cert.GradWBranchRefIdeal.τ).loc Cert.GradWBranchRefIdeal.main_arg1) = m' ((c.tc : Thread Cert.GradWBranchRefIdeal.nD Cert.GradWBranchRefIdeal.τ).loc Cert.GradWBranchRefIdeal.main_arg1))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v6) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)
      ∧ m' ((c.tc : Thread Cert.ProjInDxRefIdeal.nD Cert.ProjInDxRefIdeal.τ).loc Cert.ProjInDxRefIdeal.main_arg2) = m ((c.tc : Thread Cert.ProjInDxIdeal.nD Cert.ProjInDxIdeal.τ).loc Cert.ProjInDxIdeal.main_arg2)) →
    ∃ (v0 : (c : Dev Cert.ProjInDxIdeal.nD) → Buf (Elt Ideal) ((c.tc : Thread Cert.ProjInDxIdeal.nD Cert.ProjInDxIdeal.τ).loc Cert.ProjInDxIdeal.main_v0)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v0) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
          ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v9) = v0 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1)
          ∧ r.2.mem ((c.tc : Thread Cert.ProjInDxRefIdeal.nD Cert.ProjInDxRefIdeal.τ).loc Cert.ProjInDxRefIdeal.main_arg2) = m' ((c.tc : Thread Cert.ProjInDxRefIdeal.nD Cert.ProjInDxRefIdeal.τ).loc Cert.ProjInDxRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v3) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v75) = v0 c
          ∧ r.2.mem ((c.tc : Thread Cert.MergeFwdRefIdeal.nD Cert.MergeFwdRefIdeal.τ).loc Cert.MergeFwdRefIdeal.main_v74) = v1 c
          ∧ r.2.mem ((c.tc : Thread Cert.MergeFwdRefIdeal.nD Cert.MergeFwdRefIdeal.τ).loc Cert.MergeFwdRefIdeal.main_v70) = v2 c
          ∧ r.2.mem ((c.tc : Thread Cert.MergeFwdRefIdeal.nD Cert.MergeFwdRefIdeal.τ).loc Cert.MergeFwdRefIdeal.main_v80) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)
      ∧ m' ((c.tc : Thread Cert.MlpFwdRefIdeal.nD Cert.MlpFwdRefIdeal.τ).loc Cert.MlpFwdRefIdeal.main_arg7) = m ((c.tc : Thread Cert.MlpFwdIdeal.nD Cert.MlpFwdIdeal.τ).loc Cert.MlpFwdIdeal.main_arg7)) →
    ∃ (v0 : (c : Dev Cert.MlpFwdIdeal.nD) → Buf (Elt Ideal) ((c.tc : Thread Cert.MlpFwdIdeal.nD Cert.MlpFwdIdeal.τ).loc Cert.MlpFwdIdeal.main_v0_0)) (v1 : (c : Dev Cert.MlpFwdIdeal.nD) → Buf (Elt Ideal) ((c.tc : Thread Cert.MlpFwdIdeal.nD Cert.MlpFwdIdeal.τ).loc Cert.MlpFwdIdeal.main_v0_1)) (v2 : (c : Dev Cert.MlpFwdIdeal.nD) → Buf (Elt Ideal) ((c.tc : Thread Cert.MlpFwdIdeal.nD Cert.MlpFwdIdeal.τ).loc Cert.MlpFwdIdeal.main_v0_2)) (v3 : (c : Dev Cert.MlpFwdIdeal.nD) → Buf (Elt Ideal) ((c.tc : Thread Cert.MlpFwdIdeal.nD Cert.MlpFwdIdeal.τ).loc Cert.MlpFwdIdeal.main_v0_3)) (v4 : (c : Dev Cert.MlpFwdIdeal.nD) → Buf (Elt Ideal) ((c.tc : Thread Cert.MlpFwdIdeal.nD Cert.MlpFwdIdeal.τ).loc Cert.MlpFwdIdeal.main_v0_4)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v0_0) = v0 c
          ∧ r.2.mem ((c.tc : Thread Cert.MlpFwdIdeal.nD Cert.MlpFwdIdeal.τ).loc Cert.MlpFwdIdeal.main_v0_1) = v1 c
          ∧ r.2.mem ((c.tc : Thread Cert.MlpFwdIdeal.nD Cert.MlpFwdIdeal.τ).loc Cert.MlpFwdIdeal.main_v0_2) = v2 c
          ∧ r.2.mem ((c.tc : Thread Cert.MlpFwdIdeal.nD Cert.MlpFwdIdeal.τ).loc Cert.MlpFwdIdeal.main_v0_3) = v3 c
          ∧ r.2.mem ((c.tc : Thread Cert.MlpFwdIdeal.nD Cert.MlpFwdIdeal.τ).loc Cert.MlpFwdIdeal.main_v0_4) = v4 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
          ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v36) = v0 c
          ∧ r.2.mem ((c.tc : Thread Cert.MlpFwdRefIdeal.nD Cert.MlpFwdRefIdeal.τ).loc Cert.MlpFwdRefIdeal.main_v31) = v1 c
          ∧ r.2.mem ((c.tc : Thread Cert.MlpFwdRefIdeal.nD Cert.MlpFwdRefIdeal.τ).loc Cert.MlpFwdRefIdeal.main_v27) = v2 c
          ∧ r.2.mem ((c.tc : Thread Cert.MlpFwdRefIdeal.nD Cert.MlpFwdRefIdeal.τ).loc Cert.MlpFwdRefIdeal.main_v35) = v3 c
          ∧ r.2.mem ((c.tc : Thread Cert.MlpFwdRefIdeal.nD Cert.MlpFwdRefIdeal.τ).loc Cert.MlpFwdRefIdeal.main_v37) = v4 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6)
          ∧ r.2.mem ((c.tc : Thread Cert.MlpFwdRefIdeal.nD Cert.MlpFwdRefIdeal.τ).loc Cert.MlpFwdRefIdeal.main_arg7) = m' ((c.tc : Thread Cert.MlpFwdRefIdeal.nD Cert.MlpFwdRefIdeal.τ).loc Cert.MlpFwdRefIdeal.main_arg7))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)) →
    ∃ (v0 : (c : Dev Cert.MemProjIdeal.nD) → Buf (Elt Ideal) ((c.tc : Thread Cert.MemProjIdeal.nD Cert.MemProjIdeal.τ).loc Cert.MemProjIdeal.main_v0_0)) (v1 : (c : Dev Cert.MemProjIdeal.nD) → Buf (Elt Ideal) ((c.tc : Thread Cert.MemProjIdeal.nD Cert.MemProjIdeal.τ).loc Cert.MemProjIdeal.main_v0_1)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v0_0) = v0 c
          ∧ r.2.mem ((c.tc : Thread Cert.MemProjIdeal.nD Cert.MemProjIdeal.τ).loc Cert.MemProjIdeal.main_v0_1) = v1 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v3) = v0 c
          ∧ r.2.mem ((c.tc : Thread Cert.MemProjRefIdeal.nD Cert.MemProjRefIdeal.τ).loc Cert.MemProjRefIdeal.main_v5) = v1 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2))

def preserves_MemGrads_MemGradsIdeal : Prop :=
  True

def algebraic_MemGradsIdeal_MemGradsRefIdeal [hMemGradsIdeal : Cert.MemGradsIdeal.Facts] [hMemGradsRefIdeal : Cert.MemGradsRefIdeal.Facts] : Prop :=
  ∀ (m : (ℓ : Loc Cert.MemGradsIdeal.nD Cert.MemGradsIdeal.τ Cert.MemGradsIdeal.sig) → Buf (Elt Ideal) ℓ) (g : Dev Cert.MemGradsIdeal.nD → PrngReg)
    (m' : (ℓ : Loc Cert.MemGradsRefIdeal.nD Cert.MemGradsRefIdeal.τ Cert.MemGradsRefIdeal.sig) → Buf (Elt Ideal) ℓ) (g' : Dev Cert.MemGradsRefIdeal.nD → PrngReg), Pre_MemGradsIdeal m →
    (∀ c : Dev Cert.MemGradsIdeal.nD,
      m' ((c.tc : Thread Cert.MemGradsRefIdeal.nD Cert.MemGradsRefIdeal.τ).loc Cert.MemGradsRefIdeal.main_arg0) = m ((c.tc : Thread Cert.MemGradsIdeal.nD Cert.MemGradsIdeal.τ).loc Cert.MemGradsIdeal.main_arg0)
      ∧ m' ((c.tc : Thread Cert.MemGradsRefIdeal.nD Cert.MemGradsRefIdeal.τ).loc Cert.MemGradsRefIdeal.main_arg1) = m ((c.tc : Thread Cert.MemGradsIdeal.nD Cert.MemGradsIdeal.τ).loc Cert.MemGradsIdeal.main_arg1)
      ∧ m' ((c.tc : Thread Cert.MemGradsRefIdeal.nD Cert.MemGradsRefIdeal.τ).loc Cert.MemGradsRefIdeal.main_arg2) = m ((c.tc : Thread Cert.MemGradsIdeal.nD Cert.MemGradsIdeal.τ).loc Cert.MemGradsIdeal.main_arg2)) →
    ∃ (v0 : (c : Dev Cert.MemGradsIdeal.nD) → Buf (Elt Ideal) ((c.tc : Thread Cert.MemGradsIdeal.nD Cert.MemGradsIdeal.τ).loc Cert.MemGradsIdeal.main_v0_0)) (v1 : (c : Dev Cert.MemGradsIdeal.nD) → Buf (Elt Ideal) ((c.tc : Thread Cert.MemGradsIdeal.nD Cert.MemGradsIdeal.τ).loc Cert.MemGradsIdeal.main_v0_1)),
      θ_run (Cert.MemGradsIdeal.defs (F := Ideal)) (onTc (τ := Cert.MemGradsIdeal.τ) (Cert.MemGradsIdeal.main (F := Ideal))) ⟨m, fun _ => 0, g⟩ (fun r => ∀ c : Dev Cert.MemGradsIdeal.nD,
          r.2.mem ((c.tc : Thread Cert.MemGradsIdeal.nD Cert.MemGradsIdeal.τ).loc Cert.MemGradsIdeal.main_v0_0) = v0 c
          ∧ r.2.mem ((c.tc : Thread Cert.MemGradsIdeal.nD Cert.MemGradsIdeal.τ).loc Cert.MemGradsIdeal.main_v0_1) = v1 c
          ∧ r.2.mem ((c.tc : Thread Cert.MemGradsIdeal.nD Cert.MemGradsIdeal.τ).loc Cert.MemGradsIdeal.main_arg0) = m ((c.tc : Thread Cert.MemGradsIdeal.nD Cert.MemGradsIdeal.τ).loc Cert.MemGradsIdeal.main_arg0)
          ∧ r.2.mem ((c.tc : Thread Cert.MemGradsIdeal.nD Cert.MemGradsIdeal.τ).loc Cert.MemGradsIdeal.main_arg1) = m ((c.tc : Thread Cert.MemGradsIdeal.nD Cert.MemGradsIdeal.τ).loc Cert.MemGradsIdeal.main_arg1)
          ∧ r.2.mem ((c.tc : Thread Cert.MemGradsIdeal.nD Cert.MemGradsIdeal.τ).loc Cert.MemGradsIdeal.main_arg2) = m ((c.tc : Thread Cert.MemGradsIdeal.nD Cert.MemGradsIdeal.τ).loc Cert.MemGradsIdeal.main_arg2))
      ∧ θ_run (Cert.MemGradsRefIdeal.defs (F := Ideal)) (onTc (τ := Cert.MemGradsRefIdeal.τ) (Cert.MemGradsRefIdeal.main (F := Ideal))) ⟨m', fun _ => 0, g'⟩ (fun r => ∀ c : Dev Cert.MemGradsRefIdeal.nD,
          r.2.mem ((c.tc : Thread Cert.MemGradsRefIdeal.nD Cert.MemGradsRefIdeal.τ).loc Cert.MemGradsRefIdeal.main_v7) = v0 c
          ∧ r.2.mem ((c.tc : Thread Cert.MemGradsRefIdeal.nD Cert.MemGradsRefIdeal.τ).loc Cert.MemGradsRefIdeal.main_v8) = v1 c
          ∧ r.2.mem ((c.tc : Thread Cert.MemGradsRefIdeal.nD Cert.MemGradsRefIdeal.τ).loc Cert.MemGradsRefIdeal.main_arg0) = m' ((c.tc : Thread Cert.MemGradsRefIdeal.nD Cert.MemGradsRefIdeal.τ).loc Cert.MemGradsRefIdeal.main_arg0)
          ∧ r.2.mem ((c.tc : Thread Cert.MemGradsRefIdeal.nD Cert.MemGradsRefIdeal.τ).loc Cert.MemGradsRefIdeal.main_arg1) = m' ((c.tc : Thread Cert.MemGradsRefIdeal.nD Cert.MemGradsRefIdeal.τ).loc Cert.MemGradsRefIdeal.main_arg1)
          ∧ r.2.mem ((c.tc : Thread Cert.MemGradsRefIdeal.nD Cert.MemGradsRefIdeal.τ).loc Cert.MemGradsRefIdeal.main_arg2) = m' ((c.tc : Thread Cert.MemGradsRefIdeal.nD Cert.MemGradsRefIdeal.τ).loc Cert.MemGradsRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v94) = v0 c
          ∧ r.2.mem ((c.tc : Thread Cert.MergeBwdRefIdeal.nD Cert.MergeBwdRefIdeal.τ).loc Cert.MergeBwdRefIdeal.main_v96) = v1 c
          ∧ r.2.mem ((c.tc : Thread Cert.MergeBwdRefIdeal.nD Cert.MergeBwdRefIdeal.τ).loc Cert.MergeBwdRefIdeal.main_v97) = v2 c
          ∧ r.2.mem ((c.tc : Thread Cert.MergeBwdRefIdeal.nD Cert.MergeBwdRefIdeal.τ).loc Cert.MergeBwdRefIdeal.main_v98) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)) →
    ∃ (v0 : (c : Dev Cert.MixerFwdIdeal.nD) → Buf (Elt Ideal) ((c.tc : Thread Cert.MixerFwdIdeal.nD Cert.MixerFwdIdeal.τ).loc Cert.MixerFwdIdeal.main_v0_0)) (v1 : (c : Dev Cert.MixerFwdIdeal.nD) → Buf (Elt Ideal) ((c.tc : Thread Cert.MixerFwdIdeal.nD Cert.MixerFwdIdeal.τ).loc Cert.MixerFwdIdeal.main_v0_1)) (v2 : (c : Dev Cert.MixerFwdIdeal.nD) → Buf (Elt Ideal) ((c.tc : Thread Cert.MixerFwdIdeal.nD Cert.MixerFwdIdeal.τ).loc Cert.MixerFwdIdeal.main_v0_2)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v0_0) = v0 c
          ∧ r.2.mem ((c.tc : Thread Cert.MixerFwdIdeal.nD Cert.MixerFwdIdeal.τ).loc Cert.MixerFwdIdeal.main_v0_1) = v1 c
          ∧ r.2.mem ((c.tc : Thread Cert.MixerFwdIdeal.nD Cert.MixerFwdIdeal.τ).loc Cert.MixerFwdIdeal.main_v0_2) = v2 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v145) = v0 c
          ∧ r.2.mem ((c.tc : Thread Cert.MixerFwdRefIdeal.nD Cert.MixerFwdRefIdeal.τ).loc Cert.MixerFwdRefIdeal.main_v147) = v1 c
          ∧ r.2.mem ((c.tc : Thread Cert.MixerFwdRefIdeal.nD Cert.MixerFwdRefIdeal.τ).loc Cert.MixerFwdRefIdeal.main_v149) = v2 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def preserves_LnBwd_LnBwdIdeal : Prop :=
  True

def algebraic_LnBwdIdeal_LnBwdRefIdeal_pre_finite [hLnBwdIdeal : Cert.LnBwdIdeal.Facts] [hLnBwdRefIdeal : Cert.LnBwdRefIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v18_0)) (v1 : (c : Dev Cert.LnBwdIdeal.nD) → Buf (Elt Ideal) ((c.tc : Thread Cert.LnBwdIdeal.nD Cert.LnBwdIdeal.τ).loc Cert.LnBwdIdeal.main_v18_1)) (v2 : (c : Dev Cert.LnBwdIdeal.nD) → Buf (Elt Ideal) ((c.tc : Thread Cert.LnBwdIdeal.nD Cert.LnBwdIdeal.τ).loc Cert.LnBwdIdeal.main_v18_2)) (v3 : (c : Dev Cert.LnBwdIdeal.nD) → Buf (Elt Ideal) ((c.tc : Thread Cert.LnBwdIdeal.nD Cert.LnBwdIdeal.τ).loc Cert.LnBwdIdeal.main_v18_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v18_0) = v0 c
          ∧ r.2.mem ((c.tc : Thread Cert.LnBwdIdeal.nD Cert.LnBwdIdeal.τ).loc Cert.LnBwdIdeal.main_v18_1) = v1 c
          ∧ r.2.mem ((c.tc : Thread Cert.LnBwdIdeal.nD Cert.LnBwdIdeal.τ).loc Cert.LnBwdIdeal.main_v18_2) = v2 c
          ∧ r.2.mem ((c.tc : Thread Cert.LnBwdIdeal.nD Cert.LnBwdIdeal.τ).loc Cert.LnBwdIdeal.main_v18_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v59) = v0 c
          ∧ r.2.mem ((c.tc : Thread Cert.LnBwdRefIdeal.nD Cert.LnBwdRefIdeal.τ).loc Cert.LnBwdRefIdeal.main_v61) = v1 c
          ∧ r.2.mem ((c.tc : Thread Cert.LnBwdRefIdeal.nD Cert.LnBwdRefIdeal.τ).loc Cert.LnBwdRefIdeal.main_v62) = v2 c
          ∧ r.2.mem ((c.tc : Thread Cert.LnBwdRefIdeal.nD Cert.LnBwdRefIdeal.τ).loc Cert.LnBwdRefIdeal.main_v63) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_AdamWGate_AdamWGateIdeal : Prop :=
  True

def algebraic_AdamWGateIdeal_AdamWGateRefIdeal [hAdamWGateIdeal : Cert.AdamWGateIdeal.Facts] [hAdamWGateRefIdeal : Cert.AdamWGateRefIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.AdamWGateRefIdeal.nD Cert.AdamWGateRefIdeal.τ Cert.AdamWGateRefIdeal.sig) → Buf (Elt Ideal) ℓ) (g' : Dev Cert.AdamWGateRefIdeal.nD → PrngReg), Pre_AdamWGateIdeal m →
    (∀ c : Dev Cert.AdamWGateIdeal.nD,
      m' ((c.tc : Thread Cert.AdamWGateRefIdeal.nD Cert.AdamWGateRefIdeal.τ).loc Cert.AdamWGateRefIdeal.main_arg0) = m ((c.tc : Thread Cert.AdamWGateIdeal.nD Cert.AdamWGateIdeal.τ).loc Cert.AdamWGateIdeal.main_arg0)
      ∧ m' ((c.tc : Thread Cert.AdamWGateRefIdeal.nD Cert.AdamWGateRefIdeal.τ).loc Cert.AdamWGateRefIdeal.main_arg1) = m ((c.tc : Thread Cert.AdamWGateIdeal.nD Cert.AdamWGateIdeal.τ).loc Cert.AdamWGateIdeal.main_arg1)
      ∧ m' ((c.tc : Thread Cert.AdamWGateRefIdeal.nD Cert.AdamWGateRefIdeal.τ).loc Cert.AdamWGateRefIdeal.main_arg2) = m ((c.tc : Thread Cert.AdamWGateIdeal.nD Cert.AdamWGateIdeal.τ).loc Cert.AdamWGateIdeal.main_arg2)
      ∧ m' ((c.tc : Thread Cert.AdamWGateRefIdeal.nD Cert.AdamWGateRefIdeal.τ).loc Cert.AdamWGateRefIdeal.main_arg3) = m ((c.tc : Thread Cert.AdamWGateIdeal.nD Cert.AdamWGateIdeal.τ).loc Cert.AdamWGateIdeal.main_arg3)
      ∧ m' ((c.tc : Thread Cert.AdamWGateRefIdeal.nD Cert.AdamWGateRefIdeal.τ).loc Cert.AdamWGateRefIdeal.main_arg4) = m ((c.tc : Thread Cert.AdamWGateIdeal.nD Cert.AdamWGateIdeal.τ).loc Cert.AdamWGateIdeal.main_arg4)) →
    ∃ (v0 : (c : Dev Cert.AdamWGateIdeal.nD) → Buf (Elt Ideal) ((c.tc : Thread Cert.AdamWGateIdeal.nD Cert.AdamWGateIdeal.τ).loc Cert.AdamWGateIdeal.main_v0_0)) (v1 : (c : Dev Cert.AdamWGateIdeal.nD) → Buf (Elt Ideal) ((c.tc : Thread Cert.AdamWGateIdeal.nD Cert.AdamWGateIdeal.τ).loc Cert.AdamWGateIdeal.main_v0_1)) (v2 : (c : Dev Cert.AdamWGateIdeal.nD) → Buf (Elt Ideal) ((c.tc : Thread Cert.AdamWGateIdeal.nD Cert.AdamWGateIdeal.τ).loc Cert.AdamWGateIdeal.main_v0_2)) (v3 : (c : Dev Cert.AdamWGateIdeal.nD) → Buf (Elt Ideal) ((c.tc : Thread Cert.AdamWGateIdeal.nD Cert.AdamWGateIdeal.τ).loc Cert.AdamWGateIdeal.main_v0_3)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v0_0) = v0 c
          ∧ r.2.mem ((c.tc : Thread Cert.AdamWGateIdeal.nD Cert.AdamWGateIdeal.τ).loc Cert.AdamWGateIdeal.main_v0_1) = v1 c
          ∧ r.2.mem ((c.tc : Thread Cert.AdamWGateIdeal.nD Cert.AdamWGateIdeal.τ).loc Cert.AdamWGateIdeal.main_v0_2) = v2 c
          ∧ r.2.mem ((c.tc : Thread Cert.AdamWGateIdeal.nD Cert.AdamWGateIdeal.τ).loc Cert.AdamWGateIdeal.main_v0_3) = v3 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3)
          ∧ r.2.mem ((c.tc : Thread Cert.AdamWGateIdeal.nD Cert.AdamWGateIdeal.τ).loc Cert.AdamWGateIdeal.main_arg4) = m ((c.tc : Thread Cert.AdamWGateIdeal.nD Cert.AdamWGateIdeal.τ).loc Cert.AdamWGateIdeal.main_arg4))
      ∧ θ_run (Cert.AdamWGateRefIdeal.defs (F := Ideal)) (onTc (τ := Cert.AdamWGateRefIdeal.τ) (Cert.AdamWGateRefIdeal.main (F := Ideal))) ⟨m', fun _ => 0, g'⟩ (fun r => ∀ c : Dev Cert.AdamWGateRefIdeal.nD,
          r.2.mem ((c.tc : Thread Cert.AdamWGateRefIdeal.nD Cert.AdamWGateRefIdeal.τ).loc Cert.AdamWGateRefIdeal.main_v0) = v0 c
          ∧ r.2.mem ((c.tc : Thread Cert.AdamWGateRefIdeal.nD Cert.AdamWGateRefIdeal.τ).loc Cert.AdamWGateRefIdeal.main_v24) = v1 c
          ∧ r.2.mem ((c.tc : Thread Cert.AdamWGateRefIdeal.nD Cert.AdamWGateRefIdeal.τ).loc Cert.AdamWGateRefIdeal.main_v5) = v2 c
          ∧ r.2.mem ((c.tc : Thread Cert.AdamWGateRefIdeal.nD Cert.AdamWGateRefIdeal.τ).loc Cert.AdamWGateRefIdeal.main_v11) = v3 c
          ∧ r.2.mem ((c.tc : Thread Cert.AdamWGateRefIdeal.nD Cert.AdamWGateRefIdeal.τ).loc Cert.AdamWGateRefIdeal.main_arg0) = m' ((c.tc : Thread Cert.AdamWGateRefIdeal.nD Cert.AdamWGateRefIdeal.τ).loc Cert.AdamWGateRefIdeal.main_arg0)
          ∧ r.2.mem ((c.tc : Thread Cert.AdamWGateRefIdeal.nD Cert.AdamWGateRefIdeal.τ).loc Cert.AdamWGateRefIdeal.main_arg1) = m' ((c.tc : Thread Cert.AdamWGateRefIdeal.nD Cert.AdamWGateRefIdeal.τ).loc Cert.AdamWGateRefIdeal.main_arg1)
          ∧ r.2.mem ((c.tc : Thread Cert.AdamWGateRefIdeal.nD Cert.AdamWGateRefIdeal.τ).loc Cert.AdamWGateRefIdeal.main_arg2) = m' ((c.tc : Thread Cert.AdamWGateRefIdeal.nD Cert.AdamWGateRefIdeal.τ).loc Cert.AdamWGateRefIdeal.main_arg2)
          ∧ r.2.mem ((c.tc : Thread Cert.AdamWGateRefIdeal.nD Cert.AdamWGateRefIdeal.τ).loc Cert.AdamWGateRefIdeal.main_arg3) = m' ((c.tc : Thread Cert.AdamWGateRefIdeal.nD Cert.AdamWGateRefIdeal.τ).loc Cert.AdamWGateRefIdeal.main_arg3)
          ∧ r.2.mem ((c.tc : Thread Cert.AdamWGateRefIdeal.nD Cert.AdamWGateRefIdeal.τ).loc Cert.AdamWGateRefIdeal.main_arg4) = m' ((c.tc : Thread Cert.AdamWGateRefIdeal.nD Cert.AdamWGateRefIdeal.τ).loc Cert.AdamWGateRefIdeal.main_arg4))

def Claim : Prop :=
  ∃ (hMlpDa : Cert.MlpDa.Facts) (hMlpDaIdeal : Cert.MlpDaIdeal.Facts) (hMlpDaRefIdeal : Cert.MlpDaRefIdeal.Facts) (hGradWDown : Cert.GradWDown.Facts) (hGradWDownIdeal : Cert.GradWDownIdeal.Facts) (hGradWDownRefIdeal : Cert.GradWDownRefIdeal.Facts) (hGradWUp : Cert.GradWUp.Facts) (hGradWUpIdeal : Cert.GradWUpIdeal.Facts) (hGradWUpRefIdeal : Cert.GradWUpRefIdeal.Facts) (hMlpDx : Cert.MlpDx.Facts) (hMlpDxIdeal : Cert.MlpDxIdeal.Facts) (hMlpDxRefIdeal : Cert.MlpDxRefIdeal.Facts) (hGradWO : Cert.GradWO.Facts) (hGradWOIdeal : Cert.GradWOIdeal.Facts) (hGradWORefIdeal : Cert.GradWORefIdeal.Facts) (hGradWBranch : Cert.GradWBranch.Facts) (hGradWBranchIdeal : Cert.GradWBranchIdeal.Facts) (hGradWBranchRefIdeal : Cert.GradWBranchRefIdeal.Facts) (hGradWIn : Cert.GradWIn.Facts) (hGradWInIdeal : Cert.GradWInIdeal.Facts) (hGradWInRefIdeal : Cert.GradWInRefIdeal.Facts) (hProjInDx : Cert.ProjInDx.Facts) (hProjInDxIdeal : Cert.ProjInDxIdeal.Facts) (hProjInDxRefIdeal : Cert.ProjInDxRefIdeal.Facts) (hProjIn : Cert.ProjIn.Facts) (hProjInIdeal : Cert.ProjInIdeal.Facts) (hProjInRefIdeal : Cert.ProjInRefIdeal.Facts) (hMergeFwd : Cert.MergeFwd.Facts) (hMergeFwdIdeal : Cert.MergeFwdIdeal.Facts) (hMergeFwdRefIdeal : Cert.MergeFwdRefIdeal.Facts) (hMlpFwd : Cert.MlpFwd.Facts) (hMlpFwdIdeal : Cert.MlpFwdIdeal.Facts) (hMlpFwdRefIdeal : Cert.MlpFwdRefIdeal.Facts) (hMemProj : Cert.MemProj.Facts) (hMemProjIdeal : Cert.MemProjIdeal.Facts) (hMemProjRefIdeal : Cert.MemProjRefIdeal.Facts) (hMemGrads : Cert.MemGrads.Facts) (hMemGradsIdeal : Cert.MemGradsIdeal.Facts) (hMemGradsRefIdeal : Cert.MemGradsRefIdeal.Facts) (hMergeBwd : Cert.MergeBwd.Facts) (hMergeBwdIdeal : Cert.MergeBwdIdeal.Facts) (hMergeBwdRefIdeal : Cert.MergeBwdRefIdeal.Facts) (hMixerFwd : Cert.MixerFwd.Facts) (hMixerFwdIdeal : Cert.MixerFwdIdeal.Facts) (hMixerFwdRefIdeal : Cert.MixerFwdRefIdeal.Facts) (hAdamW : Cert.AdamW.Facts) (hAdamWIdeal : Cert.AdamWIdeal.Facts) (hAdamWRefIdeal : Cert.AdamWRefIdeal.Facts) (hLnBwd : Cert.LnBwd.Facts) (hLnBwdIdeal : Cert.LnBwdIdeal.Facts) (hLnBwdRefIdeal : Cert.LnBwdRefIdeal.Facts) (hAdamWGate : Cert.AdamWGate.Facts) (hAdamWGateIdeal : Cert.AdamWGateIdeal.Facts) (hAdamWGateRefIdeal : Cert.AdamWGateRefIdeal.Facts) (hPre_finite : Cert.Pre_finite.Facts),
    quiescent_MlpDa (hMlpDa := hMlpDa)
    ∧ quiescent_MlpDaIdeal (hMlpDaIdeal := hMlpDaIdeal)
    ∧ quiescent_MlpDaRefIdeal (hMlpDaRefIdeal := hMlpDaRefIdeal)
    ∧ quiescent_GradWDown (hGradWDown := hGradWDown)
    ∧ quiescent_GradWDownIdeal (hGradWDownIdeal := hGradWDownIdeal)
    ∧ quiescent_GradWDownRefIdeal (hGradWDownRefIdeal := hGradWDownRefIdeal)
    ∧ quiescent_GradWUp (hGradWUp := hGradWUp)
    ∧ quiescent_GradWUpIdeal (hGradWUpIdeal := hGradWUpIdeal)
    ∧ quiescent_GradWUpRefIdeal (hGradWUpRefIdeal := hGradWUpRefIdeal)
    ∧ quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_GradWO (hGradWO := hGradWO)
    ∧ quiescent_GradWOIdeal (hGradWOIdeal := hGradWOIdeal)
    ∧ quiescent_GradWORefIdeal (hGradWORefIdeal := hGradWORefIdeal)
    ∧ quiescent_GradWBranch (hGradWBranch := hGradWBranch)
    ∧ quiescent_GradWBranchIdeal (hGradWBranchIdeal := hGradWBranchIdeal)
    ∧ quiescent_GradWBranchRefIdeal (hGradWBranchRefIdeal := hGradWBranchRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_MemGrads (hMemGrads := hMemGrads)
    ∧ quiescent_MemGradsIdeal (hMemGradsIdeal := hMemGradsIdeal)
    ∧ quiescent_MemGradsRefIdeal (hMemGradsRefIdeal := hMemGradsRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_LnBwd (hLnBwd := hLnBwd)
    ∧ quiescent_LnBwdIdeal (hLnBwdIdeal := hLnBwdIdeal)
    ∧ quiescent_LnBwdIdeal_pre_finite (hLnBwdIdeal := hLnBwdIdeal) (hPre_finite := hPre_finite)
    ∧ quiescent_LnBwdRefIdeal (hLnBwdRefIdeal := hLnBwdRefIdeal)
    ∧ quiescent_LnBwdRefIdeal_pre_finite (hLnBwdRefIdeal := hLnBwdRefIdeal) (hPre_finite := hPre_finite)
    ∧ quiescent_AdamWGate (hAdamWGate := hAdamWGate)
    ∧ quiescent_AdamWGateIdeal (hAdamWGateIdeal := hAdamWGateIdeal)
    ∧ quiescent_AdamWGateRefIdeal (hAdamWGateRefIdeal := hAdamWGateRefIdeal)
    ∧ preserves_MlpDa_MlpDaIdeal
    ∧ algebraic_MlpDaIdeal_MlpDaRefIdeal (hMlpDaIdeal := hMlpDaIdeal) (hMlpDaRefIdeal := hMlpDaRefIdeal)
    ∧ preserves_GradWDown_GradWDownIdeal
    ∧ algebraic_GradWDownIdeal_GradWDownRefIdeal (hGradWDownIdeal := hGradWDownIdeal) (hGradWDownRefIdeal := hGradWDownRefIdeal)
    ∧ preserves_GradWUp_GradWUpIdeal
    ∧ algebraic_GradWUpIdeal_GradWUpRefIdeal (hGradWUpIdeal := hGradWUpIdeal) (hGradWUpRefIdeal := hGradWUpRefIdeal)
    ∧ preserves_MlpDx_MlpDxIdeal
    ∧ algebraic_MlpDxIdeal_MlpDxRefIdeal (hMlpDxIdeal := hMlpDxIdeal) (hMlpDxRefIdeal := hMlpDxRefIdeal)
    ∧ preserves_GradWO_GradWOIdeal
    ∧ algebraic_GradWOIdeal_GradWORefIdeal (hGradWOIdeal := hGradWOIdeal) (hGradWORefIdeal := hGradWORefIdeal)
    ∧ preserves_GradWBranch_GradWBranchIdeal
    ∧ algebraic_GradWBranchIdeal_GradWBranchRefIdeal (hGradWBranchIdeal := hGradWBranchIdeal) (hGradWBranchRefIdeal := hGradWBranchRefIdeal)
    ∧ preserves_GradWIn_GradWInIdeal
    ∧ algebraic_GradWInIdeal_GradWInRefIdeal (hGradWInIdeal := hGradWInIdeal) (hGradWInRefIdeal := hGradWInRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_ProjIn_ProjInIdeal
    ∧ algebraic_ProjInIdeal_ProjInRefIdeal (hProjInIdeal := hProjInIdeal) (hProjInRefIdeal := hProjInRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_MemProj_MemProjIdeal
    ∧ algebraic_MemProjIdeal_MemProjRefIdeal (hMemProjIdeal := hMemProjIdeal) (hMemProjRefIdeal := hMemProjRefIdeal)
    ∧ preserves_MemGrads_MemGradsIdeal
    ∧ algebraic_MemGradsIdeal_MemGradsRefIdeal (hMemGradsIdeal := hMemGradsIdeal) (hMemGradsRefIdeal := hMemGradsRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MixerFwd_MixerFwdIdeal
    ∧ algebraic_MixerFwdIdeal_MixerFwdRefIdeal (hMixerFwdIdeal := hMixerFwdIdeal) (hMixerFwdRefIdeal := hMixerFwdRefIdeal)
    ∧ preserves_AdamW_AdamWIdeal
    ∧ algebraic_AdamWIdeal_AdamWRefIdeal (hAdamWIdeal := hAdamWIdeal) (hAdamWRefIdeal := hAdamWRefIdeal)
    ∧ preserves_LnBwd_LnBwdIdeal
    ∧ algebraic_LnBwdIdeal_LnBwdRefIdeal_pre_finite (hLnBwdIdeal := hLnBwdIdeal) (hLnBwdRefIdeal := hLnBwdRefIdeal) (hPre_finite := hPre_finite)
    ∧ preserves_AdamWGate_AdamWGateIdeal
    ∧ algebraic_AdamWGateIdeal_AdamWGateRefIdeal (hAdamWGateIdeal := hAdamWGateIdeal) (hAdamWGateRefIdeal := hAdamWGateRefIdeal)
-- ==== Pre_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) : IVec S8192x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== MlpDa.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDaRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x1024, .f32⟩
  | .hbm, ⟨4, _⟩ => ⟨S4096x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GradWDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== GradWUp.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDx.lean ====
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDxRefIdeal.lean ====
abbrev S8192x4096 : Shape := ⟨2, ![8192, 4096]⟩
abbrev S1024x4096 : Shape := ⟨2, ![1024, 4096]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x4096, .f32⟩
  | .hbm, ⟨4, _⟩ => ⟨S1024x4096, .f32⟩
  | .hbm, ⟨5, _⟩ => ⟨S_, .f32⟩
  | .hbm, ⟨6, _⟩ => ⟨S8192x1024, .f32⟩
  | .hbm, ⟨7, _⟩ => ⟨S8192x4096, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GradWO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradWORefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradWBranch.lean ====
abbrev S8192x1536 : Shape := ⟨2, ![8192, 1536]⟩
abbrev S8192x3072 : Shape := ⟨2, ![8192, 3072]⟩
abbrev S1536x1024 : Shape := ⟨2, ![1536, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWBranchRefIdeal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1536x1024 : Shape := ⟨2, ![1536, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x1536, .f32⟩
  | .hbm, ⟨3, _⟩ => ⟨S8192x3072, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S512x1024, .f32⟩
  | .hbm, ⟨12, _⟩ => ⟨S8192x1024, .f32⟩
  | .hbm, ⟨13, _⟩ => ⟨S1024x512, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S8192x1024, .f32⟩
  | .hbm, ⟨18, _⟩ => ⟨S1024x512, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S8192x1024, .f32⟩
  | .hbm, ⟨23, _⟩ => ⟨S1024x512, .f32⟩
  | .hbm, ⟨24, _⟩ => ⟨S512x1024, .f32⟩
  | .hbm, ⟨25, _⟩ => ⟨S1536x1024, .f32⟩
  | .hbm, ⟨26, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== GradWIn.lean ====
abbrev S8192x1024 : Shape := ⟨2, ![8192, 1024]⟩
abbrev S8192x7168 : Shape := ⟨2, ![8192, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInRefIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S8192x7168, .f32⟩
  | .hbm, ⟨4, _⟩ => ⟨S_, .f32⟩
  | .hbm, ⟨5, _⟩ => ⟨S1024x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S1024x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjInDx.lean ====
abbrev S8192x7168 : Shape := ⟨2, ![8192, 7168]⟩
abbrev S1024x7168 : Shape := ⟨2, ![1024, 7168]⟩
abbrev S8192x1024 : Shape := ⟨2, ![8192, 1024]⟩
abbrev S512x7168 : Shape := ⟨2, ![512, 7168]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S8192x1024, .f32⟩
  | .local _ .vmem, ⟨0, _⟩ => ⟨S512x7168, .bf16⟩
  | .local _ .vmem, ⟨1, _⟩ => ⟨S512x7168, .bf16⟩
  | .local _ .vmem, ⟨2, _⟩ => ⟨S1024x7168, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjInDxRefIdeal.lean ====
abbrev S8192x7168 : Shape := ⟨2, ![8192, 7168]⟩
abbrev S1024x7168 : Shape := ⟨2, ![1024, 7168]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S8192x7168, .f32⟩
  | .hbm, ⟨4, _⟩ => ⟨S1024x7168, .f32⟩
  | .hbm, ⟨5, _⟩ => ⟨S_, .f32⟩
  | .hbm, ⟨6, _⟩ => ⟨S8192x1024, .f32⟩
  | .hbm, ⟨7, _⟩ => ⟨S8192x7168, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== ProjIn.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MergeFwd.lean ====
abbrev S8192x1536 : Shape := ⟨2, ![8192, 1536]⟩
abbrev S8192x7168 : Shape := ⟨2, ![8192, 7168]⟩
abbrev S8192x1024 : Shape := ⟨2, ![8192, 1024]⟩
abbrev S1536x1024 : Shape := ⟨2, ![1536, 1024]⟩
abbrev S1024x1024 : Shape := ⟨2, ![1024, 1024]⟩
abbrev S1x3072 : Shape := ⟨2, ![1, 3072]⟩
abbrev S1x1024 : Shape := ⟨2, ![1, 1024]⟩
abbrev S8192x1 : Shape := ⟨2, ![8192, 1]⟩
abbrev S512x1536 : Shape := ⟨2, ![512, 1536]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 12
  | .vmem => 23
  | .smem => 0
  | _ => 0

abbrev bufTy : (tb : Table) → Fin (tcTables nBuf tb) → BufTy
  | .hbm, ⟨0, _⟩ => ⟨S8192x1536, .bf16⟩
  | .hbm, ⟨1, _⟩ => ⟨S8192x7168, .bf16⟩
  | .hbm, ⟨2, _⟩ => ⟨S8192x1024, .f32⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S8192x1024, .f32⟩
  | .hbm, ⟨10, _⟩ => ⟨S8192x1, .f32⟩
  | .hbm, ⟨11, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1536x1024, .bf16⟩
  | .local _ .vmem, ⟨11, _⟩ => ⟨S1024x1024, .bf16⟩
  | .local _ .vmem, ⟨12, _⟩ => ⟨S1x3072, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .bf16⟩
  | .local _ .vmem, ⟨22, _⟩ => ⟨S512x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeFwdRefIdeal.lean ====
abbrev S8192x1536 : Shape := ⟨2, ![8192, 1536]⟩
abbrev S8192x7168 : Shape := ⟨2, ![8192, 7168]⟩
abbrev S8192x1024 : Shape := ⟨2, ![8192, 1024]⟩
abbrev S1536x1024 : Shape := ⟨2, ![1536, 1024]⟩
abbrev S1024x1024 : Shape := ⟨2, ![1024, 1024]⟩
abbrev S1x3072 : Shape := ⟨2, ![1, 3072]⟩
abbrev S1x1024 : Shape := ⟨2, ![1, 1024]⟩
abbrev S3x512x1024 : Shape := ⟨3, ![3, 512, 1024]⟩
abbrev S8192x512 : Shape := ⟨2, ![8192, 512]⟩
abbrev S8192x3072 : Shape := ⟨2, ![8192, 3072]⟩
abbrev S_ : Shape := ⟨0, ![]⟩
abbrev S1x512x1024 : Shape := ⟨3, ![1, 512, 1024]⟩
abbrev S512x1024 : Shape := ⟨2, ![512, 1024]⟩
abbrev S8192 : Shape := ⟨1, ![8192]⟩
abbrev S8192x1 : Shape := ⟨2, ![8192, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x7168, .bf16⟩
  | .hbm, ⟨2, _⟩ => ⟨S8192x1024, .f32⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S8192x1536, .f32⟩
  | .hbm, ⟨9, _⟩ => ⟨S8192x7168, .f32⟩
  | .hbm, ⟨10, _⟩ => ⟨S1536x1024, .f32⟩
  | .hbm, ⟨11, _⟩ => ⟨S1024x1024, .f32⟩
  | .hbm, ⟨12, _⟩ => ⟨S3x512x1024, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x3072, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S1x512x1024, .f32⟩
  | .hbm, ⟨34, _⟩ => ⟨S512x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S1x512x1024, .f32⟩
  | .hbm, ⟨48, _⟩ => ⟨S512x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S1x512x1024, .f32⟩
  | .hbm, ⟨63, _⟩ => ⟨S512x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .bf16⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== MlpFwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S8192x4096 : Shape := ⟨2, ![8192, 4096]⟩
abbrev S8192x1 : Shape := ⟨2, ![8192, 1]⟩
abbrev S512x1024 : Shape := ⟨2, ![512, 1024]⟩
abbrev S512x4096 : Shape := ⟨2, ![512, 4096]⟩
abbrev S512x1 : Shape := ⟨2, ![512, 1]⟩
abbrev S1024x1024 : Shape := ⟨2, ![1024, 1024]⟩
abbrev S512 : Shape := ⟨1, ![512]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S8192x4096, .bf16⟩
  | .hbm, ⟨9, _⟩ => ⟨S8192x1024, .f32⟩
  | .hbm, ⟨10, _⟩ => ⟨S8192x1, .f32⟩
  | .hbm, ⟨11, _⟩ => ⟨S8192x1024, .f32⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpFwdRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x4096, .bf16⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== MemProj.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S1024x512, .bf16⟩
  | .hbm, ⟨3, _⟩ => ⟨S512x512, .bf16⟩
  | .hbm, ⟨4, _⟩ => ⟨S512x512, .bf16⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemProjRefIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S1024x512, .bf16⟩
  | .hbm, ⟨3, _⟩ => ⟨S1024x512, .f32⟩
  | .hbm, ⟨4, _⟩ => ⟨S1024x512, .f32⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemGrads.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024x512, .bf16⟩
  | .hbm, ⟨4, _⟩ => ⟨S1024x512, .bf16⟩
  | .local _ .vmem, ⟨0, _⟩ => ⟨S512x1024, .f32⟩
  | .local _ .vmem, ⟨1, _⟩ => ⟨S512x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemGradsRefIdeal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | .hbm, ⟨12, _⟩ => ⟨S1024x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MergeBwd.lean ====
abbrev S8192x1024 : Shape := ⟨2, ![8192, 1024]⟩
abbrev S8192x7168 : Shape := ⟨2, ![8192, 7168]⟩
abbrev S8192x1536 : Shape := ⟨2, ![8192, 1536]⟩
abbrev S1536x1024 : Shape := ⟨2, ![1536, 1024]⟩
abbrev S1024x1024 : Shape := ⟨2, ![1024, 1024]⟩
abbrev S1x3072 : Shape := ⟨2, ![1, 3072]⟩
abbrev S8192x3072 : Shape := ⟨2, ![8192, 3072]⟩
abbrev S8x3072 : Shape := ⟨2, ![8, 3072]⟩
abbrev S512x1024 : Shape := ⟨2, ![512, 1024]⟩
abbrev S512x1536 : Shape := ⟨2, ![512, 1536]⟩
abbrev S512x3072 : Shape := ⟨2, ![512, 3072]⟩
abbrev S512x7168 : Shape := ⟨2, ![512, 7168]⟩
abbrev S512x4096 : Shape := ⟨2, ![512, 4096]⟩
abbrev S1x1024 : Shape := ⟨2, ![1, 1024]⟩
abbrev S512x512 : Shape := ⟨2, ![512, 512]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1536, .bf16⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S8192x3072, .bf16⟩
  | .hbm, ⟨7, _⟩ => ⟨S8192x7168, .bf16⟩
  | .hbm, ⟨8, _⟩ => ⟨S8192x1536, .bf16⟩
  | .hbm, ⟨9, _⟩ => ⟨S8x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S1536x1024, .bf16⟩
  | .local _ .vmem, ⟨11, _⟩ => ⟨S1024x1024, .bf16⟩
  | .local _ .vmem, ⟨12, _⟩ => ⟨S1x3072, .f32⟩
  | .local _ .vmem, ⟨13, _⟩ => ⟨S512x3072, .bf16⟩
  | .local _ .vmem, ⟨14, _⟩ => ⟨S512x3072, .bf16⟩
  | .local _ .vmem, ⟨15, _⟩ => ⟨S512x7168, .bf16⟩
  | .local _ .vmem, ⟨16, _⟩ => ⟨S512x7168, .bf16⟩
  | .local _ .vmem, ⟨17, _⟩ => ⟨S512x1536, .bf16⟩
  | .local _ .vmem, ⟨18, _⟩ => ⟨S512x1536, .bf16⟩
  | .local _ .vmem, ⟨19, _⟩ => ⟨S8x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeBwdRefIdeal.lean ====
abbrev S8192x1024 : Shape := ⟨2, ![8192, 1024]⟩
abbrev S8192x7168 : Shape := ⟨2, ![8192, 7168]⟩
abbrev S8192x1536 : Shape := ⟨2, ![8192, 1536]⟩
abbrev S1536x1024 : Shape := ⟨2, ![1536, 1024]⟩
abbrev S1024x1024 : Shape := ⟨2, ![1024, 1024]⟩
abbrev S1x3072 : Shape := ⟨2, ![1, 3072]⟩
abbrev S8192x3072 : Shape := ⟨2, ![8192, 3072]⟩
abbrev S_ : Shape := ⟨0, ![]⟩
abbrev S3x512x1024 : Shape := ⟨3, ![3, 512, 1024]⟩
abbrev S1x1024 : Shape := ⟨2, ![1, 1024]⟩
abbrev S8192x512 : Shape := ⟨2, ![8192, 512]⟩
abbrev S1x512x1024 : Shape := ⟨3, ![1, 512, 1024]⟩
abbrev S512x1024 : Shape := ⟨2, ![512, 1024]⟩
abbrev S1024 : Shape := ⟨1, ![1024]⟩
abbrev S8x3072 : Shape := ⟨2, ![8, 3072]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1536, .bf16⟩
  | .hbm, ⟨3, _⟩ => ⟨S1536x1024, .bf16⟩
  | .hbm, ⟨4, _⟩ => ⟨S1024x1024, .bf16⟩
  | .hbm, ⟨5, _⟩ => ⟨S1x3072, .f32⟩
  | .hbm, ⟨6, _⟩ => ⟨S8192x1024, .f32⟩
  | .hbm, ⟨7, _⟩ => ⟨S8192x7168, .f32⟩
  | .hbm, ⟨8, _⟩ => ⟨S8192x1536, .f32⟩
  | .hbm, ⟨9, _⟩ => ⟨S1536x1024, .f32⟩
  | .hbm, ⟨10, _⟩ => ⟨S1024x1024, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S3x512x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512x1024, .f32⟩
  | .hbm, ⟨25, _⟩ => ⟨S512x1024, .f32⟩
  | .hbm, ⟨26, _⟩ => ⟨S8192x1024, .f32⟩
  | .hbm, ⟨27, _⟩ => ⟨S1x512x1024, .f32⟩
  | .hbm, ⟨28, _⟩ => ⟨S512x1024, .f32⟩
  | .hbm, ⟨29, _⟩ => ⟨S8192x1024, .f32⟩
  | .hbm, ⟨30, _⟩ => ⟨S1x512x1024, .f32⟩
  | .hbm, ⟨31, _⟩ => ⟨S512x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S8192x3072, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S8192x1536, .f32⟩
  | .hbm, ⟨111, _⟩ => ⟨S1x3072, .f32⟩
  | .hbm, ⟨112, _⟩ => ⟨S8192x3072, .f32⟩
  | .hbm, ⟨113, _⟩ => ⟨S8192x3072, .bf16⟩
  | .hbm, ⟨114, _⟩ => ⟨S8192x3072, .bf16⟩
  | .hbm, ⟨115, _⟩ => ⟨S_, .i32⟩
  | .hbm, ⟨116, _⟩ => ⟨S_, .bf16⟩
  | .hbm, ⟨117, _⟩ => ⟨S8192x7168, .bf16⟩
  | .hbm, ⟨118, _⟩ => ⟨S8192x1536, .bf16⟩
  | .hbm, ⟨119, _⟩ => ⟨S_, .i32⟩
  | .hbm, ⟨120, _⟩ => ⟨S_, .f32⟩
  | .hbm, ⟨121, _⟩ => ⟨S8x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_c : Ref sig .tc := ⟨.hbm, 115, rfl⟩
abbrev main_call0_v0 : Ref sig .tc := ⟨.hbm, 116, rfl⟩
abbrev main_v96 : Ref sig .tc := ⟨.hbm, 117, rfl⟩
abbrev main_v97 : Ref sig .tc := ⟨.hbm, 118, rfl⟩
abbrev main_c_12 : Ref sig .tc := ⟨.hbm, 119, rfl⟩
abbrev main_call1_v0 : Ref sig .tc := ⟨.hbm, 120, rfl⟩
abbrev main_v98 : Ref sig .tc := ⟨.hbm, 121, rfl⟩

abbrev nD : Nat := 1
abbrev τ : Topo := Topo.v7x

variable {F : FTy → Type} [FloatOps F]
-- ==== MixerFwd.lean ====
abbrev S8192x7168 : Shape := ⟨2, ![8192, 7168]⟩
abbrev S512x512 : Shape := ⟨2, ![512, 512]⟩
abbrev S1x512 : Shape := ⟨2, ![1, 512]⟩
abbrev S3x512 : Shape := ⟨2, ![3, 512]⟩
abbrev S1x128 : Shape := ⟨2, ![1, 128]⟩
abbrev S8192x1536 : Shape := ⟨2, ![8192, 1536]⟩
abbrev S256x4x128x128 : Shape := ⟨4, ![256, 4, 128, 128]⟩
abbrev S8192x512 : Shape := ⟨2, ![8192, 512]⟩
abbrev S256x4096 : Shape := ⟨2, ![256, 4096]⟩
abbrev S256x512 : Shape := ⟨2, ![256, 512]⟩
abbrev S256x1536 : Shape := ⟨2, ![256, 1536]⟩
abbrev S8x4x128x128 : Shape := ⟨4, ![8, 4, 128, 128]⟩
abbrev S4x128x128 : Shape := ⟨3, ![4, 128, 128]⟩
abbrev S8x512 : Shape := ⟨2, ![8, 512]⟩
abbrev S32x512 : Shape := ⟨2, ![32, 512]⟩
abbrev S256x256 : Shape := ⟨2, ![256, 256]⟩
abbrev S1x128x128 : Shape := ⟨3, ![1, 128, 128]⟩
abbrev S128x128 : Shape := ⟨2, ![128, 128]⟩
abbrev S1x1x128x128 : Shape := ⟨4, ![1, 1, 128, 128]⟩
abbrev S32x128 : Shape := ⟨2, ![32, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x7168, .bf16⟩
  | .hbm, ⟨1, _⟩ => ⟨S512x512, .bf16⟩
  | .hbm, ⟨2, _⟩ => ⟨S512x512, .bf16⟩
  | .hbm, ⟨3, _⟩ => ⟨S1x512, .f32⟩
  | .hbm, ⟨4, _⟩ => ⟨S3x512, .f32⟩
  | .hbm, ⟨5, _⟩ => ⟨S1x128, .f32⟩
  | .hbm, ⟨6, _⟩ => ⟨S8192x1536, .bf16⟩
  | .hbm, ⟨7, _⟩ => ⟨S256x4x128x128, .f32⟩
  | .hbm, ⟨8, _⟩ => ⟨S8192x512, .f32⟩
  | .local _ .vmem, ⟨0, _⟩ => ⟨S256x4096, .bf16⟩
  | .local _ .vmem, ⟨1, _⟩ => ⟨S256x4096, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | .local _ .vmem, ⟨7, _⟩ => ⟨S3x512, .f32⟩
  | .local _ .vmem, ⟨8, _⟩ => ⟨S1x128, .f32⟩
  | .local _ .vmem, ⟨9, _⟩ => ⟨S256x1536, .bf16⟩
  | .local _ .vmem, ⟨10, _⟩ => ⟨S256x1536, .bf16⟩
  | .local _ .vmem, ⟨11, _⟩ => ⟨S8x4x128x128, .f32⟩
  | .local _ .vmem, ⟨12, _⟩ => ⟨S8x4x128x128, .f32⟩
  | .local _ .vmem, ⟨13, _⟩ => ⟨S256x512, .f32⟩
  | .local _ .vmem, ⟨14, _⟩ => ⟨S256x512, .f32⟩
  | .local _ .vmem, ⟨15, _⟩ => ⟨S4x128x128, .f32⟩
  | .local _ .vmem, ⟨16, _⟩ => ⟨S8x512, .f32⟩
  | .local _ .vmem, ⟨17, _⟩ => ⟨S256x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixerFwdRefIdeal.lean ====
abbrev S8192x7168 : Shape := ⟨2, ![8192, 7168]⟩
abbrev S512x512 : Shape := ⟨2, ![512, 512]⟩
abbrev S1x512 : Shape := ⟨2, ![1, 512]⟩
abbrev S3x512 : Shape := ⟨2, ![3, 512]⟩
abbrev S1x128 : Shape := ⟨2, ![1, 128]⟩
abbrev S8192x512 : Shape := ⟨2, ![8192, 512]⟩
abbrev S2x4096x512 : Shape := ⟨3, ![2, 4096, 512]⟩
abbrev S_ : Shape := ⟨0, ![]⟩
abbrev S2x2x512 : Shape := ⟨3, ![2, 2, 512]⟩
abbrev S2x4098x512 : Shape := ⟨3, ![2, 4098, 512]⟩
abbrev S512 : Shape := ⟨1, ![512]⟩
abbrev S1x1x512 : Shape := ⟨3, ![1, 1, 512]⟩
abbrev S2x256x512 : Shape := ⟨3, ![2, 256, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x128x32x512 : Shape := ⟨4, ![2, 128, 32, 512]⟩
abbrev S128x2x32x512 : Shape := ⟨4, ![128, 2, 32, 512]⟩
abbrev S2x128x32x4x128 : Shape := ⟨5, ![2, 128, 32, 4, 128]⟩
abbrev S128x2x4x32x128 : Shape := ⟨5, ![128, 2, 4, 32, 128]⟩
abbrev S128x2x4x1x128 : Shape := ⟨5, ![128, 2, 4, 1, 128]⟩
abbrev S32x32 : Shape := ⟨2, ![32, 32]⟩
abbrev S128x2x4x32x32 : Shape := ⟨5, ![128, 2, 4, 32, 32]⟩
abbrev S128x2x4x128 : Shape := ⟨4, ![128, 2, 4, 128]⟩
abbrev S2x4x128x128 : Shape := ⟨4, ![2, 4, 128, 128]⟩
abbrev S128x2x32x1536 : Shape := ⟨4, ![128, 2, 32, 1536]⟩
abbrev S128x2x4x128x128 : Shape := ⟨5, ![128, 2, 4, 128, 128]⟩
abbrev S128x2x32x4x128 : Shape := ⟨5, ![128, 2, 32, 4, 128]⟩
abbrev S1x2x32x512 : Shape := ⟨4, ![1, 2, 32, 512]⟩
abbrev S2x32x512 : Shape := ⟨3, ![2, 32, 512]⟩
abbrev S1x2x4x32x32 : Shape := ⟨5, ![1, 2, 4, 32, 32]⟩
abbrev S2x4x32x32 : Shape := ⟨4, ![2, 4, 32, 32]⟩
abbrev S1x2x4x32x128 : Shape := ⟨5, ![1, 2, 4, 32, 128]⟩
abbrev S2x4x32x128 : Shape := ⟨4, ![2, 4, 32, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S2x32x4x128 : Shape := ⟨4, ![2, 32, 4, 128]⟩
abbrev S128 : Shape := ⟨1, ![128]⟩
abbrev S2x32x4 : Shape := ⟨3, ![2, 32, 4]⟩
abbrev S2x32x4x1 : Shape := ⟨4, ![2, 32, 4, 1]⟩
abbrev S1x1x1x128 : Shape := ⟨4, ![1, 1, 1, 128]⟩
abbrev S2x32x1536 : Shape := ⟨3, ![2, 32, 1536]⟩
abbrev S1x2x32x1536 : Shape := ⟨4, ![1, 2, 32, 1536]⟩
abbrev S1x2x4x128x128 : Shape := ⟨5, ![1, 2, 4, 128, 128]⟩
abbrev S1x2x32x4x128 : Shape := ⟨5, ![1, 2, 32, 4, 128]⟩
abbrev S2x128x32x1536 : Shape := ⟨4, ![2, 128, 32, 1536]⟩
abbrev S8192x1536 : Shape := ⟨2, ![8192, 1536]⟩
abbrev S2x128x4x128x128 : Shape := ⟨5, ![2, 128, 4, 128, 128]⟩
abbrev S256x4x128x128 : Shape := ⟨4, ![256, 4, 128, 128]⟩

abbrev nBuf : Space → Nat
  | .hbm => 311
  | .vmem => 0
  | .smem => 0
  | _ => 0

abbrev hbmTy0_0 (i : Nat) : BufTy := match i % 128 with
  | 0 => ⟨S8192x7168, .bf16⟩
  | 1 => ⟨S512x512, .bf16⟩
  | 2 => ⟨S512x512, .bf16⟩
  | 3 => ⟨S1x512, .f32⟩
  | 4 => ⟨S3x512, .f32⟩
  | 5 => ⟨S1x128, .f32⟩
  | 6 => ⟨S8192x512, .bf16⟩
  | 7 => ⟨S8192x512, .f32⟩
  | 8 => ⟨S2x4096x512, .f32⟩
  | 9 => ⟨S8192x512, .bf16⟩
  | 10 => ⟨S8192x512, .f32⟩
  | 11 => ⟨S2x4096x512, .f32⟩
  | 12 => ⟨S8192x512, .bf16⟩
  | 13 => ⟨S8192x512, .f32⟩
  | 14 => ⟨S2x4096x512, .f32⟩
  | 15 => ⟨S8192x512, .bf16⟩
  | 16 => ⟨S8192x512, .f32⟩
  | 17 => ⟨S2x4096x512, .f32⟩
  | 18 => ⟨S8192x512, .bf16⟩
  | 19 => ⟨S8192x512, .f32⟩
  | 20 => ⟨S2x4096x512, .f32⟩
  | 21 => ⟨S8192x512, .bf16⟩
  | 22 => ⟨S8192x512, .f32⟩
  | 23 => ⟨S2x4096x512, .f32⟩
  | 24 => ⟨S8192x512, .bf16⟩
  | 25 => ⟨S8192x512, .f32⟩
  | 26 => ⟨S2x4096x512, .f32⟩
  | 27 => ⟨S8192x512, .bf16⟩
  | 28 => ⟨S8192x512, .f32⟩
  | 29 => ⟨S2x4096x512, .f32⟩
  | 30 => ⟨S2x4096x512, .f32⟩
  | 31 => ⟨S_, .f32⟩
  | 32 => ⟨S2x2x512, .f32⟩
  | 33 => ⟨S2x4098x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S1x512, .f32⟩
  | 42 => ⟨S512, .f32⟩
  | 43 => ⟨S1x1x512, .f32⟩
  | 44 => ⟨S2x4096x512, .f32⟩
  | 45 => ⟨S2x4096x512, .f32⟩
  | 46 => ⟨S2x4096x512, .f32⟩
  | 47 => ⟨S2x4096x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S512x512, .f32⟩
  | 56 => ⟨S2x256x512, .f32⟩
  | 57 => ⟨S512x512, .f32⟩
  | 58 => ⟨S2x256x512, .f32⟩
  | 59 => ⟨S2x4096x4x128, .f32⟩
  | 60 => ⟨S2x256x4x128, .f32⟩
  | 61 => ⟨S2x256x4x128, .f32⟩
  | 62 => ⟨S2x4x4096x256, .f32⟩
  | 63 => ⟨S_, .f32⟩
  | 64 => ⟨S2x4x4096x256, .f32⟩
  | 65 => ⟨S2x4x4096x256, .f32⟩
  | 66 => ⟨S_, .f32⟩
  | 67 => ⟨S2x4x4096, .f32⟩
  | 68 => ⟨S_, .f32⟩
  | 69 => ⟨S2x4x4096, .f32⟩
  | 70 => ⟨S2x4x4096, .f32⟩
  | 71 => ⟨S2x4x4096x1, .f32⟩
  | 72 => ⟨S2x4x4096x256, .f32⟩
  | 73 => ⟨S2x4x4096x256, .f32⟩
  | 74 => ⟨S2x4x4096x256, .f32⟩
  | 75 => ⟨S_, .f32⟩
  | 76 => ⟨S2x4x4096, .f32⟩
  | 77 => ⟨S2x4x4096x1, .f32⟩
  | 78 => ⟨S2x4x4096x256, .f32⟩
  | 79 => ⟨S2x4x4096x256, .f32⟩
  | 80 => ⟨S2x4x128x4096, .f32⟩
  | 81 => ⟨S2x4096x4x128, .f32⟩
  | 82 => ⟨S2x4096x512, .f32⟩
  | 83 => ⟨S2x128x32x512, .f32⟩
  | 84 => ⟨S128x2x32x512, .f32⟩
  | 85 => ⟨S2x128x32x512, .f32⟩
  | 86 => ⟨S128x2x32x512, .f32⟩
  | 87 => ⟨S2x128x32x512, .f32⟩
  | 88 => ⟨S128x2x32x512, .f32⟩
  | 89 => ⟨S512, .f32⟩
  | 90 => ⟨S2x4096x512, .f32⟩
  | 91 => ⟨S2x4096x512, .f32⟩
  | 92 => ⟨S_, .f32⟩
  | 93 => ⟨S2x4096x512, .f32⟩
  | 94 => ⟨S2x4096x512, .f32⟩
  | 95 => ⟨S_, .f32⟩
  | 96 => ⟨S2x4096x512, .f32⟩
  | 97 => ⟨S2x4096x512, .f32⟩
  | 98 => ⟨S_, .f32⟩
  | 99 => ⟨S512, .f32⟩
  | 100 => ⟨S512, .f32⟩
  | 101 => ⟨S1x1x512, .f32⟩
  | 102 => ⟨S2x4096x512, .f32⟩
  | 103 => ⟨S2x4096x512, .f32⟩
  | 104 => ⟨S1x1x512, .f32⟩
  | 105 => ⟨S2x4096x512, .f32⟩
  | 106 => ⟨S2x4096x512, .f32⟩
  | 107 => ⟨S2x4096x512, .f32⟩
  | 108 => ⟨S_, .f32⟩
  | 109 => ⟨S512, .f32⟩
  | 110 => ⟨S512, .f32⟩
  | 111 => ⟨S2x4096x512, .f32⟩
  | 112 => ⟨S2x4096x512, .f32⟩
  | 113 => ⟨S2x4096x512, .f32⟩
  | 114 => ⟨S_, .f32⟩
  | 115 => ⟨S2x4096x512, .f32⟩
  | 116 => ⟨S2x4096x512, .f32⟩
  | 117 => ⟨S_, .f32⟩
  | 118 => ⟨S2x4096x512, .f32⟩
  | 119 => ⟨S2x4096x512, .f32⟩
  | 120 => ⟨S1x1x512, .f32⟩
  | 121 => ⟨S2x4096x512, .f32⟩
  | 122 => ⟨S2x4096x512, .f32⟩
  | 123 => ⟨S2x4096x512, .f32⟩
  | 124 => ⟨S2x4096x512, .f32⟩
  | 125 => ⟨S_, .f32⟩
  | 126 => ⟨S2x4096x512, .f32⟩
  | 127 => ⟨S2x4096x512, .f32⟩
  | _ => ⟨S8192x7168, .bf16⟩

abbrev hbmTy0_1 (i : Nat) : BufTy := match i % 128 with
  | 0 => ⟨S_, .f32⟩
  | 1 => ⟨S2x4096x512, .f32⟩
  | 2 => ⟨S2x4096x512, .f32⟩
  | 3 => ⟨S2x4096x512, .f32⟩
  | 4 => ⟨S2x128x32x4x128, .f32⟩
  | 5 => ⟨S128x2x4x32x128, .f32⟩
  | 6 => ⟨S2x128x32x4x128, .f32⟩
  | 7 => ⟨S128x2x4x32x128, .f32⟩
  | 8 => ⟨S2x128x32x4x128, .f32⟩
  | 9 => ⟨S128x2x4x32x128, .f32⟩
  | 10 => ⟨S2x128x32x4x128, .f32⟩
  | 11 => ⟨S128x2x4x32x128, .f32⟩
  | 12 => ⟨S_, .f32⟩
  | 13 => ⟨S_, .f32⟩
  | 14 => ⟨S128x2x4x32x128, .f32⟩
  | 15 => ⟨S128x2x4x1x128, .f32⟩
  | 16 => ⟨S128x2x4x1x128, .f32⟩
  | 17 => ⟨S_, .i1⟩
  | 18 => ⟨S32x32, .i1⟩
  | 19 => ⟨S32x32, .i32⟩
  | 20 => ⟨S_, .i32⟩
  | 21 => ⟨S32x32, .i32⟩
  | 22 => ⟨S32x32, .i32⟩
  | 23 => ⟨S32x32, .i32⟩
  | 24 => ⟨S32x32, .i1⟩
  | 25 => ⟨S_, .i1⟩
  | 26 => ⟨S32x32, .i1⟩
  | 27 => ⟨S32x32, .i1⟩
  | 28 => ⟨S128x2x4x32x128, .f32⟩
  | 29 => ⟨S128x2x4x32x128, .f32⟩
  | 30 => ⟨S128x2x4x32x128, .f32⟩
  | 31 => ⟨S128x2x4x32x128, .f32⟩
  | 32 => ⟨S128x2x4x32x128, .f32⟩
  | 33 => ⟨S128x2x4x32x128, .f32⟩
  | 34 => ⟨S128x2x4x32x128, .f32⟩
  | 35 => ⟨S128x2x4x32x128, .f32⟩
  | 36 => ⟨S128x2x4x32x32, .f32⟩
  | 37 => ⟨S_, .f32⟩
  | 38 => ⟨S_, .f32⟩
  | 39 => ⟨S128x2x4x32x32, .i1⟩
  | 40 => ⟨S128x2x4x32x32, .f32⟩
  | 41 => ⟨S128x2x4x32x32, .f32⟩
  | 42 => ⟨S128x2x4x32x128, .f32⟩
  | 43 => ⟨S128x2x4x32x128, .f32⟩
  | 44 => ⟨S128x2x4x32x128, .f32⟩
  | 45 => ⟨S128x2x4x32x128, .f32⟩
  | 46 => ⟨S128x2x4x32x128, .f32⟩
  | 47 => ⟨S128x2x4x32x128, .f32⟩
  | 48 => ⟨S128x2x4x128, .f32⟩
  | 49 => ⟨S128x2x4x128, .f32⟩
  | 50 => ⟨S_, .f32⟩
  | 51 => ⟨S2x4x128x128, .f32⟩
  | 52 => ⟨S_, .f32⟩
  | 53 => ⟨S128x2x32x1536, .f32⟩
  | 54 => ⟨S_, .f32⟩
  | 55 => ⟨S128x2x4x128x128, .f32⟩
  | 56 => ⟨S_, .f32⟩
  | 57 => ⟨S128x2x32x4x128, .f32⟩
  | 58 => ⟨S_, .i32⟩
  | 59 => ⟨S128x2x32x512, .f32⟩
  | 60 => ⟨S128x2x32x512, .f32⟩
  | 61 => ⟨S128x2x32x512, .f32⟩
  | 62 => ⟨S128x2x4x32x32, .f32⟩
  | 63 => ⟨S128x2x4x32x128, .f32⟩
  | 64 => ⟨S128x2x4x32x128, .f32⟩
  | 65 => ⟨S128x2x4x32x128, .f32⟩
  | 66 => ⟨S128x2x4x128, .f32⟩
  | 67 => ⟨S1x128, .f32⟩
  | 68 => ⟨S_, .i32⟩
  | 69 => ⟨S2x4x128x128, .f32⟩
  | 70 => ⟨S128x2x32x1536, .f32⟩
  | 71 => ⟨S128x2x4x128x128, .f32⟩
  | 72 => ⟨S128x2x32x4x128, .f32⟩
  | 73 => ⟨S_, .i32⟩
  | 74 => ⟨S_, .i1⟩
  | 75 => ⟨S_, .i32⟩
  | 76 => ⟨S_, .i32⟩
  | 77 => ⟨S_, .i32⟩
  | 78 => ⟨S1x2x32x512, .f32⟩
  | 79 => ⟨S2x32x512, .f32⟩
  | 80 => ⟨S_, .i32⟩
  | 81 => ⟨S_, .i32⟩
  | 82 => ⟨S_, .i32⟩
  | 83 => ⟨S1x2x32x512, .f32⟩
  | 84 => ⟨S2x32x512, .f32⟩
  | 85 => ⟨S_, .i32⟩
  | 86 => ⟨S_, .i32⟩
  | 87 => ⟨S_, .i32⟩
  | 88 => ⟨S1x2x32x512, .f32⟩
  | 89 => ⟨S2x32x512, .f32⟩
  | 90 => ⟨S_, .i32⟩
  | 91 => ⟨S_, .i32⟩
  | 92 => ⟨S_, .i32⟩
  | 93 => ⟨S_, .i32⟩
  | 94 => ⟨S1x2x4x32x32, .f32⟩
  | 95 => ⟨S2x4x32x32, .f32⟩
  | 96 => ⟨S_, .i32⟩
  | 97 => ⟨S_, .i32⟩
  | 98 => ⟨S_, .i32⟩
  | 99 => ⟨S_, .i32⟩
  | 100 => ⟨S1x2x4x32x128, .f32⟩
  | 101 => ⟨S2x4x32x128, .f32⟩
  | 102 => ⟨S_, .i32⟩
  | 103 => ⟨S_, .i32⟩
  | 104 => ⟨S_, .i32⟩
  | 105 => ⟨S_, .i32⟩
  | 106 => ⟨S1x2x4x32x128, .f32⟩
  | 107 => ⟨S2x4x32x128, .f32⟩
  | 108 => ⟨S_, .i32⟩
  | 109 => ⟨S_, .i32⟩
  | 110 => ⟨S_, .i32⟩
  | 111 => ⟨S_, .i32⟩
  | 112 => ⟨S1x2x4x32x128, .f32⟩
  | 113 => ⟨S2x4x32x128, .f32⟩
  | 114 => ⟨S_, .i32⟩
  | 115 => ⟨S_, .i32⟩
  | 116 => ⟨S_, .i32⟩
  | 117 => ⟨S1x2x4x128, .f32⟩
  | 118 => ⟨S2x4x128, .f32⟩
  | 119 => ⟨S2x4x32x128, .f32⟩
  | 120 => ⟨S2x4x32x128, .f32⟩
  | 121 => ⟨S2x4x32x128, .f32⟩
  | 122 => ⟨S2x4x128x1, .f32⟩
  | 123 => ⟨S2x4x128x128, .f32⟩
  | 124 => ⟨S2x4x128x128, .f32⟩
  | 125 => ⟨S2x4x128x128, .f32⟩
  | 126 => ⟨S2x4x128x128, .f32⟩
  | 127 => ⟨S2x32x4x128, .f32⟩
  | _ => ⟨S8192x7168, .bf16⟩

abbrev hbmTy0_2 (i : Nat) : BufTy := match i % 128 with
  | 0 => ⟨S128, .f32⟩
  | 1 => ⟨S2x32x4x128, .f32⟩
  | 2 => ⟨S_, .f32⟩
  | 3 => ⟨S2x32x4, .f32⟩
  | 4 => ⟨S2x32x4x1, .f32⟩
  | 5 => ⟨S_, .f32⟩
  | 6 => ⟨S2x32x4x1, .f32⟩
  | 7 => ⟨S2x32x4x1, .f32⟩
  | 8 => ⟨S_, .f32⟩
  | 9 => ⟨S2x32x4x1, .f32⟩
  | 10 => ⟨S2x32x4x1, .f32⟩
  | 11 => ⟨S2x32x4x1, .f32⟩
  | 12 => ⟨S2x32x4x128, .f32⟩
  | 13 => ⟨S2x32x4x128, .f32⟩
  | 14 => ⟨S1x1x1x128, .f32⟩
  | 15 => ⟨S2x32x4x128, .f32⟩
  | 16 => ⟨S2x32x4x128, .f32⟩
  | 17 => ⟨S2x32x512, .f32⟩
  | 18 => ⟨S2x32x512, .f32⟩
  | 19 => ⟨S2x32x512, .f32⟩
  | 20 => ⟨S_, .f32⟩
  | 21 => ⟨S2x32x512, .f32⟩
  | 22 => ⟨S2x32x512, .f32⟩
  | 23 => ⟨S_, .f32⟩
  | 24 => ⟨S2x32x512, .f32⟩
  | 25 => ⟨S2x32x512, .f32⟩
  | 26 => ⟨S2x32x512, .f32⟩
  | 27 => ⟨S2x32x512, .f32⟩
  | 28 => ⟨S2x32x1536, .f32⟩
  | 29 => ⟨S1x2x32x1536, .f32⟩
  | 30 => ⟨S_, .i32⟩
  | 31 => ⟨S_, .i32⟩
  | 32 => ⟨S_, .i32⟩
  | 33 => ⟨S128x2x32x1536, .f32⟩
  | 34 => ⟨S1x2x4x128x128, .f32⟩
  | 35 => ⟨S_, .i32⟩
  | 36 => ⟨S_, .i32⟩
  | 37 => ⟨S_, .i32⟩
  | 38 => ⟨S_, .i32⟩
  | 39 => ⟨S128x2x4x128x128, .f32⟩
  | 40 => ⟨S1x2x32x4x128, .f32⟩
  | 41 => ⟨S_, .i32⟩
  | 42 => ⟨S_, .i32⟩
  | 43 => ⟨S_, .i32⟩
  | 44 => ⟨S_, .i32⟩
  | 45 => ⟨S128x2x32x4x128, .f32⟩
  | 46 => ⟨S_, .i32⟩
  | 47 => ⟨S_, .i32⟩
  | 48 => ⟨S2x128x32x1536, .f32⟩
  | 49 => ⟨S8192x1536, .f32⟩
  | 50 => ⟨S8192x1536, .bf16⟩
  | 51 => ⟨S2x128x4x128x128, .f32⟩
  | 52 => ⟨S256x4x128x128, .f32⟩
  | 53 => ⟨S2x128x32x4x128, .f32⟩
  | 54 => ⟨S8192x512, .f32⟩
  | _ => ⟨S8192x7168, .bf16⟩

abbrev hbmTy (i : Nat) : BufTy := match i / 128 with
  | 0 => hbmTy0_0 i
  | 1 => hbmTy0_1 i
  | 2 => hbmTy0_2 i
  | _ => ⟨S8192x7168, .bf16⟩

abbrev bufTy : (tb : Table) → Fin (tcTables nBuf tb) → BufTy
  | .hbm, ⟨i, _⟩ => hbmTy i
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_0 : Ref sig .tc := ⟨.hbm, 63, rfl⟩
abbrev main_v56 : Ref sig .tc := ⟨.hbm, 64, rfl⟩
abbrev main_v57 : Ref sig .tc := ⟨.hbm, 65, rfl⟩
abbrev main_cst_1 : Ref sig .tc := ⟨.hbm, 66, rfl⟩
abbrev main_v58 : Ref sig .tc := ⟨.hbm, 67, rfl⟩
abbrev main_cst_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_3 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_cst_5 : Ref sig .tc := ⟨.hbm, 95, rfl⟩
abbrev main_v83 : Ref sig .tc := ⟨.hbm, 96, rfl⟩
abbrev main_v84 : Ref sig .tc := ⟨.hbm, 97, rfl⟩
abbrev main_cst_6 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_7 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_8 : Ref sig .tc := ⟨.hbm, 114, rfl⟩
abbrev main_v99 : Ref sig .tc := ⟨.hbm, 115, rfl⟩
abbrev main_v100 : Ref sig .tc := ⟨.hbm, 116, rfl⟩
abbrev main_cst_9 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_call0_v0 : Ref sig .tc := ⟨.hbm, 123, rfl⟩
abbrev main_call0_v1 : Ref sig .tc := ⟨.hbm, 124, rfl⟩
abbrev main_call0_cst : Ref sig .tc := ⟨.hbm, 125, rfl⟩
abbrev main_call0_v2 : Ref sig .tc := ⟨.hbm, 126, rfl⟩
abbrev main_call0_v3 : Ref sig .tc := ⟨.hbm, 127, rfl⟩
abbrev main_call0_cst_0 : Ref sig .tc := ⟨.hbm, 128, rfl⟩
abbrev main_call0_v4 : Ref sig .tc := ⟨.hbm, 129, rfl⟩
abbrev main_call0_v5 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_call1_call0_cst : Ref sig .tc := ⟨.hbm, 140, rfl⟩
abbrev main_call1_call0_v0 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c : Ref sig .tc := ⟨.hbm, 145, rfl⟩
abbrev main_v118 : Ref sig .tc := ⟨.hbm, 146, rfl⟩
abbrev main_call2_v0 : Ref sig .tc := ⟨.hbm, 147, rfl⟩
abbrev main_call2_c : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_c_0 : Ref sig .tc := ⟨.hbm, 153, rfl⟩
abbrev main_call2_v5 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_10 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_11 : Ref sig .tc := ⟨.hbm, 178, rfl⟩
abbrev main_v138 : Ref sig .tc := ⟨.hbm, 179, rfl⟩
abbrev main_cst_12 : Ref sig .tc := ⟨.hbm, 180, rfl⟩
abbrev main_v139 : Ref sig .tc := ⟨.hbm, 181, rfl⟩
abbrev main_cst_13 : Ref sig .tc := ⟨.hbm, 182, rfl⟩
abbrev main_v140 : Ref sig .tc := ⟨.hbm, 183, rfl⟩
abbrev main_cst_14 : Ref sig .tc := ⟨.hbm, 184, rfl⟩
abbrev main_v141 : Ref sig .tc := ⟨.hbm, 185, rfl⟩
abbrev main_c_15 : Ref sig .tc := ⟨.hbm, 186, rfl⟩
abbrev main_v142_0 : Ref sig .tc := ⟨.hbm, 187, rfl⟩
abbrev main_v142_1 : Ref sig .tc := ⟨.hbm, 188, rfl⟩
abbrev main_v142_2 : Ref sig .tc := ⟨.hbm, 189, rfl⟩
abbrev main_v142_3 : Ref sig .tc := ⟨.hbm, 190, rfl⟩
abbrev main_v142_4 : Ref sig .tc := ⟨.hbm, 191, rfl⟩
abbrev main_v142_5 : Ref sig .tc := ⟨.hbm, 192, rfl⟩
abbrev main_v142_6 : Ref sig .tc := ⟨.hbm, 193, rfl⟩
abbrev main_v142_7 : Ref sig .tc := ⟨.hbm, 194, rfl⟩
abbrev main_v142_8 : Ref sig .tc := ⟨.hbm, 195, rfl⟩
abbrev main_v142_9 : Ref sig .tc := ⟨.hbm, 196, rfl⟩
abbrev main_v142_10 : Ref sig .tc := ⟨.hbm, 197, rfl⟩
abbrev main_v142_11 : Ref sig .tc := ⟨.hbm, 198, rfl⟩
abbrev main_v142_12 : Ref sig .tc := ⟨.hbm, 199, rfl⟩
abbrev main_v142_13 : Ref sig .tc := ⟨.hbm, 200, rfl⟩
abbrev main_while0c_c_29 : Ref sig .tc := ⟨.hbm, 201, rfl⟩
abbrev main_while0c_v150 : Ref sig .tc := ⟨.hbm, 202, rfl⟩
abbrev main_while0b_call4_c : Ref sig .tc := ⟨.hbm, 203, rfl⟩
abbrev main_while0b_call4_c_0 : Ref sig .tc := ⟨.hbm, 204, rfl⟩
abbrev main_while0b_call4_c_1 : Ref sig .tc := ⟨.hbm, 205, rfl⟩
abbrev main_while0b_call4_v0 : Ref sig .tc := ⟨.hbm, 206, rfl⟩
abbrev main_while0b_v150 : Ref sig .tc := ⟨.hbm, 207, rfl⟩
abbrev main_while0b_call5_c : Ref sig .tc := ⟨.hbm, 208, rfl⟩
abbrev main_while0b_call5_c_0 : Ref sig .tc := ⟨.hbm, 209, rfl⟩
abbrev main_while0b_call5_c_1 : Ref sig .tc := ⟨.hbm, 210, rfl⟩
abbrev main_while0b_call5_v0 : Ref sig .tc := ⟨.hbm, 211, rfl⟩
abbrev main_while0b_v151 : Ref sig .tc := ⟨.hbm, 212, rfl⟩
abbrev main_while0b_call6_c : Ref sig .tc := ⟨.hbm, 213, rfl⟩
abbrev main_while0b_call6_c_0 : Ref sig .tc := ⟨.hbm, 214, rfl⟩
abbrev main_while0b_call6_c_1 : Ref sig .tc := ⟨.hbm, 215, rfl⟩
abbrev main_while0b_call6_v0 : Ref sig .tc := ⟨.hbm, 216, rfl⟩
abbrev main_while0b_v152 : Ref sig .tc := ⟨.hbm, 217, rfl⟩
abbrev main_while0b_call7_c : Ref sig .tc := ⟨.hbm, 218, rfl⟩
abbrev main_while0b_call7_c_0 : Ref sig .tc := ⟨.hbm, 219, rfl⟩
abbrev main_while0b_call7_c_1 : Ref sig .tc := ⟨.hbm, 220, rfl⟩
abbrev main_while0b_call7_c_2 : Ref sig .tc := ⟨.hbm, 221, rfl⟩
abbrev main_while0b_call7_v0 : Ref sig .tc := ⟨.hbm, 222, rfl⟩
abbrev main_while0b_v153 : Ref sig .tc := ⟨.hbm, 223, rfl⟩
abbrev main_while0b_call8_c : Ref sig .tc := ⟨.hbm, 224, rfl⟩
abbrev main_while0b_call8_c_0 : Ref sig .tc := ⟨.hbm, 225, rfl⟩
abbrev main_while0b_call8_c_1 : Ref sig .tc := ⟨.hbm, 226, rfl⟩
abbrev main_while0b_call8_c_2 : Ref sig .tc := ⟨.hbm, 227, rfl⟩
abbrev main_while0b_call8_v0 : Ref sig .tc := ⟨.hbm, 228, rfl⟩
abbrev main_while0b_v154 : Ref sig .tc := ⟨.hbm, 229, rfl⟩
abbrev main_while0b_call9_c : Ref sig .tc := ⟨.hbm, 230, rfl⟩
abbrev main_while0b_call9_c_0 : Ref sig .tc := ⟨.hbm, 231, rfl⟩
abbrev main_while0b_call9_c_1 : Ref sig .tc := ⟨.hbm, 232, rfl⟩
abbrev main_while0b_call9_c_2 : Ref sig .tc := ⟨.hbm, 233, rfl⟩
abbrev main_while0b_call9_v0 : Ref sig .tc := ⟨.hbm, 234, rfl⟩
abbrev main_while0b_v155 : Ref sig .tc := ⟨.hbm, 235, rfl⟩
abbrev main_while0b_call10_c : Ref sig .tc := ⟨.hbm, 236, rfl⟩
abbrev main_while0b_call10_c_0 : Ref sig .tc := ⟨.hbm, 237, rfl⟩
abbrev main_while0b_call10_c_1 : Ref sig .tc := ⟨.hbm, 238, rfl⟩
abbrev main_while0b_call10_c_2 : Ref sig .tc := ⟨.hbm, 239, rfl⟩
abbrev main_while0b_call10_v0 : Ref sig .tc := ⟨.hbm, 240, rfl⟩
abbrev main_while0b_v156 : Ref sig .tc := ⟨.hbm, 241, rfl⟩
abbrev main_while0b_call11_c : Ref sig .tc := ⟨.hbm, 242, rfl⟩
abbrev main_while0b_call11_c_0 : Ref sig .tc := ⟨.hbm, 243, rfl⟩
abbrev main_while0b_call11_c_1 : Ref sig .tc := ⟨.hbm, 244, rfl⟩
abbrev main_while0b_call11_v0 : Ref sig .tc := ⟨.hbm, 245, rfl⟩
abbrev main_while0b_v157 : Ref sig .tc := ⟨.hbm, 246, rfl⟩
abbrev main_while0b_v158 : Ref sig .tc := ⟨.hbm, 247, rfl⟩
abbrev main_while0b_v159 : Ref sig .tc := ⟨.hbm, 248, rfl⟩
abbrev main_while0b_v160 : Ref sig .tc := ⟨.hbm, 249, rfl⟩
abbrev main_while0b_v161 : Ref sig .tc := ⟨.hbm, 250, rfl⟩
abbrev main_while0b_v162 : Ref sig .tc := ⟨.hbm, 251, rfl⟩
abbrev main_while0b_v163 : Ref sig .tc := ⟨.hbm, 252, rfl⟩
abbrev main_while0b_v164 : Ref sig .tc := ⟨.hbm, 253, rfl⟩
abbrev main_while0b_v165 : Ref sig .tc := ⟨.hbm, 254, rfl⟩
abbrev main_while0b_v166 : Ref sig .tc := ⟨.hbm, 255, rfl⟩
abbrev main_while0b_v167 : Ref sig .tc := ⟨.hbm, 256, rfl⟩
abbrev main_while0b_v168 : Ref sig .tc := ⟨.hbm, 257, rfl⟩
abbrev main_while0b_cst_29 : Ref sig .tc := ⟨.hbm, 258, rfl⟩
abbrev main_while0b_v169 : Ref sig .tc := ⟨.hbm, 259, rfl⟩
abbrev main_while0b_v170 : Ref sig .tc := ⟨.hbm, 260, rfl⟩
abbrev main_while0b_cst_30 : Ref sig .tc := ⟨.hbm, 261, rfl⟩
abbrev main_while0b_v171 : Ref sig .tc := ⟨.hbm, 262, rfl⟩
abbrev main_while0b_v172 : Ref sig .tc := ⟨.hbm, 263, rfl⟩
abbrev main_while0b_cst_31 : Ref sig .tc := ⟨.hbm, 264, rfl⟩
abbrev main_while0b_v173 : Ref sig .tc := ⟨.hbm, 265, rfl⟩
abbrev main_while0b_v174 : Ref sig .tc := ⟨.hbm, 266, rfl⟩
abbrev main_while0b_v175 : Ref sig .tc := ⟨.hbm, 267, rfl⟩
abbrev main_while0b_v176 : Ref sig .tc := ⟨.hbm, 268, rfl⟩
abbrev main_while0b_v177 : Ref sig .tc := ⟨.hbm, 269, rfl⟩
abbrev main_while0b_v178 : Ref sig .tc := ⟨.hbm, 270, rfl⟩
abbrev main_while0b_v179 : Ref sig .tc := ⟨.hbm, 271, rfl⟩
abbrev main_while0b_v180 : Ref sig .tc := ⟨.hbm, 272, rfl⟩
abbrev main_while0b_v181 : Ref sig .tc := ⟨.hbm, 273, rfl⟩
abbrev main_while0b_call12_v0 : Ref sig .tc := ⟨.hbm, 274, rfl⟩
abbrev main_while0b_call12_v1 : Ref sig .tc := ⟨.hbm, 275, rfl⟩
abbrev main_while0b_call12_cst : Ref sig .tc := ⟨.hbm, 276, rfl⟩
abbrev main_while0b_call12_v2 : Ref sig .tc := ⟨.hbm, 277, rfl⟩
abbrev main_while0b_call12_v3 : Ref sig .tc := ⟨.hbm, 278, rfl⟩
abbrev main_while0b_call12_cst_0 : Ref sig .tc := ⟨.hbm, 279, rfl⟩
abbrev main_while0b_call12_v4 : Ref sig .tc := ⟨.hbm, 280, rfl⟩
abbrev main_while0b_call12_v5 : Ref sig .tc := ⟨.hbm, 281, rfl⟩
abbrev main_while0b_v182 : Ref sig .tc := ⟨.hbm, 282, rfl⟩
abbrev main_while0b_v183 : Ref sig .tc := ⟨.hbm, 283, rfl⟩
abbrev main_while0b_v184 : Ref sig .tc := ⟨.hbm, 284, rfl⟩
abbrev main_while0b_call13_v0 : Ref sig .tc := ⟨.hbm, 285, rfl⟩
abbrev main_while0b_call13_c : Ref sig .tc := ⟨.hbm, 286, rfl⟩
abbrev main_while0b_call13_c_0 : Ref sig .tc := ⟨.hbm, 287, rfl⟩
abbrev main_while0b_call13_c_1 : Ref sig .tc := ⟨.hbm, 288, rfl⟩
abbrev main_while0b_v185 : Ref sig .tc := ⟨.hbm, 289, rfl⟩
abbrev main_while0b_call14_v0 : Ref sig .tc := ⟨.hbm, 290, rfl⟩
abbrev main_while0b_call14_c : Ref sig .tc := ⟨.hbm, 291, rfl⟩
abbrev main_while0b_call14_c_0 : Ref sig .tc := ⟨.hbm, 292, rfl⟩
abbrev main_while0b_call14_c_1 : Ref sig .tc := ⟨.hbm, 293, rfl⟩
abbrev main_while0b_call14_c_2 : Ref sig .tc := ⟨.hbm, 294, rfl⟩
abbrev main_while0b_v186 : Ref sig .tc := ⟨.hbm, 295, rfl⟩
abbrev main_while0b_call15_v0 : Ref sig .tc := ⟨.hbm, 296, rfl⟩
abbrev main_while0b_call15_c : Ref sig .tc := ⟨.hbm, 297, rfl⟩
abbrev main_while0b_call15_c_0 : Ref sig .tc := ⟨.hbm, 298, rfl⟩
abbrev main_while0b_call15_c_1 : Ref sig .tc := ⟨.hbm, 299, rfl⟩
abbrev main_while0b_call15_c_2 : Ref sig .tc := ⟨.hbm, 300, rfl⟩
abbrev main_while0b_v187 : Ref sig .tc := ⟨.hbm, 301, rfl⟩
abbrev main_while0b_c_32 : Ref sig .tc := ⟨.hbm, 302, rfl⟩
abbrev main_while0b_v188 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩

abbrev nD : Nat := 1
abbrev τ : Topo := Topo.v7x

variable {F : FTy → Type} [FloatOps F]

abbrev main_while0_count : Scf.Loop 32 := ⟨0#32, 128#32, 1#32⟩
-- ==== AdamW.lean ====
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWIdeal.lean ====
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWRefIdeal.lean ====
abbrev S4x1x1024 : Shape := ⟨3, ![4, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S_, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 30
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8x1024, .f32⟩
  | .hbm, ⟨29, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S8x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S7x1024, .f32⟩
  | .hbm, ⟨82, _⟩ => ⟨S8192x1024, .bf16⟩
  | .hbm, ⟨83, _⟩ => ⟨S8x1024, .f32⟩
  | .hbm, ⟨84, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== AdamWGate.lean ====
abbrev S4x1x3072 : Shape := ⟨3, ![4, 1, 3072]⟩
abbrev S1x1x3072 : Shape := ⟨3, ![1, 1, 3072]⟩
abbrev S1x3072 : Shape := ⟨2, ![1, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4x1x3072, .f32⟩
  | .hbm, ⟨1, _⟩ => ⟨S4x1x3072, .f32⟩
  | .hbm, ⟨2, _⟩ => ⟨S4x1x3072, .f32⟩
  | .hbm, ⟨3, _⟩ => ⟨S4x1x3072, .f32⟩
  | .hbm, ⟨4, _⟩ => ⟨S4x1x3072, .f32⟩
  | .hbm, ⟨5, _⟩ => ⟨S4x1x3072, .f32⟩
  | .hbm, ⟨6, _⟩ => ⟨S4x1x3072, .f32⟩
  | .hbm, ⟨7, _⟩ => ⟨S4x1x3072, .f32⟩
  | .hbm, ⟨8, _⟩ => ⟨S4x1x3072, .f32⟩
  | .local _ .vmem, ⟨0, _⟩ => ⟨S1x1x3072, .f32⟩
  | .local _ .vmem, ⟨1, _⟩ => ⟨S1x1x3072, .f32⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1x3072, .f32⟩
  | .local _ .vmem, ⟨6, _⟩ => ⟨S1x1x3072, .f32⟩
  | .local _ .vmem, ⟨7, _⟩ => ⟨S1x1x3072, .f32⟩
  | .local _ .vmem, ⟨8, _⟩ => ⟨S1x1x3072, .f32⟩
  | .local _ .vmem, ⟨9, _⟩ => ⟨S1x1x3072, .f32⟩
  | .local _ .vmem, ⟨10, _⟩ => ⟨S1x1x3072, .f32⟩
  | .local _ .vmem, ⟨11, _⟩ => ⟨S1x1x3072, .f32⟩
  | .local _ .vmem, ⟨12, _⟩ => ⟨S1x1x3072, .f32⟩
  | .local _ .vmem, ⟨13, _⟩ => ⟨S1x1x3072, .f32⟩
  | .local _ .vmem, ⟨14, _⟩ => ⟨S1x1x3072, .f32⟩
  | .local _ .vmem, ⟨15, _⟩ => ⟨S1x1x3072, .f32⟩
  | .local _ .vmem, ⟨16, _⟩ => ⟨S1x1x3072, .f32⟩
  | .local _ .vmem, ⟨17, _⟩ => ⟨S1x1x3072, .f32⟩
  | _, _ => ⟨S4x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWGateRefIdeal.lean ====
abbrev S4x1x3072 : Shape := ⟨3, ![4, 1, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x3072, .f32⟩
  | .hbm, ⟨1, _⟩ => ⟨S4x1x3072, .f32⟩
  | .hbm, ⟨2, _⟩ => ⟨S4x1x3072, .f32⟩
  | .hbm, ⟨3, _⟩ => ⟨S4x1x3072, .f32⟩
  | .hbm, ⟨4, _⟩ => ⟨S4x1x3072, .f32⟩
  | .hbm, ⟨5, _⟩ => ⟨S4x1x3072, .f32⟩
  | .hbm, ⟨6, _⟩ => ⟨S_, .f32⟩
  | .hbm, ⟨7, _⟩ => ⟨S4x1x3072, .f32⟩
  | .hbm, ⟨8, _⟩ => ⟨S4x1x3072, .f32⟩
  | .hbm, ⟨9, _⟩ => ⟨S_, .f32⟩
  | .hbm, ⟨10, _⟩ => ⟨S4x1x3072, .f32⟩
  | .hbm, ⟨11, _⟩ => ⟨S4x1x3072, .f32⟩
  | .hbm, ⟨12, _⟩ => ⟨S4x1x3072, .f32⟩
  | .hbm, ⟨13, _⟩ => ⟨S_, .f32⟩
  | .hbm, ⟨14, _⟩ => ⟨S4x1x3072, .f32⟩
  | .hbm, ⟨15, _⟩ => ⟨S4x1x3072, .f32⟩
  | .hbm, ⟨16, _⟩ => ⟨S4x1x3072, .f32⟩
  | .hbm, ⟨17, _⟩ => ⟨S_, .f32⟩
  | .hbm, ⟨18, _⟩ => ⟨S4x1x3072, .f32⟩
  | .hbm, ⟨19, _⟩ => ⟨S4x1x3072, .f32⟩
  | .hbm, ⟨20, _⟩ => ⟨S4x1x3072, .f32⟩
  | .hbm, ⟨21, _⟩ => ⟨S_, .f32⟩
  | .hbm, ⟨22, _⟩ => ⟨S4x1x3072, .f32⟩
  | .hbm, ⟨23, _⟩ => ⟨S4x1x3072, .f32⟩
  | .hbm, ⟨24, _⟩ => ⟨S_, .f32⟩
  | .hbm, ⟨25, _⟩ => ⟨S4x1x3072, .f32⟩
  | .hbm, ⟨26, _⟩ => ⟨S4x1x3072, .f32⟩
  | .hbm, ⟨27, _⟩ => ⟨S4x1x3072, .f32⟩
  | .hbm, ⟨28, _⟩ => ⟨S_, .f32⟩
  | .hbm, ⟨29, _⟩ => ⟨S4x1x3072, .f32⟩
  | .hbm, ⟨30, _⟩ => ⟨S4x1x3072, .f32⟩
  | .hbm, ⟨31, _⟩ => ⟨S4x1x3072, .f32⟩
  | .hbm, ⟨32, _⟩ => ⟨S_, .f32⟩
  | .hbm, ⟨33, _⟩ => ⟨S4x1x3072, .f32⟩
  | .hbm, ⟨34, _⟩ => ⟨S4x1x3072, .f32⟩
  | .hbm, ⟨35, _⟩ => ⟨S4x1x3072, .f32⟩
  | .hbm, ⟨36, _⟩ => ⟨S_, .f32⟩
  | .hbm, ⟨37, _⟩ => ⟨S4x1x3072, .f32⟩
  | .hbm, ⟨38, _⟩ => ⟨S4x1x3072, .f32⟩
  | _, _ => ⟨S4x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.AdamW.lean ====
/-
  The optimiser's step on a layer norm's weights: from the two halves of the gradient, the gradient, the update and the
  new moments. The idealized kernel computes what the idealized reference does, element by element.
-/
module

public import proofs.«01_k».proof.Defs
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.Pointwise
public import Idealize.ShloMosaic.Lib.Pipeline.ValueKit

@[expose] public section

set_option maxRecDepth 16384

noncomputable section

namespace Cert.Proof.AdamW

open Idealize.ShloMosaic Idealize.ShloMosaic.TcCoe Idealize.SL.Sem
open Cert.AdamWIdeal Cert.AdamWIdeal.Gen

/-- The first moment after the step, from the moment and the gradient. -/
def newM (m g : EReal) : EReal := Ideal.ofBits .f32 0x3F666666#32 * m + Ideal.ofBits .f32 0x3DCCCCCD#32 * g

/-- The second moment after the step. -/
def newV (v g : EReal) : EReal := Ideal.ofBits .f32 0x3F7FBE77#32 * v + Ideal.ofBits .f32 0x3A83126F#32 * (g * g)

/-- The weight's update: the corrected first moment over the root of the corrected second one, with the weight's decay. -/
def delta (w m v g : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32) + Ideal.ofBits .f32 0x3C23D70A#32 * w)

variable (m : (ℓ : Loc nD τ sig) → Buf (Elt Ideal) ℓ)

/-- The weight, its two moments and the two halves of its gradient, as launched. -/
abbrev aW (c : Dev nD) : S4x1x1024.Idx → EReal := m ((c : Thread nD τ).loc main_arg0)
abbrev aM (c : Dev nD) : S4x1x1024.Idx → EReal := m ((c : Thread nD τ).loc main_arg1)
abbrev aV (c : Dev nD) : S4x1x1024.Idx → EReal := m ((c : Thread nD τ).loc main_arg2)
abbrev aG (c : Dev nD) : S4x1x1024.Idx → EReal := m ((c : Thread nD τ).loc main_arg3)
abbrev aH (c : Dev nD) : S4x1x1024.Idx → EReal := m ((c : Thread nD τ).loc main_arg4)

/-- The block indices at each of the four layers. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- Each loaded block at an index is its argument at the index's place in layer `t`. -/
theorem blocks (c : Dev nD) (t : Fin cfg0.N) (y : S1x1x1024.Idx) (i : S4x1x1024.Idx) (e0 : (i 0).val = t.val + (y 0).val) (e1 : (i 1).val = (y 1).val) (e2 : (i 2).val = (y 2).val) :
    iblk m c 0 t y = aW m c i ∧ iblk m c 1 t y = aM m c i ∧ iblk m c 2 t y = aV m c i
      ∧ iblk m c 3 t y = aG m c i ∧ iblk m c 4 t y = aH m c i := by
  refine ⟨?_, ?_, ?_, ?_, ?_⟩ <;> blk_ext [iblk, V, idx t]

/-- The gradient after the run. -/
theorem final5 (c : Dev nD) : (dats m 0 c).arrAt 5 cfg0.N = fun i => (aG m c i) + (aH m c i) := by
  refine (dats m 0 c).arrAt_eq_of_covers 5 _ (by decide +kernel) fun t hf y => ?_
  have e0 : (((cfg0.win 5).blk t).view.emb y 0).val = t.val + (y 0).val := by blk_simp [idx t]
  have e1 : (((cfg0.win 5).blk t).view.emb y 1).val = (y 1).val := by blk_simp [idx t]
  have e2 : (((cfg0.win 5).blk t).view.emb y 2).val = (y 2).val := by blk_simp [idx t]
  generalize ((cfg0.win 5).blk t).view.emb y = i at e0 e1 e2
  obtain ⟨b0, b1, b2, b3, b4⟩ := blocks m c t y i e0 e1 e2
  blk_simp
  rw [after0_5]
  frame_out
  open_payloads
  pointwise
  simp only [b0, b1, b2, b3, b4]

/-- The update after the run. -/
theorem final6 (c : Dev nD) : (dats m 0 c).arrAt 6 cfg0.N = fun i => delta (aW m c i) (aM m c i) (aV m c i) ((aG m c i) + (aH m c i)) := by
  refine (dats m 0 c).arrAt_eq_of_covers 6 _ (by decide +kernel) fun t hf y => ?_
  have e0 : (((cfg0.win 6).blk t).view.emb y 0).val = t.val + (y 0).val := by blk_simp [idx t]
  have e1 : (((cfg0.win 6).blk t).view.emb y 1).val = (y 1).val := by blk_simp [idx t]
  have e2 : (((cfg0.win 6).blk t).view.emb y 2).val = (y 2).val := by blk_simp [idx t]
  generalize ((cfg0.win 6).blk t).view.emb y = i at e0 e1 e2
  obtain ⟨b0, b1, b2, b3, b4⟩ := blocks m c t y i e0 e1 e2
  blk_simp
  rw [after0_6]
  frame_out
  open_payloads
  pointwise
  simp only [b0, b1, b2, b3, b4]
  rfl

/-- The first moment after the run. -/
theorem final7 (c : Dev nD) : (dats m 0 c).arrAt 7 cfg0.N = fun i => newM (aM m c i) ((aG m c i) + (aH m c i)) := by
  refine (dats m 0 c).arrAt_eq_of_covers 7 _ (by decide +kernel) fun t hf y => ?_
  have e0 : (((cfg0.win 7).blk t).view.emb y 0).val = t.val + (y 0).val := by blk_simp [idx t]
  have e1 : (((cfg0.win 7).blk t).view.emb y 1).val = (y 1).val := by blk_simp [idx t]
  have e2 : (((cfg0.win 7).blk t).view.emb y 2).val = (y 2).val := by blk_simp [idx t]
  generalize ((cfg0.win 7).blk t).view.emb y = i at e0 e1 e2
  obtain ⟨b0, b1, b2, b3, b4⟩ := blocks m c t y i e0 e1 e2
  blk_simp
  rw [after0_7]
  frame_out
  open_payloads
  pointwise
  simp only [b0, b1, b2, b3, b4]
  rfl

/-- The second moment after the run. -/
theorem final8 (c : Dev nD) : (dats m 0 c).arrAt 8 cfg0.N = fun i => newV (aV m c i) ((aG m c i) + (aH m c i)) := by
  refine (dats m 0 c).arrAt_eq_of_covers 8 _ (by decide +kernel) fun t hf y => ?_
  have e0 : (((cfg0.win 8).blk t).view.emb y 0).val = t.val + (y 0).val := by blk_simp [idx t]
  have e1 : (((cfg0.win 8).blk t).view.emb y 1).val = (y 1).val := by blk_simp [idx t]
  have e2 : (((cfg0.win 8).blk t).view.emb y 2).val = (y 2).val := by blk_simp [idx t]
  generalize ((cfg0.win 8).blk t).view.emb y = i at e0 e1 e2
  obtain ⟨b0, b1, b2, b3, b4⟩ := blocks m c t y i e0 e1 e2
  blk_simp
  rw [after0_8]
  frame_out
  open_payloads
  pointwise
  simp only [b0, b1, b2, b3, b4]
  rfl

/-- The kernel's idealization computes the idealized reference. -/
theorem algebraic : algebraic_AdamWIdeal_AdamWRefIdeal := by
  intro m g m' g' _ hagree
  refine ⟨fun c i => (aG m c i) + (aH m c i),
    fun c i => delta (aW m c i) (aM m c i) (aV m c i) ((aG m c i) + (aH m c i)),
    fun c i => newM (aM m c i) ((aG m c i) + (aH m c i)),
    fun c i => newV (aV m c i) ((aG m c i) + (aH m c i)), ?_, ?_⟩
  · exact (θ_run _ _ _).mono (fun r h c => by
      obtain ⟨h0, h1, h2, h3, h⟩ := h c
      exact ⟨h0.trans (final5 m c), h1.trans (final6 m c), h2.trans (final7 m c), h3.trans (final8 m c), h⟩) (Value.run_blocks m g)
  · refine (θ_run _ _ _).mono (fun r h c => ?_) (Cert.AdamWRefIdeal.Value.run m' g')
    obtain ⟨h0, h1, h2, h3, h⟩ := h c
    obtain ⟨a0, a1, a2, a3, a4⟩ := hagree c
    refine ⟨h0.trans ?_, h1.trans ?_, h2.trans ?_, h3.trans ?_, h⟩
    · rw [a3, a4]; funext i; pointwise
    · rw [a0, a1, a2, a3, a4]; funext i; pointwise; rfl
    · rw [a1, a3, a4]; funext i; pointwise; rfl
    · rw [a2, a3, a4]; funext i; pointwise; rfl

end Cert.Proof.AdamW

end
-- ==== Proof.AdamWGate.lean ====
/-
  The optimiser's step on the gates' bias: the same arithmetic as on the norms' weights, on rows three times as long.
-/
module

public import proofs.«01_k».proof.Defs
public import proofs.«01_k».proof.Proof.Gen.AdamWGateIdeal.Value
public import proofs.«01_k».proof.Proof.Gen.AdamWGateRefIdeal.Run
public import proofs.«01_k».proof.Proof.Gen.AdamWGateRefIdeal.Read
public import proofs.«01_k».proof.Proof.AdamW
public import Idealize.ShloMosaic.Lib.Pointwise
public import Idealize.ShloMosaic.Lib.Pipeline.ValueKit

@[expose] public section

set_option maxRecDepth 16384

noncomputable section

namespace Cert.Proof.AdamWGate

open Idealize.ShloMosaic Idealize.ShloMosaic.TcCoe Idealize.SL.Sem
open Cert.AdamWGateIdeal Cert.AdamWGateIdeal.Gen
open Cert.Proof.AdamW (newM newV delta)

variable (m : (ℓ : Loc nD τ sig) → Buf (Elt Ideal) ℓ)

/-- The weight, its two moments and the gradient's two halves added, as launched. -/
abbrev aW (c : Dev nD) : S4x1x3072.Idx → EReal := m ((c : Thread nD τ).loc main_arg0)
abbrev aM (c : Dev nD) : S4x1x3072.Idx → EReal := m ((c : Thread nD τ).loc main_arg1)
abbrev aV (c : Dev nD) : S4x1x3072.Idx → EReal := m ((c : Thread nD τ).loc main_arg2)
abbrev aA (c : Dev nD) : S4x1x3072.Idx → EReal := m ((c : Thread nD τ).loc main_arg3)
abbrev aB (c : Dev nD) : S4x1x3072.Idx → EReal := m ((c : Thread nD τ).loc main_arg4)
abbrev aG (c : Dev nD) : S4x1x3072.Idx → EReal := fun i => aA m c i + aB m c i

/-- The block indices at each of the four layers. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The four result arrays after the run. -/
theorem finals (c : Dev nD) : (dats m 0 c).arrAt 5 cfg0.N = aG m c ∧ (dats m 0 c).arrAt 6 cfg0.N = (fun i => delta (aW m c i) (aM m c i) (aV m c i) (aG m c i))
    ∧ (dats m 0 c).arrAt 7 cfg0.N = (fun i => newM (aM m c i) (aG m c i)) ∧ (dats m 0 c).arrAt 8 cfg0.N = fun i => newV (aV m c i) (aG m c i) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    blk_simp
    simp only [after0_5, after0_6, after0_7, after0_8]
    frame_out
    open_payloads
    pointwise
    try unfold delta
    try unfold newM
    try unfold newV
    congr! <;> blk_ext [iblk, V, idx t]

/-- The kernel's idealization computes the idealized reference. -/
theorem algebraic : algebraic_AdamWGateIdeal_AdamWGateRefIdeal := by
  intro m g m' g' _ hagree
  refine ⟨aG m, fun c i => delta (aW m c i) (aM m c i) (aV m c i) (aG m c i), fun c i => newM (aM m c i) (aG m c i), fun c i => newV (aV m c i) (aG m c i), ?_, ?_⟩
  · exact (θ_run _ _ _).mono (fun r h c => by
      obtain ⟨h0, h1, h2, h3, h⟩ := h c
      obtain ⟨f0, f1, f2, f3⟩ := finals m c
      exact ⟨h0.trans f0, h1.trans f1, h2.trans f2, h3.trans f3, h⟩) (Value.run_blocks m g)
  · refine (θ_run _ _ _).mono (fun r h c => ?_) (Cert.AdamWGateRefIdeal.Value.run m' g')
    obtain ⟨h0, h1, h2, h3, h⟩ := h c
    obtain ⟨a0, a1, a2, a3, a4⟩ := hagree c
    refine ⟨h0.trans ?_, h1.trans ?_, h2.trans ?_, h3.trans ?_, h⟩
    · rw [a3, a4]; funext i; pointwise
    · rw [a0, a1, a2, a3, a4]; funext i; pointwise; rfl
    · rw [a1, a3, a4]; funext i; pointwise; rfl
    · rw [a2, a3, a4]; funext i; pointwise; rfl

end Cert.Proof.AdamWGate

end
-- ==== Proof.GradWBranch.lean ====
/-
  The gradient of the three branches' output weights, stacked by rows: rows 512·b … of the result contract columns
  512·b … of the branches' outputs with columns 1024·b … of the merge's gradient over the 8192 rows: what the
  idealized kernel, which adds up two tiles of 4096 rows in a carried scratch, leaves in its result array is what the
  idealized reference leaves in its own, element by element over the extended reals.
-/
module

public import proofs.«01_k».proof.Defs
public import proofs.«01_k».proof.Proof.Gen.GradWBranchIdeal.Value
public import proofs.«01_k».proof.Proof.Gen.GradWBranchRefIdeal.Run
public import proofs.«01_k».proof.Proof.Gen.GradWBranchRefIdeal.Read
public import Idealize.ShloMosaic.Lib.Pointwise

@[expose] public section

set_option maxRecDepth 16384

noncomputable section

namespace Cert.Proof.GradWBranch

open Idealize.ShloMosaic Idealize.ShloMosaic.TcCoe Idealize.SL.Sem
open Cert.GradWBranchIdeal Cert.GradWBranchIdeal.Gen

/-- The contraction's term at row `k`. -/
def term (x0 : S8192x1536.Idx → EReal) (x1 : S8192x3072.Idx → EReal) (i : S1536x1024.Idx) (k : Fin 8192) : EReal :=
  x0 (ix2 k (i 0)) * x1 (ix2 k ⟨(i 0).val / 512 * 1024 + (i 1).val, by have h0 : (i 0).val < 1536 := (i 0).isLt; have h1 : (i 1).val < 1024 := (i 1).isLt; omega⟩)

/-- The result as one function of the arguments. -/
def spec (x0 : S8192x1536.Idx → EReal) (x1 : S8192x3072.Idx → EReal) : S1536x1024.Idx → EReal :=
  fun i => ∑ k : Fin 8192, term x0 x1 i k

/-- What the reference computes, at an index. -/
theorem ref_apply (x0 : S8192x1536.Idx → EReal) (x1 : S8192x3072.Idx → EReal) (i : S1536x1024.Idx) :
    Cert.GradWBranchRefIdeal.Read.val_main_v21 (F := Ideal) x0 x1 i = spec x0 x1 i := by
  rw [← Cert.GradWBranchRefIdeal.Read.val_main_v21_eq]
  unfold spec term
  pointwise
  have h0 : (i 0).val < 1536 := (i 0).isLt
  split
  · refine Finset.sum_congr rfl fun k _ => (mul_comm _ _).trans (congrArg₂ (· * ·) (congrArg x0 (congrArg (ix2 k) (Fin.ext ?_))) (congrArg x1 (congrArg (ix2 k) (Fin.ext ?_))))
    · rfl
    · show (i 1).val = (i 0).val / 512 * 1024 + (i 1).val; omega
  · split
    · refine Finset.sum_congr rfl fun k _ => (mul_comm _ _).trans (congrArg₂ (· * ·) (congrArg x0 (congrArg (ix2 k) (Fin.ext ?_))) (congrArg x1 (congrArg (ix2 k) (Fin.ext ?_))))
      · show 512 + ((i 0).val - 512) = (i 0).val; omega
      · show 1024 + (i 1).val = (i 0).val / 512 * 1024 + (i 1).val; omega
    · refine Finset.sum_congr rfl fun k _ => (mul_comm _ _).trans (congrArg₂ (· * ·) (congrArg x0 (congrArg (ix2 k) (Fin.ext ?_))) (congrArg x1 (congrArg (ix2 k) (Fin.ext ?_))))
      · show 1024 + ((i 0).val - 512 - 512) = (i 0).val; omega
      · show 2048 + (i 1).val = (i 0).val / 512 * 1024 + (i 1).val; omega

/-- The part of the contraction one point adds, at an index of the block. -/
def part (x0 : Vec Ideal S4096x512 .bf16) (x1 : Vec Ideal S4096x1024 .bf16) (y : S512x1024.Idx) : EReal :=
  ∑ k : Fin 4096, x0 (ix2 k (y 0)) * x1 (ix2 k (y 1))

theorem pay_apply (x0 : Vec Ideal S4096x512 .bf16) (x1 : Vec Ideal S4096x1024 .bf16) (y : S512x1024.Idx) : k0_pay1 x0 x1 y = part x0 x1 y := by
  unfold part
  pointwise [k0_pay1]

theorem hz : (![0, 0] : Fin 2 → Nat) = fun _ => 0 := funext fun a => by fin_cases a <;> rfl

variable (m : (ℓ : Loc nD τ sig) → Buf (Elt Ideal) ℓ)

/-- After the first point of a run the carried scratch holds that point's part … -/
theorem scratch_first (c : Dev nD) (t : Fin cfg0.N) (h : t.val % 2 = 0) (y : S512x1024.Idx) :
    (outsAt0 m c t.val t.isLt).2 y = part (iblk m c 0 t) (iblk m c 1 t) y := by
  rw [outsAt0_A m c t h (by omega)]
  dsimp only
  unfold sout0_A_0
  rw [View.read_writes_eq_canon _ _ _ (fun _ => scover0_A_0 ..)]
  unfold kernelRun0_A
  dsimp only
  sl_unfold_words
  rw [View.canon_unit_zero hz]
  unfold k0_pay2
  simp only [View.readAt_eq_ld, (hs0_0 t).read_unread, (hs0_1 t).read_unread, View.ld_unit_zero (S := S4096x512) hz, View.ld_unit_zero (S := S4096x1024) hz, shapeCast_self]
  exact pay_apply _ _ y

/-- … and the last point of a run stores its part on top of what the point before left. -/
theorem out_last (c : Dev nD) (t : Fin cfg0.N) (h : t.val % 2 = 1) (y : S512x1024.Idx) :
    (outsAt0 m c t.val t.isLt).1 y = (outsAt0 m c (t.val - 1) (Nat.lt_of_le_of_lt (Nat.sub_le _ _) t.isLt)).2 y + part (iblk m c 0 t) (iblk m c 1 t) y := by
  rw [outsAt0_B m c t (by omega) h]
  dsimp only
  unfold out0_B_2
  rw [View.read_writes_eq_canon _ _ _ (fun _ => cover0_B_2 ..)]
  unfold kernelRun0_B
  dsimp only
  sl_unfold_words
  rw [View.canon_unit_zero hz]
  unfold k0_pay4
  simp only [View.readAt_eq_ld, (hs0_0 t).read_unread, (hs0_1 t).read_unread, (Memref.isWhole_whole _).read_unread, View.ld_unit_zero (S := S4096x512) hz, View.ld_unit_zero (S := S4096x1024) hz, View.ld_unit_zero (S := S512x1024) hz, shapeCast_self]
  exact congrArg₂ (· + ·) rfl (pay_apply _ _ y)

/-- The block indices at each of the 6 points. -/
theorem index0 : ∀ t : Fin cfg0.N, win0_0.index t 0 = t.val % 2 ∧ win0_0.index t 1 = t.val / 2 := (by decide +kernel : ∀ t : Fin grid0.N, _)
theorem index1 : ∀ t : Fin cfg0.N, win0_1.index t 0 = t.val % 2 ∧ win0_1.index t 1 = t.val / 2 := (by decide +kernel : ∀ t : Fin grid0.N, _)
theorem index2 : ∀ t : Fin cfg0.N, win0_2.index t 0 = t.val / 2 ∧ win0_2.index t 1 = 0 := (by decide +kernel : ∀ t : Fin grid0.N, _)

/-- Each loaded block at an index is the argument at the place the block stands. -/
theorem blk0 (c : Dev nD) (t : Fin cfg0.N) (z : S4096x512.Idx) (i : S8192x1536.Idx) (h0 : (i 0).val = t.val % 2 * 4096 + (z 0).val)
    (h1 : (i 1).val = t.val / 2 * 512 + (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 4096 + 1 * (z 0).val = _; rw [e0, h0]; omega
  · show win0_0.index t 1 * 512 + 1 * (z 1).val = _; rw [e1, h1]; omega
theorem blk1 (c : Dev nD) (t : Fin cfg0.N) (z : S4096x1024.Idx) (i : S8192x3072.Idx) (h0 : (i 0).val = t.val % 2 * 4096 + (z 0).val)
    (h1 : (i 1).val = t.val / 2 * 1024 + (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 4096 + 1 * (z 0).val = _; rw [e0, h0]; omega
  · show win0_1.index t 1 * 1024 + 1 * (z 1).val = _; rw [e1, h1]; omega

/-- A point's part is its tile of the whole contraction. -/
theorem part_tile (c : Dev nD) (t : Fin cfg0.N) (y : S512x1024.Idx) (i : S1536x1024.Idx) (j : Fin 2) (hj : t.val % 2 = j.val)
    (h0 : (i 0).val = t.val / 2 * 512 + (y 0).val) (h1 : (i 1).val = (y 1).val) :
    part (iblk m c 0 t) (iblk m c 1 t) y = ∑ s : Fin 4096, term (m ((c : Thread nD τ).loc main_arg0)) (m ((c : Thread nD τ).loc main_arg1)) i ⟨j.val * 4096 + s.val, by have := j.isLt; have := s.isLt; omega⟩ := by
  unfold part term
  refine Finset.sum_congr rfl fun s _ => ?_
  have ea := blk0 m c t (ix2 s (y 0)) (ix2 ⟨j.val * 4096 + s.val, by have := j.isLt; have := s.isLt; omega⟩ (i 0)) (by show j.val * 4096 + s.val = t.val % 2 * 4096 + s.val; rw [hj]) h0
  have eb := blk1 m c t (ix2 s (y 1)) (ix2 ⟨j.val * 4096 + s.val, by have := j.isLt; have := s.isLt; omega⟩ ⟨(i 0).val / 512 * 1024 + (i 1).val, by have h0 : (i 0).val < 1536 := (i 0).isLt; have h1 : (i 1).val < 1024 := (i 1).isLt; omega⟩) (by show j.val * 4096 + s.val = t.val % 2 * 4096 + s.val; rw [hj]) (by show (i 0).val / 512 * 1024 + (i 1).val = t.val / 2 * 1024 + (y 1).val; have hy : (y 0).val < 512 := (y 0).isLt; omega)
  exact congrArg₂ (· * ·) (congrArg (fun x : EReal => x) ea) eb

/-- The result of the arguments as launched. -/
abbrev result (c : Dev nD) : S1536x1024.Idx → EReal :=
  spec (m ((c : Thread nD τ).loc main_arg0)) (m ((c : Thread nD τ).loc main_arg1))

/-- What a point that writes back writes is its block of the result: its run's parts are the tiles of the contraction. -/
theorem flushed_eq (c : Dev nD) (t : Fin cfg0.N) (hf : (cfg0.win 2).flush t = true) :
    (dats m 0 c).flushed 2 t = ((cfg0.win 2).blk t).view.read (Elt Ideal) (result m c) := by
  have hm : t.val % 2 = 1 := (flush0_2 t).mp hf
  show (cfg0.win 2).cut (grid0.coords t) ((dats m 0 c).after 2 t) = _
  rw [after0_2]
  funext y
  show (outsAt0 m c t.val t.isLt).1 ((cfg0.win 2).xinj (grid0.coords t) y) = result m c (((cfg0.win 2).blk t).view.emb y)
  obtain ⟨e0, e1⟩ := index2 t
  have hN := lt_of_lt_of_eq t.isLt (show cfg0.N = 6 from N_0)
  have b0 : (((cfg0.win 2).blk t).view.emb y 0).val = t.val / 2 * 512 + (y 0).val := by
    show win0_2.index t 0 * 512 + 1 * (y 0).val = _; rw [e0]; first | rfl | omega
  have b1 : (((cfg0.win 2).blk t).view.emb y 1).val = (y 1).val := by
    show win0_2.index t 1 * 1024 + 1 * (y 1).val = _; rw [e1]; omega
  generalize ((cfg0.win 2).blk t).view.emb y = i at b0 b1 ⊢
  generalize hx : (cfg0.win 2).xinj (grid0.coords t) y = z
  have z0 : (z 0).val = (y 0).val := hx ▸ rfl
  have z1 : (z 1).val = (y 1).val := hx ▸ rfl
  rw [← z0] at b0
  rw [← z1] at b1
  rw [out_last m c t hm z]
  rw [show (outsAt0 m c (t.val - 1) _).2 z = part (iblk m c 0 ⟨t.val - 1, by omega⟩) (iblk m c 1 ⟨t.val - 1, by omega⟩) z from scratch_first m c ⟨t.val - 1, by omega⟩ (by show (t.val - 1) % 2 = 0; omega) z]
  rw [part_tile m c ⟨t.val - 1, by omega⟩ z i 0 (show (t.val - 1) % 2 = 0 by omega) (b0.trans (by show _ = (t.val - 1) / 2 * 512 + (z 0).val; omega)) (b1.trans (by show _ = (z 1).val; omega))]
  rw [part_tile m c ⟨t.val, by omega⟩ z i 1 (show (t.val) % 2 = 1 by omega) (b0.trans (by show _ = (t.val) / 2 * 512 + (z 0).val; omega)) (b1.trans (by show _ = (z 1).val; omega))]
  show _ = ∑ k : Fin 8192, term _ _ i k
  rw [Fin.sum_univ_tiles 2 4096 (show 2 * 4096 = 8192 from rfl), Fin.sum_univ_two]

/-- The result array after the run. -/
theorem final (c : Dev nD) : (dats m 0 c).arrAt 2 cfg0.N = result m c :=
  (dats m 0 c).arrAt_eq_of_cover 2 (result m c) (fun t hf => flushed_eq m c t hf) fun i => by
    have h0 : (i 0).val < 1536 := (i 0).isLt
    have h1 : (i 1).val < 1024 := (i 1).isLt
    let t : Fin cfg0.N := ⟨(i 0).val / 512 * 2 + 1, lt_of_lt_of_eq (by omega : _ < 6) N_0.symm⟩
    obtain ⟨e0, e1⟩ := index2 t
    refine ⟨t, (flush0_2 t).mpr (by show ((i 0).val / 512 * 2 + 1) % 2 = 1; omega), ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [e0]; show ((i 0).val / 512 * 2 + 1) / 2 * 512 ≤ _ ∧ _ < ((i 0).val / 512 * 2 + 1) / 2 * 512 + 512; omega
    | ⟨1, _⟩ => show win0_2.index t 1 * 1024 ≤ (i 1).val ∧ (i 1).val < win0_2.index t 1 * 1024 + 1024; rw [e1]; show 0 * 1024 ≤ _ ∧ _ < 0 * 1024 + 1024; omega

/-- The kernel's idealization computes the idealized reference. -/
theorem algebraic : algebraic_GradWBranchIdeal_GradWBranchRefIdeal := by
  intro m g m' g' _ hagree
  refine ⟨fun c => result m c, ?_, ?_⟩
  · exact (θ_run _ _ _).mono (fun r h c => by
      obtain ⟨h0, h⟩ := h c
      exact ⟨h0.trans ((Value.final2 m c).symm.trans (final m c)), h⟩) (Value.run m g)
  · refine (θ_run _ _ _).mono (fun r h c => ?_) (Cert.GradWBranchRefIdeal.Value.run m' g')
    obtain ⟨h0, h⟩ := h c
    obtain ⟨a0, a1⟩ := hagree c
    refine ⟨h0.trans ?_, h⟩
    rw [a0, a1]
    funext i
    exact ref_apply _ _ i

end Cert.Proof.GradWBranch
-- ==== Proof.GradWDown.lean ====
/-
  The gradient of the down projection's weight, `relu(a)²ᵀ · dz2`, contracted over the 8192 rows: what the idealized
  kernel, which adds up four tiles of 2048 rows in a carried scratch, leaves in its result array is what the idealized
  reference (one reverse-mode derivative) leaves in its own, element by element over the extended reals.
-/
module

public import proofs.«01_k».proof.Defs
public import proofs.«01_k».proof.Proof.Gen.GradWDownIdeal.Value
public import proofs.«01_k».proof.Proof.Gen.GradWDownRefIdeal.Run
public import proofs.«01_k».proof.Proof.Gen.GradWDownRefIdeal.Read
public import Idealize.ShloMosaic.Lib.Pointwise

@[expose] public section

set_option maxRecDepth 16384

noncomputable section

namespace Cert.Proof.GradWDown

open Idealize.ShloMosaic Idealize.ShloMosaic.TcCoe Idealize.SL.Sem
open Cert.GradWDownIdeal Cert.GradWDownIdeal.Gen

/-- The contraction's term at row `k`. -/
def term (x0 : S8192x4096.Idx → EReal) (x1 : S8192x1024.Idx → EReal) (i : S4096x1024.Idx) (k : Fin 8192) : EReal :=
  (max (x0 (ix2 k (i 0))) 0 * max (x0 (ix2 k (i 0))) 0) * x1 (ix2 k (i 1))

/-- The result as one function of the arguments. -/
def spec (x0 : S8192x4096.Idx → EReal) (x1 : S8192x1024.Idx → EReal) : S4096x1024.Idx → EReal :=
  fun i => ∑ k : Fin 8192, term x0 x1 i k

/-- What the reference computes, at an index. -/
theorem ref_apply (x0 : S8192x4096.Idx → EReal) (x1 : S8192x1024.Idx → EReal) (i : S4096x1024.Idx) :
    Cert.GradWDownRefIdeal.Read.val_main_v8 (F := Ideal) x0 x1 i = spec x0 x1 i := by
  rw [← Cert.GradWDownRefIdeal.Read.val_main_v8_eq]
  unfold spec term
  pointwise
  exact Finset.sum_congr rfl fun k _ => mul_comm _ _

/-- The part of the contraction one point adds, at an index of the block. -/
def part (x0 : Vec Ideal S2048x1024 .bf16) (x1 : Vec Ideal S2048x1024 .bf16) (y : S1024x1024.Idx) : EReal :=
  ∑ k : Fin 2048, (max (x0 (ix2 k (y 0))) 0 * max (x0 (ix2 k (y 0))) 0) * x1 (ix2 k (y 1))

theorem pay_apply (x0 : Vec Ideal S2048x1024 .bf16) (x1 : Vec Ideal S2048x1024 .bf16) (y : S1024x1024.Idx) : k0_pay1 x0 x1 y = part x0 x1 y := by
  unfold part
  pointwise [k0_pay1]

theorem hz : (![0, 0] : Fin 2 → Nat) = fun _ => 0 := funext fun a => by fin_cases a <;> rfl

variable (m : (ℓ : Loc nD τ sig) → Buf (Elt Ideal) ℓ)

/-- After the first point of a run the carried scratch holds that point's part … -/
theorem scratch_first (c : Dev nD) (t : Fin cfg0.N) (h : t.val % 4 = 0) (y : S1024x1024.Idx) :
    (outsAt0 m c t.val t.isLt).2 y = part (iblk m c 0 t) (iblk m c 1 t) y := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  unfold k0_pay2
  simp only [View.readAt_eq_ld, (hs0_0 t).read_unread, (hs0_1 t).read_unread, View.ld_unit_zero (S := S2048x1024) hz, View.ld_unit_zero (S := S2048x1024) hz, shapeCast_self]
  exact pay_apply _ _ y

/-- … after a point in the middle of a run it holds that point's part on top of what the point before left … -/
theorem scratch_next (c : Dev nD) (t : Fin cfg0.N) (h : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  rw [outsAt0_B m c t (by omega) h (by omega)]
  dsimp only
  unfold sout0_B_0
  rw [View.read_writes_eq_canon _ _ _ (fun _ => scover0_B_0 ..)]
  unfold kernelRun0_B
  dsimp only
  sl_unfold_words
  rw [View.canon_unit_zero hz]
  unfold k0_pay3
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- … and the last point of a run stores its part on top of what the point before left. -/
theorem out_last (c : Dev nD) (t : Fin cfg0.N) (h : t.val % 4 = 3) (y : S1024x1024.Idx) :
    (outsAt0 m c t.val t.isLt).1 y = (outsAt0 m c (t.val - 1) (Nat.lt_of_le_of_lt (Nat.sub_le _ _) t.isLt)).2 y + part (iblk m c 0 t) (iblk m c 1 t) y := by
  rw [outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  unfold k0_pay4
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- The block indices at each of the 16 points. -/
theorem index0 : ∀ t : Fin cfg0.N, win0_0.index t 0 = t.val % 4 ∧ win0_0.index t 1 = t.val / 4 := (by decide +kernel : ∀ t : Fin grid0.N, _)
theorem index1 : ∀ t : Fin cfg0.N, win0_1.index t 0 = t.val % 4 ∧ win0_1.index t 1 = 0 := (by decide +kernel : ∀ t : Fin grid0.N, _)
theorem index2 : ∀ t : Fin cfg0.N, win0_2.index t 0 = t.val / 4 ∧ win0_2.index t 1 = 0 := (by decide +kernel : ∀ t : Fin grid0.N, _)

/-- Each loaded block at an index is the argument at the place the block stands. -/
theorem blk0 (c : Dev nD) (t : Fin cfg0.N) (z : S2048x1024.Idx) (i : S8192x4096.Idx) (h0 : (i 0).val = t.val % 4 * 2048 + (z 0).val)
    (h1 : (i 1).val = t.val / 4 * 1024 + (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 2048 + 1 * (z 0).val = _; rw [e0, h0]; omega
  · show win0_0.index t 1 * 1024 + 1 * (z 1).val = _; rw [e1, h1]; omega
theorem blk1 (c : Dev nD) (t : Fin cfg0.N) (z : S2048x1024.Idx) (i : S8192x1024.Idx) (h0 : (i 0).val = t.val % 4 * 2048 + (z 0).val)
    (h1 : (i 1).val = (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 2048 + 1 * (z 0).val = _; rw [e0, h0]; omega
  · show win0_1.index t 1 * 1024 + 1 * (z 1).val = _; rw [e1, h1]; omega

/-- A point's part is its tile of the whole contraction. -/
theorem part_tile (c : Dev nD) (t : Fin cfg0.N) (y : S1024x1024.Idx) (i : S4096x1024.Idx) (j : Fin 4) (hj : t.val % 4 = j.val)
    (h0 : (i 0).val = t.val / 4 * 1024 + (y 0).val) (h1 : (i 1).val = (y 1).val) :
    part (iblk m c 0 t) (iblk m c 1 t) y = ∑ s : Fin 2048, term (m ((c : Thread nD τ).loc main_arg0)) (m ((c : Thread nD τ).loc main_arg1)) i ⟨j.val * 2048 + s.val, by have := j.isLt; have := s.isLt; omega⟩ := by
  unfold part term
  refine Finset.sum_congr rfl fun s _ => ?_
  have ea := blk0 m c t (ix2 s (y 0)) (ix2 ⟨j.val * 2048 + s.val, by have := j.isLt; have := s.isLt; omega⟩ (i 0)) (by show j.val * 2048 + s.val = t.val % 4 * 2048 + s.val; rw [hj]) h0
  have eb := blk1 m c t (ix2 s (y 1)) (ix2 ⟨j.val * 2048 + s.val, by have := j.isLt; have := s.isLt; omega⟩ (i 1)) (by show j.val * 2048 + s.val = t.val % 4 * 2048 + s.val; rw [hj]) h1
  exact congrArg₂ (· * ·) (congrArg (fun x : EReal => (max (x) 0 * max (x) 0)) ea) eb

/-- The result of the arguments as launched. -/
abbrev result (c : Dev nD) : S4096x1024.Idx → EReal :=
  spec (m ((c : Thread nD τ).loc main_arg0)) (m ((c : Thread nD τ).loc main_arg1))

/-- What a point that writes back writes is its block of the result: its run's parts are the tiles of the contraction. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  show (cfg0.win 2).cut (grid0.coords t) ((dats m 0 c).after 2 t) = _
  rw [after0_2]
  funext y
  show (outsAt0 m c t.val t.isLt).1 ((cfg0.win 2).xinj (grid0.coords t) y) = result m c (((cfg0.win 2).blk t).view.emb y)
  obtain ⟨e0, e1⟩ := index2 t
  have hN := lt_of_lt_of_eq t.isLt (show cfg0.N = 16 from N_0)
  have b0 : (((cfg0.win 2).blk t).view.emb y 0).val = t.val / 4 * 1024 + (y 0).val := by
    show win0_2.index t 0 * 1024 + 1 * (y 0).val = _; rw [e0]; first | rfl | omega
  have b1 : (((cfg0.win 2).blk t).view.emb y 1).val = (y 1).val := by
    show win0_2.index t 1 * 1024 + 1 * (y 1).val = _; rw [e1]; omega
  generalize ((cfg0.win 2).blk t).view.emb y = i at b0 b1 ⊢
  generalize hx : (cfg0.win 2).xinj (grid0.coords t) y = z
  have z0 : (z 0).val = (y 0).val := hx ▸ rfl
  have z1 : (z 1).val = (y 1).val := hx ▸ rfl
  rw [← z0] at b0
  rw [← z1] at b1
  rw [out_last m c t hm z]
  rw [show (outsAt0 m c (t.val - 1) _).2 z = (outsAt0 m c (t.val - 1 - 1) (by omega)).2 z + part (iblk m c 0 ⟨t.val - 1, by omega⟩) (iblk m c 1 ⟨t.val - 1, by omega⟩) z from scratch_next m c ⟨t.val - 1, by omega⟩ (by show 1 ≤ (t.val - 1) % 4 ∧ (t.val - 1) % 4 ≤ 2; omega) z]
  rw [show (outsAt0 m c (t.val - 1 - 1) _).2 z = (outsAt0 m c (t.val - 1 - 1 - 1) (by omega)).2 z + part (iblk m c 0 ⟨t.val - 1 - 1, by omega⟩) (iblk m c 1 ⟨t.val - 1 - 1, by omega⟩) z from scratch_next m c ⟨t.val - 1 - 1, by omega⟩ (by show 1 ≤ (t.val - 1 - 1) % 4 ∧ (t.val - 1 - 1) % 4 ≤ 2; omega) z]
  rw [show (outsAt0 m c (t.val - 1 - 1 - 1) _).2 z = part (iblk m c 0 ⟨t.val - 1 - 1 - 1, by omega⟩) (iblk m c 1 ⟨t.val - 1 - 1 - 1, by omega⟩) z from scratch_first m c ⟨t.val - 1 - 1 - 1, by omega⟩ (by show (t.val - 1 - 1 - 1) % 4 = 0; omega) z]
  rw [part_tile m c ⟨t.val - 1 - 1 - 1, by omega⟩ z i 0 (show (t.val - 1 - 1 - 1) % 4 = 0 by omega) (b0.trans (by show _ = (t.val - 1 - 1 - 1) / 4 * 1024 + (z 0).val; omega)) (b1.trans (by show _ = (z 1).val; omega))]
  rw [part_tile m c ⟨t.val - 1 - 1, by omega⟩ z i 1 (show (t.val - 1 - 1) % 4 = 1 by omega) (b0.trans (by show _ = (t.val - 1 - 1) / 4 * 1024 + (z 0).val; omega)) (b1.trans (by show _ = (z 1).val; omega))]
  rw [part_tile m c ⟨t.val - 1, by omega⟩ z i 2 (show (t.val - 1) % 4 = 2 by omega) (b0.trans (by show _ = (t.val - 1) / 4 * 1024 + (z 0).val; omega)) (b1.trans (by show _ = (z 1).val; omega))]
  rw [part_tile m c ⟨t.val, by omega⟩ z i 3 (show (t.val) % 4 = 3 by omega) (b0.trans (by show _ = (t.val) / 4 * 1024 + (z 0).val; omega)) (b1.trans (by show _ = (z 1).val; omega))]
  show _ = ∑ k : Fin 8192, term _ _ i k
  rw [Fin.sum_univ_tiles 4 2048 (show 4 * 2048 = 8192 from rfl), Fin.sum_univ_four]

/-- The result array after the run. -/
theorem final (c : Dev nD) : (dats m 0 c).arrAt 2 cfg0.N = result m c :=
  (dats m 0 c).arrAt_eq_of_cover 2 (result m c) (fun t hf => flushed_eq m c t hf) fun i => by
    have h0 : (i 0).val < 4096 := (i 0).isLt
    have h1 : (i 1).val < 1024 := (i 1).isLt
    let t : Fin cfg0.N := ⟨(i 0).val / 1024 * 4 + 3, lt_of_lt_of_eq (by omega : _ < 16) N_0.symm⟩
    obtain ⟨e0, e1⟩ := index2 t
    refine ⟨t, (flush0_2 t).mpr (by show ((i 0).val / 1024 * 4 + 3) % 4 = 3; omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [e0]; show ((i 0).val / 1024 * 4 + 3) / 4 * 1024 ≤ _ ∧ _ < ((i 0).val / 1024 * 4 + 3) / 4 * 1024 + 1024; omega
    | ⟨1, _⟩ => show win0_2.index t 1 * 1024 ≤ (i 1).val ∧ (i 1).val < win0_2.index t 1 * 1024 + 1024; rw [e1]; show 0 * 1024 ≤ _ ∧ _ < 0 * 1024 + 1024; omega

/-- The kernel's idealization computes the idealized reference. -/
theorem algebraic : algebraic_GradWDownIdeal_GradWDownRefIdeal := by
  intro m g m' g' _ hagree
  refine ⟨fun c => result m c, ?_, ?_⟩
  · exact (θ_run _ _ _).mono (fun r h c => by
      obtain ⟨h0, h⟩ := h c
      exact ⟨h0.trans ((Value.final2 m c).symm.trans (final m c)), h⟩) (Value.run m g)
  · refine (θ_run _ _ _).mono (fun r h c => ?_) (Cert.GradWDownRefIdeal.Value.run m' g')
    obtain ⟨h0, h⟩ := h c
    obtain ⟨a0, a1⟩ := hagree c
    refine ⟨h0.trans ?_, h⟩
    rw [a0, a1]
    funext i
    exact ref_apply _ _ i

end Cert.Proof.GradWDown
-- ==== Proof.GradWIn.lean ====
/-
  The gradient of the input projection's weight, `xᵀ · dp`, contracted over the 8192 rows: what the idealized
  kernel, which adds up four tiles of 2048 rows in a carried scratch, leaves in its result array is what the idealized
  reference (one reverse-mode derivative) leaves in its own, element by element over the extended reals.
-/
module

public import proofs.«01_k».proof.Defs
public import proofs.«01_k».proof.Proof.Gen.GradWInIdeal.Value
public import proofs.«01_k».proof.Proof.Gen.GradWInRefIdeal.Run
public import proofs.«01_k».proof.Proof.Gen.GradWInRefIdeal.Read
public import Idealize.ShloMosaic.Lib.Pointwise

@[expose] public section

set_option maxRecDepth 16384

noncomputable section

namespace Cert.Proof.GradWIn

open Idealize.ShloMosaic Idealize.ShloMosaic.TcCoe Idealize.SL.Sem
open Cert.GradWInIdeal Cert.GradWInIdeal.Gen

/-- The contraction's term at row `k`. -/
def term (x0 : S8192x1024.Idx → EReal) (x1 : S8192x7168.Idx → EReal) (i : S1024x7168.Idx) (k : Fin 8192) : EReal :=
  x0 (ix2 k (i 0)) * x1 (ix2 k (i 1))

/-- The result as one function of the arguments. -/
def spec (x0 : S8192x1024.Idx → EReal) (x1 : S8192x7168.Idx → EReal) : S1024x7168.Idx → EReal :=
  fun i => ∑ k : Fin 8192, term x0 x1 i k

/-- What the reference computes, at an index. -/
theorem ref_apply (x0 : S8192x1024.Idx → EReal) (x1 : S8192x7168.Idx → EReal) (i : S1024x7168.Idx) :
    Cert.GradWInRefIdeal.Read.val_main_v6 (F := Ideal) x0 x1 i = spec x0 x1 i := by
  rw [← Cert.GradWInRefIdeal.Read.val_main_v6_eq]
  unfold spec term
  pointwise
  exact Finset.sum_congr rfl fun k _ => mul_comm _ _

/-- The part of the contraction one point adds, at an index of the block. -/
def part (x0 : Vec Ideal S2048x1024 .bf16) (x1 : Vec Ideal S2048x1024 .bf16) (y : S1024x1024.Idx) : EReal :=
  ∑ k : Fin 2048, x0 (ix2 k (y 0)) * x1 (ix2 k (y 1))

theorem pay_apply (x0 : Vec Ideal S2048x1024 .bf16) (x1 : Vec Ideal S2048x1024 .bf16) (y : S1024x1024.Idx) : k0_pay1 x0 x1 y = part x0 x1 y := by
  unfold part
  pointwise [k0_pay1]

theorem hz : (![0, 0] : Fin 2 → Nat) = fun _ => 0 := funext fun a => by fin_cases a <;> rfl

variable (m : (ℓ : Loc nD τ sig) → Buf (Elt Ideal) ℓ)

/-- After the first point of a run the carried scratch holds that point's part … -/
theorem scratch_first (c : Dev nD) (t : Fin cfg0.N) (h : t.val % 4 = 0) (y : S1024x1024.Idx) :
    (outsAt0 m c t.val t.isLt).2 y = part (iblk m c 0 t) (iblk m c 1 t) y := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  unfold k0_pay2
  simp only [View.readAt_eq_ld, (hs0_0 t).read_unread, (hs0_1 t).read_unread, View.ld_unit_zero (S := S2048x1024) hz, View.ld_unit_zero (S := S2048x1024) hz, shapeCast_self]
  exact pay_apply _ _ y

/-- … after a point in the middle of a run it holds that point's part on top of what the point before left … -/
theorem scratch_next (c : Dev nD) (t : Fin cfg0.N) (h : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  rw [outsAt0_B m c t (by omega) h (by omega)]
  dsimp only
  unfold sout0_B_0
  rw [View.read_writes_eq_canon _ _ _ (fun _ => scover0_B_0 ..)]
  unfold kernelRun0_B
  dsimp only
  sl_unfold_words
  rw [View.canon_unit_zero hz]
  unfold k0_pay3
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- … and the last point of a run stores its part on top of what the point before left. -/
theorem out_last (c : Dev nD) (t : Fin cfg0.N) (h : t.val % 4 = 3) (y : S1024x1024.Idx) :
    (outsAt0 m c t.val t.isLt).1 y = (outsAt0 m c (t.val - 1) (Nat.lt_of_le_of_lt (Nat.sub_le _ _) t.isLt)).2 y + part (iblk m c 0 t) (iblk m c 1 t) y := by
  rw [outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  unfold k0_pay4
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- The block indices at each of the 28 points. -/
theorem index0 : ∀ t : Fin cfg0.N, win0_0.index t 0 = t.val % 4 ∧ win0_0.index t 1 = 0 := (by decide +kernel : ∀ t : Fin grid0.N, _)
theorem index1 : ∀ t : Fin cfg0.N, win0_1.index t 0 = t.val % 4 ∧ win0_1.index t 1 = t.val / 4 := (by decide +kernel : ∀ t : Fin grid0.N, _)
theorem index2 : ∀ t : Fin cfg0.N, win0_2.index t 0 = 0 ∧ win0_2.index t 1 = t.val / 4 := (by decide +kernel : ∀ t : Fin grid0.N, _)

/-- Each loaded block at an index is the argument at the place the block stands. -/
theorem blk0 (c : Dev nD) (t : Fin cfg0.N) (z : S2048x1024.Idx) (i : S8192x1024.Idx) (h0 : (i 0).val = t.val % 4 * 2048 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 2048 + 1 * (z 0).val = _; rw [e0, h0]; omega
  · show win0_0.index t 1 * 1024 + 1 * (z 1).val = _; rw [e1, h1]; omega
theorem blk1 (c : Dev nD) (t : Fin cfg0.N) (z : S2048x1024.Idx) (i : S8192x7168.Idx) (h0 : (i 0).val = t.val % 4 * 2048 + (z 0).val)
    (h1 : (i 1).val = t.val / 4 * 1024 + (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 2048 + 1 * (z 0).val = _; rw [e0, h0]; omega
  · show win0_1.index t 1 * 1024 + 1 * (z 1).val = _; rw [e1, h1]; omega

/-- A point's part is its tile of the whole contraction. -/
theorem part_tile (c : Dev nD) (t : Fin cfg0.N) (y : S1024x1024.Idx) (i : S1024x7168.Idx) (j : Fin 4) (hj : t.val % 4 = j.val)
    (h0 : (i 0).val = (y 0).val) (h1 : (i 1).val = t.val / 4 * 1024 + (y 1).val) :
    part (iblk m c 0 t) (iblk m c 1 t) y = ∑ s : Fin 2048, term (m ((c : Thread nD τ).loc main_arg0)) (m ((c : Thread nD τ).loc main_arg1)) i ⟨j.val * 2048 + s.val, by have := j.isLt; have := s.isLt; omega⟩ := by
  unfold part term
  refine Finset.sum_congr rfl fun s _ => ?_
  have ea := blk0 m c t (ix2 s (y 0)) (ix2 ⟨j.val * 2048 + s.val, by have := j.isLt; have := s.isLt; omega⟩ (i 0)) (by show j.val * 2048 + s.val = t.val % 4 * 2048 + s.val; rw [hj]) h0
  have eb := blk1 m c t (ix2 s (y 1)) (ix2 ⟨j.val * 2048 + s.val, by have := j.isLt; have := s.isLt; omega⟩ (i 1)) (by show j.val * 2048 + s.val = t.val % 4 * 2048 + s.val; rw [hj]) h1
  exact congrArg₂ (· * ·) (congrArg (fun x : EReal => x) ea) eb

/-- The result of the arguments as launched. -/
abbrev result (c : Dev nD) : S1024x7168.Idx → EReal :=
  spec (m ((c : Thread nD τ).loc main_arg0)) (m ((c : Thread nD τ).loc main_arg1))

/-- What a point that writes back writes is its block of the result: its run's parts are the tiles of the contraction. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  show (cfg0.win 2).cut (grid0.coords t) ((dats m 0 c).after 2 t) = _
  rw [after0_2]
  funext y
  show (outsAt0 m c t.val t.isLt).1 ((cfg0.win 2).xinj (grid0.coords t) y) = result m c (((cfg0.win 2).blk t).view.emb y)
  obtain ⟨e0, e1⟩ := index2 t
  have hN := lt_of_lt_of_eq t.isLt (show cfg0.N = 28 from N_0)
  have b0 : (((cfg0.win 2).blk t).view.emb y 0).val = (y 0).val := by
    show win0_2.index t 0 * 1024 + 1 * (y 0).val = _; rw [e0]; first | rfl | omega
  have b1 : (((cfg0.win 2).blk t).view.emb y 1).val = t.val / 4 * 1024 + (y 1).val := by
    show win0_2.index t 1 * 1024 + 1 * (y 1).val = _; rw [e1]; omega
  generalize ((cfg0.win 2).blk t).view.emb y = i at b0 b1 ⊢
  generalize hx : (cfg0.win 2).xinj (grid0.coords t) y = z
  have z0 : (z 0).val = (y 0).val := hx ▸ rfl
  have z1 : (z 1).val = (y 1).val := hx ▸ rfl
  rw [← z0] at b0
  rw [← z1] at b1
  rw [out_last m c t hm z]
  rw [show (outsAt0 m c (t.val - 1) _).2 z = (outsAt0 m c (t.val - 1 - 1) (by omega)).2 z + part (iblk m c 0 ⟨t.val - 1, by omega⟩) (iblk m c 1 ⟨t.val - 1, by omega⟩) z from scratch_next m c ⟨t.val - 1, by omega⟩ (by show 1 ≤ (t.val - 1) % 4 ∧ (t.val - 1) % 4 ≤ 2; omega) z]
  rw [show (outsAt0 m c (t.val - 1 - 1) _).2 z = (outsAt0 m c (t.val - 1 - 1 - 1) (by omega)).2 z + part (iblk m c 0 ⟨t.val - 1 - 1, by omega⟩) (iblk m c 1 ⟨t.val - 1 - 1, by omega⟩) z from scratch_next m c ⟨t.val - 1 - 1, by omega⟩ (by show 1 ≤ (t.val - 1 - 1) % 4 ∧ (t.val - 1 - 1) % 4 ≤ 2; omega) z]
  rw [show (outsAt0 m c (t.val - 1 - 1 - 1) _).2 z = part (iblk m c 0 ⟨t.val - 1 - 1 - 1, by omega⟩) (iblk m c 1 ⟨t.val - 1 - 1 - 1, by omega⟩) z from scratch_first m c ⟨t.val - 1 - 1 - 1, by omega⟩ (by show (t.val - 1 - 1 - 1) % 4 = 0; omega) z]
  rw [part_tile m c ⟨t.val - 1 - 1 - 1, by omega⟩ z i 0 (show (t.val - 1 - 1 - 1) % 4 = 0 by omega) (b0.trans (by show _ = (z 0).val; omega)) (b1.trans (by show _ = (t.val - 1 - 1 - 1) / 4 * 1024 + (z 1).val; omega))]
  rw [part_tile m c ⟨t.val - 1 - 1, by omega⟩ z i 1 (show (t.val - 1 - 1) % 4 = 1 by omega) (b0.trans (by show _ = (z 0).val; omega)) (b1.trans (by show _ = (t.val - 1 - 1) / 4 * 1024 + (z 1).val; omega))]
  rw [part_tile m c ⟨t.val - 1, by omega⟩ z i 2 (show (t.val - 1) % 4 = 2 by omega) (b0.trans (by show _ = (z 0).val; omega)) (b1.trans (by show _ = (t.val - 1) / 4 * 1024 + (z 1).val; omega))]
  rw [part_tile m c ⟨t.val, by omega⟩ z i 3 (show (t.val) % 4 = 3 by omega) (b0.trans (by show _ = (z 0).val; omega)) (b1.trans (by show _ = (t.val) / 4 * 1024 + (z 1).val; omega))]
  show _ = ∑ k : Fin 8192, term _ _ i k
  rw [Fin.sum_univ_tiles 4 2048 (show 4 * 2048 = 8192 from rfl), Fin.sum_univ_four]

/-- The result array after the run. -/
theorem final (c : Dev nD) : (dats m 0 c).arrAt 2 cfg0.N = result m c :=
  (dats m 0 c).arrAt_eq_of_cover 2 (result m c) (fun t hf => flushed_eq m c t hf) fun i => by
    have h0 : (i 0).val < 1024 := (i 0).isLt
    have h1 : (i 1).val < 7168 := (i 1).isLt
    let t : Fin cfg0.N := ⟨(i 1).val / 1024 * 4 + 3, lt_of_lt_of_eq (by omega : _ < 28) N_0.symm⟩
    obtain ⟨e0, e1⟩ := index2 t
    refine ⟨t, (flush0_2 t).mpr (by show ((i 1).val / 1024 * 4 + 3) % 4 = 3; omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [e0]; show 0 * 1024 ≤ _ ∧ _ < 0 * 1024 + 1024; omega
    | ⟨1, _⟩ => show win0_2.index t 1 * 1024 ≤ (i 1).val ∧ (i 1).val < win0_2.index t 1 * 1024 + 1024; rw [e1]; show ((i 1).val / 1024 * 4 + 3) / 4 * 1024 ≤ _ ∧ _ < ((i 1).val / 1024 * 4 + 3) / 4 * 1024 + 1024; omega

/-- The kernel's idealization computes the idealized reference. -/
theorem algebraic : algebraic_GradWInIdeal_GradWInRefIdeal := by
  intro m g m' g' _ hagree
  refine ⟨fun c => result m c, ?_, ?_⟩
  · exact (θ_run _ _ _).mono (fun r h c => by
      obtain ⟨h0, h⟩ := h c
      exact ⟨h0.trans ((Value.final2 m c).symm.trans (final m c)), h⟩) (Value.run m g)
  · refine (θ_run _ _ _).mono (fun r h c => ?_) (Cert.GradWInRefIdeal.Value.run m' g')
    obtain ⟨h0, h⟩ := h c
    obtain ⟨a0, a1⟩ := hagree c
    refine ⟨h0.trans ?_, h⟩
    rw [a0, a1]
    funext i
    exact ref_apply _ _ i

end Cert.Proof.GradWIn
-- ==== Proof.GradWO.lean ====
/-
  The gradient of the output projection's weight, `mergedᵀ · dz1`, contracted over the 8192 rows: what the idealized
  kernel, which adds up four tiles of 2048 rows in a carried scratch, leaves in its result array is what the idealized
  reference (one reverse-mode derivative) leaves in its own, element by element over the extended reals.
-/
module

public import proofs.«01_k».proof.Defs
public import proofs.«01_k».proof.Proof.Gen.GradWOIdeal.Value
public import proofs.«01_k».proof.Proof.Gen.GradWORefIdeal.Run
public import proofs.«01_k».proof.Proof.Gen.GradWORefIdeal.Read
public import Idealize.ShloMosaic.Lib.Pointwise

@[expose] public section

set_option maxRecDepth 16384

noncomputable section

namespace Cert.Proof.GradWO

open Idealize.ShloMosaic Idealize.ShloMosaic.TcCoe Idealize.SL.Sem
open Cert.GradWOIdeal Cert.GradWOIdeal.Gen

/-- The contraction's term at row `k`. -/
def term (x0 : S8192x1024.Idx → EReal) (x1 : S8192x1024.Idx → EReal) (i : S1024x1024.Idx) (k : Fin 8192) : EReal :=
  x0 (ix2 k (i 0)) * x1 (ix2 k (i 1))

/-- The result as one function of the arguments. -/
def spec (x0 : S8192x1024.Idx → EReal) (x1 : S8192x1024.Idx → EReal) : S1024x1024.Idx → EReal :=
  fun i => ∑ k : Fin 8192, term x0 x1 i k

/-- What the reference computes, at an index. -/
theorem ref_apply (x0 : S8192x1024.Idx → EReal) (x1 : S8192x1024.Idx → EReal) (i : S1024x1024.Idx) :
    Cert.GradWORefIdeal.Read.val_main_v6 (F := Ideal) x0 x1 i = spec x0 x1 i := by
  rw [← Cert.GradWORefIdeal.Read.val_main_v6_eq]
  unfold spec term
  pointwise
  exact Finset.sum_congr rfl fun k _ => mul_comm _ _

/-- The part of the contraction one point adds, at an index of the block. -/
def part (x0 : Vec Ideal S2048x1024 .bf16) (x1 : Vec Ideal S2048x1024 .bf16) (y : S1024x1024.Idx) : EReal :=
  ∑ k : Fin 2048, x0 (ix2 k (y 0)) * x1 (ix2 k (y 1))

theorem pay_apply (x0 : Vec Ideal S2048x1024 .bf16) (x1 : Vec Ideal S2048x1024 .bf16) (y : S1024x1024.Idx) : k0_pay1 x0 x1 y = part x0 x1 y := by
  unfold part
  pointwise [k0_pay1]

theorem hz : (![0, 0] : Fin 2 → Nat) = fun _ => 0 := funext fun a => by fin_cases a <;> rfl

variable (m : (ℓ : Loc nD τ sig) → Buf (Elt Ideal) ℓ)

/-- After the first point of a run the carried scratch holds that point's part … -/
theorem scratch_first (c : Dev nD) (t : Fin cfg0.N) (h : t.val % 4 = 0) (y : S1024x1024.Idx) :
    (outsAt0 m c t.val t.isLt).2 y = part (iblk m c 0 t) (iblk m c 1 t) y := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  unfold k0_pay2
  simp only [View.readAt_eq_ld, (hs0_0 t).read_unread, (hs0_1 t).read_unread, View.ld_unit_zero (S := S2048x1024) hz, View.ld_unit_zero (S := S2048x1024) hz, shapeCast_self]
  exact pay_apply _ _ y

/-- … after a point in the middle of a run it holds that point's part on top of what the point before left … -/
theorem scratch_next (c : Dev nD) (t : Fin cfg0.N) (h : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  rw [outsAt0_B m c t (by omega) h (by omega)]
  dsimp only
  unfold sout0_B_0
  rw [View.read_writes_eq_canon _ _ _ (fun _ => scover0_B_0 ..)]
  unfold kernelRun0_B
  dsimp only
  sl_unfold_words
  rw [View.canon_unit_zero hz]
  unfold k0_pay3
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- … and the last point of a run stores its part on top of what the point before left. -/
theorem out_last (c : Dev nD) (t : Fin cfg0.N) (h : t.val % 4 = 3) (y : S1024x1024.Idx) :
    (outsAt0 m c t.val t.isLt).1 y = (outsAt0 m c (t.val - 1) (Nat.lt_of_le_of_lt (Nat.sub_le _ _) t.isLt)).2 y + part (iblk m c 0 t) (iblk m c 1 t) y := by
  rw [outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  unfold k0_pay4
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- The block indices at each of the 4 points. -/
theorem index0 : ∀ t : Fin cfg0.N, win0_0.index t 0 = t.val % 4 ∧ win0_0.index t 1 = 0 := (by decide +kernel : ∀ t : Fin grid0.N, _)
theorem index1 : ∀ t : Fin cfg0.N, win0_1.index t 0 = t.val % 4 ∧ win0_1.index t 1 = 0 := (by decide +kernel : ∀ t : Fin grid0.N, _)
theorem index2 : ∀ t : Fin cfg0.N, win0_2.index t 0 = 0 ∧ win0_2.index t 1 = 0 := (by decide +kernel : ∀ t : Fin grid0.N, _)

/-- Each loaded block at an index is the argument at the place the block stands. -/
theorem blk0 (c : Dev nD) (t : Fin cfg0.N) (z : S2048x1024.Idx) (i : S8192x1024.Idx) (h0 : (i 0).val = t.val % 4 * 2048 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 2048 + 1 * (z 0).val = _; rw [e0, h0]; omega
  · show win0_0.index t 1 * 1024 + 1 * (z 1).val = _; rw [e1, h1]; omega
theorem blk1 (c : Dev nD) (t : Fin cfg0.N) (z : S2048x1024.Idx) (i : S8192x1024.Idx) (h0 : (i 0).val = t.val % 4 * 2048 + (z 0).val)
    (h1 : (i 1).val = (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 2048 + 1 * (z 0).val = _; rw [e0, h0]; omega
  · show win0_1.index t 1 * 1024 + 1 * (z 1).val = _; rw [e1, h1]; omega

/-- A point's part is its tile of the whole contraction. -/
theorem part_tile (c : Dev nD) (t : Fin cfg0.N) (y : S1024x1024.Idx) (i : S1024x1024.Idx) (j : Fin 4) (hj : t.val % 4 = j.val)
    (h0 : (i 0).val = (y 0).val) (h1 : (i 1).val = (y 1).val) :
    part (iblk m c 0 t) (iblk m c 1 t) y = ∑ s : Fin 2048, term (m ((c : Thread nD τ).loc main_arg0)) (m ((c : Thread nD τ).loc main_arg1)) i ⟨j.val * 2048 + s.val, by have := j.isLt; have := s.isLt; omega⟩ := by
  unfold part term
  refine Finset.sum_congr rfl fun s _ => ?_
  have ea := blk0 m c t (ix2 s (y 0)) (ix2 ⟨j.val * 2048 + s.val, by have := j.isLt; have := s.isLt; omega⟩ (i 0)) (by show j.val * 2048 + s.val = t.val % 4 * 2048 + s.val; rw [hj]) h0
  have eb := blk1 m c t (ix2 s (y 1)) (ix2 ⟨j.val * 2048 + s.val, by have := j.isLt; have := s.isLt; omega⟩ (i 1)) (by show j.val * 2048 + s.val = t.val % 4 * 2048 + s.val; rw [hj]) h1
  exact congrArg₂ (· * ·) (congrArg (fun x : EReal => x) ea) eb

/-- The result of the arguments as launched. -/
abbrev result (c : Dev nD) : S1024x1024.Idx → EReal :=
  spec (m ((c : Thread nD τ).loc main_arg0)) (m ((c : Thread nD τ).loc main_arg1))

/-- What a point that writes back writes is its block of the result: its run's parts are the tiles of the contraction. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  show (cfg0.win 2).cut (grid0.coords t) ((dats m 0 c).after 2 t) = _
  rw [after0_2]
  funext y
  show (outsAt0 m c t.val t.isLt).1 ((cfg0.win 2).xinj (grid0.coords t) y) = result m c (((cfg0.win 2).blk t).view.emb y)
  obtain ⟨e0, e1⟩ := index2 t
  have hN := lt_of_lt_of_eq t.isLt (show cfg0.N = 4 from N_0)
  have b0 : (((cfg0.win 2).blk t).view.emb y 0).val = (y 0).val := by
    show win0_2.index t 0 * 1024 + 1 * (y 0).val = _; rw [e0]; first | rfl | omega
  have b1 : (((cfg0.win 2).blk t).view.emb y 1).val = (y 1).val := by
    show win0_2.index t 1 * 1024 + 1 * (y 1).val = _; rw [e1]; omega
  generalize ((cfg0.win 2).blk t).view.emb y = i at b0 b1 ⊢
  generalize hx : (cfg0.win 2).xinj (grid0.coords t) y = z
  have z0 : (z 0).val = (y 0).val := hx ▸ rfl
  have z1 : (z 1).val = (y 1).val := hx ▸ rfl
  rw [← z0] at b0
  rw [← z1] at b1
  rw [out_last m c t hm z]
  rw [show (outsAt0 m c (t.val - 1) _).2 z = (outsAt0 m c (t.val - 1 - 1) (by omega)).2 z + part (iblk m c 0 ⟨t.val - 1, by omega⟩) (iblk m c 1 ⟨t.val - 1, by omega⟩) z from scratch_next m c ⟨t.val - 1, by omega⟩ (by show 1 ≤ (t.val - 1) % 4 ∧ (t.val - 1) % 4 ≤ 2; omega) z]
  rw [show (outsAt0 m c (t.val - 1 - 1) _).2 z = (outsAt0 m c (t.val - 1 - 1 - 1) (by omega)).2 z + part (iblk m c 0 ⟨t.val - 1 - 1, by omega⟩) (iblk m c 1 ⟨t.val - 1 - 1, by omega⟩) z from scratch_next m c ⟨t.val - 1 - 1, by omega⟩ (by show 1 ≤ (t.val - 1 - 1) % 4 ∧ (t.val - 1 - 1) % 4 ≤ 2; omega) z]
  rw [show (outsAt0 m c (t.val - 1 - 1 - 1) _).2 z = part (iblk m c 0 ⟨t.val - 1 - 1 - 1, by omega⟩) (iblk m c 1 ⟨t.val - 1 - 1 - 1, by omega⟩) z from scratch_first m c ⟨t.val - 1 - 1 - 1, by omega⟩ (by show (t.val - 1 - 1 - 1) % 4 = 0; omega) z]
  rw [part_tile m c ⟨t.val - 1 - 1 - 1, by omega⟩ z i 0 (show (t.val - 1 - 1 - 1) % 4 = 0 by omega) (b0.trans (by show _ = (z 0).val; omega)) (b1.trans (by show _ = (z 1).val; omega))]
  rw [part_tile m c ⟨t.val - 1 - 1, by omega⟩ z i 1 (show (t.val - 1 - 1) % 4 = 1 by omega) (b0.trans (by show _ = (z 0).val; omega)) (b1.trans (by show _ = (z 1).val; omega))]
  rw [part_tile m c ⟨t.val - 1, by omega⟩ z i 2 (show (t.val - 1) % 4 = 2 by omega) (b0.trans (by show _ = (z 0).val; omega)) (b1.trans (by show _ = (z 1).val; omega))]
  rw [part_tile m c ⟨t.val, by omega⟩ z i 3 (show (t.val) % 4 = 3 by omega) (b0.trans (by show _ = (z 0).val; omega)) (b1.trans (by show _ = (z 1).val; omega))]
  show _ = ∑ k : Fin 8192, term _ _ i k
  rw [Fin.sum_univ_tiles 4 2048 (show 4 * 2048 = 8192 from rfl), Fin.sum_univ_four]

/-- The result array after the run. -/
theorem final (c : Dev nD) : (dats m 0 c).arrAt 2 cfg0.N = result m c :=
  (dats m 0 c).arrAt_eq_of_cover 2 (result m c) (fun t hf => flushed_eq m c t hf) fun i => by
    have h0 : (i 0).val < 1024 := (i 0).isLt
    have h1 : (i 1).val < 1024 := (i 1).isLt
    let t : Fin cfg0.N := ⟨3, lt_of_lt_of_eq (by omega : _ < 4) N_0.symm⟩
    obtain ⟨e0, e1⟩ := index2 t
    refine ⟨t, (flush0_2 t).mpr (by show (3) % 4 = 3; omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [e0]; show 0 * 1024 ≤ _ ∧ _ < 0 * 1024 + 1024; omega
    | ⟨1, _⟩ => show win0_2.index t 1 * 1024 ≤ (i 1).val ∧ (i 1).val < win0_2.index t 1 * 1024 + 1024; rw [e1]; show 0 * 1024 ≤ _ ∧ _ < 0 * 1024 + 1024; omega

/-- The kernel's idealization computes the idealized reference. -/
theorem algebraic : algebraic_GradWOIdeal_GradWORefIdeal := by
  intro m g m' g' _ hagree
  refine ⟨fun c => result m c, ?_, ?_⟩
  · exact (θ_run _ _ _).mono (fun r h c => by
      obtain ⟨h0, h⟩ := h c
      exact ⟨h0.trans ((Value.final2 m c).symm.trans (final m c)), h⟩) (Value.run m g)
  · refine (θ_run _ _ _).mono (fun r h c => ?_) (Cert.GradWORefIdeal.Value.run m' g')
    obtain ⟨h0, h⟩ := h c
    obtain ⟨a0, a1⟩ := hagree c
    refine ⟨h0.trans ?_, h⟩
    rw [a0, a1]
    funext i
    exact ref_apply _ _ i

end Cert.Proof.GradWO
-- ==== Proof.GradWUp.lean ====
/-
  The gradient of the up projection's weight, `xᵀ · da`, contracted over the 8192 rows: what the idealized
  kernel, which adds up four tiles of 2048 rows in a carried scratch, leaves in its result array is what the idealized
  reference (one reverse-mode derivative) leaves in its own, element by element over the extended reals.
-/
module

public import proofs.«01_k».proof.Defs
public import proofs.«01_k».proof.Proof.Gen.GradWUpIdeal.Value
public import proofs.«01_k».proof.Proof.Gen.GradWUpRefIdeal.Run
public import proofs.«01_k».proof.Proof.Gen.GradWUpRefIdeal.Read
public import Idealize.ShloMosaic.Lib.Pointwise

@[expose] public section

set_option maxRecDepth 16384

noncomputable section

namespace Cert.Proof.GradWUp

open Idealize.ShloMosaic Idealize.ShloMosaic.TcCoe Idealize.SL.Sem
open Cert.GradWUpIdeal Cert.GradWUpIdeal.Gen

/-- The contraction's term at row `k`. -/
def term (x0 : S8192x1024.Idx → EReal) (x1 : S8192x4096.Idx → EReal) (i : S1024x4096.Idx) (k : Fin 8192) : EReal :=
  x0 (ix2 k (i 0)) * x1 (ix2 k (i 1))

/-- The result as one function of the arguments. -/
def spec (x0 : S8192x1024.Idx → EReal) (x1 : S8192x4096.Idx → EReal) : S1024x4096.Idx → EReal :=
  fun i => ∑ k : Fin 8192, term x0 x1 i k

/-- What the reference computes, at an index. -/
theorem ref_apply (x0 : S8192x1024.Idx → EReal) (x1 : S8192x4096.Idx → EReal) (i : S1024x4096.Idx) :
    Cert.GradWUpRefIdeal.Read.val_main_v6 (F := Ideal) x0 x1 i = spec x0 x1 i := by
  rw [← Cert.GradWUpRefIdeal.Read.val_main_v6_eq]
  unfold spec term
  pointwise
  exact Finset.sum_congr rfl fun k _ => mul_comm _ _

/-- The part of the contraction one point adds, at an index of the block. -/
def part (x0 : Vec Ideal S2048x1024 .bf16) (x1 : Vec Ideal S2048x1024 .bf16) (y : S1024x1024.Idx) : EReal :=
  ∑ k : Fin 2048, x0 (ix2 k (y 0)) * x1 (ix2 k (y 1))

theorem pay_apply (x0 : Vec Ideal S2048x1024 .bf16) (x1 : Vec Ideal S2048x1024 .bf16) (y : S1024x1024.Idx) : k0_pay1 x0 x1 y = part x0 x1 y := by
  unfold part
  pointwise [k0_pay1]

theorem hz : (![0, 0] : Fin 2 → Nat) = fun _ => 0 := funext fun a => by fin_cases a <;> rfl

variable (m : (ℓ : Loc nD τ sig) → Buf (Elt Ideal) ℓ)

/-- After the first point of a run the carried scratch holds that point's part … -/
theorem scratch_first (c : Dev nD) (t : Fin cfg0.N) (h : t.val % 4 = 0) (y : S1024x1024.Idx) :
    (outsAt0 m c t.val t.isLt).2 y = part (iblk m c 0 t) (iblk m c 1 t) y := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  unfold k0_pay2
  simp only [View.readAt_eq_ld, (hs0_0 t).read_unread, (hs0_1 t).read_unread, View.ld_unit_zero (S := S2048x1024) hz, View.ld_unit_zero (S := S2048x1024) hz, shapeCast_self]
  exact pay_apply _ _ y

/-- … after a point in the middle of a run it holds that point's part on top of what the point before left … -/
theorem scratch_next (c : Dev nD) (t : Fin cfg0.N) (h : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  rw [outsAt0_B m c t (by omega) h (by omega)]
  dsimp only
  unfold sout0_B_0
  rw [View.read_writes_eq_canon _ _ _ (fun _ => scover0_B_0 ..)]
  unfold kernelRun0_B
  dsimp only
  sl_unfold_words
  rw [View.canon_unit_zero hz]
  unfold k0_pay3
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- … and the last point of a run stores its part on top of what the point before left. -/
theorem out_last (c : Dev nD) (t : Fin cfg0.N) (h : t.val % 4 = 3) (y : S1024x1024.Idx) :
    (outsAt0 m c t.val t.isLt).1 y = (outsAt0 m c (t.val - 1) (Nat.lt_of_le_of_lt (Nat.sub_le _ _) t.isLt)).2 y + part (iblk m c 0 t) (iblk m c 1 t) y := by
  rw [outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  unfold k0_pay4
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz, shapeCast_self]
  exact congrArg₂ (· + ·) rfl (pay_apply _ _ y)

/-- The block indices at each of the 16 points. -/
theorem index0 : ∀ t : Fin cfg0.N, win0_0.index t 0 = t.val % 4 ∧ win0_0.index t 1 = 0 := (by decide +kernel : ∀ t : Fin grid0.N, _)
theorem index1 : ∀ t : Fin cfg0.N, win0_1.index t 0 = t.val % 4 ∧ win0_1.index t 1 = t.val / 4 := (by decide +kernel : ∀ t : Fin grid0.N, _)
theorem index2 : ∀ t : Fin cfg0.N, win0_2.index t 0 = 0 ∧ win0_2.index t 1 = t.val / 4 := (by decide +kernel : ∀ t : Fin grid0.N, _)

/-- Each loaded block at an index is the argument at the place the block stands. -/
theorem blk0 (c : Dev nD) (t : Fin cfg0.N) (z : S2048x1024.Idx) (i : S8192x1024.Idx) (h0 : (i 0).val = t.val % 4 * 2048 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 2048 + 1 * (z 0).val = _; rw [e0, h0]; omega
  · show win0_0.index t 1 * 1024 + 1 * (z 1).val = _; rw [e1, h1]; omega
theorem blk1 (c : Dev nD) (t : Fin cfg0.N) (z : S2048x1024.Idx) (i : S8192x4096.Idx) (h0 : (i 0).val = t.val % 4 * 2048 + (z 0).val)
    (h1 : (i 1).val = t.val / 4 * 1024 + (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 2048 + 1 * (z 0).val = _; rw [e0, h0]; omega
  · show win0_1.index t 1 * 1024 + 1 * (z 1).val = _; rw [e1, h1]; omega

/-- A point's part is its tile of the whole contraction. -/
theorem part_tile (c : Dev nD) (t : Fin cfg0.N) (y : S1024x1024.Idx) (i : S1024x4096.Idx) (j : Fin 4) (hj : t.val % 4 = j.val)
    (h0 : (i 0).val = (y 0).val) (h1 : (i 1).val = t.val / 4 * 1024 + (y 1).val) :
    part (iblk m c 0 t) (iblk m c 1 t) y = ∑ s : Fin 2048, term (m ((c : Thread nD τ).loc main_arg0)) (m ((c : Thread nD τ).loc main_arg1)) i ⟨j.val * 2048 + s.val, by have := j.isLt; have := s.isLt; omega⟩ := by
  unfold part term
  refine Finset.sum_congr rfl fun s _ => ?_
  have ea := blk0 m c t (ix2 s (y 0)) (ix2 ⟨j.val * 2048 + s.val, by have := j.isLt; have := s.isLt; omega⟩ (i 0)) (by show j.val * 2048 + s.val = t.val % 4 * 2048 + s.val; rw [hj]) h0
  have eb := blk1 m c t (ix2 s (y 1)) (ix2 ⟨j.val * 2048 + s.val, by have := j.isLt; have := s.isLt; omega⟩ (i 1)) (by show j.val * 2048 + s.val = t.val % 4 * 2048 + s.val; rw [hj]) h1
  exact congrArg₂ (· * ·) (congrArg (fun x : EReal => x) ea) eb

/-- The result of the arguments as launched. -/
abbrev result (c : Dev nD) : S1024x4096.Idx → EReal :=
  spec (m ((c : Thread nD τ).loc main_arg0)) (m ((c : Thread nD τ).loc main_arg1))

/-- What a point that writes back writes is its block of the result: its run's parts are the tiles of the contraction. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  show (cfg0.win 2).cut (grid0.coords t) ((dats m 0 c).after 2 t) = _
  rw [after0_2]
  funext y
  show (outsAt0 m c t.val t.isLt).1 ((cfg0.win 2).xinj (grid0.coords t) y) = result m c (((cfg0.win 2).blk t).view.emb y)
  obtain ⟨e0, e1⟩ := index2 t
  have hN := lt_of_lt_of_eq t.isLt (show cfg0.N = 16 from N_0)
  have b0 : (((cfg0.win 2).blk t).view.emb y 0).val = (y 0).val := by
    show win0_2.index t 0 * 1024 + 1 * (y 0).val = _; rw [e0]; first | rfl | omega
  have b1 : (((cfg0.win 2).blk t).view.emb y 1).val = t.val / 4 * 1024 + (y 1).val := by
    show win0_2.index t 1 * 1024 + 1 * (y 1).val = _; rw [e1]; omega
  generalize ((cfg0.win 2).blk t).view.emb y = i at b0 b1 ⊢
  generalize hx : (cfg0.win 2).xinj (grid0.coords t) y = z
  have z0 : (z 0).val = (y 0).val := hx ▸ rfl
  have z1 : (z 1).val = (y 1).val := hx ▸ rfl
  rw [← z0] at b0
  rw [← z1] at b1
  rw [out_last m c t hm z]
  rw [show (outsAt0 m c (t.val - 1) _).2 z = (outsAt0 m c (t.val - 1 - 1) (by omega)).2 z + part (iblk m c 0 ⟨t.val - 1, by omega⟩) (iblk m c 1 ⟨t.val - 1, by omega⟩) z from scratch_next m c ⟨t.val - 1, by omega⟩ (by show 1 ≤ (t.val - 1) % 4 ∧ (t.val - 1) % 4 ≤ 2; omega) z]
  rw [show (outsAt0 m c (t.val - 1 - 1) _).2 z = (outsAt0 m c (t.val - 1 - 1 - 1) (by omega)).2 z + part (iblk m c 0 ⟨t.val - 1 - 1, by omega⟩) (iblk m c 1 ⟨t.val - 1 - 1, by omega⟩) z from scratch_next m c ⟨t.val - 1 - 1, by omega⟩ (by show 1 ≤ (t.val - 1 - 1) % 4 ∧ (t.val - 1 - 1) % 4 ≤ 2; omega) z]
  rw [show (outsAt0 m c (t.val - 1 - 1 - 1) _).2 z = part (iblk m c 0 ⟨t.val - 1 - 1 - 1, by omega⟩) (iblk m c 1 ⟨t.val - 1 - 1 - 1, by omega⟩) z from scratch_first m c ⟨t.val - 1 - 1 - 1, by omega⟩ (by show (t.val - 1 - 1 - 1) % 4 = 0; omega) z]
  rw [part_tile m c ⟨t.val - 1 - 1 - 1, by omega⟩ z i 0 (show (t.val - 1 - 1 - 1) % 4 = 0 by omega) (b0.trans (by show _ = (z 0).val; omega)) (b1.trans (by show _ = (t.val - 1 - 1 - 1) / 4 * 1024 + (z 1).val; omega))]
  rw [part_tile m c ⟨t.val - 1 - 1, by omega⟩ z i 1 (show (t.val - 1 - 1) % 4 = 1 by omega) (b0.trans (by show _ = (z 0).val; omega)) (b1.trans (by show _ = (t.val - 1 - 1) / 4 * 1024 + (z 1).val; omega))]
  rw [part_tile m c ⟨t.val - 1, by omega⟩ z i 2 (show (t.val - 1) % 4 = 2 by omega) (b0.trans (by show _ = (z 0).val; omega)) (b1.trans (by show _ = (t.val - 1) / 4 * 1024 + (z 1).val; omega))]
  rw [part_tile m c ⟨t.val, by omega⟩ z i 3 (show (t.val) % 4 = 3 by omega) (b0.trans (by show _ = (z 0).val; omega)) (b1.trans (by show _ = (t.val) / 4 * 1024 + (z 1).val; omega))]
  show _ = ∑ k : Fin 8192, term _ _ i k
  rw [Fin.sum_univ_tiles 4 2048 (show 4 * 2048 = 8192 from rfl), Fin.sum_univ_four]

/-- The result array after the run. -/
theorem final (c : Dev nD) : (dats m 0 c).arrAt 2 cfg0.N = result m c :=
  (dats m 0 c).arrAt_eq_of_cover 2 (result m c) (fun t hf => flushed_eq m c t hf) fun i => by
    have h0 : (i 0).val < 1024 := (i 0).isLt
    have h1 : (i 1).val < 4096 := (i 1).isLt
    let t : Fin cfg0.N := ⟨(i 1).val / 1024 * 4 + 3, lt_of_lt_of_eq (by omega : _ < 16) N_0.symm⟩
    obtain ⟨e0, e1⟩ := index2 t
    refine ⟨t, (flush0_2 t).mpr (by show ((i 1).val / 1024 * 4 + 3) % 4 = 3; omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [e0]; show 0 * 1024 ≤ _ ∧ _ < 0 * 1024 + 1024; omega
    | ⟨1, _⟩ => show win0_2.index t 1 * 1024 ≤ (i 1).val ∧ (i 1).val < win0_2.index t 1 * 1024 + 1024; rw [e1]; show ((i 1).val / 1024 * 4 + 3) / 4 * 1024 ≤ _ ∧ _ < ((i 1).val / 1024 * 4 + 3) / 4 * 1024 + 1024; omega

/-- The kernel's idealization computes the idealized reference. -/
theorem algebraic : algebraic_GradWUpIdeal_GradWUpRefIdeal := by
  intro m g m' g' _ hagree
  refine ⟨fun c => result m c, ?_, ?_⟩
  · exact (θ_run _ _ _).mono (fun r h c => by
      obtain ⟨h0, h⟩ := h c
      exact ⟨h0.trans ((Value.final2 m c).symm.trans (final m c)), h⟩) (Value.run m g)
  · refine (θ_run _ _ _).mono (fun r h c => ?_) (Cert.GradWUpRefIdeal.Value.run m' g')
    obtain ⟨h0, h⟩ := h c
    obtain ⟨a0, a1⟩ := hagree c
    refine ⟨h0.trans ?_, h⟩
    rw [a0, a1]
    funext i
    exact ref_apply _ _ i

end Cert.Proof.GradWUp
-- ==== Proof.LnBwdReal.lean ====
/-
  The derivative of the layer norm over the real numbers: the short form, of the normalised row and the reciprocal
  deviation, equals the sum that the chain rule gives through the mean and the variance.
-/
module

public import Idealize.ShloMosaic.PureOps.Ideal
public import Mathlib.Analysis.SpecialFunctions.Pow.Real

@[expose] public section

namespace Cert.Proof.LnBwd

open Finset Idealize.ShloMosaic

variable {n : ℕ} (k e : ℝ) (x a : Fin n → ℝ)

/-- The centred row; `k` is the reciprocal of the row's length. -/
noncomputable def cen (j : Fin n) : ℝ := x j - (∑ l, x l) * k
/-- The variance with `e` added. -/
noncomputable def var : ℝ := (∑ j, cen k x j * cen k x j) * k + e
/-- The reciprocal deviation. -/
noncomputable def rsd : ℝ := (√(var k e x))⁻¹

theorem cen_sum (hk : (n : ℝ) * k = 1) : ∑ j, cen k x j = 0 := by
  unfold cen
  rw [sum_sub_distrib, sum_const, card_univ, Fintype.card_fin, nsmul_eq_mul]
  linear_combination (-(∑ l, x l)) * hk

theorem var_pos (hk : 0 ≤ k) (he : 0 < e) : 0 < var k e x := by
  unfold var
  have : 0 ≤ ∑ j, cen k x j * cen k x j := sum_nonneg fun j _ => mul_self_nonneg _
  positivity

theorem rsd_sq (hk : 0 ≤ k) (he : 0 < e) : rsd k e x * rsd k e x = 1 / var k e x := by
  unfold rsd
  rw [← mul_inv, Real.mul_self_sqrt (var_pos k e x hk he).le, one_div]

/-- The two forms of the derivative. -/
theorem real_eq (hk : 0 ≤ k) (hn : (n : ℝ) * k = 1) (he : 0 < e) (i : Fin n) :
    rsd k e x * (a i - (∑ j, a j) * k - cen k x i * rsd k e x * ((∑ j, a j * (cen k x j * rsd k e x)) * k))
      = a i * rsd k e x + (∑ j, cen k x j * a j) * (-(1 / 2) * (rsd k e x * (1 / var k e x))) * k * (2 * cen k x i)
        + ((∑ j, -(a j * rsd k e x)) + ∑ j, -((∑ j, cen k x j * a j) * (-(1 / 2) * (rsd k e x * (1 / var k e x))) * k * (2 * cen k x j))) * k := by
  rw [← rsd_sq k e x hk he]
  have h1 : ∑ j, a j * (cen k x j * rsd k e x) = (∑ j, cen k x j * a j) * rsd k e x := by
    rw [sum_mul]; exact sum_congr rfl fun j _ => by ring
  have h2 : ∑ j, -(a j * rsd k e x) = -((∑ j, a j) * rsd k e x) := by rw [sum_neg_distrib, sum_mul]
  have h3 : ∀ q : ℝ, ∑ j, -(q * (2 * cen k x j)) = 0 := fun q => by
    rw [sum_neg_distrib, ← mul_sum, ← mul_sum, cen_sum k x hn]; ring
  rw [h1, h2, h3]
  ring

/-! ## The same over the extended reals, for rows of numbers -/

/-- A row less its mean. -/
noncomputable def center (z : Fin 1024 → EReal) (d : Fin 1024) : EReal := z d - Ideal.div (∑ k : Fin 1024, z k) (Ideal.ofBits .f32 1149239296#32)

/-- The variance of a row with the small constant added. -/
noncomputable def spread (z : Fin 1024 → EReal) : EReal :=
  Ideal.div (∑ k : Fin 1024, center z k * center z k) (Ideal.ofBits .f32 1149239296#32) + Ideal.ofBits .f32 925353388#32

/-- What the kernel computes of a row: `w` is the row of the incoming gradient times the weight. -/
noncomputable def short (z w : Fin 1024 → EReal) (i : Fin 1024) : EReal :=
  Ideal.rsqrt (spread z) * (w i - Ideal.div (∑ j : Fin 1024, w j) (Ideal.ofBits .f32 1149239296#32)
    - center z i * Ideal.rsqrt (spread z) * Ideal.div (∑ j : Fin 1024, w j * (center z j * Ideal.rsqrt (spread z))) (Ideal.ofBits .f32 1149239296#32))

/-- What flows back to the variance, divided by the row's length. -/
noncomputable def back (z w : Fin 1024 → EReal) : EReal :=
  Ideal.div ((∑ j : Fin 1024, center z j * w j) * (Ideal.ofBits .f32 3204448256#32 * Ideal.div (Ideal.rsqrt (spread z)) (spread z))) (Ideal.ofBits .f32 1149239296#32)

/-- What the chain rule gives for a row. -/
noncomputable def long (z w : Fin 1024 → EReal) (i : Fin 1024) : EReal :=
  w i * Ideal.rsqrt (spread z) + back z w * (Ideal.ofBits .f32 1073741824#32 * center z i)
    + Ideal.div ((∑ j : Fin 1024, -(w j * Ideal.rsqrt (spread z))) + ∑ j : Fin 1024, -(back z w * (Ideal.ofBits .f32 1073741824#32 * center z j))) (Ideal.ofBits .f32 1149239296#32)

theorem len_eq : Ideal.ofBits .f32 1149239296#32 = ((1024 : ℝ) : EReal) := by
  simp [Ideal.ofBits, Ideal.ieee, -EReal.coe_mul]; norm_num

theorem half_eq : Ideal.ofBits .f32 3204448256#32 = ((-(1 / 2) : ℝ) : EReal) := by
  simp [Ideal.ofBits, Ideal.ieee, -EReal.coe_mul, -EReal.coe_neg]; norm_num

theorem two_eq : Ideal.ofBits .f32 1073741824#32 = ((2 : ℝ) : EReal) := by
  simp [Ideal.ofBits, Ideal.ieee, -EReal.coe_mul]; norm_num

theorem eps_eq : ∃ e : ℝ, 0 < e ∧ Ideal.ofBits .f32 925353388#32 = (e : EReal) :=
  ⟨(10995116 : ℝ) * 2 ^ (-40 : ℤ), by positivity, by simp [Ideal.ofBits, Ideal.ieee, -EReal.coe_mul]⟩

theorem coe_sum (f : Fin 1024 → ℝ) : ∑ j, (f j : EReal) = ((∑ j, f j : ℝ) : EReal) := by
  induction (univ : Finset (Fin 1024)) using Finset.induction_on with
  | empty => simp
  | insert a s h ih => rw [sum_insert h, sum_insert h, ih, EReal.coe_add]

theorem div_len (r : ℝ) : Ideal.div (r : EReal) (Ideal.ofBits .f32 1149239296#32) = ((r * (1 / 1024) : ℝ) : EReal) := by
  rw [len_eq, Ideal.div_coe (by norm_num), ← EReal.coe_mul]

/-- On rows of numbers the two agree. -/
theorem short_eq_long (z w : Fin 1024 → EReal) (hz : ∀ j, ∃ r : ℝ, z j = r) (hw : ∀ j, ∃ r : ℝ, w j = r) (i : Fin 1024) : short z w i = long z w i := by
  obtain ⟨e, he, hE⟩ := eps_eq
  choose x hx using hz
  choose a ha using hw
  have hc : ∀ j, center z j = (cen (1 / 1024) x j : EReal) := fun j => by
    unfold center cen
    simp only [hx, coe_sum, div_len, ← EReal.coe_sub]
  have hv : spread z = (var (1 / 1024) e x : EReal) := by
    unfold spread var
    simp only [hc, hE, ← EReal.coe_mul, coe_sum, div_len, ← EReal.coe_add]
  have pos : 0 < var (1 / 1024) e x := var_pos _ _ _ (by norm_num) he
  have hr : Ideal.rsqrt (spread z) = (rsd (1 / 1024) e x : EReal) := by
    rw [hv, Ideal.rsqrt_coe, if_neg (not_lt.mpr pos.le), if_neg pos.ne']
    rfl
  have hd : Ideal.div (rsd (1 / 1024) e x : EReal) (var (1 / 1024) e x : EReal) = ((rsd (1 / 1024) e x * (1 / var (1 / 1024) e x) : ℝ) : EReal) := by
    rw [Ideal.div_coe pos.ne', ← EReal.coe_mul]
  unfold short long back
  rw [hr, hv, hd, half_eq, two_eq]
  simp only [hc, ha, ← EReal.coe_mul, ← EReal.coe_neg, coe_sum, div_len, ← EReal.coe_sub, ← EReal.coe_add]
  exact congrArg _ (real_eq (1 / 1024) e x a (by norm_num) (by norm_num) he i)

end Cert.Proof.LnBwd

end
-- ==== Proof.LnBwdRef.lean ====
/-
  The layer norm's derivative: what the idealized reference leaves in its four result arrays, as functions of its three
  arguments. The rows' formulas are those of LnBwdReal.lean.
-/
module

public import proofs.«01_k».proof.Proof.Gen.LnBwdRefIdeal.Run
public import proofs.«01_k».proof.Proof.Gen.LnBwdRefIdeal.Read
public import proofs.«01_k».proof.Proof.LnBwdReal
public import Idealize.ShloMosaic.Lib.Pointwise

@[expose] public section

set_option maxRecDepth 16384

noncomputable section

namespace Cert.Proof.LnBwd

open Idealize.ShloMosaic Idealize.ShloMosaic.TcCoe Idealize.SL.Sem
open Cert.LnBwdRefIdeal Cert.LnBwdRefIdeal.Read

variable (x0 x1 : S8192x1024.Idx → EReal) (x2 : S1x1024.Idx → EReal)

/-- Row `r` of the norm's argument. -/
abbrev zrow (r : Fin 8192) : Fin 1024 → EReal := fun k => x1 (ix2 r k)
/-- Row `r` of the incoming gradient times the weight. -/
abbrev wrow (r : Fin 8192) : Fin 1024 → EReal := fun k => x0 (ix2 r k) * x2 (ix2 0 k)
/-- The normalised entry. -/
abbrev hat (r : Fin 8192) (d : Fin 1024) : EReal := center (zrow x1 r) d * Ideal.rsqrt (spread (zrow x1 r))

/-- Sums over all rows, in the first of eight rows; the others are zero. -/
def colSum (f : Fin 8192 → Fin 1024 → EReal) : S8x1024.Idx → EReal := fun y => if (y 0).val = 0 then ∑ r : Fin 8192, f r (y 1) else 0

theorem ref_center (i : S8192x1024.Idx) : val_main_v15 (F := Ideal) x1 i = center (zrow x1 (i 0)) (i 1) := by
  unfold center zrow
  pointwise [val_main_v15, val_main_v14, val_main_v4, val_main_v3, val_main_cst_1, val_main_v2, val_main_v1, val_main_cst_0]

theorem ref_center' (i : S8192x1024.Idx) : val_main_v6 (F := Ideal) x1 i = center (zrow x1 (i 0)) (i 1) := ref_center x1 i

theorem ref_spread (i : S8192x1.Idx) : val_main_v17 (F := Ideal) x1 i = spread (zrow x1 (i 0)) := by
  obtain ⟨r, d, rfl⟩ : ∃ r d, i = ix2 r d := ⟨i 0, i 1, (ix2_eta i).symm⟩
  unfold spread
  have h : ∀ r k, val_main_v6 (F := Ideal) x1 (ix2 r k) = center (zrow x1 r) k := fun r k => ref_center' ..
  pointwise [val_main_v17, val_main_v16, val_main_cst_5, val_main_v13, val_main_v12, val_main_cst_4, val_main_v11, val_main_v10, val_main_cst_3, val_main_v7]
  simp only [h]

theorem ref_rsqrt (i : S8192x1.Idx) : val_main_v18 (F := Ideal) x1 i = Ideal.rsqrt (spread (zrow x1 (i 0))) := by
  rw [← ref_spread]
  pointwise [val_main_v18]

theorem ref_hat (i : S8192x1024.Idx) : val_main_v23 (F := Ideal) x1 i = hat x1 (i 0) (i 1) := by
  have h : val_main_v18 (F := Ideal) x1 (ix2 (i 0) 0) = Ideal.rsqrt (spread (zrow x1 (i 0))) := ref_rsqrt ..
  have h' := ref_center x1 i
  unfold hat
  rw [← h, ← h']
  pointwise [val_main_v23, val_main_v22]

theorem ref_back (i : S8192x1.Idx) : val_main_v46 (F := Ideal) x0 x1 x2 i = back (zrow x1 (i 0)) (wrow x0 x2 (i 0)) := by
  obtain ⟨r, d, rfl⟩ : ∃ r d, i = ix2 r d := ⟨i 0, i 1, (ix2_eta i).symm⟩
  unfold back wrow
  have h : ∀ r k, val_main_v15 (F := Ideal) x1 (ix2 r k) = center (zrow x1 r) k := fun r k => ref_center ..
  have h1 : val_main_v18 (F := Ideal) x1 (ix2 r d) = Ideal.rsqrt (spread (zrow x1 r)) := ref_rsqrt ..
  have h2 : val_main_v17 (F := Ideal) x1 (ix2 r d) = spread (zrow x1 r) := ref_spread ..
  pointwise [val_main_v46, val_main_v45, val_main_cst_11, val_main_v41, val_main_v38, val_main_v37, val_main_cst_9, val_main_v36, val_main_v35, val_main_v34, val_main_v28, val_main_v21, val_main_v20, val_main_cst_6, val_main_v19]
  simp only [h, h1, h2]

theorem ref_long (i : S8192x1024.Idx) : val_main_v59 (F := Ideal) x0 x1 x2 i = long (zrow x1 (i 0)) (wrow x0 x2 (i 0)) (i 1) := by
  obtain ⟨r, d, rfl⟩ : ∃ r d, i = ix2 r d := ⟨i 0, i 1, (ix2_eta i).symm⟩
  unfold long wrow
  have h : ∀ r k, val_main_v6 (F := Ideal) x1 (ix2 r k) = center (zrow x1 r) k := fun r k => ref_center' ..
  have h1 : ∀ r d, val_main_v18 (F := Ideal) x1 (ix2 r d) = Ideal.rsqrt (spread (zrow x1 r)) := fun r d => ref_rsqrt ..
  have h2 : ∀ r d, val_main_v46 (F := Ideal) x0 x1 x2 (ix2 r d) = back (zrow x1 r) (wrow x0 x2 r) := fun r d => ref_back ..
  pointwise [val_main_v59, val_main_v58, val_main_v57, val_main_cst_15, val_main_v56, val_main_v55, val_main_cst_14, val_main_v54, val_main_v53, val_main_v52, val_main_v51, val_main_cst_13, val_main_v50, val_main_v49, val_main_v48, val_main_v47, val_main_cst_12, val_main_v44, val_main_v43, val_main_cst_10, val_main_v42, val_main_v40, val_main_v39, val_main_v35, val_main_v34, val_main_v28, val_main_v9, val_main_v8, val_main_cst_2]
  simp only [h, h1, h2, Fin.sum_univ_one]

theorem ref_dg (y : S8x1024.Idx) : val_main_v62 (F := Ideal) x0 x1 y = colSum (fun r d => x0 (ix2 r d) * hat x1 r d) y := by
  unfold colSum
  have h : ∀ r k, val_main_v23 (F := Ideal) x1 (ix2 r k) = hat x1 r k := fun r k => ref_hat ..
  pointwise [val_main_v62, val_main_v60, val_main_cst_16, val_main_v33, val_main_v32, val_main_cst_8, val_main_v31, val_main_v28]
  by_cases e : (y 0).val = 0
  · rw [dif_pos (by omega), if_pos e]
    exact Finset.sum_congr rfl fun r _ => (congrArg (· * x0 (ix2 r (y 1))) (h r (y 1))).trans (mul_comm _ _)
  · rw [dif_neg (by omega), if_neg e]

theorem ref_db (y : S8x1024.Idx) : val_main_v63 (F := Ideal) x0 y = colSum (fun r d => x0 (ix2 r d)) y := by
  unfold colSum
  pointwise [val_main_v63, val_main_v60, val_main_cst_16, val_main_v30, val_main_v29, val_main_cst_7, val_main_v28]
  by_cases e : (y 0).val = 0
  · rw [dif_pos (by omega), if_pos e]
  · rw [dif_neg (by omega), if_neg e]

end Cert.Proof.LnBwd
-- ==== Proof.Pieces.lean ====
/-
  What a buffer holds after several rectangles were stored into it, some over others: at an index of the last stored
  rectangle it holds that store's value, at any other index it holds what the earlier stores left. For rectangles of a
  two-dimensional buffer with unit strides.
-/
module

public import Idealize.ShloMosaic.Lib.Pipeline.ValueKit
public import Idealize.ShloMosaic.Lib.WritesUnit

@[expose] public section

namespace Cert.Proof.Pieces

open Idealize.ShloMosaic

variable {Val : EltTy → Type} {e : EltTy} {n0 n1 o0 o1 s0 s1 : ℕ}

/-- A rank-2 shape. -/
abbrev Sh (n0 n1 : ℕ) : Shape := ⟨2, ![n0, n1]⟩

theorem canon_hit [∀ e, Nonempty (Val e)] (inb : ∀ a : Fin 2, (![o0, o1] : Fin 2 → ℕ) a + (![s0, s1] : Fin 2 → ℕ) a ≤ (Sh n0 n1).size a)
    (w : (Rect.unit (s := Sh n0 n1) ![o0, o1] ![s0, s1] inb).shape.Idx → Val e) (L : List (View.Piece Val (Sh n0 n1) e)) (y : (Sh n0 n1).Idx)
    (x : (Sh s0 s1).Idx) (h0 : (y 0).val = o0 + (x 0).val) (h1 : (y 1).val = o1 + (x 1).val) :
    View.canon (⟨Rect.unit (s := Sh n0 n1) ![o0, o1] ![s0, s1] inb, w⟩ :: L) y = w x := by
  have hy : (Rect.unit (s := Sh n0 n1) ![o0, o1] ![s0, s1] inb).emb x = y := by
    refine funext (Fin.forall_fin_two.mpr ⟨Fin.ext ?_, Fin.ext ?_⟩)
    · show o0 + 1 * (x 0).val = _; omega
    · show o1 + 1 * (x 1).val = _; omega
  rw [← hy]
  exact View.canon_cons_emb _ w L x

theorem not_mem (inb : ∀ a : Fin 2, (![o0, o1] : Fin 2 → ℕ) a + (![s0, s1] : Fin 2 → ℕ) a ≤ (Sh n0 n1).size a) (y : (Sh n0 n1).Idx)
    (h : ((y 0).val < o0 ∨ o0 + s0 ≤ (y 0).val) ∨ ((y 1).val < o1 ∨ o1 + s1 ≤ (y 1).val)) :
    y ∉ (Rect.unit (s := Sh n0 n1) ![o0, o1] ![s0, s1] inb).set := by
  intro hm
  obtain ⟨x, rfl⟩ := (Rect.unit (s := Sh n0 n1) ![o0, o1] ![s0, s1] inb).exists_idx_of_mem hm
  have e0 : ((Rect.unit (s := Sh n0 n1) ![o0, o1] ![s0, s1] inb).emb x 0).val = o0 + 1 * (x (0 : Fin 2)).val := rfl
  have e1 : ((Rect.unit (s := Sh n0 n1) ![o0, o1] ![s0, s1] inb).emb x 1).val = o1 + 1 * (x (1 : Fin 2)).val := rfl
  have l0 : (x (0 : Fin 2)).val < s0 := (x (0 : Fin 2)).isLt
  have l1 : (x (1 : Fin 2)).val < s1 := (x (1 : Fin 2)).isLt
  rcases h with h | h
  · have h' : (((Rect.unit (s := Sh n0 n1) ![o0, o1] ![s0, s1] inb).emb x 0).val < o0 ∨ o0 + s0 ≤ ((Rect.unit (s := Sh n0 n1) ![o0, o1] ![s0, s1] inb).emb x 0).val) := h
    omega
  · have h' : (((Rect.unit (s := Sh n0 n1) ![o0, o1] ![s0, s1] inb).emb x 1).val < o1 ∨ o1 + s1 ≤ ((Rect.unit (s := Sh n0 n1) ![o0, o1] ![s0, s1] inb).emb x 1).val) := h
    omega

theorem canon_miss [∀ e, Nonempty (Val e)] (inb : ∀ a : Fin 2, (![o0, o1] : Fin 2 → ℕ) a + (![s0, s1] : Fin 2 → ℕ) a ≤ (Sh n0 n1).size a)
    (w : (Rect.unit (s := Sh n0 n1) ![o0, o1] ![s0, s1] inb).shape.Idx → Val e) (L : List (View.Piece Val (Sh n0 n1) e)) (y : (Sh n0 n1).Idx)
    (h : ((y 0).val < o0 ∨ o0 + s0 ≤ (y 0).val) ∨ ((y 1).val < o1 ∨ o1 + s1 ≤ (y 1).val)) :
    View.canon (⟨Rect.unit (s := Sh n0 n1) ![o0, o1] ![s0, s1] inb, w⟩ :: L) y = View.canon L y :=
  View.canon_cons_of_not_mem _ _ (not_mem inb y h)

variable {sig : RefSig} {κ : Kind} {sp : Space} (v : View sig κ sp (Sh n0 n1) e) (f : v.ty.Contents Val)

theorem writes_hit (inb : ∀ a : Fin 2, (![o0, o1] : Fin 2 → ℕ) a + (![s0, s1] : Fin 2 → ℕ) a ≤ (Sh n0 n1).size a)
    (w : (Rect.unit (s := Sh n0 n1) ![o0, o1] ![s0, s1] inb).shape.Idx → Val e) (L : List (View.Piece Val (Sh n0 n1) e)) (y : (Sh n0 n1).Idx)
    (x : (Sh s0 s1).Idx) (h0 : (y 0).val = o0 + (x 0).val) (h1 : (y 1).val = o1 + (x 1).val) :
    v.read Val (v.writes Val f (⟨Rect.unit (s := Sh n0 n1) ![o0, o1] ![s0, s1] inb, w⟩ :: L)) y = w x :=
  View.read_writes_cons_unit_of_mem v f inb w L y x rfl (Fin.forall_fin_two.mpr ⟨h0, h1⟩)

theorem writes_miss (inb : ∀ a : Fin 2, (![o0, o1] : Fin 2 → ℕ) a + (![s0, s1] : Fin 2 → ℕ) a ≤ (Sh n0 n1).size a)
    (w : (Rect.unit (s := Sh n0 n1) ![o0, o1] ![s0, s1] inb).shape.Idx → Val e) (L : List (View.Piece Val (Sh n0 n1) e)) (y : (Sh n0 n1).Idx)
    (h : ((y 0).val < o0 ∨ o0 + s0 ≤ (y 0).val) ∨ ((y 1).val < o1 ∨ o1 + s1 ≤ (y 1).val)) :
    v.read Val (v.writes Val f (⟨Rect.unit (s := Sh n0 n1) ![o0, o1] ![s0, s1] inb, w⟩ :: L)) y = v.read Val (v.writes Val f L) y := by
  rcases h with h | h
  · exact View.read_writes_cons_unit_of_not_mem v f inb w L y rfl 0 h
  · exact View.read_writes_cons_unit_of_not_mem v f inb w L y rfl 1 h

end Cert.Proof.Pieces
-- ==== Proof.LnBwd.lean ====
/-
  The layer norm's derivative: what the idealized kernel leaves in its four result arrays is what the idealized reference
  leaves in its own, when every entry of the arguments is a number. The two derivatives of the weights are summed over the
  eight row tiles inside one block that stays in place.
-/
module

public import Idealize.ShloMosaic.Lib.Pipeline.ReadBack
public import proofs.«01_k».proof.Defs
public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.Gen.Pre_finite
public import proofs.«01_k».proof.Proof.LnBwdRef
public import proofs.«01_k».proof.Proof.Pieces
public import Idealize.ShloMosaic.Lib.Pointwise
public import Idealize.ShloMosaic.Lib.Pipeline.ValueKit

@[expose] public section

set_option maxRecDepth 16384

noncomputable section

namespace Cert.Proof.LnBwd

open Idealize.ShloMosaic Idealize.ShloMosaic.TcCoe Idealize.SL.Sem
open Cert.LnBwdIdeal Cert.LnBwdIdeal.Gen

/-! ## Finite arguments -/

/-- An extended real whose absolute value is below infinity is a number. -/
theorem real_of_olt (x : Ideal .f32) (h : FloatOps.cmpf .olt (FloatOps.hostAbsf x) (FloatOps.ofBits (F := Ideal) .f32 0x7F800000#32) = 1#1) : ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  have h1 : (x : EReal) ≠ ⊤ := hlt.1.ne
  have h2 : (x : EReal) ≠ ⊥ := fun hb => by rw [hb] at hlt; simp at hlt
  exact ⟨(x : EReal).toReal, (EReal.coe_toReal h1 h2).symm⟩

/-! ## Sums over eight tiles of rows -/

section
variable (f : Fin 8192 → Fin 1024 → EReal)

/-- What tile `n` of 1024 rows adds to a block of sums. -/
def term (n : ℕ) (y : S8x1024.Idx) : EReal :=
  if (y 0).val = 0 then ∑ k : Fin 1024, if h : n * 1024 + k.val < 8192 then f ⟨n * 1024 + k.val, h⟩ (y 1) else 0 else 0

/-- A row inside the array is one that the tile adds. -/
theorem entry (n k : ℕ) (d : Fin 1024) (h : n * 1024 + k < 8192) :
    f ⟨n * 1024 + k, h⟩ d = if h : n * 1024 + k < 8192 then f ⟨n * 1024 + k, h⟩ d else 0 := by rw [dif_pos h]

theorem sum_term (y : S8x1024.Idx) : ∑ n ∈ Finset.range 8, term f n y = colSum f y := by
  unfold term colSum
  by_cases h : (y 0).val = 0
  · simp only [if_pos h]
    rw [Finset.sum_range, Fin.sum_univ_tiles 8 1024 (show 8 * 1024 = 8192 from rfl)]
    refine Finset.sum_congr rfl fun n _ => Finset.sum_congr rfl fun k _ => ?_
    rw [dif_pos (by omega)]
  · simp only [if_neg h, Finset.sum_const_zero]
end

/-! ## The blocks that a grid point loads -/

variable (m : (ℓ : Loc nD τ sig) → Buf (Elt Ideal) ℓ)

/-- The incoming gradient, the norm's argument and its weight, as launched. -/
abbrev aY (c : Dev nD) : S8192x1024.Idx → EReal := m ((c : Thread nD τ).loc main_arg0)
abbrev aZ (c : Dev nD) : S8192x1024.Idx → EReal := m ((c : Thread nD τ).loc main_arg1)
abbrev aG (c : Dev nD) : S1x1024.Idx → EReal := m ((c : Thread nD τ).loc main_arg2)

/-- The host's lines leave the normalised rows. -/
theorem V_hat (c : Dev nD) : V m c main_v17 = Cert.LnBwdRefIdeal.Read.val_main_v23 (F := Ideal) (aZ m c) := by
  unfold V
  after_results_simp
  rfl

/-- The host's lines leave the reciprocal deviations. -/
theorem V_rsqrt (c : Dev nD) : V m c main_v13 = Cert.LnBwdRefIdeal.Read.val_main_v18 (F := Ideal) (aZ m c) := by
  unfold V
  after_results_simp
  rfl

/-- The block indices at each of the eight points. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

theorem blk0 (c : Dev nD) (t : Fin cfg0.N) (k : Fin 1024) (d : Fin 1024) (r : Fin 8192) (hr : r.val = t.val * 1024 + k.val) : iblk m c 0 t (ix2 k d) = aY m c (ix2 r d) := by
  unfold iblk aY
  rw [← V_main_arg0 m c]
  generalize V m c = W
  blk_ext [idx t]

theorem blk1 (c : Dev nD) (t : Fin cfg0.N) (k : Fin 1024) (d : Fin 1024) (r : Fin 8192) (hr : r.val = t.val * 1024 + k.val) : iblk m c 1 t (ix2 k d) = hat (aZ m c) r d := by
  have h : hat (aZ m c) r d = V m c main_v17 (ix2 r d) := by rw [V_hat]; exact (ref_hat _ (ix2 r d)).symm
  rw [h]
  unfold iblk
  generalize V m c = W
  blk_ext [idx t]

theorem blk2 (c : Dev nD) (t : Fin cfg0.N) (k : Fin 1024) (r : Fin 8192) (hr : r.val = t.val * 1024 + k.val) : iblk m c 2 t (ix2 k 0) = Ideal.rsqrt (spread (zrow (aZ m c) r)) := by
  have h : Ideal.rsqrt (spread (zrow (aZ m c) r)) = V m c main_v13 (ix2 r 0) := by rw [V_rsqrt]; exact (ref_rsqrt _ (ix2 r 0)).symm
  rw [h]
  unfold iblk
  generalize V m c = W
  blk_ext [idx t]

theorem blk3 (c : Dev nD) (t : Fin cfg0.N) (d : Fin 1024) : iblk m c 3 t (ix2 0 d) = aG m c (ix2 0 d) := by
  unfold iblk aG
  rw [← V_main_arg2 m c]
  generalize V m c = W
  blk_ext [idx t]

/-! ## What a grid point leaves -/

theorem out4A (c : Dev nD) (t : Fin cfg0.N) (ht : t.val % 8 = 0) (k d : Fin 1024) (r : Fin 8192) (hr : r.val = t.val * 1024 + k.val) :
    (outsAt0 m c t.val t.isLt).1 (ix2 k d) = short (zrow (aZ m c) r) (wrow (aY m c) (aG m c) r) d := by
  rw [outsAt0_A m c t ht]
  dsimp only
  frame_out
  open_payloads
  pointwise
  simp only [fun d => blk0 m c t k d r hr, fun d => blk1 m c t k d r hr, blk2 m c t k r hr, blk3 m c t]
  rfl

theorem out4B (c : Dev nD) (t : Fin cfg0.N) (ht : ¬ t.val % 8 = 0) (k d : Fin 1024) (r : Fin 8192) (hr : r.val = t.val * 1024 + k.val) :
    (outsAt0 m c t.val t.isLt).1 (ix2 k d) = short (zrow (aZ m c) r) (wrow (aY m c) (aG m c) r) d := by
  rw [outsAt0_B m c t ht]
  dsimp only
  frame_out
  open_payloads
  pointwise
  simp only [fun d => blk0 m c t k d r hr, fun d => blk1 m c t k d r hr, blk2 m c t k r hr, blk3 m c t]
  rfl

theorem out5A (c : Dev nD) (t : Fin cfg0.N) (ht : t.val % 8 = 0) (k d : Fin 1024) (r : Fin 8192) (hr : r.val = t.val * 1024 + k.val) :
    (outsAt0 m c t.val t.isLt).2.1 (ix2 k d) = short (zrow (aZ m c) r) (wrow (aY m c) (aG m c) r) d := by
  rw [outsAt0_A m c t ht]
  dsimp only
  frame_out
  open_payloads
  pointwise
  simp only [fun d => blk0 m c t k d r hr, fun d => blk1 m c t k d r hr, blk2 m c t k r hr, blk3 m c t]
  rfl

theorem out5B (c : Dev nD) (t : Fin cfg0.N) (ht : ¬ t.val % 8 = 0) (k d : Fin 1024) (r : Fin 8192) (hr : r.val = t.val * 1024 + k.val) :
    (outsAt0 m c t.val t.isLt).2.1 (ix2 k d) = short (zrow (aZ m c) r) (wrow (aY m c) (aG m c) r) d := by
  rw [outsAt0_B m c t ht]
  dsimp only
  frame_out
  open_payloads
  pointwise
  simp only [fun d => blk0 m c t k d r hr, fun d => blk1 m c t k d r hr, blk2 m c t k r hr, blk3 m c t]
  rfl

/-- The derivative's rows, in the kernel's form. -/
def specZ (x0 x1 : S8192x1024.Idx → EReal) (x2 : S1x1024.Idx → EReal) : S8192x1024.Idx → EReal := fun i => short (zrow x1 (i 0)) (wrow x0 x2 (i 0)) (i 1)

theorem final4 (c : Dev nD) : (dats m 0 c).arrAt 4 cfg0.N = specZ (aY m c) (aZ m c) (aG m c) := by
  refine (dats m 0 c).arrAt_eq_of_covers 4 _ (by decide +kernel) fun t hf y => ?_
  have e0 : (((cfg0.win 4).blk t).view.emb y 0).val = t.val * 1024 + (y 0).val := by blk_simp [idx t]
  have e1 : (((cfg0.win 4).blk t).view.emb y 1).val = (y 1).val := by blk_simp [idx t]
  generalize ((cfg0.win 4).blk t).view.emb y = i at e0 e1
  obtain ⟨k, d, rfl⟩ : ∃ k d, y = ix2 k d := ⟨y 0, y 1, (ix2_eta y).symm⟩
  blk_simp
  rw [after0_4]
  unfold specZ
  rw [show i 1 = d from Fin.ext e1]
  by_cases ht : t.val % 8 = 0
  · exact out4A m c t ht k d (i 0) e0
  · exact out4B m c t ht k d (i 0) e0

theorem final5 (c : Dev nD) : (dats m 0 c).arrAt 5 cfg0.N = specZ (aY m c) (aZ m c) (aG m c) := by
  refine (dats m 0 c).arrAt_eq_of_covers 5 _ (by decide +kernel) fun t hf y => ?_
  have e0 : (((cfg0.win 5).blk t).view.emb y 0).val = t.val * 1024 + (y 0).val := by blk_simp [idx t]
  have e1 : (((cfg0.win 5).blk t).view.emb y 1).val = (y 1).val := by blk_simp [idx t]
  generalize ((cfg0.win 5).blk t).view.emb y = i at e0 e1
  obtain ⟨k, d, rfl⟩ : ∃ k d, y = ix2 k d := ⟨y 0, y 1, (ix2_eta y).symm⟩
  blk_simp
  rw [after0_5]
  unfold specZ
  rw [show i 1 = d from Fin.ext e1]
  by_cases ht : t.val % 8 = 0
  · exact out5A m c t ht k d (i 0) e0
  · exact out5B m c t ht k d (i 0) e0

set_option maxHeartbeats 2000000 in
theorem out6A (c : Dev nD) (t : Fin cfg0.N) (ht : t.val % 8 = 0) (y : S8x1024.Idx) :
    (outsAt0 m c t.val t.isLt).2.2.1 y = term (fun r d => aY m c (ix2 r d) * hat (aZ m c) r d) t.val y := by
  have hN : t.val < 8 := t.isLt
  have hy : (y 1).val < 1024 := (y 1).isLt
  rw [outsAt0_A m c t ht]
  dsimp only
  frame_open
  simp (disch := decide) only [↓ View.readCov_skip, ↓ View.readCov_cons_toLoadRect, ↓ View.readCov_fill]
  frame_out
  unfold term
  by_cases h0 : (y 0).val = 0
  · rw [if_pos h0]
    refine (Pieces.canon_hit _ _ _ y (ix2 0 (y 1)) (by simp [h0]) (by simp)).trans ?_
    open_payloads
    pointwise
    refine Finset.sum_congr rfl fun k _ => ?_
    exact Eq.trans (congrArg₂ (· * ·) (blk0 m c t k (y 1) ⟨t.val * 1024 + k.val, by omega⟩ rfl) (blk1 m c t k (y 1) ⟨t.val * 1024 + k.val, by omega⟩ rfl)) (entry (fun r d => aY m c (ix2 r d) * hat (aZ m c) r d) t.val k.val (y 1) (by omega))
  · rw [if_neg h0]
    rw [Pieces.canon_miss _ _ _ y (by omega)]
    refine (Pieces.canon_hit _ _ _ y y (by simp) (by simp)).trans ?_
    open_payloads
    pointwise

set_option maxHeartbeats 2000000 in
theorem out6B (c : Dev nD) (t : Fin cfg0.N) (ht : ¬ t.val % 8 = 0) (y : S8x1024.Idx) :
    (outsAt0 m c t.val t.isLt).2.2.1 y = (outsAt0 m c (t.val - 1) (by omega)).2.2.1 y + term (fun r d => aY m c (ix2 r d) * hat (aZ m c) r d) t.val y := by
  have hN : t.val < 8 := t.isLt
  have hy : (y 1).val < 1024 := (y 1).isLt
  rw [outsAt0_B m c t ht]
  dsimp only
  frame_open
  simp (disch := decide) only [↓ View.readCov_skip, ↓ View.readCov_cons_toLoadRect, ↓ View.readCov_fill]
  frame_out
  unfold term
  by_cases h0 : (y 0).val = 0
  · rw [if_pos h0]
    refine (Pieces.writes_hit _ _ _ _ _ y (ix2 0 (y 1)) (by simp [h0]) (by simp)).trans ?_
    open_payloads
    pointwise
    refine congrArg₂ (· + ·) ?_ (Finset.sum_congr rfl fun k _ => ?_)
    · exact congrArg _ (funext (Fin.forall_fin_two.mpr ⟨Fin.ext h0.symm, rfl⟩))
    exact Eq.trans (congrArg₂ (· * ·) (blk0 m c t k (y 1) ⟨t.val * 1024 + k.val, by omega⟩ rfl) (blk1 m c t k (y 1) ⟨t.val * 1024 + k.val, by omega⟩ rfl)) (entry (fun r d => aY m c (ix2 r d) * hat (aZ m c) r d) t.val k.val (y 1) (by omega))
  · rw [if_neg h0]
    rw [Pieces.writes_miss _ _ _ _ _ y (by omega)]
    rw [View.writes_nil, (hs0_6 t).read_unread, add_zero]

theorem final6 (c : Dev nD) : (dats m 0 c).arrAt 6 cfg0.N = colSum (fun r d => aY m c (ix2 r d) * hat (aZ m c) r d) := by
  refine (dats m 0 c).arrAt_eq_of_covers 6 _ (by decide +kernel) fun t hf y => ?_
  have e0 : (((cfg0.win 6).blk t).view.emb y 0).val = (y 0).val := by blk_simp [idx t]
  have e1 : (((cfg0.win 6).blk t).view.emb y 1).val = (y 1).val := by blk_simp [idx t]
  generalize ((cfg0.win 6).blk t).view.emb y = i at e0 e1
  blk_simp
  rw [after0_6]
  have hi : y = i := funext (Fin.forall_fin_two.mpr ⟨Fin.ext e0.symm, Fin.ext e1.symm⟩)
  rw [← hi]
  have ht : t.val % 8 = 7 := (flush0_6 t).mp hf
  have h := Pipeline.eq_sum_of_reset_step_apply (fun n h => (outsAt0 m c n h).2.2.1) 8 (fun _ => (0 : EReal)) (term (fun r d => aY m c (ix2 r d) * hat (aZ m c) r d))
    (fun t ht y => (out6A m c t ht y).trans (zero_add _).symm) (fun t ht y => out6B m c t ht y) t y
  refine h.trans ?_
  rw [zero_add, ht, show t.val / 8 = 0 by have : t.val < 8 := t.isLt; omega]
  refine Eq.trans ?_ (sum_term _ y)
  exact Finset.sum_congr rfl fun k _ => by rw [Nat.mul_zero, Nat.zero_add]

set_option maxHeartbeats 2000000 in
theorem out7A (c : Dev nD) (t : Fin cfg0.N) (ht : t.val % 8 = 0) (y : S8x1024.Idx) :
    (outsAt0 m c t.val t.isLt).2.2.2 y = term (fun r d => aY m c (ix2 r d)) t.val y := by
  have hN : t.val < 8 := t.isLt
  have hy : (y 1).val < 1024 := (y 1).isLt
  rw [outsAt0_A m c t ht]
  dsimp only
  frame_open
  simp (disch := decide) only [↓ View.readCov_skip, ↓ View.readCov_cons_toLoadRect, ↓ View.readCov_fill]
  frame_out
  unfold term
  by_cases h0 : (y 0).val = 0
  · rw [if_pos h0]
    refine (Pieces.canon_hit _ _ _ y (ix2 0 (y 1)) (by simp [h0]) (by simp)).trans ?_
    open_payloads
    pointwise
    refine Finset.sum_congr rfl fun k _ => ?_
    exact Eq.trans (blk0 m c t k (y 1) ⟨t.val * 1024 + k.val, by omega⟩ rfl) (entry (fun r d => aY m c (ix2 r d)) t.val k.val (y 1) (by omega))
  · rw [if_neg h0]
    rw [Pieces.canon_miss _ _ _ y (by omega)]
    refine (Pieces.canon_hit _ _ _ y y (by simp) (by simp)).trans ?_
    open_payloads
    pointwise

set_option maxHeartbeats 2000000 in
theorem out7B (c : Dev nD) (t : Fin cfg0.N) (ht : ¬ t.val % 8 = 0) (y : S8x1024.Idx) :
    (outsAt0 m c t.val t.isLt).2.2.2 y = (outsAt0 m c (t.val - 1) (by omega)).2.2.2 y + term (fun r d => aY m c (ix2 r d)) t.val y := by
  have hN : t.val < 8 := t.isLt
  have hy : (y 1).val < 1024 := (y 1).isLt
  rw [outsAt0_B m c t ht]
  dsimp only
  frame_open
  simp (disch := decide) only [↓ View.readCov_skip, ↓ View.readCov_cons_toLoadRect, ↓ View.readCov_fill]
  frame_out
  unfold term
  by_cases h0 : (y 0).val = 0
  · rw [if_pos h0]
    refine (Pieces.writes_hit _ _ _ _ _ y (ix2 0 (y 1)) (by simp [h0]) (by simp)).trans ?_
    open_payloads
    pointwise
    refine congrArg₂ (· + ·) ?_ (Finset.sum_congr rfl fun k _ => ?_)
    · exact congrArg _ (funext (Fin.forall_fin_two.mpr ⟨Fin.ext h0.symm, rfl⟩))
    exact Eq.trans (blk0 m c t k (y 1) ⟨t.val * 1024 + k.val, by omega⟩ rfl) (entry (fun r d => aY m c (ix2 r d)) t.val k.val (y 1) (by omega))
  · rw [if_neg h0]
    rw [Pieces.writes_miss _ _ _ _ _ y (by omega)]
    rw [View.writes_nil, (hs0_7 t).read_unread, add_zero]

theorem final7 (c : Dev nD) : (dats m 0 c).arrAt 7 cfg0.N = colSum (fun r d => aY m c (ix2 r d)) := by
  refine (dats m 0 c).arrAt_eq_of_covers 7 _ (by decide +kernel) fun t hf y => ?_
  have e0 : (((cfg0.win 7).blk t).view.emb y 0).val = (y 0).val := by blk_simp [idx t]
  have e1 : (((cfg0.win 7).blk t).view.emb y 1).val = (y 1).val := by blk_simp [idx t]
  generalize ((cfg0.win 7).blk t).view.emb y = i at e0 e1
  blk_simp
  rw [after0_7]
  have hi : y = i := funext (Fin.forall_fin_two.mpr ⟨Fin.ext e0.symm, Fin.ext e1.symm⟩)
  rw [← hi]
  have ht : t.val % 8 = 7 := (flush0_7 t).mp hf
  have h := Pipeline.eq_sum_of_reset_step_apply (fun n h => (outsAt0 m c n h).2.2.2) 8 (fun _ => (0 : EReal)) (term (fun r d => aY m c (ix2 r d)))
    (fun t ht y => (out7A m c t ht y).trans (zero_add _).symm) (fun t ht y => out7B m c t ht y) t y
  refine h.trans ?_
  rw [zero_add, ht, show t.val / 8 = 0 by have : t.val < 8 := t.isLt; omega]
  refine Eq.trans ?_ (sum_term _ y)
  exact Finset.sum_congr rfl fun k _ => by rw [Nat.mul_zero, Nat.zero_add]

/-- The kernel's idealization computes the idealized reference. -/
theorem algebraic : algebraic_LnBwdIdeal_LnBwdRefIdeal_pre_finite := by
  intro m g m' g' hpre hagree
  refine ⟨fun c => specZ (aY m c) (aZ m c) (aG m c), fun c => specZ (aY m c) (aZ m c) (aG m c),
    fun c => colSum (fun r d => aY m c (ix2 r d) * hat (aZ m c) r d), fun c => colSum (fun r d => aY m c (ix2 r d)), ?_, ?_⟩
  · exact (θ_run _ _ _).mono (fun r h c => by
      obtain ⟨h0, h1, h2, h3, h⟩ := h c
      exact ⟨h0.trans (final4 m c), h1.trans (final5 m c), h2.trans (final6 m c), h3.trans (final7 m c), h⟩) (Value.run_blocks m g)
  · refine (θ_run _ _ _).mono (fun r h c => ?_) (Cert.LnBwdRefIdeal.Value.run m' g')
    obtain ⟨h0, h1, h2, h3, h⟩ := h c
    obtain ⟨a0, a1, a2⟩ := hagree c
    obtain ⟨p0, p1, p2⟩ := hpre c
    have f0 : ∀ i, ∃ r : ℝ, aY m c i = r := fun i => real_of_olt _ (congrFun p0 i)
    have f1 : ∀ i, ∃ r : ℝ, aZ m c i = r := fun i => real_of_olt _ (congrFun p1 i)
    have f2 : ∀ i, ∃ r : ℝ, aG m c i = r := fun i => real_of_olt _ (congrFun p2 i)
    have fw : ∀ r k, ∃ q : ℝ, wrow (aY m c) (aG m c) r k = q := fun r k => by
      obtain ⟨p, hp⟩ := f0 (ix2 r k)
      obtain ⟨q, hq⟩ := f2 (ix2 0 k)
      exact ⟨p * q, by unfold wrow; rw [hp, hq, EReal.coe_mul]⟩
    have hz : Cert.LnBwdRefIdeal.Read.val_main_v59 (F := Ideal) (aY m c) (aZ m c) (aG m c) = specZ (aY m c) (aZ m c) (aG m c) := funext fun i =>
      (ref_long _ _ _ i).trans (short_eq_long _ _ (fun k => f1 (ix2 (i 0) k)) (fw (i 0)) (i 1)).symm
    refine ⟨h0.trans ?_, h1.trans ?_, h2.trans ?_, h3.trans ?_, h⟩
    · rw [Cert.LnBwdRefIdeal.Read.val_main_v59_eq, a0, a1, a2]; exact hz
    · rw [Cert.LnBwdRefIdeal.Read.val_main_v61_eq, a0, a1, a2]; exact hz
    · refine (Cert.LnBwdRefIdeal.Read.val_main_v62_eq (F := Ideal) (m' (c.tc.loc LnBwdRefIdeal.main_arg0)) (m' (c.tc.loc LnBwdRefIdeal.main_arg1))).trans ?_
      rw [a0, a1]; funext i; exact ref_dg _ _ i
    · refine (Cert.LnBwdRefIdeal.Read.val_main_v63_eq (F := Ideal) (m' (c.tc.loc LnBwdRefIdeal.main_arg0))).trans ?_
      rw [a0]; funext i; exact ref_db _ i

end Cert.Proof.LnBwd
-- ==== Proof.MemGrads.lean ====
/-
  The gradients of the memory's projections: each a product of the memory, transposed, with the gradient of the keys or the values. The idealized kernel computes what the idealized reference does.
-/
module

public import proofs.«01_k».proof.Defs
public import proofs.«01_k».proof.Proof.Gen.MemGradsIdeal.Value
public import proofs.«01_k».proof.Proof.Gen.MemGradsRefIdeal.Run
public import proofs.«01_k».proof.Proof.Gen.MemGradsRefIdeal.Read
public import Idealize.ShloMosaic.Lib.Pointwise
public import Idealize.ShloMosaic.Lib.Pipeline.ValueKit

@[expose] public section

set_option maxRecDepth 16384

noncomputable section

namespace Cert.Proof.MemGrads

open Idealize.ShloMosaic Idealize.ShloMosaic.TcCoe Idealize.SL.Sem
open Cert.MemGradsIdeal Cert.MemGradsIdeal.Gen

/-- The product of the two arrays. -/
def prod (a : S512x1024.Idx → EReal) (b : S512x512.Idx → EReal) : S1024x512.Idx → EReal := fun i => ∑ k : Fin 512, a (ix2 k (i 0)) * b (ix2 k (i 1))

variable (m : (ℓ : Loc nD τ sig) → Buf (Elt Ideal) ℓ)

/-- The block indices at the one grid point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem final3 (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  have e0 : (((cfg0.win 3).blk t).view.emb y 0).val = (y 0).val := by blk_simp [idx t]
  have e1 : (((cfg0.win 3).blk t).view.emb y 1).val = (y 1).val := by blk_simp [idx t]
  generalize ((cfg0.win 3).blk t).view.emb y = i at e0 e1
  blk_simp
  rw [after0_3]
  frame_out
  open_payloads
  pointwise
  unfold prod
  refine Finset.sum_congr (M := EReal) rfl fun k _ => congrArg₂ (· * ·) ?_ ?_ <;> blk_ext [iblk, V, idx t]

theorem final4 (c : Dev nD) : (dats m 0 c).arrAt 4 cfg0.N = prod (m ((c : Thread nD τ).loc main_arg0)) (m ((c : Thread nD τ).loc main_arg2)) := by
  refine (dats m 0 c).arrAt_eq_of_covers 4 _ (by decide +kernel) fun t hf y => ?_
  have e0 : (((cfg0.win 4).blk t).view.emb y 0).val = (y 0).val := by blk_simp [idx t]
  have e1 : (((cfg0.win 4).blk t).view.emb y 1).val = (y 1).val := by blk_simp [idx t]
  generalize ((cfg0.win 4).blk t).view.emb y = i at e0 e1
  blk_simp
  rw [after0_4]
  frame_out
  open_payloads
  pointwise
  unfold prod
  refine Finset.sum_congr (M := EReal) rfl fun k _ => congrArg₂ (· * ·) ?_ ?_ <;> blk_ext [iblk, V, idx t]

theorem ref_v7 (a : S512x1024.Idx → EReal) (b : S512x512.Idx → EReal) (i : S1024x512.Idx) : Cert.MemGradsRefIdeal.Read.val_main_v7 (F := Ideal) a b i = prod a b i := by
  pointwise [Cert.MemGradsRefIdeal.Read.val_main_v7, Cert.MemGradsRefIdeal.Read.val_main_v6, Cert.MemGradsRefIdeal.Read.val_main_v5]
  unfold prod
  exact Finset.sum_congr rfl fun k _ => mul_comm _ _

theorem ref_v8 (a : S512x1024.Idx → EReal) (b : S512x512.Idx → EReal) (i : S1024x512.Idx) : Cert.MemGradsRefIdeal.Read.val_main_v8 (F := Ideal) a b i = prod a b i := by
  pointwise [Cert.MemGradsRefIdeal.Read.val_main_v8, Cert.MemGradsRefIdeal.Read.val_main_v4, Cert.MemGradsRefIdeal.Read.val_main_v3]
  unfold prod
  exact Finset.sum_congr rfl fun k _ => mul_comm _ _

/-- The kernel's idealization computes the idealized reference. -/
theorem algebraic : algebraic_MemGradsIdeal_MemGradsRefIdeal := by
  intro m g m' g' _ hagree
  refine ⟨fun c => prod (m ((c : Thread nD τ).loc main_arg0)) (m ((c : Thread nD τ).loc main_arg1)), fun c => prod (m ((c : Thread nD τ).loc main_arg0)) (m ((c : Thread nD τ).loc main_arg2)), ?_, ?_⟩
  · exact (θ_run _ _ _).mono (fun r h c => by
      obtain ⟨h0, h1, h⟩ := h c
      exact ⟨h0.trans (final3 m c), h1.trans (final4 m c), h⟩) (Value.run_blocks m g)
  · refine (θ_run _ _ _).mono (fun r h c => ?_) (Cert.MemGradsRefIdeal.Value.run m' g')
    obtain ⟨h0, h1, h⟩ := h c
    obtain ⟨a0, a1, a2⟩ := hagree c
    refine ⟨h0.trans ?_, h1.trans ?_, h⟩
    · rw [Cert.MemGradsRefIdeal.Read.val_main_v7_eq, a0, a1]; funext i; exact ref_v7 _ _ i
    · rw [Cert.MemGradsRefIdeal.Read.val_main_v8_eq, a0, a2]; funext i; exact ref_v8 _ _ i

end Cert.Proof.MemGrads
-- ==== Proof.MemProj.lean ====
/-
  The projections of the memory: its keys and values, each a product of the memory with a weight. The idealized kernel computes what the idealized reference does.
-/
module

public import proofs.«01_k».proof.Defs
public import proofs.«01_k».proof.Proof.Gen.MemProjIdeal.Value
public import proofs.«01_k».proof.Proof.Gen.MemProjRefIdeal.Run
public import proofs.«01_k».proof.Proof.Gen.MemProjRefIdeal.Read
public import Idealize.ShloMosaic.Lib.Pointwise
public import Idealize.ShloMosaic.Lib.Pipeline.ValueKit

@[expose] public section

set_option maxRecDepth 16384

noncomputable section

namespace Cert.Proof.MemProj

open Idealize.ShloMosaic Idealize.ShloMosaic.TcCoe Idealize.SL.Sem
open Cert.MemProjIdeal Cert.MemProjIdeal.Gen

/-- The product of the two arrays. -/
def prod (a : S512x1024.Idx → EReal) (b : S1024x512.Idx → EReal) : S512x512.Idx → EReal := fun i => ∑ k : Fin 1024, a (ix2 (i 0) k) * b (ix2 k (i 1))

variable (m : (ℓ : Loc nD τ sig) → Buf (Elt Ideal) ℓ)

/-- The block indices at the one grid point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem final3 (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  have e0 : (((cfg0.win 3).blk t).view.emb y 0).val = (y 0).val := by blk_simp [idx t]
  have e1 : (((cfg0.win 3).blk t).view.emb y 1).val = (y 1).val := by blk_simp [idx t]
  generalize ((cfg0.win 3).blk t).view.emb y = i at e0 e1
  blk_simp
  rw [after0_3]
  frame_out
  open_payloads
  pointwise
  unfold prod
  refine Finset.sum_congr (M := EReal) rfl fun k _ => congrArg₂ (· * ·) ?_ ?_ <;> blk_ext [iblk, V, idx t]

theorem final4 (c : Dev nD) : (dats m 0 c).arrAt 4 cfg0.N = prod (m ((c : Thread nD τ).loc main_arg0)) (m ((c : Thread nD τ).loc main_arg2)) := by
  refine (dats m 0 c).arrAt_eq_of_covers 4 _ (by decide +kernel) fun t hf y => ?_
  have e0 : (((cfg0.win 4).blk t).view.emb y 0).val = (y 0).val := by blk_simp [idx t]
  have e1 : (((cfg0.win 4).blk t).view.emb y 1).val = (y 1).val := by blk_simp [idx t]
  generalize ((cfg0.win 4).blk t).view.emb y = i at e0 e1
  blk_simp
  rw [after0_4]
  frame_out
  open_payloads
  pointwise
  unfold prod
  refine Finset.sum_congr (M := EReal) rfl fun k _ => congrArg₂ (· * ·) ?_ ?_ <;> blk_ext [iblk, V, idx t]

theorem ref_v3 (a : S512x1024.Idx → EReal) (b : S1024x512.Idx → EReal) (i : S512x512.Idx) : Cert.MemProjRefIdeal.Read.val_main_v3 (F := Ideal) a b i = prod a b i := by
  pointwise [Cert.MemProjRefIdeal.Read.val_main_v3, Cert.MemProjRefIdeal.Read.val_main_v2, Cert.MemProjRefIdeal.Read.val_main_v0]
  unfold prod
  exact Finset.sum_congr rfl fun k _ => rfl

theorem ref_v5 (a : S512x1024.Idx → EReal) (b : S1024x512.Idx → EReal) (i : S512x512.Idx) : Cert.MemProjRefIdeal.Read.val_main_v5 (F := Ideal) a b i = prod a b i := by
  pointwise [Cert.MemProjRefIdeal.Read.val_main_v5, Cert.MemProjRefIdeal.Read.val_main_v4, Cert.MemProjRefIdeal.Read.val_main_v1]
  unfold prod
  exact Finset.sum_congr rfl fun k _ => rfl

/-- The kernel's idealization computes the idealized reference. -/
theorem algebraic : algebraic_MemProjIdeal_MemProjRefIdeal := by
  intro m g m' g' _ hagree
  refine ⟨fun c => prod (m ((c : Thread nD τ).loc main_arg0)) (m ((c : Thread nD τ).loc main_arg1)), fun c => prod (m ((c : Thread nD τ).loc main_arg0)) (m ((c : Thread nD τ).loc main_arg2)), ?_, ?_⟩
  · exact (θ_run _ _ _).mono (fun r h c => by
      obtain ⟨h0, h1, h⟩ := h c
      exact ⟨h0.trans (final3 m c), h1.trans (final4 m c), h⟩) (Value.run_blocks m g)
  · refine (θ_run _ _ _).mono (fun r h c => ?_) (Cert.MemProjRefIdeal.Value.run m' g')
    obtain ⟨h0, h1, h⟩ := h c
    obtain ⟨a0, a1, a2⟩ := hagree c
    refine ⟨h0.trans ?_, h1.trans ?_, h⟩
    · rw [Cert.MemProjRefIdeal.Read.val_main_v3_eq, a0, a1]; funext i; exact ref_v3 _ _ i
    · rw [Cert.MemProjRefIdeal.Read.val_main_v5_eq, a0, a2]; funext i; exact ref_v5 _ _ i

end Cert.Proof.MemProj
-- ==== Proof.MergeBwd.lean ====
/-
  The gradient of the merge of the three mixers: of the gated projections with respect to the mixers' results, to the
  gate columns and to the gate biases. What the idealized kernel leaves in its four result arrays is what the idealized
  reference, a vector-Jacobian product of the forward lines, leaves in its own.
-/
module

public import proofs.«01_k».proof.Defs
public import proofs.«01_k».proof.Proof.Gen.MergeBwdIdeal.Value
public import proofs.«01_k».proof.Proof.Gen.MergeBwdRefIdeal.Run
public import proofs.«01_k».proof.Proof.Gen.MergeBwdRefIdeal.Read
public import Idealize.ShloMosaic.Lib.Pointwise
public import Idealize.ShloMosaic.Lib.Pipeline.ReadBack
public import Idealize.ShloMosaic.Lib.Pipeline.ValueKit
public import proofs.«01_k».proof.Proof.Pieces

@[expose] public section

set_option maxRecDepth 16384

noncomputable section

namespace Cert.Proof.MergeBwd

open Idealize.ShloMosaic Idealize.ShloMosaic.TcCoe Idealize.SL.Sem
open Cert.MergeBwdIdeal Cert.MergeBwdIdeal.Gen

section
variable (x0 : S8192x1024.Idx → EReal) (x1 : S8192x7168.Idx → EReal) (x2 : S8192x1536.Idx → EReal) (x3 : S1536x1024.Idx → EReal)
  (x4 : S1024x1024.Idx → EReal) (x5 : S1x3072.Idx → EReal)

/-! ## The results as functions of the arguments, by mixer `b`, row `r` and column `d` of the mixer -/

/-- The gate. -/
def gt (b : Fin 3) (r : Fin 8192) (d : Fin 1024) : EReal :=
  Ideal.logistic (x1 (ix2 r ⟨4096 + (1024 * b.val + d.val), by omega⟩) + x5 (ix2 0 ⟨1024 * b.val + d.val, by omega⟩))
/-- The gradient of the merged row. -/
def dm (r : Fin 8192) (d : Fin 1024) : EReal := ∑ k : Fin 1024, x0 (ix2 r k) * x4 (ix2 d k)
/-- The mixer's projected result. -/
def up (b : Fin 3) (r : Fin 8192) (d : Fin 1024) : EReal :=
  ∑ k : Fin 512, x2 (ix2 r ⟨512 * b.val + k.val, by omega⟩) * x3 (ix2 ⟨512 * b.val + k.val, by omega⟩ d)
/-- The gradient of the projected result. -/
def dr (b : Fin 3) (r : Fin 8192) (d : Fin 1024) : EReal := dm x0 x4 r d * gt x1 x5 b r d
/-- The gradient of the gate's argument. -/
def dg (b : Fin 3) (r : Fin 8192) (d : Fin 1024) : EReal := dm x0 x4 r d * up x2 x3 b r d * gt x1 x5 b r d * (1 - gt x1 x5 b r d)
/-- The gradient of the mixer's result. -/
def dy (b : Fin 3) (r : Fin 8192) (w : Fin 512) : EReal := ∑ d : Fin 1024, dr x0 x1 x4 x5 b r d * x3 (ix2 ⟨512 * b.val + w.val, by omega⟩ d)
/-- The gate gradient by its place among the three mixers' columns. -/
def dgc (r : Fin 8192) (j : Fin 3072) : EReal := dg x0 x1 x2 x3 x4 x5 ⟨j.val / 1024, by omega⟩ r ⟨j.val % 1024, by omega⟩

/-- The gradients of the projected results, side by side. -/
def specR : S8192x3072.Idx → EReal := fun i => dr x0 x1 x4 x5 ⟨(i 1).val / 1024, by have := (i 1).isLt; exact Nat.div_lt_of_lt_mul this⟩ (i 0) ⟨(i 1).val % 1024, Nat.mod_lt _ (by decide)⟩
/-- The gradient of the projected columns: zero but in the gate columns. -/
def specP : S8192x7168.Idx → EReal := fun i => if h : (i 1).val < 4096 then 0 else dgc x0 x1 x2 x3 x4 x5 (i 0) ⟨(i 1).val - 4096, by have : (i 1).val < 7168 := (i 1).isLt; omega⟩
/-- The gradients of the mixers' results, side by side. -/
def specY : S8192x1536.Idx → EReal := fun i => dy x0 x1 x3 x4 x5 ⟨(i 1).val / 512, by have := (i 1).isLt; exact Nat.div_lt_of_lt_mul this⟩ (i 0) ⟨(i 1).val % 512, Nat.mod_lt _ (by decide)⟩
/-- The gradient of the gate biases, in the first of eight rows. -/
def specB : S8x3072.Idx → EReal := fun i => if (i 0).val = 0 then ∑ r : Fin 8192, dgc x0 x1 x2 x3 x4 x5 r (i 1) else 0

theorem specR_eq (i : S8192x3072.Idx) (b : Fin 3) (d : Fin 1024) (h : (i 1).val = 1024 * b.val + d.val) : specR x0 x1 x4 x5 i = dr x0 x1 x4 x5 b (i 0) d := by
  unfold specR
  congr 1 <;> exact Fin.ext (by show _ = _; first | (show (i 1).val / 1024 = _; omega) | (show (i 1).val % 1024 = _; omega))
theorem specY_eq (i : S8192x1536.Idx) (b : Fin 3) (w : Fin 512) (h : (i 1).val = 512 * b.val + w.val) : specY x0 x1 x3 x4 x5 i = dy x0 x1 x3 x4 x5 b (i 0) w := by
  unfold specY
  congr 1 <;> exact Fin.ext (by show _ = _; first | (show (i 1).val / 512 = _; omega) | (show (i 1).val % 512 = _; omega))
theorem dgc_eq (r : Fin 8192) (j : Fin 3072) (b : Fin 3) (d : Fin 1024) (h : j.val = 1024 * b.val + d.val) : dgc x0 x1 x2 x3 x4 x5 r j = dg x0 x1 x2 x3 x4 x5 b r d := by
  unfold dgc
  congr 1 <;> exact Fin.ext (by show _ = _; first | (show j.val / 1024 = _; omega) | (show j.val % 1024 = _; omega))
theorem specP_low (i : S8192x7168.Idx) (h : (i 1).val < 4096) : specP x0 x1 x2 x3 x4 x5 i = 0 := by unfold specP; rw [dif_pos h]
theorem specP_eq (i : S8192x7168.Idx) (b : Fin 3) (d : Fin 1024) (h : (i 1).val = 4096 + (1024 * b.val + d.val)) : specP x0 x1 x2 x3 x4 x5 i = dg x0 x1 x2 x3 x4 x5 b (i 0) d := by
  unfold specP; rw [dif_neg (by omega)]; exact dgc_eq _ _ _ _ _ _ _ _ b d (by show (i 1).val - 4096 = _; omega)

/-! ## The reference -/

open Cert.MergeBwdRefIdeal.Read

theorem ref_dm (r : Fin 8192) (d : Fin 1024) : val_main_v71 (F := Ideal) x0 x4 (ix2 r d) = dm x0 x4 r d := by
  unfold dm
  pointwise [val_main_v71, val_main_v0, val_main_v4]

theorem ref_g0 (r : Fin 8192) (d : Fin 1024) : val_main_v36 (F := Ideal) x1 x5 (ix2 r d) = gt x1 x5 0 r d := by
  unfold gt Ideal.logistic
  pointwise [val_main_v36, val_main_v35, val_main_v34, val_main_v33, val_main_v32, val_main_v31, val_main_v30, val_main_v29, val_main_cst_0, val_main_cst_1, val_main_v11, val_main_v8, val_main_v5, val_main_v1]
theorem ref_u0 (r : Fin 8192) (d : Fin 1024) : val_main_v40 (F := Ideal) x2 x3 (ix2 r d) = up x2 x3 0 r d := by
  unfold up
  pointwise [val_main_v40, val_main_v19, val_main_v26, val_main_v18, val_main_v17, val_main_v14, val_main_v7, val_main_v3, val_main_v2, val_main_v6, val_main_cst]
theorem ref_r0 (r : Fin 8192) (d : Fin 1024) : val_main_v82 (F := Ideal) x0 x1 x4 x5 (ix2 r d) = dr x0 x1 x4 x5 0 r d := by
  unfold dr
  rw [← ref_dm, ← ref_g0, mul_comm]
  pointwise [val_main_v82]
theorem ref_s0 (r : Fin 8192) (d : Fin 1024) : val_main_v39 (F := Ideal) x1 x5 (ix2 r d) = gt x1 x5 0 r d * (1 - gt x1 x5 0 r d) := by
  rw [← ref_g0]
  pointwise [val_main_v39, val_main_v38, val_main_v37, val_main_cst_2]
theorem ref_d0 (r : Fin 8192) (d : Fin 1024) : val_main_v84 (F := Ideal) x0 x1 x2 x3 x4 x5 (ix2 r d) = dg x0 x1 x2 x3 x4 x5 0 r d := by
  unfold dg
  rw [mul_assoc, ← ref_s0, ← ref_dm, ← ref_u0]
  pointwise [val_main_v84, val_main_v83]
theorem ref_y0 (r : Fin 8192) (w : Fin 512) : val_main_v90 (F := Ideal) x0 x1 x3 x4 x5 (ix2 r w) = dy x0 x1 x3 x4 x5 0 r w := by
  unfold dy
  have h : ∀ d, val_main_v82 (F := Ideal) x0 x1 x4 x5 (ix2 r d) = dr x0 x1 x4 x5 0 r d := fun d => ref_r0 ..
  pointwise [val_main_v90, val_main_v18, val_main_v17, val_main_v7, val_main_v3]
  exact Finset.sum_congr rfl fun d _ => congrArg₂ (· * ·) (h d) rfl
theorem ref_b0 (d : Fin 1024) : val_main_v86 (F := Ideal) x0 x1 x2 x3 x4 x5 (ix2 0 d) = ∑ r : Fin 8192, dg x0 x1 x2 x3 x4 x5 0 r d := by
  have h : ∀ r, val_main_v84 (F := Ideal) x0 x1 x2 x3 x4 x5 (ix2 r d) = dg x0 x1 x2 x3 x4 x5 0 r d := fun r => ref_d0 ..
  pointwise [val_main_v86, val_main_v85, val_main_cst_11]
  exact Finset.sum_congr rfl fun r _ => h r

theorem ref_g1 (r : Fin 8192) (d : Fin 1024) : val_main_v49 (F := Ideal) x1 x5 (ix2 r d) = gt x1 x5 1 r d := by
  unfold gt Ideal.logistic
  pointwise [val_main_v49, val_main_v48, val_main_v47, val_main_v46, val_main_v45, val_main_v44, val_main_v43, val_main_v42, val_main_cst_3, val_main_cst_4, val_main_v12, val_main_v9, val_main_v5, val_main_v1]
theorem ref_u1 (r : Fin 8192) (d : Fin 1024) : val_main_v53 (F := Ideal) x2 x3 (ix2 r d) = up x2 x3 1 r d := by
  unfold up
  pointwise [val_main_v53, val_main_v22, val_main_v27, val_main_v21, val_main_v20, val_main_v15, val_main_v7, val_main_v3, val_main_v2, val_main_v6, val_main_cst]
theorem ref_r1 (r : Fin 8192) (d : Fin 1024) : val_main_v77 (F := Ideal) x0 x1 x4 x5 (ix2 r d) = dr x0 x1 x4 x5 1 r d := by
  unfold dr
  rw [← ref_dm, ← ref_g1, mul_comm]
  pointwise [val_main_v77]
theorem ref_s1 (r : Fin 8192) (d : Fin 1024) : val_main_v52 (F := Ideal) x1 x5 (ix2 r d) = gt x1 x5 1 r d * (1 - gt x1 x5 1 r d) := by
  rw [← ref_g1]
  pointwise [val_main_v52, val_main_v51, val_main_v50, val_main_cst_5]
theorem ref_d1 (r : Fin 8192) (d : Fin 1024) : val_main_v79 (F := Ideal) x0 x1 x2 x3 x4 x5 (ix2 r d) = dg x0 x1 x2 x3 x4 x5 1 r d := by
  unfold dg
  rw [mul_assoc, ← ref_s1, ← ref_dm, ← ref_u1]
  pointwise [val_main_v79, val_main_v78]
theorem ref_y1 (r : Fin 8192) (w : Fin 512) : val_main_v89 (F := Ideal) x0 x1 x3 x4 x5 (ix2 r w) = dy x0 x1 x3 x4 x5 1 r w := by
  unfold dy
  have h : ∀ d, val_main_v77 (F := Ideal) x0 x1 x4 x5 (ix2 r d) = dr x0 x1 x4 x5 1 r d := fun d => ref_r1 ..
  pointwise [val_main_v89, val_main_v21, val_main_v20, val_main_v7, val_main_v3]
  exact Finset.sum_congr rfl fun d _ => congrArg₂ (· * ·) (h d) rfl
theorem ref_b1 (d : Fin 1024) : val_main_v81 (F := Ideal) x0 x1 x2 x3 x4 x5 (ix2 0 d) = ∑ r : Fin 8192, dg x0 x1 x2 x3 x4 x5 1 r d := by
  have h : ∀ r, val_main_v79 (F := Ideal) x0 x1 x2 x3 x4 x5 (ix2 r d) = dg x0 x1 x2 x3 x4 x5 1 r d := fun r => ref_d1 ..
  pointwise [val_main_v81, val_main_v80, val_main_cst_10]
  exact Finset.sum_congr rfl fun r _ => h r

theorem ref_g2 (r : Fin 8192) (d : Fin 1024) : val_main_v63 (F := Ideal) x1 x5 (ix2 r d) = gt x1 x5 2 r d := by
  unfold gt Ideal.logistic
  pointwise [val_main_v63, val_main_v62, val_main_v61, val_main_v60, val_main_v59, val_main_v58, val_main_v57, val_main_v56, val_main_cst_6, val_main_cst_7, val_main_v13, val_main_v10, val_main_v5, val_main_v1]
theorem ref_u2 (r : Fin 8192) (d : Fin 1024) : val_main_v67 (F := Ideal) x2 x3 (ix2 r d) = up x2 x3 2 r d := by
  unfold up
  pointwise [val_main_v67, val_main_v25, val_main_v28, val_main_v24, val_main_v23, val_main_v16, val_main_v7, val_main_v3, val_main_v2, val_main_v6, val_main_cst]
theorem ref_r2 (r : Fin 8192) (d : Fin 1024) : val_main_v72 (F := Ideal) x0 x1 x4 x5 (ix2 r d) = dr x0 x1 x4 x5 2 r d := by
  unfold dr
  rw [← ref_dm, ← ref_g2, mul_comm]
  pointwise [val_main_v72]
theorem ref_s2 (r : Fin 8192) (d : Fin 1024) : val_main_v66 (F := Ideal) x1 x5 (ix2 r d) = gt x1 x5 2 r d * (1 - gt x1 x5 2 r d) := by
  rw [← ref_g2]
  pointwise [val_main_v66, val_main_v65, val_main_v64, val_main_cst_8]
theorem ref_d2 (r : Fin 8192) (d : Fin 1024) : val_main_v74 (F := Ideal) x0 x1 x2 x3 x4 x5 (ix2 r d) = dg x0 x1 x2 x3 x4 x5 2 r d := by
  unfold dg
  rw [mul_assoc, ← ref_s2, ← ref_dm, ← ref_u2]
  pointwise [val_main_v74, val_main_v73]
theorem ref_y2 (r : Fin 8192) (w : Fin 512) : val_main_v88 (F := Ideal) x0 x1 x3 x4 x5 (ix2 r w) = dy x0 x1 x3 x4 x5 2 r w := by
  unfold dy
  have h : ∀ d, val_main_v72 (F := Ideal) x0 x1 x4 x5 (ix2 r d) = dr x0 x1 x4 x5 2 r d := fun d => ref_r2 ..
  pointwise [val_main_v88, val_main_v24, val_main_v23, val_main_v7, val_main_v3]
  exact Finset.sum_congr rfl fun d _ => congrArg₂ (· * ·) (h d) rfl
theorem ref_b2 (d : Fin 1024) : val_main_v76 (F := Ideal) x0 x1 x2 x3 x4 x5 (ix2 0 d) = ∑ r : Fin 8192, dg x0 x1 x2 x3 x4 x5 2 r d := by
  have h : ∀ r, val_main_v74 (F := Ideal) x0 x1 x2 x3 x4 x5 (ix2 r d) = dg x0 x1 x2 x3 x4 x5 2 r d := fun r => ref_d2 ..
  pointwise [val_main_v76, val_main_v75, val_main_cst_9]
  exact Finset.sum_congr rfl fun r _ => h r

theorem ref_R (i : S8192x3072.Idx) : val_main_v94 (F := Ideal) x0 x1 x4 x5 i = specR x0 x1 x4 x5 i := by
  have hi : (i 1).val < 3072 := (i 1).isLt
  pointwise [val_main_v94, val_main_v87]
  split
  · exact (ref_r0 ..).trans (specR_eq _ _ _ _ i 0 _ (by simp)).symm
  split
  · exact (ref_r1 ..).trans (specR_eq _ _ _ _ i 1 _ (by simp; omega)).symm
  · exact (ref_r2 ..).trans (specR_eq _ _ _ _ i 2 _ (by simp; omega)).symm
theorem ref_Y (i : S8192x1536.Idx) : val_main_v97 (F := Ideal) x0 x1 x3 x4 x5 i = specY x0 x1 x3 x4 x5 i := by
  have hi : (i 1).val < 1536 := (i 1).isLt
  pointwise [val_main_v97, val_main_v91]
  split
  · exact (ref_y0 ..).trans (specY_eq _ _ _ _ _ i 0 _ (by simp)).symm
  split
  · exact (ref_y1 ..).trans (specY_eq _ _ _ _ _ i 1 _ (by simp; omega)).symm
  · exact (ref_y2 ..).trans (specY_eq _ _ _ _ _ i 2 _ (by simp; omega)).symm
theorem ref_D (i : S8192x3072.Idx) : val_main_v95 (F := Ideal) x0 x1 x2 x3 x4 x5 i = dgc x0 x1 x2 x3 x4 x5 (i 0) (i 1) := by
  have hi : (i 1).val < 3072 := (i 1).isLt
  pointwise [val_main_v95, val_main_v93]
  split
  · exact (ref_d0 ..).trans (dgc_eq _ _ _ _ _ _ (i 0) (i 1) 0 _ (by simp)).symm
  split
  · exact (ref_d1 ..).trans (dgc_eq _ _ _ _ _ _ (i 0) (i 1) 1 _ (by simp; omega)).symm
  · exact (ref_d2 ..).trans (dgc_eq _ _ _ _ _ _ (i 0) (i 1) 2 _ (by simp; omega)).symm
theorem ref_Bias (j : Fin 3072) : val_main_v92 (F := Ideal) x0 x1 x2 x3 x4 x5 (ix2 0 j) = ∑ r : Fin 8192, dgc x0 x1 x2 x3 x4 x5 r j := by
  have hi : j.val < 3072 := j.isLt
  pointwise [val_main_v92]
  split
  · exact (ref_b0 ..).trans (Finset.sum_congr rfl fun r _ => (dgc_eq _ _ _ _ _ _ r j 0 _ (by simp)).symm)
  split
  · exact (ref_b1 ..).trans (Finset.sum_congr rfl fun r _ => (dgc_eq _ _ _ _ _ _ r j 1 _ (by simp; omega)).symm)
  · exact (ref_b2 ..).trans (Finset.sum_congr rfl fun r _ => (dgc_eq _ _ _ _ _ _ r j 2 _ (by simp; omega)).symm)
theorem ref_P (i : S8192x7168.Idx) : val_main_v96 (F := Ideal) x0 x1 x2 x3 x4 x5 i = specP x0 x1 x2 x3 x4 x5 i := by
  have hi : (i 1).val < 7168 := (i 1).isLt
  pointwise [val_main_v96, val_main_call0_v0, val_main_c]
  by_cases h : (i 1).val < 4096
  · rw [dif_neg (by omega), specP_low _ _ _ _ _ _ i h]
    show (((0#32 : BitVec 32).toInt : ℝ) : EReal) = 0
    simp
  · rw [dif_pos (by omega)]
    refine (ref_D ..).trans ?_
    unfold specP
    rw [dif_neg h]
    rfl
theorem ref_B (i : S8x3072.Idx) : val_main_v98 (F := Ideal) x0 x1 x2 x3 x4 x5 i = specB x0 x1 x2 x3 x4 x5 i := by
  pointwise [val_main_v98, val_main_call1_v0, val_main_c_12]
  unfold specB
  by_cases h : (i 0).val = 0
  · rw [dif_pos (by omega), if_pos h]
    refine Eq.trans (congrArg _ ?_) (ref_Bias ..)
    exact congrArg (ix2 · (i 1)) (Fin.ext h)
  · rw [dif_neg (by omega), if_neg h]
    show (((0#32 : BitVec 32).toInt : ℝ) : EReal) = 0
    simp
/-- The gate gradient of row `512 n + k`. -/
def dgn (n : ℕ) (k : Fin 512) (j : Fin 3072) : EReal := if h : n * 512 + k.val < 8192 then dgc x0 x1 x2 x3 x4 x5 ⟨n * 512 + k.val, h⟩ j else 0
/-- What a tile of 512 rows adds to the bias gradient's block. -/
def term (n : ℕ) (y : S8x3072.Idx) : EReal := if (y 0).val = 0 then ∑ k : Fin 512, dgn x0 x1 x2 x3 x4 x5 n k (y 1) else 0
theorem dgn_eq (n : ℕ) (k : Fin 512) (j : Fin 3072) (r : Fin 8192) (b : Fin 3) (d : Fin 1024) (hr : r.val = n * 512 + k.val) (h : j.val = 1024 * b.val + d.val) :
    dgn x0 x1 x2 x3 x4 x5 n k j = dg x0 x1 x2 x3 x4 x5 b r d := by
  unfold dgn
  rw [dif_pos (by have := r.isLt; omega), ← dgc_eq x0 x1 x2 x3 x4 x5 r j b d h]
  exact congrArg (dgc x0 x1 x2 x3 x4 x5 · j) (Fin.ext hr.symm)
theorem sum_term (y : S8x3072.Idx) : ∑ n ∈ Finset.range 16, term x0 x1 x2 x3 x4 x5 n y = specB x0 x1 x2 x3 x4 x5 y := by
  unfold term specB
  by_cases h : (y 0).val = 0
  · simp only [if_pos h]
    rw [Finset.sum_range, Fin.sum_univ_tiles 16 512 (show 16 * 512 = 8192 from rfl)]
    refine Finset.sum_congr rfl fun n _ => Finset.sum_congr rfl fun k _ => ?_
    unfold dgn
    rw [dif_pos (by omega)]
  · simp only [if_neg h, Finset.sum_const_zero]
end

variable (m : (ℓ : Loc nD τ sig) → Buf (Elt Ideal) ℓ)

/-- The block indices at each of the 16 points. -/
theorem idx : ∀ t : Fin cfg0.N, win0_0.index t = ![t.val, 0] ∧ win0_1.index t = ![t.val, 4] ∧ win0_2.index t = ![t.val, 5] ∧ win0_3.index t = ![t.val, 6]
    ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] :=
  (by decide +kernel : ∀ t : Fin grid0.N, _)

set_option maxHeartbeats 2000000 in
theorem out8 (c : Dev nD) (t : Fin cfg0.N) (y : S512x3072.Idx) (i : S8192x3072.Idx) (e0 : (i 0).val = t.val * 512 + (y 0).val) (e1 : (i 1).val = (y 1).val) :
    (outsAt0 m c t.val t.isLt).1 y = specR (m ((c : Thread nD τ).loc main_arg0)) (m ((c : Thread nD τ).loc main_arg1)) (m ((c : Thread nD τ).loc main_arg4)) (m ((c : Thread nD τ).loc main_arg5)) i := by
  by_cases ht : t.val % 16 = 0
  · rw [outsAt0_A m c t ht]
    dsimp only
    frame_out
    canon_tiles x h
    · open_payloads
      refine Eq.trans ?_ (specR_eq _ _ _ _  i 2 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]
    · open_payloads
      refine Eq.trans ?_ (specR_eq _ _ _ _  i 1 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]
    · open_payloads
      refine Eq.trans ?_ (specR_eq _ _ _ _  i 0 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]
  · rw [outsAt0_B m c t ht]
    dsimp only
    frame_out
    canon_tiles x h
    · open_payloads
      refine Eq.trans ?_ (specR_eq _ _ _ _  i 2 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]
    · open_payloads
      refine Eq.trans ?_ (specR_eq _ _ _ _  i 1 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]
    · open_payloads
      refine Eq.trans ?_ (specR_eq _ _ _ _  i 0 (x 1) (by simp; omega)).symm
      unfold dr dm gt
      pointwise
      refine congrArg₂ (· * ·) (Finset.sum_congr rfl fun k _ => congrArg₂ (· * ·) ?_ ?_) (congrArg Ideal.logistic (congrArg₂ (· + ·) ?_ ?_)) <;> blk_ext [iblk, V, idx t]

set_option maxHeartbeats 2000000 in
theorem out10 (c : Dev nD) (t : Fin cfg0.N) (y : S512x1536.Idx) (i : S8192x1536.Idx) (e0 : (i 0).val = t.val * 512 + (y 0).val) (e1 : (i 1).val = (y 1).val) :
    (outsAt0 m c t.val t.isLt).2.2.1 y = specY (m ((c : Thread nD τ).loc main_arg0)) (m ((c : Thread nD τ).loc main_arg1)) (m ((c : Thread nD τ).loc main_arg3)) (m ((c : Thread nD τ).loc main_arg4)) (m ((c : Thread nD τ).loc main_arg5)) i := by
  by_cases ht : t.val % 16 = 0
  · rw [outsAt0_A m c t ht]
    dsimp only
    frame_out
    canon_tiles x h
    · open_payloads
      refine Eq.trans ?_ (specY_eq _ _ _ _ _  i 2 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]
    · open_payloads
      refine Eq.trans ?_ (specY_eq _ _ _ _ _  i 1 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]
    · open_payloads
      refine Eq.trans ?_ (specY_eq _ _ _ _ _  i 0 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]
  · rw [outsAt0_B m c t ht]
    dsimp only
    frame_out
    canon_tiles x h
    · open_payloads
      refine Eq.trans ?_ (specY_eq _ _ _ _ _  i 2 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]
    · open_payloads
      refine Eq.trans ?_ (specY_eq _ _ _ _ _  i 1 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]
    · open_payloads
      refine Eq.trans ?_ (specY_eq _ _ _ _ _  i 0 (x 1) (by simp; omega)).symm
      unfold dy dr dm gt
      pointwise
      refine Finset.sum_congr rfl fun d _ => congrArg₂ (· * ·) (congrArg₂ (· * ·) (Finset.sum_congr rfl fun k _ => congrArg₂ (· * ·) ?_ ?_) (congrArg Ideal.logistic (congrArg₂ (· + ·) ?_ ?_))) ?_ <;> blk_ext [iblk, V, idx t]

set_option maxHeartbeats 2000000 in
theorem out9 (c : Dev nD) (t : Fin cfg0.N) (y : S512x7168.Idx) (i : S8192x7168.Idx) (e0 : (i 0).val = t.val * 512 + (y 0).val) (e1 : (i 1).val = (y 1).val) :
    (outsAt0 m c t.val t.isLt).2.1 y = specP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hy : (y 1).val < 7168 := (y 1).isLt
  by_cases ht : t.val % 16 = 0
  · rw [outsAt0_A m c t ht]
    dsimp only
    frame_out
    by_cases h2 : 6144 ≤ (y 1).val
    · refine (Pieces.canon_hit _ _ _ y (ix2 (y 0) ⟨(y 1).val - 6144, by omega⟩) (by simp) (by simp; omega)).trans ?_
      open_payloads
      refine Eq.trans ?_ (specP_eq _ _ _ _ _ _ i 2 ⟨(y 1).val - 6144, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    by_cases h1 : 5120 ≤ (y 1).val
    · refine (Pieces.canon_hit _ _ _ y (ix2 (y 0) ⟨(y 1).val - 5120, by omega⟩) (by simp) (by simp; omega)).trans ?_
      open_payloads
      refine Eq.trans ?_ (specP_eq _ _ _ _ _ _ i 1 ⟨(y 1).val - 5120, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    by_cases h0 : 4096 ≤ (y 1).val
    · refine (Pieces.canon_hit _ _ _ y (ix2 (y 0) ⟨(y 1).val - 4096, by omega⟩) (by simp) (by simp; omega)).trans ?_
      open_payloads
      refine Eq.trans ?_ (specP_eq _ _ _ _ _ _ i 0 ⟨(y 1).val - 4096, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    refine (Pieces.canon_hit _ _ _ y (ix2 (y 0) ⟨(y 1).val, by omega⟩) (by simp) (by simp)).trans ?_
    rw [specP_low _ _ _ _ _ _ i (by omega)]
    open_payloads
    pointwise
  · rw [outsAt0_B m c t ht]
    dsimp only
    frame_out
    by_cases h2 : 6144 ≤ (y 1).val
    · refine (Pieces.canon_hit _ _ _ y (ix2 (y 0) ⟨(y 1).val - 6144, by omega⟩) (by simp) (by simp; omega)).trans ?_
      open_payloads
      refine Eq.trans ?_ (specP_eq _ _ _ _ _ _ i 2 ⟨(y 1).val - 6144, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    by_cases h1 : 5120 ≤ (y 1).val
    · refine (Pieces.canon_hit _ _ _ y (ix2 (y 0) ⟨(y 1).val - 5120, by omega⟩) (by simp) (by simp; omega)).trans ?_
      open_payloads
      refine Eq.trans ?_ (specP_eq _ _ _ _ _ _ i 1 ⟨(y 1).val - 5120, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    by_cases h0 : 4096 ≤ (y 1).val
    · refine (Pieces.canon_hit _ _ _ y (ix2 (y 0) ⟨(y 1).val - 4096, by omega⟩) (by simp) (by simp; omega)).trans ?_
      open_payloads
      refine Eq.trans ?_ (specP_eq _ _ _ _ _ _ i 0 ⟨(y 1).val - 4096, by omega⟩ (by simp; omega)).symm
      unfold dg dm up gt
      pointwise
      refine congrArg₂ (· * ·) (congrArg₂ (· * ·) (congrArg₂ (· * ·) (Finset.sum_congr rfl fun k _ => congrArg₂ (· * ·) ?_ ?_) (Finset.sum_congr rfl fun k _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    refine (Pieces.canon_hit _ _ _ y (ix2 (y 0) ⟨(y 1).val, by omega⟩) (by simp) (by simp)).trans ?_
    rw [specP_low _ _ _ _ _ _ i (by omega)]
    open_payloads
    pointwise

set_option maxHeartbeats 2000000 in
theorem out11A (c : Dev nD) (t : Fin cfg0.N) (ht : t.val % 16 = 0) (y : S8x3072.Idx) :
    (outsAt0 m c t.val t.isLt).2.2.2 y = term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t.val y := by
  have hN : t.val < 16 := t.isLt
  have hy : (y 1).val < 3072 := (y 1).isLt
  rw [outsAt0_A m c t ht]
  dsimp only
  frame_open
  simp (disch := decide) only [↓ View.readCov_skip, ↓ View.readCov_cons_toLoadRect, ↓ View.readCov_fill]
  frame_out
  unfold term
  by_cases h0 : (y 0).val = 0
  · rw [if_pos h0]
    by_cases h2 : 2048 ≤ (y 1).val
    · refine (Pieces.canon_hit _ _ _ y (ix2 0 ⟨(y 1).val - 2048, by omega⟩) (by simp [h0]) (by simp; try omega)).trans ?_
      open_payloads
      pointwise
      refine (Finset.sum_congr rfl fun k _ => Eq.trans ?_ (dgn_eq _ _ _ _ _ _ t.val k (y 1) ⟨t.val * 512 + k.val, by omega⟩ 2 ⟨(y 1).val - 2048, by omega⟩ rfl (by simp; try omega)).symm)
      unfold dg dm up gt
      refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    by_cases h1 : 1024 ≤ (y 1).val
    · refine (Pieces.canon_hit _ _ _ y (ix2 0 ⟨(y 1).val - 1024, by omega⟩) (by simp [h0]) (by simp; try omega)).trans ?_
      open_payloads
      pointwise
      refine (Finset.sum_congr rfl fun k _ => Eq.trans ?_ (dgn_eq _ _ _ _ _ _ t.val k (y 1) ⟨t.val * 512 + k.val, by omega⟩ 1 ⟨(y 1).val - 1024, by omega⟩ rfl (by simp; try omega)).symm)
      unfold dg dm up gt
      refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.canon_miss _ _ _ y (by omega)]
    refine (Pieces.canon_hit _ _ _ y (ix2 0 ⟨(y 1).val - 0, by omega⟩) (by simp [h0]) (by simp; try omega)).trans ?_
    open_payloads
    pointwise
    refine (Finset.sum_congr rfl fun k _ => Eq.trans ?_ (dgn_eq _ _ _ _ _ _ t.val k (y 1) ⟨t.val * 512 + k.val, by omega⟩ 0 ⟨(y 1).val - 0, by omega⟩ rfl (by simp; try omega)).symm)
    unfold dg dm up gt
    refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
  · rw [if_neg h0]
    rw [Pieces.canon_miss _ _ _ y (by omega)]
    rw [Pieces.canon_miss _ _ _ y (by omega)]
    rw [Pieces.canon_miss _ _ _ y (by omega)]
    refine (Pieces.canon_hit _ _ _ y y (by simp) (by simp)).trans ?_
    open_payloads
    pointwise

set_option maxHeartbeats 2000000 in
theorem out11B (c : Dev nD) (t : Fin cfg0.N) (ht : ¬ t.val % 16 = 0) (y : S8x3072.Idx) :
    (outsAt0 m c t.val t.isLt).2.2.2 y = (outsAt0 m c (t.val - 1) (by omega)).2.2.2 y + term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t.val y := by
  have hN : t.val < 16 := t.isLt
  have hy : (y 1).val < 3072 := (y 1).isLt
  rw [outsAt0_B m c t ht]
  dsimp only
  frame_open
  simp (disch := decide) only [↓ View.readCov_skip, ↓ View.readCov_cons_toLoadRect, ↓ View.readCov_fill]
  frame_out
  unfold term
  by_cases h0 : (y 0).val = 0
  · rw [if_pos h0]
    by_cases h2 : 2048 ≤ (y 1).val
    · refine (Pieces.writes_hit _ _ _ _ _ y (ix2 0 ⟨(y 1).val - 2048, by omega⟩) (by simp [h0]) (by simp; try omega)).trans ?_
      open_payloads
      pointwise
      refine congrArg₂ (· + ·) ?_ (Finset.sum_congr rfl fun k _ => Eq.trans ?_ (dgn_eq _ _ _ _ _ _ t.val k (y 1) ⟨t.val * 512 + k.val, by omega⟩ 2 ⟨(y 1).val - 2048, by omega⟩ rfl (by simp; try omega)).symm)
      · exact congrArg _ (funext (Fin.forall_fin_two.mpr ⟨Fin.ext h0.symm, Fin.ext (by show 2048 + ((y 1).val - 2048) = (y 1).val; omega)⟩))
      unfold dg dm up gt
      refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.writes_miss _ _ _ _ _ y (by omega)]
    by_cases h1 : 1024 ≤ (y 1).val
    · refine (Pieces.writes_hit _ _ _ _ _ y (ix2 0 ⟨(y 1).val - 1024, by omega⟩) (by simp [h0]) (by simp; try omega)).trans ?_
      open_payloads
      pointwise
      refine congrArg₂ (· + ·) ?_ (Finset.sum_congr rfl fun k _ => Eq.trans ?_ (dgn_eq _ _ _ _ _ _ t.val k (y 1) ⟨t.val * 512 + k.val, by omega⟩ 1 ⟨(y 1).val - 1024, by omega⟩ rfl (by simp; try omega)).symm)
      · exact congrArg _ (funext (Fin.forall_fin_two.mpr ⟨Fin.ext h0.symm, Fin.ext (by show 1024 + ((y 1).val - 1024) = (y 1).val; omega)⟩))
      unfold dg dm up gt
      refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
    rw [Pieces.writes_miss _ _ _ _ _ y (by omega)]
    refine (Pieces.writes_hit _ _ _ _ _ y (ix2 0 ⟨(y 1).val - 0, by omega⟩) (by simp [h0]) (by simp; try omega)).trans ?_
    open_payloads
    pointwise
    refine congrArg₂ (· + ·) ?_ (Finset.sum_congr rfl fun k _ => Eq.trans ?_ (dgn_eq _ _ _ _ _ _ t.val k (y 1) ⟨t.val * 512 + k.val, by omega⟩ 0 ⟨(y 1).val - 0, by omega⟩ rfl (by simp; try omega)).symm)
    · exact congrArg _ (funext (Fin.forall_fin_two.mpr ⟨Fin.ext h0.symm, rfl⟩))
    unfold dg dm up gt
    refine congrArg₂ (· * ·) (congrArg₂ (· * ·) (congrArg₂ (· * ·) (Finset.sum_congr rfl fun k' _ => congrArg₂ (· * ·) ?_ ?_) (Finset.sum_congr rfl fun k' _ => congrArg₂ (· * ·) ?_ ?_)) (congrArg Ideal.logistic (congrArg₂ (· + ·) ?_ ?_))) (congrArg₂ (· - ·) rfl (congrArg Ideal.logistic (congrArg₂ (· + ·) ?_ ?_))) <;> blk_ext [iblk, V, idx t]
  · rw [if_neg h0]
    rw [Pieces.writes_miss _ _ _ _ _ y (by omega)]
    rw [Pieces.writes_miss _ _ _ _ _ y (by omega)]
    rw [Pieces.writes_miss _ _ _ _ _ y (by omega)]
    rw [View.writes_nil, (hs0_11 t).read_unread, add_zero]

theorem final8 (c : Dev nD) : (dats m 0 c).arrAt 8 cfg0.N = specR (m ((c : Thread nD τ).loc main_arg0)) (m ((c : Thread nD τ).loc main_arg1)) (m ((c : Thread nD τ).loc main_arg4)) (m ((c : Thread nD τ).loc main_arg5)) := by
  refine (dats m 0 c).arrAt_eq_of_covers 8 _ (by decide +kernel) fun t hf y => ?_
  have e0 : (((cfg0.win 8).blk t).view.emb y 0).val = t.val * 512 + (y 0).val := by blk_simp [idx t]
  have e1 : (((cfg0.win 8).blk t).view.emb y 1).val = (y 1).val := by blk_simp [idx t]
  generalize ((cfg0.win 8).blk t).view.emb y = i at e0 e1
  blk_simp
  rw [after0_8]
  exact out8 m c t y i e0 e1

theorem final9 (c : Dev nD) : (dats m 0 c).arrAt 9 cfg0.N = specP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have e0 : (((cfg0.win 9).blk t).view.emb y 0).val = t.val * 512 + (y 0).val := by blk_simp [idx t]
  have e1 : (((cfg0.win 9).blk t).view.emb y 1).val = (y 1).val := by blk_simp [idx t]
  generalize ((cfg0.win 9).blk t).view.emb y = i at e0 e1
  blk_simp
  rw [after0_9]
  exact out9 m c t y i e0 e1

theorem final10 (c : Dev nD) : (dats m 0 c).arrAt 10 cfg0.N = specY (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have e0 : (((cfg0.win 10).blk t).view.emb y 0).val = t.val * 512 + (y 0).val := by blk_simp [idx t]
  have e1 : (((cfg0.win 10).blk t).view.emb y 1).val = (y 1).val := by blk_simp [idx t]
  generalize ((cfg0.win 10).blk t).view.emb y = i at e0 e1
  blk_simp
  rw [after0_10]
  exact out10 m c t y i e0 e1

theorem final11 (c : Dev nD) : (dats m 0 c).arrAt 11 cfg0.N = specB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have e0 : (((cfg0.win 11).blk t).view.emb y 0).val = (y 0).val := by blk_simp [idx t]
  have e1 : (((cfg0.win 11).blk t).view.emb y 1).val = (y 1).val := by blk_simp [idx t]
  generalize ((cfg0.win 11).blk t).view.emb y = i at e0 e1
  blk_simp
  rw [after0_11]
  have hi : y = i := funext (Fin.forall_fin_two.mpr ⟨Fin.ext e0.symm, Fin.ext e1.symm⟩)
  rw [← hi]
  have ht : t.val % 16 = 15 := (flush0_11 t).mp hf
  have h := Pipeline.eq_sum_of_reset_step_apply (fun n h => (outsAt0 m c n h).2.2.2) 16 (fun _ => (0 : EReal)) (term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t ht y => (out11A m c t ht y).trans (zero_add _).symm) (fun t ht y => out11B m c t ht y) t y
  refine h.trans ?_
  rw [zero_add, ht, show t.val / 16 = 0 by have : t.val < 16 := t.isLt; omega]
  refine Eq.trans ?_ (sum_term _ _ _ _ _ _ y)
  exact Finset.sum_congr rfl fun k _ => by rw [Nat.mul_zero, Nat.zero_add]

/-- The kernel's idealization computes the idealized reference. -/
theorem algebraic : algebraic_MergeBwdIdeal_MergeBwdRefIdeal := by
  intro m g m' g' _ hagree
  refine ⟨fun c => specR (m ((c : Thread nD τ).loc main_arg0)) (m ((c : Thread nD τ).loc main_arg1)) (m ((c : Thread nD τ).loc main_arg4)) (m ((c : Thread nD τ).loc main_arg5)), fun c => specP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => specY (m ((c : Thread nD τ).loc main_arg0)) (m ((c : Thread nD τ).loc main_arg1)) (m ((c : Thread nD τ).loc main_arg3)) (m ((c : Thread nD τ).loc main_arg4)) (m ((c : Thread nD τ).loc main_arg5)), fun c => specB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run _ _ _).mono (fun r h c => by
      obtain ⟨h0, h1, h2, h3, h⟩ := h c
      exact ⟨h0.trans (final8 m c), h1.trans (final9 m c), h2.trans (final10 m c), h3.trans (final11 m c), h⟩) (Value.run_blocks m g)
  · refine (θ_run _ _ _).mono (fun r h c => ?_) (Cert.MergeBwdRefIdeal.Value.run m' g')
    obtain ⟨h0, h1, h2, h3, h⟩ := h c
    obtain ⟨a0, a1, a2, a3, a4, a5⟩ := hagree c
    refine ⟨h0.trans ?_, h1.trans ?_, h2.trans ?_, h3.trans ?_, h⟩
    · rw [Cert.MergeBwdRefIdeal.Read.val_main_v94_eq, a0, a1, a4, a5]; funext i; exact ref_R _ _ _ _ i
    · rw [Cert.MergeBwdRefIdeal.Read.val_main_v96_eq, a0, a1, a2, a3, a4, a5]; funext i; exact ref_P _ _ _ _ _ _ i
    · rw [Cert.MergeBwdRefIdeal.Read.val_main_v97_eq, a0, a1, a3, a4, a5]; funext i; exact ref_Y _ _ _ _ _ i
    · rw [Cert.MergeBwdRefIdeal.Read.val_main_v98_eq, a0, a1, a2, a3, a4, a5]; funext i; exact ref_B _ _ _ _ _ _ i

end Cert.Proof.MergeBwd
-- ==== Proof.MergeFwd.lean ====
/-
  The merge of the three mixers: each mixer's result through its projection, gated and added, then the output projection
  and the first layer normalization. What the idealized kernel leaves in its four result arrays is what the idealized
  reference leaves in its own, element by element over the extended reals.
-/
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pointwise
public import Idealize.ShloMosaic.Lib.Pipeline.ValueKit

@[expose] public section

set_option maxRecDepth 16384

noncomputable section

namespace Cert.Proof.MergeFwd

open Idealize.ShloMosaic Idealize.ShloMosaic.TcCoe Idealize.SL.Sem
open Cert.MergeFwdIdeal Cert.MergeFwdIdeal.Gen

/-- A gate: the logistic function of a projected column with its bias. -/
abbrev gate (p : EReal) (bg : EReal) : EReal := Ideal.logistic (p + bg)

/-- One row of the merge: each mixer's row through its projection, times its gate, summed over the three mixers. -/
def merge (y : Fin 1536 → EReal) (p0 p1 p2 : Fin 1024 → EReal) (wb : S1536x1024.Idx → EReal) (bg : S1x3072.Idx → EReal) (d : Fin 1024) : EReal :=
  gate (p0 d) (bg (ix2 0 ⟨d.val, by omega⟩)) * ∑ k : Fin 512, y ⟨k.val, by omega⟩ * wb (ix2 ⟨k.val, by omega⟩ d)
    + gate (p1 d) (bg (ix2 0 ⟨1024 + d.val, by omega⟩)) * ∑ k : Fin 512, y ⟨512 + k.val, by omega⟩ * wb (ix2 ⟨512 + k.val, by omega⟩ d)
    + gate (p2 d) (bg (ix2 0 ⟨2048 + d.val, by omega⟩)) * ∑ k : Fin 512, y ⟨1024 + k.val, by omega⟩ * wb (ix2 ⟨1024 + k.val, by omega⟩ d)

/-- The residual sum of one row: the scaled input plus the output projection of the merged row. -/
def resid (x mg : Fin 1024 → EReal) (wo : S1024x1024.Idx → EReal) (d : Fin 1024) : EReal :=
  Ideal.ofBits .f32 1071072509#32 * x d + ∑ k : Fin 1024, mg k * wo (ix2 k d)

/-- A row less its mean. -/
def center (z : Fin 1024 → EReal) (d : Fin 1024) : EReal := z d - Ideal.div (∑ k : Fin 1024, z k) (Ideal.ofBits .f32 1149239296#32)

/-- The inverse of the standard deviation of a row. -/
def scale (z : Fin 1024 → EReal) : EReal :=
  Ideal.rsqrt (Ideal.div (∑ k : Fin 1024, center z k * center z k) (Ideal.ofBits .f32 1149239296#32) + Ideal.ofBits .f32 925353388#32)

/-! ## What one grid point computes from its loaded blocks -/

section
variable (v31 : Vec Ideal S512x1024 .f32) (v34 : Vec Ideal S512x1024 .f32) (v37 : Vec Ideal S1024x1024 .bf16) (v58 v61 : Vec Ideal S1x1024 .f32)

/-- The residual sum of a row of the loaded blocks, from the merged block. -/
abbrev rowB (r : Fin 512) : Fin 1024 → EReal := resid (fun k => v34 (ix2 r k)) (fun k => v31 (ix2 r k)) v37

theorem pay3_apply (y : S512x1024.Idx) : k0_pay3 v31 v34 v37 y = center (rowB v31 v34 v37 (y 0)) (y 1) := by
  unfold center rowB resid
  pointwise [k0_pay3, k0_pay2]

theorem pay4_apply (y : S512x1.Idx) : k0_pay4 v31 v34 v37 y = scale (rowB v31 v34 v37 (y 0)) := by
  unfold scale
  have h : ∀ k, k0_pay3 v31 v34 v37 (ix2 (y 0) k) = center (rowB v31 v34 v37 (y 0)) k := fun k => pay3_apply ..
  pointwise [k0_pay4]
  simp only [h]

theorem pay5_apply (y : S512x1024.Idx) : k0_pay5 v31 v34 v37 y = center (rowB v31 v34 v37 (y 0)) (y 1) * scale (rowB v31 v34 v37 (y 0)) := by
  have h : k0_pay4 v31 v34 v37 (ix2 (y 0) 0) = scale (rowB v31 v34 v37 (y 0)) := pay4_apply ..
  rw [← pay3_apply, ← h]
  pointwise [k0_pay5]

theorem pay6_apply (y : S512x1024.Idx) : k0_pay6 v31 v34 v37 v58 v61 y
    = center (rowB v31 v34 v37 (y 0)) (y 1) * scale (rowB v31 v34 v37 (y 0)) * v58 (ix2 0 (y 1)) + v61 (ix2 0 (y 1)) := by
  rw [← pay5_apply]
  pointwise [k0_pay6]
end

section
variable (x0 : Vec Ideal S512x1536 .bf16) (x1 x2 x3 : Vec Ideal S512x1024 .bf16) (x4 : Vec Ideal S512x1024 .f32) (x5 : Vec Ideal S1536x1024 .bf16)
  (x6 : Vec Ideal S1024x1024 .bf16) (x7 : Vec Ideal S1x3072 .f32) (x8 x9 : Vec Ideal S1x1024 .f32)

/-- The merged row of the loaded blocks. -/
abbrev mergeB (r : Fin 512) : Fin 1024 → EReal :=
  merge (fun k => x0 (ix2 r k)) (fun k => x1 (ix2 r k)) (fun k => x2 (ix2 r k)) (fun k => x3 (ix2 r k)) x5 x7

theorem pay7_apply (y : S512x1024.Idx) : k0_pay7 x0 x1 x2 x3 x4 x5 x6 x7 x8 x9 y = mergeB x0 x1 x2 x3 x5 x7 (y 0) (y 1) := by
  obtain ⟨r, d, rfl⟩ : ∃ r d, y = ix2 r d := ⟨y 0, y 1, (ix2_eta y).symm⟩
  unfold mergeB merge gate
  pointwise [k0_pay7, k0_pay1]
end

/-! ## The result arrays as functions of the arguments -/

section
variable (x0 : S8192x1536.Idx → EReal) (x1 : S8192x7168.Idx → EReal) (x2 : S8192x1024.Idx → EReal) (x3 : S1536x1024.Idx → EReal)
  (x4 : S1024x1024.Idx → EReal) (x5 : S1x3072.Idx → EReal) (x6 x7 : S1x1024.Idx → EReal)

/-- The merged row. -/
abbrev mrow (r : Fin 8192) : Fin 1024 → EReal :=
  merge (fun k => x0 (ix2 r k)) (fun k => x1 (ix2 r ⟨4096 + k.val, by omega⟩)) (fun k => x1 (ix2 r ⟨4096 + (1024 + k.val), by omega⟩)) (fun k => x1 (ix2 r ⟨4096 + (2048 + k.val), by omega⟩)) x3 x5
/-- The residual sum of a row. -/
abbrev row (r : Fin 8192) : Fin 1024 → EReal := resid (fun k => x2 (ix2 r k)) (mrow x0 x1 x3 x5 r) x4

/-- The merged rows. -/
def specM : S8192x1024.Idx → EReal := fun i => mrow x0 x1 x3 x5 (i 0) (i 1)
/-- The normalized rows. -/
def specX : S8192x1024.Idx → EReal := fun i => center (row x0 x1 x2 x3 x4 x5 (i 0)) (i 1) * scale (row x0 x1 x2 x3 x4 x5 (i 0))
/-- The inverse standard deviations. -/
def specR : S8192x1.Idx → EReal := fun i => scale (row x0 x1 x2 x3 x4 x5 (i 0))
/-- The layer's output. -/
def specY : S8192x1024.Idx → EReal := fun i => specX x0 x1 x2 x3 x4 x5 i * x6 (ix2 0 (i 1)) + x7 (ix2 0 (i 1))

open Cert.MergeFwdRefIdeal.Read

theorem ref_m (i : S8192x1024.Idx) : val_main_v52 (F := Ideal) x0 x1 x3 x5 i = specM x0 x1 x3 x5 i := by
  unfold specM mrow merge gate Ideal.logistic
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v2, val_main_v1, val_main_v0, val_main_cst, val_main_cst_0, val_main_cst_1, val_main_cst_2, val_main_cst_3, val_main_cst_4]
  all_goals rfl
theorem ref_row (i : S8192x1024.Idx) : val_main_v56 (F := Ideal) x0 x1 x2 x3 x4 x5 i = row x0 x1 x2 x3 x4 x5 (i 0) (i 1) := by
  unfold row resid
  have h : ∀ r k, val_main_v52 (F := Ideal) x0 x1 x3 x5 (ix2 r k) = mrow x0 x1 x3 x5 r k := fun r k => ref_m ..
  pointwise [val_main_v56, val_main_v55, val_main_v54, val_main_v53, val_main_cst_5, val_main_v3]
  exact congrArg₂ (· + ·) rfl (Finset.sum_congr rfl fun k _ => congrArg₂ (· * ·) (h _ _) rfl)
theorem ref_center (i : S8192x1024.Idx) : val_main_v62 (F := Ideal) x0 x1 x2 x3 x4 x5 i = center (row x0 x1 x2 x3 x4 x5 (i 0)) (i 1) := by
  unfold center
  have h : ∀ r k, val_main_v56 (F := Ideal) x0 x1 x2 x3 x4 x5 (ix2 r k) = row x0 x1 x2 x3 x4 x5 r k := fun r k => ref_row ..
  have h' : val_main_v56 (F := Ideal) x0 x1 x2 x3 x4 x5 i = row x0 x1 x2 x3 x4 x5 (i 0) (i 1) := ref_row ..
  pointwise [val_main_v62, val_main_v61, val_main_v60, val_main_v59, val_main_cst_7, val_main_v58, val_main_v57, val_main_cst_6]
  rw [h']
  exact congrArg₂ (· - ·) rfl (congrArg₂ Ideal.div (Finset.sum_congr rfl fun k _ => h _ _) rfl)
theorem ref_r (i : S8192x1.Idx) : val_main_v70 (F := Ideal) x0 x1 x2 x3 x4 x5 i = specR x0 x1 x2 x3 x4 x5 i := by
  unfold specR scale
  have h : ∀ r k, val_main_v62 (F := Ideal) x0 x1 x2 x3 x4 x5 (ix2 r k) = center (row x0 x1 x2 x3 x4 x5 r) k := fun r k => ref_center ..
  pointwise [val_main_v70, val_main_v69, val_main_v68, val_main_cst_10, val_main_v67, val_main_v66, val_main_cst_9, val_main_v65, val_main_v64, val_main_cst_8, val_main_v63]
  exact congrArg Ideal.rsqrt (congrArg₂ (· + ·) (congrArg₂ Ideal.div (Finset.sum_congr rfl fun k _ => congrArg₂ (· * ·) (h _ _) (h _ _)) rfl) rfl)
theorem ref_x (i : S8192x1024.Idx) : val_main_v74 (F := Ideal) x0 x1 x2 x3 x4 x5 i = specX x0 x1 x2 x3 x4 x5 i := by
  unfold specX
  have e : val_main_v72 (F := Ideal) x0 x1 x2 x3 x4 x5 i = val_main_v62 (F := Ideal) x0 x1 x2 x3 x4 x5 i := rfl
  have h : val_main_v70 (F := Ideal) x0 x1 x2 x3 x4 x5 (ix2 (i 0) 0) = scale (row x0 x1 x2 x3 x4 x5 (i 0)) := ref_r ..
  pointwise [val_main_v74, val_main_v73]
  rw [e, ref_center]
  exact congrArg (_ * ·) h
theorem ref_mb (i : S8192x1024.Idx) : val_main_v75 (F := Ideal) x0 x1 x3 x5 i = specM x0 x1 x3 x5 i := by
  rw [← ref_m]
  pointwise [val_main_v75]
theorem ref_y (i : S8192x1024.Idx) : val_main_v80 (F := Ideal) x0 x1 x2 x3 x4 x5 x6 x7 i = specY x0 x1 x2 x3 x4 x5 x6 x7 i := by
  unfold specY
  rw [← ref_x]
  pointwise [val_main_v80, val_main_v79, val_main_v78, val_main_v77, val_main_v76]
end

variable (m : (ℓ : Loc nD τ sig) → Buf (Elt Ideal) ℓ)

/-- The block indices at each of the 16 points. -/
theorem idx : ∀ t : Fin cfg0.N, win0_0.index t = ![t.val, 0] ∧ win0_1.index t = ![t.val, 4] ∧ win0_2.index t = ![t.val, 5] ∧ win0_3.index t = ![t.val, 6]
    ∧ win0_4.index t = ![t.val, 0] ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] :=
  (by decide +kernel : ∀ t : Fin grid0.N, _)

/-- The blocks that stay are the whole arguments. -/
theorem whole5 (c : Dev nD) (t : Fin cfg0.N) : iblk m c 5 t = m ((c : Thread nD τ).loc main_arg3) := by funext z; blk_ext [iblk, V, idx t]
theorem whole6 (c : Dev nD) (t : Fin cfg0.N) : iblk m c 6 t = m ((c : Thread nD τ).loc main_arg4) := by funext z; blk_ext [iblk, V, idx t]
theorem whole7 (c : Dev nD) (t : Fin cfg0.N) : iblk m c 7 t = m ((c : Thread nD τ).loc main_arg5) := by funext z; blk_ext [iblk, V, idx t]
theorem whole8 (c : Dev nD) (t : Fin cfg0.N) : iblk m c 8 t = m ((c : Thread nD τ).loc main_arg6) := by funext z; blk_ext [iblk, V, idx t]
theorem whole9 (c : Dev nD) (t : Fin cfg0.N) : iblk m c 9 t = m ((c : Thread nD τ).loc main_arg7) := by funext z; blk_ext [iblk, V, idx t]

/-- A row of the loaded blocks is the row of the arguments at the place the block stands. -/
theorem mrows (c : Dev nD) (t : Fin cfg0.N) (r : Fin 512) (r' : Fin 8192) (h : r'.val = t.val * 512 + r.val) :
    mergeB (iblk m c 0 t) (iblk m c 1 t) (iblk m c 2 t) (iblk m c 3 t) (iblk m c 5 t) (iblk m c 7 t) r = mrow (m ((c : Thread nD τ).loc main_arg0)) (m ((c : Thread nD τ).loc main_arg1)) (m ((c : Thread nD τ).loc main_arg3)) (m ((c : Thread nD τ).loc main_arg5)) r' := by
  have h0 : (fun k : Fin 1536 => iblk m c 0 t (ix2 r k)) = fun k => (m ((c : Thread nD τ).loc main_arg0)) (ix2 r' k) := by funext k; blk_ext [iblk, V, idx t]
  have h1 : (fun k : Fin 1024 => iblk m c 1 t (ix2 r k)) = fun k => (m ((c : Thread nD τ).loc main_arg1)) (ix2 r' ⟨4096 + k.val, by omega⟩) := by funext k; blk_ext [iblk, V, idx t]
  have h2 : (fun k : Fin 1024 => iblk m c 2 t (ix2 r k)) = fun k => (m ((c : Thread nD τ).loc main_arg1)) (ix2 r' ⟨4096 + (1024 + k.val), by omega⟩) := by funext k; blk_ext [iblk, V, idx t]
  have h3 : (fun k : Fin 1024 => iblk m c 3 t (ix2 r k)) = fun k => (m ((c : Thread nD τ).loc main_arg1)) (ix2 r' ⟨4096 + (2048 + k.val), by omega⟩) := by funext k; blk_ext [iblk, V, idx t]
  unfold mergeB mrow
  rw [h0, h1, h2, h3, whole5, whole7]

theorem rows (c : Dev nD) (t : Fin cfg0.N) (r : Fin 512) (r' : Fin 8192) (h : r'.val = t.val * 512 + r.val) :
    rowB (k0_pay7 (iblk m c 0 t) (iblk m c 1 t) (iblk m c 2 t) (iblk m c 3 t) (iblk m c 4 t) (iblk m c 5 t) (iblk m c 6 t) (iblk m c 7 t) (iblk m c 8 t) (iblk m c 9 t)) (iblk m c 4 t) (iblk m c 6 t) r = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' := by
  have h4 : (fun k : Fin 1024 => iblk m c 4 t (ix2 r k)) = fun k => (m ((c : Thread nD τ).loc main_arg2)) (ix2 r' k) := by funext k; blk_ext [iblk, V, idx t]
  have hm : (fun k : Fin 1024 => k0_pay7 (iblk m c 0 t) (iblk m c 1 t) (iblk m c 2 t) (iblk m c 3 t) (iblk m c 4 t) (iblk m c 5 t) (iblk m c 6 t) (iblk m c 7 t) (iblk m c 8 t) (iblk m c 9 t) (ix2 r k)) = mrow (m ((c : Thread nD τ).loc main_arg0)) (m ((c : Thread nD τ).loc main_arg1)) (m ((c : Thread nD τ).loc main_arg3)) (m ((c : Thread nD τ).loc main_arg5)) r' := by
    rw [← mrows m c t r r' h]; funext k; exact pay7_apply ..
  unfold rowB row
  rw [h4, hm, whole6]

theorem final10 (c : Dev nD) : (dats m 0 c).arrAt 10 cfg0.N = specM (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  have e0 : (((cfg0.win 10).blk t).view.emb y 0).val = t.val * 512 + (y 0).val := by blk_simp [idx t]
  have e1 : (((cfg0.win 10).blk t).view.emb y 1).val = (y 1).val := by blk_simp [idx t]
  generalize ((cfg0.win 10).blk t).view.emb y = i at e0 e1
  blk_simp
  rw [after0_10]
  frame_out
  refine (show _ = k0_pay7 (iblk m c 0 t) (iblk m c 1 t) (iblk m c 2 t) (iblk m c 3 t) (iblk m c 4 t) (iblk m c 5 t) (iblk m c 6 t) (iblk m c 7 t) (iblk m c 8 t) (iblk m c 9 t) y by pointwise [k0_pay2]).trans ?_
  refine (pay7_apply ..).trans ?_
  unfold specM
  rw [mrows m c t (y 0) (i 0) e0]
  exact congrArg (mrow _ _ _ _ _) (Fin.ext e1.symm)

theorem final11 (c : Dev nD) : (dats m 0 c).arrAt 11 cfg0.N = specX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have e0 : (((cfg0.win 11).blk t).view.emb y 0).val = t.val * 512 + (y 0).val := by blk_simp [idx t]
  have e1 : (((cfg0.win 11).blk t).view.emb y 1).val = (y 1).val := by blk_simp [idx t]
  generalize ((cfg0.win 11).blk t).view.emb y = i at e0 e1
  blk_simp
  rw [after0_11]
  frame_out
  refine (pay5_apply ..).trans ?_
  unfold specX
  rw [rows m c t (y 0) (i 0) e0]
  exact congrArg (fun k => center _ k * _) (Fin.ext e1.symm)

theorem final12 (c : Dev nD) : (dats m 0 c).arrAt 12 cfg0.N = specR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  have e0 : (((cfg0.win 12).blk t).view.emb y 0).val = t.val * 512 + (y 0).val := by blk_simp [idx t]
  have e1 : (((cfg0.win 12).blk t).view.emb y 1).val = (y 1).val := by blk_simp [idx t]
  generalize ((cfg0.win 12).blk t).view.emb y = i at e0 e1
  blk_simp
  rw [after0_12]
  frame_out
  refine (pay4_apply ..).trans ?_
  unfold specR
  rw [rows m c t (y 0) (i 0) e0]

theorem final13 (c : Dev nD) : (dats m 0 c).arrAt 13 cfg0.N = specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  have e0 : (((cfg0.win 13).blk t).view.emb y 0).val = t.val * 512 + (y 0).val := by blk_simp [idx t]
  have e1 : (((cfg0.win 13).blk t).view.emb y 1).val = (y 1).val := by blk_simp [idx t]
  generalize ((cfg0.win 13).blk t).view.emb y = i at e0 e1
  blk_simp
  rw [after0_13]
  frame_out
  refine (pay6_apply ..).trans ?_
  unfold specY specX
  have hk : (y 1 : Fin 1024) = i 1 := Fin.ext e1.symm
  rw [rows m c t (y 0) (i 0) e0, whole8, whole9]
  rw [hk]

/-- The kernel's idealization computes the idealized reference. -/
theorem algebraic : algebraic_MergeFwdIdeal_MergeFwdRefIdeal := by
  intro m g m' g' _ hagree
  refine ⟨fun c => specM (m ((c : Thread nD τ).loc main_arg0)) (m ((c : Thread nD τ).loc main_arg1)) (m ((c : Thread nD τ).loc main_arg3)) (m ((c : Thread nD τ).loc main_arg5)), fun c => specX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => specR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · exact (θ_run _ _ _).mono (fun r h c => by
      obtain ⟨h0, h1, h2, h3, h⟩ := h c
      exact ⟨h0.trans (final10 m c), h1.trans (final11 m c), h2.trans (final12 m c), h3.trans (final13 m c), h⟩) (Value.run_blocks m g)
  · refine (θ_run _ _ _).mono (fun r h c => ?_) (Cert.MergeFwdRefIdeal.Value.run m' g')
    obtain ⟨h0, h1, h2, h3, h⟩ := h c
    obtain ⟨a0, a1, a2, a3, a4, a5, a6, a7⟩ := hagree c
    refine ⟨h0.trans ?_, h1.trans ?_, h2.trans ?_, h3.trans ?_, h⟩
    · rw [Cert.MergeFwdRefIdeal.Read.val_main_v75_eq, a0, a1, a3, a5]; funext i; exact ref_mb _ _ _ _ i
    · rw [Cert.MergeFwdRefIdeal.Read.val_main_v74_eq, a0, a1, a2, a3, a4, a5]; funext i; exact ref_x _ _ _ _ _ _ i
    · rw [Cert.MergeFwdRefIdeal.Read.val_main_v70_eq, a0, a1, a2, a3, a4, a5]; funext i; exact ref_r _ _ _ _ _ _ i
    · rw [Cert.MergeFwdRefIdeal.Read.val_main_v80_eq, a0, a1, a2, a3, a4, a5, a6, a7]; funext i; exact ref_y _ _ _ _ _ _ _ _ i

end Cert.Proof.MergeFwd
-- ==== Proof.MixerFwdSpec.lean ====
/-
  The forward mixers of one row block, as functions of the projected rows: the short gated convolution, the gated linear
  recurrence in chunks of 32 rows, and the attention over the memory. `p r c` is entry `c` of row `r` of the projection;
  rows are counted over both sequences of the batch, columns over the four heads.
-/
module

public import Idealize.ShloMosaic.PureOps.Ideal
public import Mathlib.Algebra.BigOperators.Fin

@[expose] public section

noncomputable section

namespace Cert.Proof.MixerFwd

open Idealize.ShloMosaic

variable (p : ℕ → ℕ → EReal) (lb : ℕ → EReal)

/-- The logarithm of the forget gate. -/
def logf (r d : ℕ) : EReal := Ideal.log (lb d + (1 - lb d) * Ideal.logistic (p r (2048 + d)))

/-- The key: one less the forget gate. -/
def kk (r d : ℕ) : EReal := (1 - lb d) * Ideal.logistic (0 - p r (2048 + d))

/-- The query, through its own gate. -/
def qs (r d : ℕ) : EReal := p r (1536 + d) * Ideal.logistic (p r (1536 + d))

/-- The sum of a column over the rows of a chunk up to row `r`. -/
def upTo (g : ℕ → EReal) (r : ℕ) : EReal := ∑ j ∈ Finset.range 32, if j ≤ r % 32 then g (r - j) else 0

/-- The accumulated decay. -/
def cum (r d : ℕ) : EReal := upTo (fun i => logf p lb i d) r

/-- The query against the middle of its chunk. -/
def aa (r d : ℕ) : EReal := qs p r d * Ideal.exp (cum p lb r d - cum p lb (r / 32 * 32 + 15) d)

/-- The key against the middle of its chunk. -/
def bk (r d : ℕ) : EReal := kk p lb r d * Ideal.exp (cum p lb (r / 32 * 32 + 15) d - cum p lb r d)

/-- The query as it meets the state its chunk starts from. -/
def qin (r d : ℕ) : EReal := qs p r d * Ideal.exp (cum p lb r d)

/-- The key as it enters the state its chunk leaves. -/
def kout (r d : ℕ) : EReal := kk p lb r d * Ideal.exp (cum p lb (r / 32 * 32 + 31) d - cum p lb r d)

/-- The state of sequence `b` before its chunk `n`, at value column `cv` and key column `cf`. -/
def st (b cv cf : ℕ) : ℕ → EReal
  | 0 => 0
  | n + 1 => st b cv cf n * Ideal.exp (cum p lb (4096 * b + 32 * n + 31) cf)
      + ∑ s : Fin 32, p (4096 * b + 32 * n + s.val) (2560 + cv) * kout p lb (4096 * b + 32 * n + s.val) cf

/-- The score of row `r` on the row of its chunk at place `s`, in the head whose columns start at `H`. -/
def score (H r s : ℕ) : EReal :=
  if s ≤ r % 32 then ∑ f : Fin 128, aa p lb r (H + f.val) * bk p lb (r / 32 * 32 + s) (H + f.val) else 0

/-- The recurrence's output. -/
def out (H r cv : ℕ) : EReal :=
  (∑ s : Fin 32, score p lb H r s.val * p (r / 32 * 32 + s.val) (2560 + cv))
    + ∑ f : Fin 128, qin p lb r (H + f.val) * st p lb (r / 4096) cv (H + f.val) (r % 4096 / 32)

/-- The output, normalized over its head and gated. -/
def gated (nw : ℕ → EReal) (H r v : ℕ) : EReal :=
  out p lb H r (H + v) * Ideal.rsqrt (Ideal.div (∑ f : Fin 128, out p lb H r (H + f.val) * out p lb H r (H + f.val)) (Ideal.ofBits .f32 1124073472#32)
    + Ideal.ofBits .f32 897988541#32) * nw v * (p r (3072 + (H + v)) * Ideal.logistic (p r (3072 + (H + v))))

/-- The product the convolution runs over, `k` rows back, zero before the sequence's first row. -/
def back (k r d : ℕ) : EReal := if r % 4096 < k then 0 else p (r - k) (512 + d) * p (r - k) (1024 + d)

/-- The gated convolution. -/
def conv (cw : ℕ → ℕ → EReal) (r d : ℕ) : EReal :=
  p r d * (back p 2 r d * cw 0 d + back p 1 r d * cw 1 d + back p 0 r d * cw 2 d)

/-- The scaled product of a query row with a memory row. -/
def memScore (mk : ℕ → ℕ → EReal) (H r x : ℕ) : EReal :=
  (∑ f : Fin 128, p r (3584 + (H + f.val)) * mk (256 * (r / 4096) + x) (H + f.val)) * Ideal.ofBits .f32 1035273459#32

/-- The exponential of a score, less the row's greatest. -/
def memExp (mk : ℕ → ℕ → EReal) (H r x : ℕ) : EReal :=
  Ideal.exp (memScore p mk H r x - Finset.univ.fold max (Ideal.ofBits .f32 4286578688#32) fun k : Fin 256 => memScore p mk H r k.val)

/-- The attention over the memory. -/
def mem (mk mv : ℕ → ℕ → EReal) (H r cv : ℕ) : EReal :=
  ∑ x : Fin 256, Ideal.div (memExp p mk H r x.val) (∑ k : Fin 256, memExp p mk H r k.val) * mv (256 * (r / 4096) + x.val) cv

/-- The three mixers side by side. -/
def mixed (mk mv cw : ℕ → ℕ → EReal) (nw : ℕ → EReal) (r c : ℕ) : EReal :=
  if c < 512 then conv p cw r c
  else if c < 1024 then gated p lb nw ((c - 512) / 128 * 128) r ((c - 512) % 128)
  else mem p mk mv ((c - 1024) / 128 * 128) r (c - 1024)

theorem st_succ (b cv cf n : ℕ) : st p lb b cv cf (n + 1) = st p lb b cv cf n * Ideal.exp (cum p lb (4096 * b + 32 * n + 31) cf)
      + ∑ s : Fin 32, p (4096 * b + 32 * n + s.val) (2560 + cv) * kout p lb (4096 * b + 32 * n + s.val) cf := rfl

/-- The state after one more chunk of tile `t`, the rows counted from the tile's first. -/
theorem st_tile (t cv cf n : ℕ) : st p lb (t / 16) cv cf (8 * (t % 16) + (n + 1)) = st p lb (t / 16) cv cf (8 * (t % 16) + n) * Ideal.exp (cum p lb (256 * t + (32 * n + 31)) cf)
      + ∑ s : Fin 32, p (256 * t + (32 * n + s.val)) (2560 + cv) * kout p lb (256 * t + (32 * n + s.val)) cf := by
  have h : ∀ a, 4096 * (t / 16) + 32 * (8 * (t % 16) + n) + a = 256 * t + (32 * n + a) := fun a => by omega
  rw [← Nat.add_assoc, st_succ]
  simp only [h]

/-- One step of the sum by doubling: the sum of the last `w` rows of the chunk, and of the `w` before them. -/
theorem double (g : ℕ → EReal) (w r : ℕ) :
    (∑ j ∈ Finset.range w, if j ≤ r % 32 then g (r - j) else 0)
      + (if w ≤ r % 32 then ∑ j ∈ Finset.range w, if j ≤ (r - w) % 32 then g (r - w - j) else 0 else 0)
      = ∑ j ∈ Finset.range (w + w), if j ≤ r % 32 then g (r - j) else 0 := by
  rw [Finset.sum_range_add]
  congr 1
  by_cases h : w ≤ r % 32
  · rw [if_pos h]
    refine Finset.sum_congr rfl fun j _ => ?_
    have e : (r - w) % 32 = r % 32 - w := by omega
    rw [e, Nat.sub_sub]
    by_cases h' : j ≤ r % 32 - w
    · rw [if_pos h', if_pos (by omega)]
    · rw [if_neg h', if_neg (by omega)]
  · rw [if_neg h]
    exact (Finset.sum_eq_zero fun j _ => if_neg (by omega)).symm

end Cert.Proof.MixerFwd

end
-- ==== Proof.MixerFwdTile.lean ====
module

public import proofs.«01_k».proof.Defs
public import proofs.«01_k».proof.Proof.Gen.MixerFwdIdeal.Value
public import proofs.«01_k».proof.Proof.Gen.MixerFwdRefIdeal.Step
public import proofs.«01_k».proof.Proof.MixerFwdSpec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixerFwd

open Idealize.ShloMosaic Idealize.ShloMosaic.TcCoe Idealize.SL.Sem
open Cert.MixerFwdIdeal Cert.MixerFwdIdeal.Gen

variable (p : ℕ → ℕ → EReal) (lb : ℕ → EReal)

/-- A block of a tile, of its entries by row and column. -/
def arr {a b : ℕ} {φ : FTy} (f : ℕ → ℕ → EReal) : FVec Ideal ⟨2, ![a, b]⟩ φ := fun i => f (i 0).val (i 1).val

theorem arr_at {a b : ℕ} {φ : FTy} (f : ℕ → ℕ → EReal) (i : Fin a) (j : Fin b) : arr (φ := φ) f (ix2 i j) = f i.val j.val := rfl

/-- One step of the sum by doubling, as the kernel takes it. -/
def seg (x : FVec Ideal S256x512 .f32) (sh : BitVec 32) : FVec Ideal S256x512 .f32 :=
  addf x (select (cmpi .sge k0_pay15 (broadcast S256x512 sh)) (dynamicRotate 0 sh none x rotates_S256x512_d0) (broadcast S256x512 (Scalar.ofBits .f32 0x00000000#32)))

theorem seg_at (x : FVec Ideal S256x512 .f32) (g : ℕ → ℕ → EReal) (T w : ℕ) (hT : T % 32 = 0) (hw : w ∈ [1, 2, 4, 8, 16])
    (hx : ∀ i d, x (ix2 i d) = ∑ j ∈ Finset.range w, if j ≤ (T + i.val) % 32 then g (T + i.val - j) d.val else 0) (i : Fin 256) (d : Fin 512) :
    seg x (BitVec.ofNat 32 w) (ix2 i d) = ∑ j ∈ Finset.range (w + w), if j ≤ (T + i.val) % 32 then g (T + i.val - j) d.val else 0 := by
  have hc : ∀ w ∈ [1, 2, 4, 8, 16], ∀ i : Fin 256, IntOp.cmpi CmpIPredicate.sge (IntOp.andi (BitVec.ofNat 32 i.val) 31#32) (BitVec.ofNat 32 w) = if w ≤ i.val % 32 then 1#1 else 0#1 := by decide +kernel
  rw [← double (fun r => g r d.val)]
  have hr : seg x (BitVec.ofNat 32 w) (ix2 i d) = x (ix2 i d) + Scalar.select (IntOp.cmpi CmpIPredicate.sge (IntOp.andi (BitVec.ofNat 32 i.val) 31#32) (BitVec.ofNat 32 w))
      (x (ix2 ⟨(i.val + 256 - w) % 256, Nat.mod_lt _ (by decide)⟩ d)) 0 := by
    simp only [List.mem_cons, List.not_mem_nil, or_false] at hw
    rcases hw with rfl | rfl | rfl | rfl | rfl <;> pointwise [seg, k0_pay15]
  rw [hr, hc w hw i, hx, hx]
  have e : (T + i.val) % 32 = i.val % 32 := by omega
  congr 1
  rw [e]
  by_cases h : w ≤ i.val % 32
  · have e' : T + (i.val + 256 - w) % 256 = T + i.val - w := by omega
    rw [if_pos h, if_pos h]
    show (∑ j ∈ Finset.range w, if j ≤ (T + (i.val + 256 - w) % 256) % 32 then g (T + (i.val + 256 - w) % 256 - j) d.val else 0) = _
    rw [e']
  · rw [if_neg h, if_neg h]
    rfl

theorem pay18_eq (x : FVec Ideal S256x512 .f32) : k0_pay18 x k0_pay15 k0_pay16 (dynamicRotate 0 1#32 none x rotates_S256x512_d0)
    = seg (seg (seg (seg (seg x 1#32) 2#32) 4#32) 8#32) 16#32 := rfl

theorem pay19_eq (x : FVec Ideal S256x512 .f32) : k0_pay19 x k0_pay15 k0_pay16 (dynamicRotate 0 1#32 none x rotates_S256x512_d0)
    = k0_pay18 x k0_pay15 k0_pay16 (dynamicRotate 0 1#32 none x rotates_S256x512_d0) := shapeCast_self _ _

/-- The rows of a chunk summed by doubling. -/
theorem pay18_at (x : FVec Ideal S256x512 .f32) (g : ℕ → ℕ → EReal) (T : ℕ) (hT : T % 32 = 0) (hx : ∀ i d, x (ix2 i d) = g (T + i.val) d.val) :
    k0_pay18 x k0_pay15 k0_pay16 (dynamicRotate 0 1#32 none x rotates_S256x512_d0) = arr fun i d => upTo (fun r => g r d) (T + i) := by
  rw [pay18_eq]
  refine funext fun y => ?_
  obtain ⟨i, d, rfl⟩ : ∃ i d, y = ix2 i d := ⟨y 0, y 1, (ix2_eta y).symm⟩
  refine seg_at _ g T 16 hT (by decide) (seg_at _ g T 8 hT (by decide) (seg_at _ g T 4 hT (by decide) (seg_at _ g T 2 hT (by decide) (seg_at _ g T 1 hT (by decide) ?_)))) i d
  intro i d
  rw [hx, Finset.sum_range_one, if_pos (Nat.zero_le _)]
  rfl

variable {x0 : Vec Ideal S256x4096 .bf16} {x3 : Vec Ideal S1x512 .f32} {t : ℕ} (hx : ∀ i j, x0 (ix2 i j) = p (256 * t + i.val) j.val) (hl : ∀ d, x3 (ix2 0 d) = lb d.val)

/-- A load of columns of the tile. -/
abbrev cols (x0 : Vec Ideal S256x4096 .bf16) (o : ℕ) (inb : ∀ a : Fin 2, (![0, o] : Fin 2 → ℕ) a + (![256, 512] : Fin 2 → ℕ) a ≤ S256x4096.size a) : Vec Ideal S256x512 .bf16 :=
  View.ld x0 (Rect.unit (s := S256x4096) ![0, o] ![256, 512] inb)

include hx hl

theorem pay12_at (inb) (i : Fin 256) (d : Fin 512) : k0_pay12 x3 (cols x0 2048 inb) (ix2 i d) = logf p lb (256 * t + i.val) d.val := by
  unfold logf
  pointwise [k0_pay12, k0_pay11, cols]
  rw [hl, hx]

theorem cum18 (inb inb') : k0_pay18 (k0_pay12 x3 (cols x0 2048 inb)) k0_pay15 k0_pay16 (k0_pay17 x3 (cols x0 2048 inb')) = arr fun i d => cum p lb (256 * t + i) d :=
  pay18_at _ (logf p lb) (256 * t) (by omega) fun i d => pay12_at p lb hx hl _ i d

theorem cum19 (inb inb') : k0_pay19 (k0_pay12 x3 (cols x0 2048 inb)) k0_pay15 k0_pay16 (k0_pay17 x3 (cols x0 2048 inb')) = arr fun i d => cum p lb (256 * t + i) d :=
  (pay19_eq _).trans (cum18 p lb hx hl _ _)

theorem pay13_at (inb) : k0_pay13 x3 (cols x0 2048 inb) = arr fun i d => kk p lb (256 * t + i) d := by
  refine funext fun y => ?_
  obtain ⟨i, d, rfl⟩ : ∃ i d, y = ix2 i d := ⟨y 0, y 1, (ix2_eta y).symm⟩
  rw [arr_at]
  unfold kk
  pointwise [k0_pay13, k0_pay11, cols]
  rw [hl, hx]

omit hl in
theorem pay14_at (inb) : k0_pay14 (cols x0 1536 inb) = arr fun i d => qs p (256 * t + i) d := by
  refine funext fun y => ?_
  obtain ⟨i, d, rfl⟩ : ∃ i d, y = ix2 i d := ⟨y 0, y 1, (ix2_eta y).symm⟩
  rw [arr_at]
  unfold qs
  pointwise [k0_pay14, cols]
  rw [hx]

end Cert.Proof.MixerFwd

end
-- ==== Proof.MixerFwdParts.lean ====
module

public import proofs.«01_k».proof.Defs
public import proofs.«01_k».proof.Proof.Gen.MixerFwdIdeal.Value
public import proofs.«01_k».proof.Proof.Gen.MixerFwdRefIdeal.Step
public import proofs.«01_k».proof.Proof.MixerFwdTile
public import proofs.«01_k».proof.Proof.Pieces
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixerFwd

open Idealize.ShloMosaic Idealize.ShloMosaic.TcCoe Idealize.SL.Sem
open Cert.MixerFwdIdeal Cert.MixerFwdIdeal.Gen

variable (p : ℕ → ℕ → EReal) (lb : ℕ → EReal)

/-- A load of one row of a block. -/
abbrev row (C : ℕ → ℕ → EReal) (r : ℕ) (inb : ∀ a : Fin 2, (![r, 0] : Fin 2 → ℕ) a + (![1, 512] : Fin 2 → ℕ) a ≤ S256x512.size a) : Vec Ideal S1x512 .f32 :=
  View.ld (arr C : FVec Ideal S256x512 .f32) (Rect.unit (s := S256x512) ![r, 0] ![1, 512] inb)

/-- A row repeated over a chunk. -/
abbrev rows (x : Vec Ideal S1x512 .f32) : FVec Ideal S32x512 .f32 :=
  broadcastTo S32x512 (shapeCast S1x512 x shapeCasts_S1x512_S1x512) broadcasts_S1x512_S32x512

theorem row_eq (C : ℕ → ℕ → EReal) (r : ℕ) (inb) : row C r inb = (arr fun _ d => C r d : FVec Ideal S1x512 .f32) := by
  refine funext fun y => ?_
  obtain ⟨i, d, rfl⟩ : ∃ i d, y = ix2 i d := ⟨y 0, y 1, (ix2_eta y).symm⟩
  obtain rfl : i = 0 := Subsingleton.elim _ _
  rw [arr_at]
  pointwise [row]
  rfl

theorem rows_eq (C : ℕ → EReal) : rows (arr fun _ d => C d : FVec Ideal S1x512 .f32) = (arr fun _ d => C d : FVec Ideal S32x512 .f32) := by
  refine funext fun y => ?_
  obtain ⟨i, d, rfl⟩ : ∃ i d, y = ix2 i d := ⟨y 0, y 1, (ix2_eta y).symm⟩
  rw [arr_at]
  pointwise [rows]
  rfl

/-- Eight chunks, each of one repeated row, one below the other. -/
theorem stack (C : ℕ → ℕ → EReal) (o : ℕ) (h) :
    concatenate S256x512 0 [⟨S32x512, (arr fun _ d => C (0 + o) d : FVec Ideal S32x512 .f32)⟩, ⟨S32x512, (arr fun _ d => C (32 + o) d : FVec Ideal S32x512 .f32)⟩, ⟨S32x512, (arr fun _ d => C (64 + o) d : FVec Ideal S32x512 .f32)⟩, ⟨S32x512, (arr fun _ d => C (96 + o) d : FVec Ideal S32x512 .f32)⟩, ⟨S32x512, (arr fun _ d => C (128 + o) d : FVec Ideal S32x512 .f32)⟩, ⟨S32x512, (arr fun _ d => C (160 + o) d : FVec Ideal S32x512 .f32)⟩, ⟨S32x512, (arr fun _ d => C (192 + o) d : FVec Ideal S32x512 .f32)⟩, ⟨S32x512, (arr fun _ d => C (224 + o) d : FVec Ideal S32x512 .f32)⟩] h
      = (arr fun i d => C (i / 32 * 32 + o) d : FVec Ideal S256x512 .f32) := by
  refine funext fun y => ?_
  obtain ⟨i, d, rfl⟩ : ∃ i d, y = ix2 i d := ⟨y 0, y 1, (ix2_eta y).symm⟩
  rw [arr_at]
  pointwise
  simp only [arr]
  split_ifs <;> congr 2 <;> omega

theorem rows_row (C : ℕ → ℕ → EReal) (r : ℕ) (inb) : rows (row C r inb) = (arr fun _ d => C r d : FVec Ideal S32x512 .f32) := by
  rw [row_eq, rows_eq]

theorem stack_eq (C : ℕ → ℕ → EReal) (o : ℕ) {x0 x1 x2 x3 x4 x5 x6 x7 : FVec Ideal S32x512 .f32} (h0 : x0 = arr fun _ d => C (0 + o) d) (h1 : x1 = arr fun _ d => C (32 + o) d)
    (h2 : x2 = arr fun _ d => C (64 + o) d) (h3 : x3 = arr fun _ d => C (96 + o) d) (h4 : x4 = arr fun _ d => C (128 + o) d) (h5 : x5 = arr fun _ d => C (160 + o) d)
    (h6 : x6 = arr fun _ d => C (192 + o) d) (h7 : x7 = arr fun _ d => C (224 + o) d) (h) :
    concatenate S256x512 0 [⟨S32x512, x0⟩, ⟨S32x512, x1⟩, ⟨S32x512, x2⟩, ⟨S32x512, x3⟩, ⟨S32x512, x4⟩, ⟨S32x512, x5⟩, ⟨S32x512, x6⟩, ⟨S32x512, x7⟩] h
      = (arr fun i d => C (i / 32 * 32 + o) d : FVec Ideal S256x512 .f32) := by
  subst h0 h1 h2 h3 h4 h5 h6 h7
  exact stack C o h

theorem pay33_at (t : ℕ) (i1 i2 i3 i4 i5 i6 i7 i8) :
   k0_pay33 (arr fun i d => kk p lb (256 * t + i) d) (arr fun i d => cum p lb (256 * t + i) d)
     (rows (row (fun i d => cum p lb (256 * t + i) d) 31 i1)) (rows (row (fun i d => cum p lb (256 * t + i) d) 63 i2)) (rows (row (fun i d => cum p lb (256 * t + i) d) 95 i3)) (rows (row (fun i d => cum p lb (256 * t + i) d) 127 i4))
     (rows (row (fun i d => cum p lb (256 * t + i) d) 159 i5)) (rows (row (fun i d => cum p lb (256 * t + i) d) 191 i6)) (row (fun i d => cum p lb (256 * t + i) d) 223 i7) (row (fun i d => cum p lb (256 * t + i) d) 255 i8)
     = arr fun i d => kout p lb (256 * t + i) d := by
  unfold k0_pay33
  dsimp only
  rw [stack_eq (fun i d => cum p lb (256 * t + i) d) 31 (rows_row (fun i d => cum p lb (256 * t + i) d) 31 i1) (rows_row (fun i d => cum p lb (256 * t + i) d) 63 i2) (rows_row (fun i d => cum p lb (256 * t + i) d) 95 i3) (rows_row (fun i d => cum p lb (256 * t + i) d) 127 i4) (rows_row (fun i d => cum p lb (256 * t + i) d) 159 i5) (rows_row (fun i d => cum p lb (256 * t + i) d) 191 i6) (rows_row (fun i d => cum p lb (256 * t + i) d) 223 i7) (rows_row (fun i d => cum p lb (256 * t + i) d) 255 i8)]
  refine funext fun y => ?_
  obtain ⟨i, d, rfl⟩ : ∃ i d, y = ix2 i d := ⟨y 0, y 1, (ix2_eta y).symm⟩
  have e : (256 * t + i.val) / 32 * 32 + 31 = 256 * t + (i.val / 32 * 32 + 31) := by omega
  rw [arr_at]
  unfold kout
  pointwise
  rw [e]
  rfl

theorem fold23 (x0 x1 x2 x3 x4 x5 x6 x7 : Vec Ideal S1x512 .f32) (b) (s) (h) :
    concatenate S256x512 0 [⟨S32x512, k0_pay20 x0⟩, ⟨S32x512, k0_pay21 x1⟩, ⟨S32x512, broadcastTo S32x512 (k0_pay22 x2) b⟩, ⟨S32x512, broadcastTo S32x512 (shapeCast S1x512 x3 s) b⟩,
      ⟨S32x512, broadcastTo S32x512 (shapeCast S1x512 x4 s) b⟩, ⟨S32x512, broadcastTo S32x512 (shapeCast S1x512 x5 s) b⟩, ⟨S32x512, broadcastTo S32x512 (shapeCast S1x512 x6 s) b⟩, ⟨S32x512, broadcastTo S32x512 (shapeCast S1x512 x7 s) b⟩] h
      = k0_pay23 (k0_pay20 x0) (k0_pay21 x1) (k0_pay22 x2) x3 x4 x5 x6 x7 := rfl

theorem pay23_at (t : ℕ) (i1 i2 i3 i4 i5 i6 i7 i8) :
   k0_pay23 (k0_pay20 (row (fun i d => cum p lb (256 * t + i) d) 15 i1)) (k0_pay21 (row (fun i d => cum p lb (256 * t + i) d) 47 i2)) (k0_pay22 (row (fun i d => cum p lb (256 * t + i) d) 79 i3)) (row (fun i d => cum p lb (256 * t + i) d) 111 i4)
     (row (fun i d => cum p lb (256 * t + i) d) 143 i5) (row (fun i d => cum p lb (256 * t + i) d) 175 i6) (row (fun i d => cum p lb (256 * t + i) d) 207 i7) (row (fun i d => cum p lb (256 * t + i) d) 239 i8)
     = arr fun i d => cum p lb (256 * t + (i / 32 * 32 + 15)) d := by
  unfold k0_pay20 k0_pay21 k0_pay22 k0_pay23
  dsimp only
  exact stack_eq (fun i d => cum p lb (256 * t + i) d) 15 (rows_row _ _ _) (rows_row _ _ _) (rows_row _ _ _) (rows_row _ _ _) (rows_row _ _ _) (rows_row _ _ _) (rows_row _ _ _) (rows_row _ _ _) _

theorem pay30_at (t : ℕ) : k0_pay30 (arr fun i d => qs p (256 * t + i) d) (arr fun i d => cum p lb (256 * t + i) d) (arr fun i d => cum p lb (256 * t + (i / 32 * 32 + 15)) d)
    = arr fun i d => aa p lb (256 * t + i) d := by
  refine funext fun y => ?_
  have e : (256 * t + (y 0).val) / 32 * 32 + 15 = 256 * t + ((y 0).val / 32 * 32 + 15) := by omega
  show qs p _ _ * Ideal.exp (_ - _) = aa p lb _ _
  unfold aa
  rw [e]
  rfl

theorem pay31_at (t : ℕ) : k0_pay31 (arr fun i d => kk p lb (256 * t + i) d) (arr fun i d => cum p lb (256 * t + i) d) (arr fun i d => cum p lb (256 * t + (i / 32 * 32 + 15)) d)
    = arr fun i d => bk p lb (256 * t + i) d := by
  refine funext fun y => ?_
  have e : (256 * t + (y 0).val) / 32 * 32 + 15 = 256 * t + ((y 0).val / 32 * 32 + 15) := by omega
  show kk p lb _ _ * Ideal.exp (_ - _) = bk p lb _ _
  unfold bk
  rw [e]
  rfl

theorem pay32_at (t : ℕ) : k0_pay32 (arr fun i d => qs p (256 * t + i) d) (arr fun i d => cum p lb (256 * t + i) d) = arr fun i d => qin p lb (256 * t + i) d := rfl

/-- A load of one row of a head. -/
abbrev part (C : ℕ → ℕ → EReal) (e H : ℕ) (inb : ∀ a : Fin 2, (![e, H] : Fin 2 → ℕ) a + (![1, 128] : Fin 2 → ℕ) a ≤ S256x512.size a) : FVec Ideal S1x128 .f32 :=
  View.ld (Val := Elt Ideal) (e' := .f32) (arr C : FVec Ideal S256x512 .f32) (Rect.unit (s := S256x512) ![e, H] ![1, 128] inb)

/-- The state of one head after one more chunk of the tile. -/
theorem upd (t n o e H : ℕ) (ho : o = 32 * n) (he : e = 32 * n + 31) (i1 i2 i3 i4) :
    addf (mulf (arr fun v f => st p lb (t / 16) (H + v) (H + f) (8 * (t % 16) + n)) (broadcastTo S128x128 (exp (part (fun i d => cum p lb (256 * t + i) d) e H i1)) i2))
      (matmul dot_S32x128_S32x128_S128x128_0_0_1_1_n_n none (extractStridedSlice S32x128 ![o, H] (arr fun i d => p (256 * t + i) (2560 + d) : FVec Ideal S256x512 .bf16) i3)
        (extractStridedSlice S32x128 ![o, H] (arr fun i d => kout p lb (256 * t + i) d : FVec Ideal S256x512 .bf16) i4) (constant S128x128 .f32 0x00000000#32))
      = (arr fun v f => st p lb (t / 16) (H + v) (H + f) (8 * (t % 16) + (n + 1)) : FVec Ideal S128x128 .f32) := by
  subst ho he
  refine funext fun y => ?_
  obtain ⟨i, d, rfl⟩ : ∃ i d, y = ix2 i d := ⟨y 0, y 1, (ix2_eta y).symm⟩
  rw [arr_at, st_tile]
  pointwise [part]
  rfl

/-- What the rows of a chunk read of the state the chunk starts from. -/
def readSt (t H o n : ℕ) : FVec Ideal S32x128 .f32 :=
  arr fun i v => ∑ f : Fin 128, qin p lb (256 * t + (o + i)) (H + f.val) * st p lb (t / 16) (H + v) (H + f.val) (8 * (t % 16) + n)

theorem inter (t o H n : ℕ) (i1 i2) :
    matmul dot_S32x128_S128x128_S32x128_1_1_0_0_n_n none (extractStridedSlice S32x128 ![o, H] (arr fun i d => qin p lb (256 * t + i) d : FVec Ideal S256x512 .bf16) i1)
      (truncf .bf16 (arr fun v f => st p lb (t / 16) (H + v) (H + f) (8 * (t % 16) + n) : FVec Ideal S128x128 .f32) i2) (constant S32x128 .f32 0x00000000#32)
      = readSt p lb t H o n := by
  refine funext fun y => ?_
  obtain ⟨i, d, rfl⟩ : ∃ i d, y = ix2 i d := ⟨y 0, y 1, (ix2_eta y).symm⟩
  unfold readSt
  rw [arr_at]
  pointwise
  rfl

/-- The eight chunks of a tile, one below the other. -/
theorem reads (t H : ℕ) (h) (r : Fin 256) (v : Fin 128) :
    concatenate S256x128 0 [⟨S32x128, readSt p lb t H 0 0⟩, ⟨S32x128, readSt p lb t H 32 1⟩, ⟨S32x128, readSt p lb t H 64 2⟩, ⟨S32x128, readSt p lb t H 96 3⟩, ⟨S32x128, readSt p lb t H 128 4⟩,
      ⟨S32x128, readSt p lb t H 160 5⟩, ⟨S32x128, readSt p lb t H 192 6⟩, ⟨S32x128, readSt p lb t H 224 7⟩] h (ix2 r v)
      = ∑ f : Fin 128, qin p lb (256 * t + r.val) (H + f.val) * st p lb ((256 * t + r.val) / 4096) (H + v.val) (H + f.val) ((256 * t + r.val) % 4096 / 32) := by
  have e : (256 * t + r.val) / 4096 = t / 16 := by omega
  rw [e]
  pointwise
  unfold readSt
  simp only [arr_at]
  split_ifs <;> refine Finset.sum_congr (M := EReal) rfl fun f _ => ?_ <;> congr 2 <;> omega

/-- What the rows of a tile read of the tile's own rows, through the mask. -/
theorem intra (t H : ℕ) (mk : IVec S256x256 1) (hm : ∀ r s : Fin 256, mk (ix2 r s) = if s.val / 32 = r.val / 32 ∧ s.val ≤ r.val then 1#1 else 0#1) (i1 i2 i3 i4) (r : Fin 256) (v : Fin 128) :
    matmul dot_S256x256_S256x128_S256x128_1_0_0_1_n_n none
      (truncf .bf16 (select mk (matmul dot_S256x128_S256x128_S256x256_1_1_0_0_n_n none (extractStridedSlice S256x128 ![0, H] (arr fun i d => aa p lb (256 * t + i) d : FVec Ideal S256x512 .bf16) i1)
        (extractStridedSlice S256x128 ![0, H] (arr fun i d => bk p lb (256 * t + i) d : FVec Ideal S256x512 .bf16) i2) (constant S256x256 .f32 0x00000000#32)) (broadcast S256x256 (Scalar.ofBits .f32 0x00000000#32))) i3)
      (extractStridedSlice S256x128 ![0, H] (arr fun i d => p (256 * t + i) (2560 + d) : FVec Ideal S256x512 .bf16) i4) (constant S256x128 .f32 0x00000000#32) (ix2 r v)
      = ∑ s : Fin 32, score p lb H (256 * t + r.val) s.val * p ((256 * t + r.val) / 32 * 32 + s.val) (2560 + (H + v.val)) := by
  have e : (256 * t + r.val) / 32 * 32 = 256 * t + r.val / 32 * 32 := by omega
  have e' : (256 * t + r.val) % 32 = r.val % 32 := by omega
  pointwise
  simp only [hm, arr]
  rw [Fin.sum_univ_tiles 8 32 rfl, Finset.sum_eq_single (⟨r.val / 32, by omega⟩ : Fin 8)]
  · refine Finset.sum_congr (M := EReal) rfl fun s _ => ?_
    unfold score
    rw [e, e']
    have h : ∀ q, q = r.val / 32 * 32 + s.val → (q / 32 = r.val / 32 ∧ q ≤ r.val ↔ s.val ≤ r.val % 32) := fun q hq => by omega
    simp only [h _ rfl]
    by_cases h' : s.val ≤ r.val % 32
    · rw [if_pos h', if_pos h', Nat.add_assoc]
      rfl
    · rw [if_neg h', if_neg h', zero_mul]
      rfl
  · intro b _ hb
    have h : ∀ s : Fin 32, ¬ ((b.val * 32 + s.val) / 32 = r.val / 32 ∧ b.val * 32 + s.val ≤ r.val) := fun s h => hb (Fin.ext (by show b.val = r.val / 32; omega))
    simp only [h, if_false]
    exact Finset.sum_eq_zero fun _ _ => rfl
  · exact fun h => absurd (Finset.mem_univ _) h

theorem word34 : ∀ r s : Fin 256, k0_pay34 (ix2 r s) = BitVec.ofNat 32 (r.val / 32) := by
  intro r s
  have h : ∀ r : Fin 256, k0_pay34 (ix2 r 0) = BitVec.ofNat 32 (r.val / 32) := by
    simp only [k0_pay34]
    pointwise
    decide +kernel
  rw [← h r]
  simp only [k0_pay34]
  pointwise

theorem mask35 (r s : Fin 256) : k0_pay35 (iota Kind.tc S256x256 32 [0] iota_S256x256_d0_w32) (iota Kind.tc S256x256 32 [1] iota_S256x256_d1_w32) k0_pay34 32#32 (ix2 r s)
    = if s.val / 32 = r.val / 32 ∧ s.val ≤ r.val then 1#1 else 0#1 := by
  have h : ∀ s : Fin 256, ∀ r, k0_pay35 (iota Kind.tc S256x256 32 [0] iota_S256x256_d0_w32) (iota Kind.tc S256x256 32 [1] iota_S256x256_d1_w32) k0_pay34 32#32 (ix2 r s)
     = IntOp.andi (IntOp.cmpi CmpIPredicate.eq (BitVec.ofNat 32 (r.val / 32)) (BitVec.ofNat 32 (s.val / 32))) (IntOp.cmpi CmpIPredicate.sle (BitVec.ofNat 32 s.val) (BitVec.ofNat 32 r.val)) := by
    intro s r
    rw [← word34 s r, ← word34 r s]
    unfold k0_pay34
    pointwise [k0_pay35]
  rw [h]
  rw [WordCmp.cmpi_eq_ofNat (by omega) (by omega), WordCmp.cmpi_sle_ofNat (by omega) (by omega)]
  simp only [show (r.val / 32 = s.val / 32) = (s.val / 32 = r.val / 32) from propext eq_comm]
  by_cases h1 : s.val / 32 = r.val / 32 <;> by_cases h2 : s.val ≤ r.val <;> simp only [h1, h2, decide_true, decide_false, and_true, and_false, if_true, if_false] <;> rfl

/-- A load of columns of the tile, in arrays. -/
theorem cols_eq {x0 : Vec Ideal S256x4096 .bf16} {t : ℕ} (hx : ∀ i j, x0 (ix2 i j) = p (256 * t + i.val) j.val) (o : ℕ) (inb) :
    cols x0 o inb = (arr fun i d => p (256 * t + i) (o + d) : FVec Ideal S256x512 .bf16) := by
  refine funext fun y => ?_
  obtain ⟨i, d, rfl⟩ : ∃ i d, y = ix2 i d := ⟨y 0, y 1, (ix2_eta y).symm⟩
  rw [arr_at]
  pointwise [cols]
  rw [hx]

/-- The state of a head, as loaded when a tile begins. -/
theorem head (h t : ℕ) (hh : h < 4) {x : Vec Ideal S4x128x128 .f32} (hs : ∀ (a : Fin 4) (v f : Fin 128), x (ix3 a v f) = st p lb (t / 16) (128 * a.val + v.val) (128 * a.val + f.val) (8 * (t % 16))) (inb) (sc) :
    shapeCast S128x128 (View.ld x (Rect.unit (s := S4x128x128) ![h, 0, 0] ![1, 128, 128] inb) : Vec Ideal S1x128x128 .f32) sc
      = (arr fun v f => st p lb (t / 16) (128 * h + v) (128 * h + f) (8 * (t % 16) + 0) : FVec Ideal S128x128 .f32) := by
  refine funext fun y => ?_
  obtain ⟨i, d, rfl⟩ : ∃ i d, y = ix2 i d := ⟨y 0, y 1, (ix2_eta y).symm⟩
  rw [arr_at]
  simp only [pointwise]
  refine Eq.trans (congrArg x ?_) (hs ⟨h, hh⟩ i d)
  congr 1
  · exact Fin.ext (by show 0 + 1 * i.val = i.val; omega)
  · exact Fin.ext (by show 0 + 1 * d.val = d.val; omega)

theorem fold35 (b : 1 < 32) : andi (cmpi CmpIPredicate.eq k0_pay34 (select (andi (cmpi CmpIPredicate.ne (subi (extui 32 (cmpi CmpIPredicate.sgt (iota Kind.tc S256x256 32 [1] iota_S256x256_d1_w32) (broadcast S256x256 0#32)) b)
      (extui 32 (cmpi CmpIPredicate.slt (iota Kind.tc S256x256 32 [1] iota_S256x256_d1_w32) (broadcast S256x256 0#32)) b)) (broadcast S256x256 1#32))
        (cmpi CmpIPredicate.ne (remsi (iota Kind.tc S256x256 32 [1] iota_S256x256_d1_w32) (broadcast S256x256 32#32)) (broadcast S256x256 0#32)))
        (subi (divsi (iota Kind.tc S256x256 32 [1] iota_S256x256_d1_w32) (broadcast S256x256 32#32)) (broadcast S256x256 1#32)) (divsi (iota Kind.tc S256x256 32 [1] iota_S256x256_d1_w32) (broadcast S256x256 32#32))))
      (cmpi CmpIPredicate.sle (iota Kind.tc S256x256 32 [1] iota_S256x256_d1_w32) (iota Kind.tc S256x256 32 [0] iota_S256x256_d0_w32))
    = k0_pay35 (iota Kind.tc S256x256 32 [0] iota_S256x256_d0_w32) (iota Kind.tc S256x256 32 [1] iota_S256x256_d1_w32) k0_pay34 32#32 := rfl

/-- One head's output over a tile. -/
theorem tileOut (t H : ℕ) (i1 i2 i3 i4 h) :
    addf (matmul dot_S256x256_S256x128_S256x128_1_0_0_1_n_n none
      (truncf .bf16 (select (k0_pay35 (iota Kind.tc S256x256 32 [0] iota_S256x256_d0_w32) (iota Kind.tc S256x256 32 [1] iota_S256x256_d1_w32) k0_pay34 32#32)
        (matmul dot_S256x128_S256x128_S256x256_1_1_0_0_n_n none (extractStridedSlice S256x128 ![0, H] (arr fun i d => aa p lb (256 * t + i) d : FVec Ideal S256x512 .bf16) i1)
        (extractStridedSlice S256x128 ![0, H] (arr fun i d => bk p lb (256 * t + i) d : FVec Ideal S256x512 .bf16) i2) (constant S256x256 .f32 0x00000000#32)) (broadcast S256x256 (Scalar.ofBits .f32 0x00000000#32))) i3)
      (extractStridedSlice S256x128 ![0, H] (arr fun i d => p (256 * t + i) (2560 + d) : FVec Ideal S256x512 .bf16) i4) (constant S256x128 .f32 0x00000000#32))
      (concatenate S256x128 0 [⟨S32x128, readSt p lb t H 0 0⟩, ⟨S32x128, readSt p lb t H 32 1⟩, ⟨S32x128, readSt p lb t H 64 2⟩, ⟨S32x128, readSt p lb t H 96 3⟩, ⟨S32x128, readSt p lb t H 128 4⟩,
      ⟨S32x128, readSt p lb t H 160 5⟩, ⟨S32x128, readSt p lb t H 192 6⟩, ⟨S32x128, readSt p lb t H 224 7⟩] h)
    = arr fun r v => out p lb H (256 * t + r) (H + v) := by
  refine funext fun y => ?_
  obtain ⟨r, v, rfl⟩ : ∃ i d, y = ix2 i d := ⟨y 0, y 1, (ix2_eta y).symm⟩
  rw [arr_at]
  exact congrArg₂ (· + ·) (intra p lb t H _ mask35 _ _ _ _ r v) (reads p lb t H h r v)

/-- A state as written to the states of a tile. -/
theorem put4 (f : ℕ → ℕ → EReal) (sc) (x : S1x1x128x128.Idx) : shapeCast S1x1x128x128 (arr f : FVec Ideal S128x128 .f32) sc x = f (x 2).val (x 3).val := by
  pointwise
  rfl

/-- A state as kept for the next tile. -/
theorem put3 (f : ℕ → ℕ → EReal) (sc) (x : S1x128x128.Idx) : shapeCast S1x128x128 (arr f : FVec Ideal S128x128 .f32) sc x = f (x 1).val (x 2).val := by
  pointwise
  rfl

end Cert.Proof.MixerFwd

end
-- ==== Proof.MixerFwdBlocks.lean ====
module

public import proofs.«01_k».proof.Defs
public import proofs.«01_k».proof.Proof.Gen.MixerFwdIdeal.Value
public import proofs.«01_k».proof.Proof.Gen.MixerFwdRefIdeal.Step
public import proofs.«01_k».proof.Proof.MixerFwdTile
public import proofs.«01_k».proof.Proof.Pieces
public import proofs.«01_k».proof.Proof.MixerFwdParts
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixerFwd

open Idealize.ShloMosaic Idealize.ShloMosaic.TcCoe Idealize.SL.Sem
open Cert.MixerFwdIdeal Cert.MixerFwdIdeal.Gen
variable (p : ℕ → ℕ → EReal) (lb : ℕ → EReal)

variable (mk mv cw : ℕ → ℕ → EReal) (nw : ℕ → EReal)

theorem arr_idx {a b : ℕ} {φ : FTy} (f : ℕ → ℕ → EReal) (x : (⟨2, ![a, b]⟩ : Shape).Idx) : arr (φ := φ) f x = f (x 0).val (x 1).val := rfl

/-- A head's output, normalized and gated as the kernel does it. -/
theorem gatedTile (t H G : ℕ) (hG : G = 3072 + H) {x0 : Vec Ideal S256x4096 .bf16} (hx : ∀ i j, x0 (ix2 i j) = p (256 * t + i.val) j.val) {x5 : Vec Ideal S1x128 .f32} (hn : ∀ v, x5 (ix2 0 v) = nw v.val) (i7 i8) :
    truncf .bf16 (mulf (mulf (mulf (arr fun r v => out p lb H (256 * t + r) (H + v) : FVec Ideal S256x128 .f32) (broadcastTo S256x128 (rsqrt (addf (divf (shapeCast S256x1
      (multiReduction .add [1] S256 (mulf (arr fun r v => out p lb H (256 * t + r) (H + v) : FVec Ideal S256x128 .f32) (arr fun r v => out p lb H (256 * t + r) (H + v))) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128)) (broadcastTo S256x128 x5 broadcasts_S1x128_S256x128))
      (mulf (extf .f32 (View.ld x0 (Rect.unit (s := S256x4096) ![0, G] ![256, 128] i7) : Vec Ideal S256x128 .bf16) i8) (logistic (extf .f32 (View.ld x0 (Rect.unit (s := S256x4096) ![0, G] ![256, 128] i7) : Vec Ideal S256x128 .bf16) i8)))) i8
      = arr fun r v => gated p lb nw H (256 * t + r) v := by
  refine funext fun y => ?_
  obtain ⟨r, v, rfl⟩ : ∃ i d, y = ix2 i d := ⟨y 0, y 1, (ix2_eta y).symm⟩
  rw [arr_at]
  unfold gated
  subst hG
  pointwise
  simp only [arr_at]
  rw [hn, hx]
  simp only [Nat.add_assoc]

/-- The scaled scores of a head on the memory. -/
abbrev scores (q k : Vec Ideal S256x128 .bf16) : FVec Ideal S256x256 .f32 :=
  mulf (matmul (φ₁ := .bf16) (φ₂ := .bf16) dot_S256x128_S256x128_S256x256_1_1_0_0_n_n none q k (constant S256x256 .f32 0x00000000#32)) (broadcast S256x256 (Scalar.ofBits .f32 0x3DB504F3#32))

/-- Their exponentials, less the row's greatest. -/
abbrev exps (q k : Vec Ideal S256x128 .bf16) : FVec Ideal S256x256 .f32 :=
  exp (subf (scores q k) (broadcastTo S256x256 (shapeCast S256x1 (multiReduction .maximumf [1] S256 (scores q k) 0xFF800000#32 reduces_S256x256_S256 (.inl rfl) rfl) shapeCasts_S256_S256x1) broadcasts_S256x1_S256x256))

/-- A load of a head's columns. -/
abbrev hd {n w : ℕ} (x0 : Vec Ideal ⟨2, ![n, w]⟩ .bf16) (o : ℕ) (inb : ∀ a : Fin 2, (![0, o] : Fin 2 → ℕ) a + (![256, 128] : Fin 2 → ℕ) a ≤ (⟨2, ![n, w]⟩ : Shape).size a) : Vec Ideal S256x128 .bf16 :=
  View.ld x0 (Rect.unit (s := ⟨2, ![n, w]⟩) ![0, o] ![256, 128] inb)

theorem hd_at {n w : ℕ} (x0 : Vec Ideal ⟨2, ![n, w]⟩ .bf16) (o : ℕ) (inb) (f : ℕ → ℕ → EReal) (hx : ∀ i j, x0 (ix2 i j) = f i.val j.val) (i d) : hd x0 o inb (ix2 i d) = f i.val (o + d.val) := by
  have h : o + 128 ≤ w := inb 1
  have hi := i.isLt
  have hd := d.isLt
  have h0 : 0 + 256 ≤ n := inb 0
  refine Eq.trans (congrArg x0 (?_ : _ = ix2 ⟨i.val, by omega⟩ ⟨o + d.val, by omega⟩)) (hx _ _)
  refine funext (Fin.forall_fin_two.mpr ⟨Fin.ext ?_, Fin.ext ?_⟩)
  · show 0 + 1 * i.val = i.val
    omega
  · show o + 1 * d.val = o + d.val
    omega

theorem scores_at (q k : Vec Ideal S256x128 .bf16) (r x : Fin 256) : scores q k (ix2 r x) = (∑ f : Fin 128, q (ix2 r f) * k (ix2 x f)) * Ideal.ofBits .f32 1035273459#32 := by
  pointwise

theorem exps_at (q k : Vec Ideal S256x128 .bf16) (r x : Fin 256) : exps q k (ix2 r x) = Ideal.exp (scores q k (ix2 r x) - Finset.univ.fold max (Ideal.ofBits .f32 4286578688#32) fun j : Fin 256 => scores q k (ix2 r j)) := by
  unfold exps
  generalize scores q k = s
  pointwise

theorem memTile0 (q k v : Vec Ideal S256x128 .bf16) (i9) (r : Fin 256) (d : Fin 128) :
    (truncf .bf16 (matmul (φ₁ := .bf16) (φ₂ := .bf16) dot_S256x256_S256x128_S256x128_1_0_0_1_n_n none (truncf .bf16 (divf (exps q k) (broadcastTo S256x256 (shapeCast S256x1 (multiReduction .add [1] S256 (exps q k) 0x00000000#32 reduces_S256x256_S256 (.inl rfl) rfl) shapeCasts_S256_S256x1) broadcasts_S256x1_S256x256)) i9) v (constant S256x128 .f32 0x00000000#32)) i9 : FVec Ideal S256x128 .bf16) (ix2 r d)
      = ∑ x : Fin 256, Ideal.div (exps q k (ix2 r x)) (∑ j : Fin 256, exps q k (ix2 r j)) * v (ix2 x d) := by
  generalize exps q k = e
  pointwise

/-- A head of the attention over the memory. -/
theorem memTile (t H Q : ℕ) (hQ : Q = 3584 + H) {x0 : Vec Ideal S256x4096 .bf16} (hx : ∀ i j, x0 (ix2 i j) = p (256 * t + i.val) j.val) {x1 x2 : Vec Ideal S256x512 .bf16} (hk : ∀ i j, x1 (ix2 i j) = mk (256 * (t / 16) + i.val) j.val)
    (hv : ∀ i j, x2 (ix2 i j) = mv (256 * (t / 16) + i.val) j.val) (j1 j2 i9) :
    (truncf .bf16 (matmul (φ₁ := .bf16) (φ₂ := .bf16) dot_S256x256_S256x128_S256x128_1_0_0_1_n_n none (truncf .bf16 (divf (exps (hd x0 Q j1) (hd x1 H j2)) (broadcastTo S256x256 (shapeCast S256x1 (multiReduction .add [1] S256 (exps (hd x0 Q j1) (hd x1 H j2)) 0x00000000#32 reduces_S256x256_S256 (.inl rfl) rfl) shapeCasts_S256_S256x1) broadcasts_S256x1_S256x256)) i9) (hd x2 H j2) (constant S256x128 .f32 0x00000000#32)) i9 : FVec Ideal S256x128 .bf16)
      = arr fun r d => mem p mk mv H (256 * t + r) (H + d) := by
  refine funext fun y => ?_
  obtain ⟨r, d, rfl⟩ : ∃ i d, y = ix2 i d := ⟨y 0, y 1, (ix2_eta y).symm⟩
  rw [arr_at, memTile0]
  have hr := r.isLt
  have e : (256 * t + r.val) / 4096 = t / 16 := by omega
  have hS : ∀ x, scores (hd x0 Q j1) (hd x1 H j2) (ix2 r x) = memScore p mk H (256 * t + r.val) x.val := fun x => by
    rw [scores_at]
    unfold memScore
    rw [e]
    refine congrArg₂ (· * ·) (Finset.sum_congr rfl fun f _ => ?_) rfl
    rw [hd_at x0 Q j1 (fun i j => p (256 * t + i) j) hx, hd_at x1 H j2 (fun i j => mk (256 * (t / 16) + i) j) hk, hQ, Nat.add_assoc]
  have hE : ∀ x, exps (hd x0 Q j1) (hd x1 H j2) (ix2 r x) = memExp p mk H (256 * t + r.val) x.val := fun x => by
    rw [exps_at]
    unfold memExp
    simp only [hS]
  unfold mem
  rw [e]
  refine Finset.sum_congr rfl fun x _ => ?_
  rw [hd_at x2 H j2 (fun i j => mv (256 * (t / 16) + i) j) hv]
  simp only [hE]

/-- The gated convolution, the rows before the tile's first taken from the tile before. -/
theorem convTile (t : ℕ) (x : Vec Ideal S8x512 .f32) (h6 : ∀ d, x (ix2 6 d) = back p 2 (256 * t) d.val) (h7 : ∀ d, x (ix2 7 d) = back p 1 (256 * t) d.val) {x4 : Vec Ideal S3x512 .f32} (hw : ∀ k d, x4 (ix2 k d) = cw k.val d.val) (i1 i2 i3 i4 i5 i6 i7 i8 i9 i10 i11) :
   (truncf FTy.bf16
      (mulf (extf FTy.f32 (arr fun i d => p (256 * t + i) (0 + d) : FVec Ideal S256x512 .bf16) i1)
        (addf (addf
            (mulf
              (select (cmpi CmpIPredicate.eq (iota Kind.tc S256x512 32 [0] i2) (broadcast S256x512 0#32))
                (broadcastTo S256x512 (shapeCast S1x512 (View.ld x (Rect.unit (s := S8x512) ![6, 0] ![1, 512] i3) : Vec Ideal S1x512 .f32) i4) i5)
                (select (cmpi CmpIPredicate.eq (iota Kind.tc S256x512 32 [0] i2) (broadcast S256x512 1#32))
                  (broadcastTo S256x512 (shapeCast S1x512 (View.ld x (Rect.unit (s := S8x512) ![7, 0] ![1, 512] i6) : Vec Ideal S1x512 .f32) i4) i5)
                  (dynamicRotate 0 (2#32) none
                    (mulf (extf FTy.f32 (arr fun i d => p (256 * t + i) (512 + d) : FVec Ideal S256x512 .bf16) i1)
                      (extf FTy.f32 (arr fun i d => p (256 * t + i) (1024 + d) : FVec Ideal S256x512 .bf16) i1)) i7)))
              (broadcastTo S256x512 (View.ld x4 (Rect.unit (s := S3x512) ![0, 0] ![1, 512] i8) : Vec Ideal S1x512 .f32) i9))
            (mulf
              (select (cmpi CmpIPredicate.eq (iota Kind.tc S256x512 32 [0] i2) (broadcast S256x512 0#32))
                (broadcastTo S256x512 (shapeCast S1x512 (View.ld x (Rect.unit (s := S8x512) ![7, 0] ![1, 512] i6) : Vec Ideal S1x512 .f32) i4) i5)
                (dynamicRotate 0 (1#32) none
                  (mulf (extf FTy.f32 (arr fun i d => p (256 * t + i) (512 + d) : FVec Ideal S256x512 .bf16) i1)
                    (extf FTy.f32 (arr fun i d => p (256 * t + i) (1024 + d) : FVec Ideal S256x512 .bf16) i1)) i7))
              (broadcastTo S256x512 (View.ld x4 (Rect.unit (s := S3x512) ![1, 0] ![1, 512] i10) : Vec Ideal S1x512 .f32) i9)))
          (mulf (mulf (extf FTy.f32 (arr fun i d => p (256 * t + i) (512 + d) : FVec Ideal S256x512 .bf16) i1)
              (extf FTy.f32 (arr fun i d => p (256 * t + i) (1024 + d) : FVec Ideal S256x512 .bf16) i1))
            (broadcastTo S256x512 (View.ld x4 (Rect.unit (s := S3x512) ![2, 0] ![1, 512] i11) : Vec Ideal S1x512 .f32) i9))))
      i1 : FVec Ideal S256x512 .bf16) = arr fun r d => conv p cw (256 * t + r) d := by
  refine funext fun y => ?_
  obtain ⟨r, d, rfl⟩ : ∃ i d, y = ix2 i d := ⟨y 0, y 1, (ix2_eta y).symm⟩
  rw [arr_at]
  unfold conv
  have c0 : ∀ r : Fin 256, IntOp.cmpi CmpIPredicate.eq (BitVec.ofNat 32 r.val) 0#32 = if r.val = 0 then 1#1 else 0#1 := by decide +kernel
  have c1 : ∀ r : Fin 256, IntOp.cmpi CmpIPredicate.eq (BitVec.ofNat 32 r.val) 1#32 = if r.val = 1 then 1#1 else 0#1 := by decide +kernel
  pointwise
  simp only [arr_at]
  rw [h6, h7, hw, hw, hw, c0, c1]
  have hr := r.isLt
  refine congrArg₂ (· * ·) rfl (congrArg₂ (· + ·) (congrArg₂ (· + ·) (congrArg₂ (· * ·) ?_ rfl) (congrArg₂ (· * ·) ?_ rfl)) (congrArg₂ (· * ·) ?_ rfl))
  · by_cases r0 : r.val = 0
    · rw [r0]
      rfl
    by_cases r1 : r.val = 1
    · rw [if_neg r0, if_pos r1, r1]
      unfold back
      refine Eq.trans (rfl : _ = if 256 * t % 4096 < 1 then (0 : EReal) else p (256 * t - 1) (512 + d.val) * p (256 * t - 1) (1024 + d.val)) ?_
      rw [show 256 * t + 1 - 2 = 256 * t - 1 by omega]
      exact if_congr (by omega) rfl rfl
    · rw [if_neg r0, if_neg r1]
      unfold back
      rw [if_neg (show ¬ (256 * t + r.val) % 4096 < 2 by omega), show (r.val + 256 - 2) % 256 = r.val - 2 by omega, show 256 * t + r.val - 2 = 256 * t + (r.val - 2) by omega]
      rfl
  · by_cases r0 : r.val = 0
    · rw [r0]
      rfl
    · rw [if_neg r0]
      unfold back
      rw [if_neg (show ¬ (256 * t + r.val) % 4096 < 1 by omega), show (r.val + 256 - 1) % 256 = r.val - 1 by omega, show 256 * t + r.val - 1 = 256 * t + (r.val - 1) by omega]
      rfl
  · unfold back
    rw [if_neg (Nat.not_lt_zero _)]
    rfl

theorem slab_hit {o : ℕ} (inb : ∀ a : Fin 3, (![o, 0, 0] : Fin 3 → ℕ) a + (![1, 128, 128] : Fin 3 → ℕ) a ≤ S4x128x128.size a)
    (w : (Rect.unit (s := S4x128x128) ![o, 0, 0] ![1, 128, 128] inb).shape.Idx → Elt Ideal .f32) (L : List (View.Piece (Elt Ideal) S4x128x128 .f32)) (y : S4x128x128.Idx) (x : S1x128x128.Idx)
    (h0 : (y 0).val = o) (h1 : (x 1).val = (y 1).val) (h2 : (x 2).val = (y 2).val) : View.canon (⟨Rect.unit (s := S4x128x128) ![o, 0, 0] ![1, 128, 128] inb, w⟩ :: L) y = w x := by
  have l0 : (x 0).val < 1 := (x 0).isLt
  have hy : (Rect.unit (s := S4x128x128) ![o, 0, 0] ![1, 128, 128] inb).emb x = y := by
    refine funext (Fin.forall_fin_succ.mpr ⟨Fin.ext ?_, Fin.forall_fin_two.mpr ⟨Fin.ext ?_, Fin.ext ?_⟩⟩)
    · show o + 1 * (x 0).val = (y 0).val; omega
    · show 0 + 1 * (x 1).val = (y 1).val; omega
    · show 0 + 1 * (x 2).val = (y 2).val; omega
  rw [← hy]
  exact View.canon_cons_emb _ w L x

theorem slab_miss {o : ℕ} (inb : ∀ a : Fin 3, (![o, 0, 0] : Fin 3 → ℕ) a + (![1, 128, 128] : Fin 3 → ℕ) a ≤ S4x128x128.size a)
    (w : (Rect.unit (s := S4x128x128) ![o, 0, 0] ![1, 128, 128] inb).shape.Idx → Elt Ideal .f32) (L : List (View.Piece (Elt Ideal) S4x128x128 .f32)) (y : S4x128x128.Idx)
    (h : (y 0).val ≠ o) : View.canon (⟨Rect.unit (s := S4x128x128) ![o, 0, 0] ![1, 128, 128] inb, w⟩ :: L) y = View.canon L y := by
  refine View.canon_cons_of_not_mem _ _ fun hm => h ?_
  obtain ⟨x, rfl⟩ := (Rect.unit (s := S4x128x128) ![o, 0, 0] ![1, 128, 128] inb).exists_idx_of_mem hm
  have l0 : (x (0 : Fin 3)).val < 1 := (x (0 : Fin 3)).isLt
  show o + 1 * (x (0 : Fin 3)).val = o
  omega

/-- A state of a head, as kept. -/
theorem keep (f : ℕ → ℕ → EReal) (sc) : shapeCast S1x128x128 (arr f : FVec Ideal S128x128 .f32) sc = fun x => f (x 1).val (x 2).val := funext fun x => put3 f sc x

end Cert.Proof.MixerFwd

end
-- ==== Proof.MixerFwdOuts.lean ====
module

public import proofs.«01_k».proof.Defs
public import proofs.«01_k».proof.Proof.Gen.MixerFwdIdeal.Value
public import proofs.«01_k».proof.Proof.Gen.MixerFwdRefIdeal.Step
public import proofs.«01_k».proof.Proof.MixerFwdTile
public import proofs.«01_k».proof.Proof.Pieces
public import proofs.«01_k».proof.Proof.MixerFwdBlocks
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixerFwd

open Idealize.ShloMosaic Idealize.ShloMosaic.TcCoe Idealize.SL.Sem
open Cert.MixerFwdIdeal Cert.MixerFwdIdeal.Gen
variable (m : (ℓ : Loc nD τ sig) → Buf (Elt Ideal) ℓ) (c : Dev nD)
variable (p : ℕ → ℕ → EReal) (lb : ℕ → EReal)
variable (mk mv cw : ℕ → ℕ → EReal) (nw : ℕ → EReal)
variable (t : Fin cfg0.N) (hx : ∀ i j, X0_0 m c t (ix2 i j) = p (256 * t.val + i.val) j.val) (hl : ∀ d, iblk m c 3 t (ix2 0 d) = lb d.val)
include hx hl

set_option maxHeartbeats 4000000 in
/-- The states a tile writes, before each of its chunks. -/
theorem states_B (h0 : ¬ t.val % 16 = 0) (hs : ∀ (a : Fin 4) (v f : Fin 128), (outsAt0 m c (t.val - 1) (Nat.lt_of_le_of_lt (Nat.sub_le _ _) t.isLt)).2.2.2.1 (ix3 a v f) = st p lb (t.val / 16) (128 * a.val + v.val) (128 * a.val + f.val) (8 * (t.val % 16))) (y : S8x4x128x128.Idx) :
    (outsAt0 m c t.val t.isLt).2.1 y = st p lb (t.val / 16) (128 * (y 1).val + (y 2).val) (128 * (y 1).val + (y 3).val) (8 * (t.val % 16) + (y 0).val) := by
  rw [outsAt0_B m c t h0]
  dsimp only
  frame_open
  simp (disch := decide) only [↓ View.readCov_skip, ↓ View.readCov_cons_toLoadRect, ↓ View.readCov_fill]
  frame_out
  canon_tiles x h
  all_goals
    try simp only [cum18 p lb hx hl, cum19 p lb hx hl, pay13_at p lb hx hl, pay14_at p hx, fold35]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, fun h hh => head p lb h t.val hh hs, upd, inter, Nat.reduceAdd, Nat.reduceMul, tileOut, put4, put3]
    congr 1 <;> omega

set_option maxHeartbeats 4000000 in
/-- The state a tile leaves. -/
theorem state_B (h0 : ¬ t.val % 16 = 0) (hs : ∀ (a : Fin 4) (v f : Fin 128), (outsAt0 m c (t.val - 1) (Nat.lt_of_le_of_lt (Nat.sub_le _ _) t.isLt)).2.2.2.1 (ix3 a v f) = st p lb (t.val / 16) (128 * a.val + v.val) (128 * a.val + f.val) (8 * (t.val % 16))) (y : S4x128x128.Idx) :
    (outsAt0 m c t.val t.isLt).2.2.2.1 y = st p lb (t.val / 16) (128 * (y 0).val + (y 1).val) (128 * (y 0).val + (y 2).val) (8 * (t.val % 16) + 8) := by
  rw [outsAt0_B m c t h0]
  dsimp only
  frame_open
  simp (disch := decide) only [↓ View.readCov_skip, ↓ View.readCov_cons_toLoadRect, ↓ View.readCov_fill]
  frame_out
  canon_tiles x h
  all_goals
    try simp only [cum18 p lb hx hl, cum19 p lb hx hl, pay13_at p lb hx hl, pay14_at p hx, fold35]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, fun h hh => head p lb h t.val hh hs, upd, inter, Nat.reduceAdd, Nat.reduceMul, tileOut, put4, put3]
    congr 1 <;> omega

set_option maxHeartbeats 4000000 in
/-- The recurrence's output. -/
theorem opre_B (h0 : ¬ t.val % 16 = 0) (hs : ∀ (a : Fin 4) (v f : Fin 128), (outsAt0 m c (t.val - 1) (Nat.lt_of_le_of_lt (Nat.sub_le _ _) t.isLt)).2.2.2.1 (ix3 a v f) = st p lb (t.val / 16) (128 * a.val + v.val) (128 * a.val + f.val) (8 * (t.val % 16))) (y : S256x512.Idx) :
    (outsAt0 m c t.val t.isLt).2.2.1 y = out p lb ((y 1).val / 128 * 128) (256 * t.val + (y 0).val) (y 1).val := by
  rw [outsAt0_B m c t h0]
  dsimp only
  frame_open
  simp only [fold23]
  simp (disch := decide) only [↓ View.readCov_skip, ↓ View.readCov_cons_toLoadRect, ↓ View.readCov_fill]
  frame_out
  have hy : (y 1).val < 512 := (y 1).isLt
  have ix : ∀ o, o ≤ (y 1).val → (y 1).val < o + 128 → ∃ x : S256x128.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  by_cases h384 : 384 ≤ (y 1).val
  on_goal 1 =>
    obtain ⟨x, e0, e1⟩ := ix 384 (by omega) (by omega)
    refine (Pieces.canon_hit _ _ _ y x e0 e1).trans (Eq.trans (congrFun (?_ : _ = (arr fun r v => out p lb 384 (256 * t.val + r) (384 + v) : FVec Ideal S256x128 .f32)) x) ?_)
    on_goal 2 => rw [arr_idx, e0, e1]; congr 1 <;> omega
  rotate_left
  rw [Pieces.canon_miss _ _ _ y (by omega)]
  by_cases h256 : 256 ≤ (y 1).val
  on_goal 1 =>
    obtain ⟨x, e0, e1⟩ := ix 256 (by omega) (by omega)
    refine (Pieces.canon_hit _ _ _ y x e0 e1).trans (Eq.trans (congrFun (?_ : _ = (arr fun r v => out p lb 256 (256 * t.val + r) (256 + v) : FVec Ideal S256x128 .f32)) x) ?_)
    on_goal 2 => rw [arr_idx, e0, e1]; congr 1 <;> omega
  rotate_left
  rw [Pieces.canon_miss _ _ _ y (by omega)]
  by_cases h128 : 128 ≤ (y 1).val
  on_goal 1 =>
    obtain ⟨x, e0, e1⟩ := ix 128 (by omega) (by omega)
    refine (Pieces.canon_hit _ _ _ y x e0 e1).trans (Eq.trans (congrFun (?_ : _ = (arr fun r v => out p lb 128 (256 * t.val + r) (128 + v) : FVec Ideal S256x128 .f32)) x) ?_)
    on_goal 2 => rw [arr_idx, e0, e1]; congr 1 <;> omega
  rotate_left
  rw [Pieces.canon_miss _ _ _ y (by omega)]
  on_goal 1 =>
    obtain ⟨x, e0, e1⟩ := ix 0 (by omega) (by omega)
    refine (Pieces.canon_hit _ _ _ y x e0 e1).trans (Eq.trans (congrFun (?_ : _ = (arr fun r v => out p lb 0 (256 * t.val + r) (0 + v) : FVec Ideal S256x128 .f32)) x) ?_)
    on_goal 2 => rw [arr_idx, e0, e1]; congr 1 <;> omega
  all_goals
    try simp only [cum18 p lb hx hl, cum19 p lb hx hl, pay13_at p lb hx hl, pay14_at p hx]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, fun h hh => head p lb h t.val hh hs, upd, inter, Nat.reduceAdd, Nat.reduceMul]
    try rw [fold35]
    try simp only [k0_pay153, k0_pay154, k0_pay155, k0_pay156]
    try rw [tileOut]

omit hl in
set_option maxHeartbeats 4000000 in
/-- The rows a tile leaves for the convolution of the next. -/
theorem carry_B (h0 : ¬ t.val % 16 = 0) (a : Fin 8) (d : Fin 512) :
    (outsAt0 m c t.val t.isLt).2.2.2.2 (ix2 a d) = p (256 * t.val + (248 + a.val)) (512 + d.val) * p (256 * t.val + (248 + a.val)) (1024 + d.val) := by
  rw [outsAt0_B m c t h0]
  dsimp only
  frame_open
  simp (disch := decide) only [↓ View.readCov_skip, ↓ View.readCov_cons_toLoadRect, ↓ View.readCov_fill]
  frame_out
  simp only [cols_eq p hx, k0_pay10, k0_pay6]
  pointwise
  simp only [arr_at]

set_option maxHeartbeats 4000000 in
/-- The three mixers of a tile. -/
theorem mixed_B (h0 : ¬ t.val % 16 = 0) (hs : ∀ (a : Fin 4) (v f : Fin 128), (outsAt0 m c (t.val - 1) (Nat.lt_of_le_of_lt (Nat.sub_le _ _) t.isLt)).2.2.2.1 (ix3 a v f) = st p lb (t.val / 16) (128 * a.val + v.val) (128 * a.val + f.val) (8 * (t.val % 16))) (h6 : ∀ d : Fin 512, (outsAt0 m c (t.val - 1) (Nat.lt_of_le_of_lt (Nat.sub_le _ _) t.isLt)).2.2.2.2 (ix2 6 d) = back p 2 (256 * t.val) d.val) (h7 : ∀ d : Fin 512, (outsAt0 m c (t.val - 1) (Nat.lt_of_le_of_lt (Nat.sub_le _ _) t.isLt)).2.2.2.2 (ix2 7 d) = back p 1 (256 * t.val) d.val)
    (hk : ∀ i j, iblk m c 1 t (ix2 i j) = mk (256 * (t.val / 16) + i.val) j.val) (hv : ∀ i j, iblk m c 2 t (ix2 i j) = mv (256 * (t.val / 16) + i.val) j.val) (hw : ∀ k d, iblk m c 4 t (ix2 k d) = cw k.val d.val) (hn : ∀ v, iblk m c 5 t (ix2 0 v) = nw v.val) (y : S256x1536.Idx) :
    (outsAt0 m c t.val t.isLt).1 y = mixed p lb mk mv cw nw (256 * t.val + (y 0).val) (y 1).val := by
  rw [outsAt0_B m c t h0]
  dsimp only
  frame_open
  simp only [fold23]
  simp (disch := decide) only [↓ View.readCov_skip, ↓ View.readCov_cons_toLoadRect, ↓ View.readCov_fill]
  frame_out
  have hy : (y 1).val < 1536 := (y 1).isLt
  have ix : ∀ o, o ≤ (y 1).val → (y 1).val < o + 128 → ∃ x : S256x128.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  have jx : ∀ o, o ≤ (y 1).val → (y 1).val < o + 512 → ∃ x : S256x512.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  by_cases h1408 : 1408 ≤ (y 1).val
  on_goal 1 =>
    obtain ⟨x, e0, e1⟩ := ix 1408 (by omega) (by omega)
    refine (Pieces.canon_hit _ _ _ y x e0 e1).trans (Eq.trans (congrFun (?_ : _ = (arr fun r v => mem p mk mv 384 (256 * t.val + r) (384 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1280 : 1280 ≤ (y 1).val
  on_goal 1 =>
    obtain ⟨x, e0, e1⟩ := ix 1280 (by omega) (by omega)
    refine (Pieces.canon_hit _ _ _ y x e0 e1).trans (Eq.trans (congrFun (?_ : _ = (arr fun r v => mem p mk mv 256 (256 * t.val + r) (256 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1152 : 1152 ≤ (y 1).val
  on_goal 1 =>
    obtain ⟨x, e0, e1⟩ := ix 1152 (by omega) (by omega)
    refine (Pieces.canon_hit _ _ _ y x e0 e1).trans (Eq.trans (congrFun (?_ : _ = (arr fun r v => mem p mk mv 128 (256 * t.val + r) (128 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1024 : 1024 ≤ (y 1).val
  on_goal 1 =>
    obtain ⟨x, e0, e1⟩ := ix 1024 (by omega) (by omega)
    refine (Pieces.canon_hit _ _ _ y x e0 e1).trans (Eq.trans (congrFun (?_ : _ = (arr fun r v => mem p mk mv 0 (256 * t.val + r) (0 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h896 : 896 ≤ (y 1).val
  on_goal 1 =>
    obtain ⟨x, e0, e1⟩ := ix 896 (by omega) (by omega)
    refine (Pieces.canon_hit _ _ _ y x e0 e1).trans (Eq.trans (congrFun (?_ : _ = (arr fun r v => gated p lb nw 384 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h768 : 768 ≤ (y 1).val
  on_goal 1 =>
    obtain ⟨x, e0, e1⟩ := ix 768 (by omega) (by omega)
    refine (Pieces.canon_hit _ _ _ y x e0 e1).trans (Eq.trans (congrFun (?_ : _ = (arr fun r v => gated p lb nw 256 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h640 : 640 ≤ (y 1).val
  on_goal 1 =>
    obtain ⟨x, e0, e1⟩ := ix 640 (by omega) (by omega)
    refine (Pieces.canon_hit _ _ _ y x e0 e1).trans (Eq.trans (congrFun (?_ : _ = (arr fun r v => gated p lb nw 128 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h512 : 512 ≤ (y 1).val
  on_goal 1 =>
    obtain ⟨x, e0, e1⟩ := ix 512 (by omega) (by omega)
    refine (Pieces.canon_hit _ _ _ y x e0 e1).trans (Eq.trans (congrFun (?_ : _ = (arr fun r v => gated p lb nw 0 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  on_goal 1 =>
    obtain ⟨x, e0, e1⟩ := jx 0 (by omega) (by omega)
    refine (Pieces.canon_hit _ _ _ y x e0 e1).trans (Eq.trans (congrFun (?_ : _ = (arr fun r v => conv p cw (256 * t.val + r) v : FVec Ideal S256x512 .bf16)) x) ?_)
    on_goal 2 => rw [arr_idx, e0, e1]; unfold mixed; rw [if_pos (by omega)]; congr 1 <;> omega
  all_goals
    try simp only [cum18 p lb hx hl, cum19 p lb hx hl, pay13_at p lb hx hl, pay14_at p hx, k0_pay157]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, fun h hh => head p lb h t.val hh hs, upd, inter, Nat.reduceAdd, Nat.reduceMul]
    try rw [fold35]
    try simp only [k0_pay153, k0_pay154, k0_pay155, k0_pay156]
    try rw [tileOut]
    try simp (disch := decide) only [k0_pay157, k0_pay158, k0_pay159, k0_pay160, k0_pay161, k0_pay162, k0_pay163, k0_pay164, k0_pay165, k0_pay166, k0_pay167, k0_pay168, k0_pay169, k0_pay170, k0_pay171, k0_pay1, k0_pay2, k0_pay5, k0_pay6, k0_pay7, k0_pay8, k0_pay9, gatedTile p lb nw t.val (hx := hx) (hn := hn), memTile p mk mv t.val (hx := hx) (hk := hk) (hv := hv)]
    try exact convTile p cw t.val _ h6 h7 hw _ _ _ _ _ _ _ _ _ _ _

set_option maxHeartbeats 4000000 in
/-- The states a tile writes, before each of its chunks. -/
theorem states_A (h0 : t.val % 16 = 0) (hs : ∀ (a : Fin 4) (v f : Fin 128), (k0_pay3 : FVec Ideal S4x128x128 .f32) (ix3 a v f) = st p lb (t.val / 16) (128 * a.val + v.val) (128 * a.val + f.val) (8 * (t.val % 16))) (y : S8x4x128x128.Idx) :
    (outsAt0 m c t.val t.isLt).2.1 y = st p lb (t.val / 16) (128 * (y 1).val + (y 2).val) (128 * (y 1).val + (y 3).val) (8 * (t.val % 16) + (y 0).val) := by
  rw [outsAt0_A m c t h0]
  dsimp only
  frame_open
  simp (disch := decide) only [↓ View.readCov_skip, ↓ View.readCov_cons_toLoadRect, ↓ View.readCov_fill]
  frame_out
  canon_tiles x h
  all_goals
    try simp only [cum18 p lb hx hl, cum19 p lb hx hl, pay13_at p lb hx hl, pay14_at p hx, fold35]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, fun h hh => head p lb h t.val hh hs, upd, inter, Nat.reduceAdd, Nat.reduceMul, tileOut, put4, put3]
    congr 1 <;> omega

set_option maxHeartbeats 4000000 in
/-- The state a tile leaves. -/
theorem state_A (h0 : t.val % 16 = 0) (hs : ∀ (a : Fin 4) (v f : Fin 128), (k0_pay3 : FVec Ideal S4x128x128 .f32) (ix3 a v f) = st p lb (t.val / 16) (128 * a.val + v.val) (128 * a.val + f.val) (8 * (t.val % 16))) (y : S4x128x128.Idx) :
    (outsAt0 m c t.val t.isLt).2.2.2.1 y = st p lb (t.val / 16) (128 * (y 0).val + (y 1).val) (128 * (y 0).val + (y 2).val) (8 * (t.val % 16) + 8) := by
  rw [outsAt0_A m c t h0]
  dsimp only
  frame_open
  simp (disch := decide) only [↓ View.readCov_skip, ↓ View.readCov_cons_toLoadRect, ↓ View.readCov_fill]
  frame_out
  have hy : (y 0).val < 4 := (y 0).isLt
  by_cases h3 : (y 0).val = 3
  on_goal 1 =>
    refine (slab_hit _ _ _ y (ix3 0 (y 1) (y 2)) (by omega) rfl rfl).trans (Eq.trans (congrFun (?_ : _ = (fun x : S1x128x128.Idx => st p lb (t.val / 16) (384 + (x 1).val) (384 + (x 2).val) (8 * (t.val % 16) + 8))) (ix3 0 (y 1) (y 2))) ?_)
    on_goal 2 => refine (rfl : _ = st p lb _ (384 + (y 1).val) (384 + (y 2).val) _).trans ?_; congr 1 <;> omega
  rotate_left
  rw [slab_miss _ _ _ y (by omega)]
  by_cases h2 : (y 0).val = 2
  on_goal 1 =>
    refine (slab_hit _ _ _ y (ix3 0 (y 1) (y 2)) (by omega) rfl rfl).trans (Eq.trans (congrFun (?_ : _ = (fun x : S1x128x128.Idx => st p lb (t.val / 16) (256 + (x 1).val) (256 + (x 2).val) (8 * (t.val % 16) + 8))) (ix3 0 (y 1) (y 2))) ?_)
    on_goal 2 => refine (rfl : _ = st p lb _ (256 + (y 1).val) (256 + (y 2).val) _).trans ?_; congr 1 <;> omega
  rotate_left
  rw [slab_miss _ _ _ y (by omega)]
  by_cases h1 : (y 0).val = 1
  on_goal 1 =>
    refine (slab_hit _ _ _ y (ix3 0 (y 1) (y 2)) (by omega) rfl rfl).trans (Eq.trans (congrFun (?_ : _ = (fun x : S1x128x128.Idx => st p lb (t.val / 16) (128 + (x 1).val) (128 + (x 2).val) (8 * (t.val % 16) + 8))) (ix3 0 (y 1) (y 2))) ?_)
    on_goal 2 => refine (rfl : _ = st p lb _ (128 + (y 1).val) (128 + (y 2).val) _).trans ?_; congr 1 <;> omega
  rotate_left
  rw [slab_miss _ _ _ y (by omega)]
  on_goal 1 =>
    refine (slab_hit _ _ _ y (ix3 0 (y 1) (y 2)) (by omega) rfl rfl).trans (Eq.trans (congrFun (?_ : _ = (fun x : S1x128x128.Idx => st p lb (t.val / 16) (0 + (x 1).val) (0 + (x 2).val) (8 * (t.val % 16) + 8))) (ix3 0 (y 1) (y 2))) ?_)
    on_goal 2 => refine (rfl : _ = st p lb _ (0 + (y 1).val) (0 + (y 2).val) _).trans ?_; congr 1 <;> omega
  all_goals
    try simp only [cum18 p lb hx hl, cum19 p lb hx hl, pay13_at p lb hx hl, pay14_at p hx, fold35]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, fun h hh => head p lb h t.val hh hs, upd, inter, Nat.reduceAdd, Nat.reduceMul, tileOut, put4, keep]

set_option maxHeartbeats 4000000 in
/-- The recurrence's output. -/
theorem opre_A (h0 : t.val % 16 = 0) (hs : ∀ (a : Fin 4) (v f : Fin 128), (k0_pay3 : FVec Ideal S4x128x128 .f32) (ix3 a v f) = st p lb (t.val / 16) (128 * a.val + v.val) (128 * a.val + f.val) (8 * (t.val % 16))) (y : S256x512.Idx) :
    (outsAt0 m c t.val t.isLt).2.2.1 y = out p lb ((y 1).val / 128 * 128) (256 * t.val + (y 0).val) (y 1).val := by
  rw [outsAt0_A m c t h0]
  dsimp only
  frame_open
  simp only [fold23]
  simp (disch := decide) only [↓ View.readCov_skip, ↓ View.readCov_cons_toLoadRect, ↓ View.readCov_fill]
  frame_out
  have hy : (y 1).val < 512 := (y 1).isLt
  have ix : ∀ o, o ≤ (y 1).val → (y 1).val < o + 128 → ∃ x : S256x128.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  by_cases h384 : 384 ≤ (y 1).val
  on_goal 1 =>
    obtain ⟨x, e0, e1⟩ := ix 384 (by omega) (by omega)
    refine (Pieces.canon_hit _ _ _ y x e0 e1).trans (Eq.trans (congrFun (?_ : _ = (arr fun r v => out p lb 384 (256 * t.val + r) (384 + v) : FVec Ideal S256x128 .f32)) x) ?_)
    on_goal 2 => rw [arr_idx, e0, e1]; congr 1 <;> omega
  rotate_left
  rw [Pieces.canon_miss _ _ _ y (by omega)]
  by_cases h256 : 256 ≤ (y 1).val
  on_goal 1 =>
    obtain ⟨x, e0, e1⟩ := ix 256 (by omega) (by omega)
    refine (Pieces.canon_hit _ _ _ y x e0 e1).trans (Eq.trans (congrFun (?_ : _ = (arr fun r v => out p lb 256 (256 * t.val + r) (256 + v) : FVec Ideal S256x128 .f32)) x) ?_)
    on_goal 2 => rw [arr_idx, e0, e1]; congr 1 <;> omega
  rotate_left
  rw [Pieces.canon_miss _ _ _ y (by omega)]
  by_cases h128 : 128 ≤ (y 1).val
  on_goal 1 =>
    obtain ⟨x, e0, e1⟩ := ix 128 (by omega) (by omega)
    refine (Pieces.canon_hit _ _ _ y x e0 e1).trans (Eq.trans (congrFun (?_ : _ = (arr fun r v => out p lb 128 (256 * t.val + r) (128 + v) : FVec Ideal S256x128 .f32)) x) ?_)
    on_goal 2 => rw [arr_idx, e0, e1]; congr 1 <;> omega
  rotate_left
  rw [Pieces.canon_miss _ _ _ y (by omega)]
  on_goal 1 =>
    obtain ⟨x, e0, e1⟩ := ix 0 (by omega) (by omega)
    refine (Pieces.canon_hit _ _ _ y x e0 e1).trans (Eq.trans (congrFun (?_ : _ = (arr fun r v => out p lb 0 (256 * t.val + r) (0 + v) : FVec Ideal S256x128 .f32)) x) ?_)
    on_goal 2 => rw [arr_idx, e0, e1]; congr 1 <;> omega
  all_goals
    try simp only [cum18 p lb hx hl, cum19 p lb hx hl, pay13_at p lb hx hl, pay14_at p hx]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, fun h hh => head p lb h t.val hh hs, upd, inter, Nat.reduceAdd, Nat.reduceMul]
    try rw [fold35]
    try simp only [k0_pay153, k0_pay154, k0_pay155, k0_pay156]
    try rw [tileOut]

omit hl in
set_option maxHeartbeats 4000000 in
/-- The rows a tile leaves for the convolution of the next. -/
theorem carry_A (h0 : t.val % 16 = 0) (a : Fin 8) (d : Fin 512) :
    (outsAt0 m c t.val t.isLt).2.2.2.2 (ix2 a d) = p (256 * t.val + (248 + a.val)) (512 + d.val) * p (256 * t.val + (248 + a.val)) (1024 + d.val) := by
  rw [outsAt0_A m c t h0]
  dsimp only
  frame_open
  simp (disch := decide) only [↓ View.readCov_skip, ↓ View.readCov_cons_toLoadRect, ↓ View.readCov_fill]
  frame_out
  simp only [cols_eq p hx, k0_pay10, k0_pay6]
  pointwise
  simp only [arr_at]

set_option maxHeartbeats 4000000 in
/-- The three mixers of a tile. -/
theorem mixed_A (h0 : t.val % 16 = 0) (hs : ∀ (a : Fin 4) (v f : Fin 128), (k0_pay3 : FVec Ideal S4x128x128 .f32) (ix3 a v f) = st p lb (t.val / 16) (128 * a.val + v.val) (128 * a.val + f.val) (8 * (t.val % 16))) (h6 : ∀ d : Fin 512, (k0_pay4 : FVec Ideal S8x512 .f32) (ix2 6 d) = back p 2 (256 * t.val) d.val) (h7 : ∀ d : Fin 512, (k0_pay4 : FVec Ideal S8x512 .f32) (ix2 7 d) = back p 1 (256 * t.val) d.val)
    (hk : ∀ i j, iblk m c 1 t (ix2 i j) = mk (256 * (t.val / 16) + i.val) j.val) (hv : ∀ i j, iblk m c 2 t (ix2 i j) = mv (256 * (t.val / 16) + i.val) j.val) (hw : ∀ k d, iblk m c 4 t (ix2 k d) = cw k.val d.val) (hn : ∀ v, iblk m c 5 t (ix2 0 v) = nw v.val) (y : S256x1536.Idx) :
    (outsAt0 m c t.val t.isLt).1 y = mixed p lb mk mv cw nw (256 * t.val + (y 0).val) (y 1).val := by
  rw [outsAt0_A m c t h0]
  dsimp only
  frame_open
  simp only [fold23]
  simp (disch := decide) only [↓ View.readCov_skip, ↓ View.readCov_cons_toLoadRect, ↓ View.readCov_fill]
  frame_out
  have hy : (y 1).val < 1536 := (y 1).isLt
  have ix : ∀ o, o ≤ (y 1).val → (y 1).val < o + 128 → ∃ x : S256x128.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  have jx : ∀ o, o ≤ (y 1).val → (y 1).val < o + 512 → ∃ x : S256x512.Idx, (y 0).val = 0 + (x 0).val ∧ (y 1).val = o + (x 1).val := fun o h h' =>
    ⟨ix2 ⟨(y 0).val, (y 0).isLt⟩ ⟨(y 1).val - o, by omega⟩, (Nat.zero_add _).symm, (Nat.add_sub_cancel' h).symm⟩
  by_cases h1408 : 1408 ≤ (y 1).val
  on_goal 1 =>
    obtain ⟨x, e0, e1⟩ := ix 1408 (by omega) (by omega)
    refine (Pieces.canon_hit _ _ _ y x e0 e1).trans (Eq.trans (congrFun (?_ : _ = (arr fun r v => mem p mk mv 384 (256 * t.val + r) (384 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1280 : 1280 ≤ (y 1).val
  on_goal 1 =>
    obtain ⟨x, e0, e1⟩ := ix 1280 (by omega) (by omega)
    refine (Pieces.canon_hit _ _ _ y x e0 e1).trans (Eq.trans (congrFun (?_ : _ = (arr fun r v => mem p mk mv 256 (256 * t.val + r) (256 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1152 : 1152 ≤ (y 1).val
  on_goal 1 =>
    obtain ⟨x, e0, e1⟩ := ix 1152 (by omega) (by omega)
    refine (Pieces.canon_hit _ _ _ y x e0 e1).trans (Eq.trans (congrFun (?_ : _ = (arr fun r v => mem p mk mv 128 (256 * t.val + r) (128 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h1024 : 1024 ≤ (y 1).val
  on_goal 1 =>
    obtain ⟨x, e0, e1⟩ := ix 1024 (by omega) (by omega)
    refine (Pieces.canon_hit _ _ _ y x e0 e1).trans (Eq.trans (congrFun (?_ : _ = (arr fun r v => mem p mk mv 0 (256 * t.val + r) (0 + v) : FVec Ideal S256x128 .bf16)) x) ?_)
    on_goal 2 => rw [arr_idx, e0, e1]; unfold mixed; rw [if_neg (by omega), if_neg (by omega)]; congr 1 <;> omega
  rotate_left
  rw [Pieces.canon_miss _ _ _ y (by omega)]
  by_cases h896 : 896 ≤ (y 1).val
  on_goal 1 =>
    obtain ⟨x, e0, e1⟩ := ix 896 (by omega) (by omega)
    refine (Pieces.canon_hit _ _ _ y x e0 e1).trans (Eq.trans (congrFun (?_ : _ = (arr fun r v => gated p lb nw 384 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h768 : 768 ≤ (y 1).val
  on_goal 1 =>
    obtain ⟨x, e0, e1⟩ := ix 768 (by omega) (by omega)
    refine (Pieces.canon_hit _ _ _ y x e0 e1).trans (Eq.trans (congrFun (?_ : _ = (arr fun r v => gated p lb nw 256 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h640 : 640 ≤ (y 1).val
  on_goal 1 =>
    obtain ⟨x, e0, e1⟩ := ix 640 (by omega) (by omega)
    refine (Pieces.canon_hit _ _ _ y x e0 e1).trans (Eq.trans (congrFun (?_ : _ = (arr fun r v => gated p lb nw 128 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  by_cases h512 : 512 ≤ (y 1).val
  on_goal 1 =>
    obtain ⟨x, e0, e1⟩ := ix 512 (by omega) (by omega)
    refine (Pieces.canon_hit _ _ _ y x e0 e1).trans (Eq.trans (congrFun (?_ : _ = (arr fun r v => gated p lb nw 0 (256 * t.val + r) v : FVec Ideal S256x128 .bf16)) x) ?_)
    on_goal 2 => rw [arr_idx, e0, e1]; unfold mixed; rw [if_neg (by omega), if_pos (by omega)]; congr 1 <;> omega
  rotate_left
  rw [Pieces.canon_miss _ _ _ y (by omega)]
  on_goal 1 =>
    obtain ⟨x, e0, e1⟩ := jx 0 (by omega) (by omega)
    refine (Pieces.canon_hit _ _ _ y x e0 e1).trans (Eq.trans (congrFun (?_ : _ = (arr fun r v => conv p cw (256 * t.val + r) v : FVec Ideal S256x512 .bf16)) x) ?_)
    on_goal 2 => rw [arr_idx, e0, e1]; unfold mixed; rw [if_pos (by omega)]; congr 1 <;> omega
  all_goals
    try simp only [cum18 p lb hx hl, cum19 p lb hx hl, pay13_at p lb hx hl, pay14_at p hx, k0_pay157]
    try simp only [pay33_at, pay32_at, pay23_at, pay30_at, pay31_at, cols_eq p hx, (Memref.isWhole_whole _).read_unread]
    try simp (disch := decide) only [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, fun h hh => head p lb h t.val hh hs, upd, inter, Nat.reduceAdd, Nat.reduceMul]
    try rw [fold35]
    try simp only [k0_pay153, k0_pay154, k0_pay155, k0_pay156]
    try rw [tileOut]
    try simp (disch := decide) only [k0_pay157, k0_pay158, k0_pay159, k0_pay160, k0_pay161, k0_pay162, k0_pay163, k0_pay164, k0_pay165, k0_pay166, k0_pay167, k0_pay168, k0_pay169, k0_pay170, k0_pay171, k0_pay1, k0_pay2, k0_pay5, k0_pay6, k0_pay7, k0_pay8, k0_pay9, gatedTile p lb nw t.val (hx := hx) (hn := hn), memTile p mk mv t.val (hx := hx) (hk := hk) (hv := hv)]
    try exact convTile p cw t.val _ h6 h7 hw _ _ _ _ _ _ _ _ _ _ _

end Cert.Proof.MixerFwd

end
-- ==== Proof.MixerFwdKernel.lean ====
module

public import proofs.«01_k».proof.Defs
public import proofs.«01_k».proof.Proof.Gen.MixerFwdIdeal.Value
public import proofs.«01_k».proof.Proof.Gen.MixerFwdRefIdeal.Step
public import proofs.«01_k».proof.Proof.MixerFwdTile
public import proofs.«01_k».proof.Proof.Pieces
public import proofs.«01_k».proof.Proof.MixerFwdOuts
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixerFwd

open Idealize.ShloMosaic Idealize.ShloMosaic.TcCoe Idealize.SL.Sem
open Cert.MixerFwdIdeal Cert.MixerFwdIdeal.Gen
variable (m : (ℓ : Loc nD τ sig) → Buf (Elt Ideal) ℓ)

/-- An array's entries by row and column, zero outside it. -/
def ofArr {a b : ℕ} (x : (⟨2, ![a, b]⟩ : Shape).Idx → EReal) (i j : ℕ) : EReal := if h : i < a ∧ j < b then x (ix2 ⟨i, h.1⟩ ⟨j, h.2⟩) else 0

theorem ofArr_of {a b : ℕ} (x : (⟨2, ![a, b]⟩ : Shape).Idx → EReal) {i j : ℕ} (hi : i < a) (hj : j < b) : ofArr x i j = x (ix2 ⟨i, hi⟩ ⟨j, hj⟩) := dif_pos ⟨hi, hj⟩

/-- The arguments, by row and column. -/
abbrev aP (c : Dev nD) : ℕ → ℕ → EReal := ofArr (a := 8192) (b := 7168) (m ((c : Thread nD τ).loc main_arg0))
abbrev aK (c : Dev nD) : ℕ → ℕ → EReal := ofArr (a := 512) (b := 512) (m ((c : Thread nD τ).loc main_arg1))
abbrev aV (c : Dev nD) : ℕ → ℕ → EReal := ofArr (a := 512) (b := 512) (m ((c : Thread nD τ).loc main_arg2))
abbrev aL (c : Dev nD) : ℕ → EReal := ofArr (a := 1) (b := 512) (m ((c : Thread nD τ).loc main_arg3)) 0
abbrev aW (c : Dev nD) : ℕ → ℕ → EReal := ofArr (a := 3) (b := 512) (m ((c : Thread nD τ).loc main_arg4))
abbrev aN (c : Dev nD) : ℕ → EReal := ofArr (a := 1) (b := 128) (m ((c : Thread nD τ).loc main_arg5)) 0

/-- The block indices at each of the 32 points. -/
theorem idx : ∀ t : Fin cfg0.N, win0_0.index t = ![t.val, 0] ∧ win0_1.index t = ![t.val / 16, 0] ∧ win0_2.index t = ![t.val / 16, 0] ∧ win0_3.index t = ![0, 0]
    ∧ win0_4.index t = ![0, 0] ∧ win0_5.index t = ![0, 0] ∧ win0_6.index t = ![t.val, 0] ∧ win0_7.index t = ![t.val, 0, 0, 0] ∧ win0_8.index t = ![t.val, 0] :=
  (by decide +kernel : ∀ t : Fin grid0.N, _)

theorem lt32 (t : Fin cfg0.N) : t.val < 32 := lt_of_lt_of_eq t.isLt N_0

theorem hx0 (c : Dev nD) (t : Fin cfg0.N) (i j) : X0_0 m c t (ix2 i j) = aP m c (256 * t.val + i.val) j.val := by
  have ht := lt32 t
  have hi := i.isLt
  have hj := j.isLt
  rw [aP, ofArr_of _ (by omega) (by omega)]
  unfold X0_0 Pipeline.Window.fill
  rw [dif_pos (moved0_0 t _)]
  blk_ext [iblk, V, idx t]

theorem hl0 (c : Dev nD) (t : Fin cfg0.N) (d) : iblk m c 3 t (ix2 0 d) = aL m c d.val := by
  rw [aL, ofArr_of _ (by omega) d.isLt]
  blk_ext [iblk, V, idx t]

theorem hk0 (c : Dev nD) (t : Fin cfg0.N) (i j) : iblk m c 1 t (ix2 i j) = aK m c (256 * (t.val / 16) + i.val) j.val := by
  have ht := lt32 t
  have hi : i.val < 256 := i.isLt
  rw [aK, ofArr_of _ (by omega) j.isLt]
  blk_ext [iblk, V, idx t]

theorem hv0 (c : Dev nD) (t : Fin cfg0.N) (i j) : iblk m c 2 t (ix2 i j) = aV m c (256 * (t.val / 16) + i.val) j.val := by
  have ht := lt32 t
  have hi : i.val < 256 := i.isLt
  rw [aV, ofArr_of _ (by omega) j.isLt]
  blk_ext [iblk, V, idx t]

theorem hw0 (c : Dev nD) (t : Fin cfg0.N) (k d) : iblk m c 4 t (ix2 k d) = aW m c k.val d.val := by
  rw [aW, ofArr_of _ k.isLt d.isLt]
  blk_ext [iblk, V, idx t]

theorem hn0 (c : Dev nD) (t : Fin cfg0.N) (d) : iblk m c 5 t (ix2 0 d) = aN m c d.val := by
  rw [aN, ofArr_of _ (by omega) d.isLt]
  blk_ext [iblk, V, idx t]

/-- A sequence starts from the zero state. -/
theorem zeroS (p : ℕ → ℕ → EReal) (lb : ℕ → EReal) (t : ℕ) (h0 : t % 16 = 0) (a : Fin 4) (v f : Fin 128) :
    (k0_pay3 : FVec Ideal S4x128x128 .f32) (ix3 a v f) = st p lb (t / 16) (128 * a.val + v.val) (128 * a.val + f.val) (8 * (t % 16)) := by
  rw [h0]
  refine Eq.trans ?_ (rfl : (0 : EReal) = st p lb (t / 16) (128 * a.val + v.val) (128 * a.val + f.val) 0)
  pointwise [k0_pay3]

theorem zeroC (p : ℕ → ℕ → EReal) (t k : ℕ) (h0 : t % 16 = 0) (hk : 0 < k) (a : Fin 8) (d : Fin 512) : (k0_pay4 : FVec Ideal S8x512 .f32) (ix2 a d) = back p k (256 * t) d.val := by
  unfold back
  rw [if_pos (by omega)]
  pointwise [k0_pay4]

/-- The state each tile leaves. -/
theorem stateAt (c : Dev nD) : ∀ (n : ℕ) (hn : n < cfg0.N) (y : S4x128x128.Idx),
    (outsAt0 m c n hn).2.2.2.1 y = st (aP m c) (aL m c) (n / 16) (128 * (y 0).val + (y 1).val) (128 * (y 0).val + (y 2).val) (8 * (n % 16) + 8) := by
  intro n
  induction n with
  | zero => exact fun hn y => state_A m c (aP m c) (aL m c) ⟨0, hn⟩ (hx0 m c _) (hl0 m c _) rfl (zeroS _ _ 0 rfl) y
  | succ n ih =>
    intro hn y
    by_cases h0 : (n + 1) % 16 = 0
    · exact state_A m c (aP m c) (aL m c) ⟨n + 1, hn⟩ (hx0 m c _) (hl0 m c _) h0 (zeroS _ _ _ h0) y
    · refine state_B m c (aP m c) (aL m c) ⟨n + 1, hn⟩ (hx0 m c _) (hl0 m c _) h0 (fun a v f => (ih (by omega) (ix3 a v f)).trans ?_) y
      show st (aP m c) (aL m c) (n / 16) (128 * a.val + v.val) (128 * a.val + f.val) (8 * (n % 16) + 8) = st (aP m c) (aL m c) ((n + 1) / 16) (128 * a.val + v.val) (128 * a.val + f.val) (8 * ((n + 1) % 16))
      congr 1 <;> omega

theorem prevS (c : Dev nD) (t : Fin cfg0.N) (h0 : ¬ t.val % 16 = 0) (a : Fin 4) (v f : Fin 128) : (outsAt0 m c (t.val - 1) (Nat.lt_of_le_of_lt (Nat.sub_le _ _) t.isLt)).2.2.2.1 (ix3 a v f)
    = st (aP m c) (aL m c) (t.val / 16) (128 * a.val + v.val) (128 * a.val + f.val) (8 * (t.val % 16)) := by
  refine (stateAt m c (t.val - 1) _ (ix3 a v f)).trans ?_
  show st (aP m c) (aL m c) ((t.val - 1) / 16) (128 * a.val + v.val) (128 * a.val + f.val) (8 * ((t.val - 1) % 16) + 8) = _
  congr 1 <;> omega

theorem prevC (c : Dev nD) (t : Fin cfg0.N) (h0 : ¬ t.val % 16 = 0) (k : ℕ) (a : Fin 8) (hk : a.val + k = 8) (d : Fin 512) : (outsAt0 m c (t.val - 1) (Nat.lt_of_le_of_lt (Nat.sub_le _ _) t.isLt)).2.2.2.2 (ix2 a d)
    = back (aP m c) k (256 * t.val) d.val := by
  have ha := a.isLt
  unfold back
  rw [if_neg (by omega), show 256 * t.val - k = 256 * (t.val - 1) + (248 + a.val) by omega]
  by_cases h1 : (t.val - 1) % 16 = 0
  · exact carry_A m c (aP m c) ⟨t.val - 1, Nat.lt_of_le_of_lt (Nat.sub_le _ _) t.isLt⟩ (hx0 m c _) h1 a d
  · exact carry_B m c (aP m c) ⟨t.val - 1, Nat.lt_of_le_of_lt (Nat.sub_le _ _) t.isLt⟩ (hx0 m c _) h1 a d

theorem mixedAt (c : Dev nD) (t : Fin cfg0.N) (y : S256x1536.Idx) : (outsAt0 m c t.val t.isLt).1 y = mixed (aP m c) (aL m c) (aK m c) (aV m c) (aW m c) (aN m c) (256 * t.val + (y 0).val) (y 1).val := by
  by_cases h0 : t.val % 16 = 0
  · exact mixed_A m c (aP m c) (aL m c) (aK m c) (aV m c) (aW m c) (aN m c) t (hx0 m c t) (hl0 m c t) h0 (zeroS _ _ _ h0) (zeroC _ _ 2 h0 (by decide) 6) (zeroC _ _ 1 h0 (by decide) 7) (hk0 m c t) (hv0 m c t) (hw0 m c t) (hn0 m c t) y
  · exact mixed_B m c (aP m c) (aL m c) (aK m c) (aV m c) (aW m c) (aN m c) t (hx0 m c t) (hl0 m c t) h0 (prevS m c t h0) (prevC m c t h0 2 6 rfl) (prevC m c t h0 1 7 rfl) (hk0 m c t) (hv0 m c t) (hw0 m c t) (hn0 m c t) y

theorem statesAt (c : Dev nD) (t : Fin cfg0.N) (y : S8x4x128x128.Idx) : (outsAt0 m c t.val t.isLt).2.1 y = st (aP m c) (aL m c) (t.val / 16) (128 * (y 1).val + (y 2).val) (128 * (y 1).val + (y 3).val) (8 * (t.val % 16) + (y 0).val) := by
  by_cases h0 : t.val % 16 = 0
  · exact states_A m c (aP m c) (aL m c) t (hx0 m c t) (hl0 m c t) h0 (zeroS _ _ _ h0) y
  · exact states_B m c (aP m c) (aL m c) t (hx0 m c t) (hl0 m c t) h0 (prevS m c t h0) y

theorem opreAt (c : Dev nD) (t : Fin cfg0.N) (y : S256x512.Idx) : (outsAt0 m c t.val t.isLt).2.2.1 y = out (aP m c) (aL m c) ((y 1).val / 128 * 128) (256 * t.val + (y 0).val) (y 1).val := by
  by_cases h0 : t.val % 16 = 0
  · exact opre_A m c (aP m c) (aL m c) t (hx0 m c t) (hl0 m c t) h0 (zeroS _ _ _ h0) y
  · exact opre_B m c (aP m c) (aL m c) t (hx0 m c t) (hl0 m c t) h0 (prevS m c t h0) y

/-- The three results. -/
def specY (p : ℕ → ℕ → EReal) (lb : ℕ → EReal) (mk mv cw : ℕ → ℕ → EReal) (nw : ℕ → EReal) : S8192x1536.Idx → EReal := fun i => mixed p lb mk mv cw nw (i 0).val (i 1).val
def specS (p : ℕ → ℕ → EReal) (lb : ℕ → EReal) : S256x4x128x128.Idx → EReal := fun i => st p lb ((i 0).val / 128) (128 * (i 1).val + (i 2).val) (128 * (i 1).val + (i 3).val) ((i 0).val % 128)
def specO (p : ℕ → ℕ → EReal) (lb : ℕ → EReal) : S8192x512.Idx → EReal := fun i => out p lb ((i 1).val / 128 * 128) (i 0).val (i 1).val

theorem final6 (c : Dev nD) : (dats m 0 c).arrAt 6 cfg0.N = specY (aP m c) (aL m c) (aK m c) (aV m c) (aW m c) (aN m c) := by
  refine (dats m 0 c).arrAt_eq_of_covers 6 _ (by decide +kernel) fun t hf y => ?_
  have e0 : (((cfg0.win 6).blk t).view.emb y 0).val = t.val * 256 + (y 0).val := by blk_simp [idx t]
  have e1 : (((cfg0.win 6).blk t).view.emb y 1).val = (y 1).val := by blk_simp [idx t]
  generalize ((cfg0.win 6).blk t).view.emb y = i at e0 e1
  blk_simp
  rw [after0_6]
  refine (mixedAt m c t y).trans ?_
  unfold specY
  rw [e0, e1, Nat.mul_comm t.val]

theorem final7 (c : Dev nD) : (dats m 0 c).arrAt 7 cfg0.N = specS (aP m c) (aL m c) := by
  refine (dats m 0 c).arrAt_eq_of_covers 7 _ (by decide +kernel) fun t hf y => ?_
  have e0 : (((cfg0.win 7).blk t).view.emb y 0).val = t.val * 8 + (y 0).val := by blk_simp [idx t]
  have e1 : (((cfg0.win 7).blk t).view.emb y 1).val = (y 1).val := by blk_simp [idx t]
  have e2 : (((cfg0.win 7).blk t).view.emb y 2).val = (y 2).val := by blk_simp [idx t]
  have e3 : (((cfg0.win 7).blk t).view.emb y 3).val = (y 3).val := by blk_simp [idx t]
  generalize ((cfg0.win 7).blk t).view.emb y = i at e0 e1 e2 e3
  blk_simp
  rw [after0_7]
  refine (statesAt m c t y).trans ?_
  have hy : (y 0).val < 8 := (y 0).isLt
  unfold specS
  rw [e0, e1, e2, e3]
  congr 1 <;> omega

theorem final8 (c : Dev nD) : (dats m 0 c).arrAt 8 cfg0.N = specO (aP m c) (aL m c) := by
  refine (dats m 0 c).arrAt_eq_of_covers 8 _ (by decide +kernel) fun t hf y => ?_
  have e0 : (((cfg0.win 8).blk t).view.emb y 0).val = t.val * 256 + (y 0).val := by blk_simp [idx t]
  have e1 : (((cfg0.win 8).blk t).view.emb y 1).val = (y 1).val := by blk_simp [idx t]
  generalize ((cfg0.win 8).blk t).view.emb y = i at e0 e1
  blk_simp
  rw [after0_8]
  refine (opreAt m c t y).trans ?_
  unfold specO
  rw [e0, e1, Nat.mul_comm t.val]

end Cert.Proof.MixerFwd

end
-- ==== Proof.MixerFwdReads.lean ====
/-
  The reference's arrays before its loop, and one turn of the loop, read at an index.
-/
module

public import proofs.«01_k».proof.Defs
public import proofs.«01_k».proof.Proof.Gen.MixerFwdRefIdeal.Step
public import proofs.«01_k».proof.Proof.MixerFwdKernel
public import Idealize.ShloMosaic.Lib.Pointwise
public import Idealize.ShloMosaic.Lib.Pipeline.ValueKit
public import Idealize.ShloMosaic.Lib.DynamicIndex
public import Idealize.ShloMosaic.Lib.WordCmp

@[expose] public section

set_option maxRecDepth 16384

noncomputable section

namespace Cert.Proof.MixerFwd

open Idealize.ShloMosaic Idealize.ShloMosaic.TcCoe Idealize.ShloMosaic.WordCmp Idealize.SL.Sem
open Cert.MixerFwdRefIdeal Cert.MixerFwdRefIdeal.Gen Cert.MixerFwdRefIdeal.Step

variable (x0 : (⟨S8192x7168, .bf16⟩ : BufTy).Contents (Elt Ideal)) (x1 x2 : (⟨S512x512, .bf16⟩ : BufTy).Contents (Elt Ideal))
variable (x3 : (⟨S1x512, .f32⟩ : BufTy).Contents (Elt Ideal)) (x4 : (⟨S3x512, .f32⟩ : BufTy).Contents (Elt Ideal)) (x5 : (⟨S1x128, .f32⟩ : BufTy).Contents (Elt Ideal))

/-- The arguments by row and column. -/
abbrev gP : ℕ → ℕ → EReal := ofArr (a := 8192) (b := 7168) x0
abbrev gK : ℕ → ℕ → EReal := ofArr (a := 512) (b := 512) x1
abbrev gV : ℕ → ℕ → EReal := ofArr (a := 512) (b := 512) x2
abbrev gL : ℕ → EReal := ofArr (a := 1) (b := 512) x3 0
abbrev gW : ℕ → ℕ → EReal := ofArr (a := 3) (b := 512) x4
abbrev gN : ℕ → EReal := ofArr (a := 1) (b := 128) x5 0

theorem colAt (o : ℕ) (ho : o + 512 ≤ 7168) (h : S8192x7168.Slices ![0, o] S8192x512) (h' : S8192x512.ShapeCasts S2x4096x512) (hb : FTy.bits .bf16 < FTy.bits .f32) (b : Fin 2) (s : Fin 4096) (d : Fin 512) :
    shapeCast S2x4096x512 (extf .f32 (extractStridedSlice S8192x512 ![0, o] (x0 : FVec Ideal S8192x7168 .bf16) h) hb : FVec Ideal S8192x512 .f32) h' (ix3 b s d) = gP x0 (4096 * b.val + s.val) (o + d.val) := by
  have hs := s.isLt
  have hd := d.isLt
  rw [gP, ofArr_of _ (by omega) (by omega)]
  pointwise
  simp only [Nat.mul_comm b.val]

variable (b : Fin 2) (s : Fin 4096) (d : Fin 512)
theorem v2_at : A_main_v2 x0 x1 x2 x3 x4 (ix3 b s d) = gP x0 (4096 * b.val + s.val) d.val := (colAt x0 0 (by omega) _ _ _ b s d).trans (by rw [Nat.zero_add])
theorem v5_at : A_main_v5 x0 x1 x2 x3 x4 (ix3 b s d) = gP x0 (4096 * b.val + s.val) (512 + d.val) := colAt x0 512 (by omega) _ _ _ b s d
theorem v8_at : A_main_v8 x0 x1 x2 x3 x4 (ix3 b s d) = gP x0 (4096 * b.val + s.val) (1024 + d.val) := colAt x0 1024 (by omega) _ _ _ b s d
theorem v11_at : A_main_v11 x0 x1 x2 x3 x4 (ix3 b s d) = gP x0 (4096 * b.val + s.val) (1536 + d.val) := colAt x0 1536 (by omega) _ _ _ b s d
theorem v14_at : A_main_v14 x0 x1 x2 x3 x4 (ix3 b s d) = gP x0 (4096 * b.val + s.val) (2048 + d.val) := colAt x0 2048 (by omega) _ _ _ b s d
theorem v17_at : A_main_v17 x0 x1 x2 x3 x4 (ix3 b s d) = gP x0 (4096 * b.val + s.val) (2560 + d.val) := colAt x0 2560 (by omega) _ _ _ b s d
theorem v20_at : A_main_v20 x0 x1 x2 x3 x4 (ix3 b s d) = gP x0 (4096 * b.val + s.val) (3072 + d.val) := colAt x0 3072 (by omega) _ _ _ b s d
theorem v23_at : A_main_v23 x0 x1 x2 x3 x4 (ix3 b s d) = gP x0 (4096 * b.val + s.val) (3584 + d.val) := colAt x0 3584 (by omega) _ _ _ b s d
theorem gW_at (k : Fin 3) : x4 (ix2 k d) = gW x4 k.val d.val := (ofArr_of _ k.isLt d.isLt).symm
theorem gL_at : x3 (ix2 0 d) = gL x3 d.val := (ofArr_of _ (by omega) d.isLt).symm
theorem gK_at (x : FVec Ideal S512x512 .bf16) (i j : ℕ) (hi hj) : x (ix2 ⟨i, hi⟩ ⟨j, hj⟩) = ofArr (a := 512) (b := 512) x i j := (ofArr_of _ hi hj).symm

theorem conv_ref (b : Fin 2) (s : Fin 4096) (d : Fin 512) : A_main_v47 x0 x1 x2 x3 x4 (ix3 b s d) = conv (gP x0) (gW x4) (4096 * b.val + s.val) d.val := by
  pointwise [A_main_v24, A_main_v26, A_main_v27, A_main_v28, A_main_v29, A_main_v30, A_main_v31, A_main_v32, A_main_v33, A_main_v34, A_main_v35, A_main_v36, A_main_v37, A_main_v38, A_main_v39, A_main_v40, A_main_v41, A_main_v42, A_main_v43, A_main_v44, A_main_v45, A_main_v46, A_main_v47, K_main_v25, K_main_cst]
  simp only [v2_at, v5_at, v8_at, gW_at]
  have hs := s.isLt
  unfold conv back
  rw [show (4096 * b.val + s.val) % 4096 = s.val by omega, if_neg (Nat.not_lt_zero _), Nat.sub_zero]
  by_cases h2 : s.val < 2
  · rw [dif_pos h2, if_pos h2]
    by_cases h1 : s.val < 1
    · rw [dif_pos (by omega), if_pos h1]
      rfl
    · rw [dif_neg (by omega), if_neg h1, show 4096 * b.val + (1 + s.val - 2) = 4096 * b.val + s.val - 1 by omega]
      rfl
  · rw [dif_neg h2, if_neg h2, dif_neg (by omega), if_neg (by omega), show 4096 * b.val + (1 + s.val - 2) = 4096 * b.val + s.val - 1 by omega, show 4096 * b.val + (s.val - 2) = 4096 * b.val + s.val - 2 by omega]
    rfl

theorem rowmax (x : FVec Ideal S2x4x4096x256 .f32) (cst : FVec Ideal S_ .f32) (b : Fin 2) (h : Fin 4) (s : Fin 4096) : Host.reduce FloatOps.maximumf x cst reducesTo_S2x4x4096x256_S2x4x4096_d3 h_S_ (ix3 b h s)
    = Finset.univ.fold max (cst (Shape.Idx.first h_S_)) fun k : Fin 256 => x (ix4 b h s k) := by
  simp only [pointwise]

theorem scores_ref (b : Fin 2) (h : Fin 4) (s : Fin 4096) (x : Fin 256) : A_main_v57 x0 x1 x2 x3 x4 (ix4 b h s x) = memScore (gP x0) (gK x1) (h.val * 128) (4096 * b.val + s.val) x.val := by
  pointwise [A_main_v48, A_main_v49, A_main_v50, A_main_v51, A_main_v52, A_main_v53, A_main_v54, A_main_v55, A_main_v57, K_main_v56, K_main_cst_0, K_main_cst]
  have hs := s.isLt
  unfold memScore
  simp only [v23_at, gK_at]
  rw [show (4096 * b.val + s.val) / 4096 = b.val by omega, Nat.mul_comm b.val]

theorem maxAt (x y : FVec Ideal S2x4x4096 .f32) (i : S2x4x4096.Idx) : maximumf x y i = max (x i) (y i) := rfl

theorem rowmax' (x : FVec Ideal S2x4x4096x256 .f32) (b : Fin 2) (h : Fin 4) (s : Fin 4096) : maximumf (K_main_v59 (F := Ideal)) (Host.reduce FloatOps.maximumf x (K_main_cst_1 (F := Ideal)) reducesTo_S2x4x4096x256_S2x4x4096_d3 h_S_) (ix3 b h s)
    = Finset.univ.fold max (Ideal.ofBits .f32 4286578688#32) fun k : Fin 256 => x (ix4 b h s k) := by
  rw [maxAt, rowmax, show K_main_v59 (F := Ideal) (ix3 b h s) = Ideal.ofBits .f32 4286578688#32 by pointwise [K_main_v59, K_main_cst_2], show K_main_cst_1 (F := Ideal) (Shape.Idx.first h_S_) = Ideal.ofBits .f32 4286578688#32 from rfl]
  exact max_eq_right ((Finset.le_fold_max _).2 (Or.inl le_rfl))

theorem rowmax_ref (b : Fin 2) (h : Fin 4) (s : Fin 4096) : A_main_v60 x0 x1 x2 x3 x4 (ix3 b h s) = Finset.univ.fold max (Ideal.ofBits .f32 4286578688#32) fun k : Fin 256 => memScore (gP x0) (gK x1) (h.val * 128) (4096 * b.val + s.val) k.val := by
  unfold A_main_v60 A_main_v58
  rw [rowmax']
  simp only [scores_ref]
theorem exps_ref (b : Fin 2) (h : Fin 4) (s : Fin 4096) (x : Fin 256) : A_main_v64 x0 x1 x2 x3 x4 (ix4 b h s x) = memExp (gP x0) (gK x1) (h.val * 128) (4096 * b.val + s.val) x.val := by
  pointwise [A_main_v61, A_main_v62, A_main_v63, A_main_v64]
  rw [scores_ref, rowmax_ref]
  rfl

theorem mem_ref (b : Fin 2) (s : Fin 4096) (d : Fin 512) : A_main_v71 x0 x1 x2 x3 x4 (ix3 b s d) = mem (gP x0) (gK x1) (gV x2) (d.val / 128 * 128) (4096 * b.val + s.val) d.val := by
  pointwise [A_main_v65, A_main_v66, A_main_v67, A_main_v68, A_main_v69, A_main_v70, A_main_v71, A_main_v54, A_main_v51, A_main_v50, K_main_cst_3]
  have hs := s.isLt
  unfold mem
  rw [show (4096 * b.val + s.val) / 4096 = b.val by omega, Nat.mul_comm 256]
  refine Finset.sum_congr (M := EReal) rfl fun x _ => ?_
  rw [mul_comm]
  simp only [exps_ref]
  congr 1
  exact gK_at x2 _ _ _ _

theorem foldSum {α : Type} (g : α → EReal) : ∀ (l : List α) (z : EReal), l.foldl (fun r n => r + g n) z = z + (l.map g).sum
  | [], z => by simp
  | a :: l, z => by simp [foldSum g l, add_assoc]

theorem winIdx : ∀ n : Fin (⟨5, ![1, 1, 1, 32, 1]⟩ : Shape).numel, ((⟨5, ![1, 1, 1, 32, 1]⟩ : Shape).rowMajor.symm n 0).val = 0 ∧ ((⟨5, ![1, 1, 1, 32, 1]⟩ : Shape).rowMajor.symm n 1).val = 0
    ∧ ((⟨5, ![1, 1, 1, 32, 1]⟩ : Shape).rowMajor.symm n 2).val = 0 ∧ ((⟨5, ![1, 1, 1, 32, 1]⟩ : Shape).rowMajor.symm n 3).val = n.val ∧ ((⟨5, ![1, 1, 1, 32, 1]⟩ : Shape).rowMajor.symm n 4).val = 0 := by
  decide +kernel

theorem cum0 (hz : (K_main_call1_call0_v0 (F := Ideal)) (Shape.Idx.first h_S_) = 0) (n : Fin 128) (b : Fin 2) (a : Fin 4) (i : Fin 32) (f : Fin 128) (g : ℕ → EReal) (hg : ∀ k, A_main_v114 x0 x1 x2 x3 x4 (ix5 n b a k f) = g k.val) :
    A_main_v115 x0 x1 x2 x3 x4 (ix5 n b a i f) = ∑ j ∈ Finset.range 32, if j ≤ i.val then g (i.val - j) else 0 := by
  unfold A_main_v115
  unfold Host.reduceWindowAdd
  show Ideal.hostReduceWindowAdd _ _ _ _ _ _ _ _ = _
  unfold Ideal.hostReduceWindowAdd Host.reduceWindow
  dsimp only
  rw [foldSum, ← Fin.sum_univ_def, hz, zero_add]
  refine (Finset.sum_congr (M := EReal) rfl (g := fun k : Fin (⟨5, ![1, 1, 1, 32, 1]⟩ : Shape).numel => if 31 ≤ i.val + k.val then g (i.val + k.val - 31) else 0) fun k _ => ?_).trans ?_
  · obtain ⟨w0, w1, w2, w3, w4⟩ := winIdx k
    have hk : k.val < 32 := k.isLt
    have hn := n.isLt
    have hb := b.isLt
    have ha := a.isLt
    have hi := i.isLt
    have hf := f.isLt
    by_cases hc : 31 ≤ i.val + k.val
    · rw [if_pos hc, ← hg ⟨i.val + k.val - 31, by omega⟩, dif_pos]
      · congr 1
        funext q
        fin_cases q <;> apply Fin.ext <;> simp [*, ix5]
      · intro q
        fin_cases q <;> simp [*, ix5] <;> omega
    · rw [if_neg hc, dif_neg]
      intro hin
      have := (hin 3).1
      simp [w3, ix5] at this
      omega
  show ∑ k : Fin 32, (if 31 ≤ i.val + k.val then g (i.val + k.val - 31) else 0) = _
  rw [← Finset.sum_range (fun k => if 31 ≤ i.val + k then g (i.val + k - 31) else 0), ← Finset.sum_range_reflect]
  refine Finset.sum_congr rfl fun j hj => ?_
  have hj' := Finset.mem_range.1 hj
  have hi := i.isLt
  by_cases hc : j ≤ i.val
  · rw [if_pos hc, if_pos (by omega), show i.val + (32 - 1 - j) - 31 = i.val - j by omega]
  · rw [if_neg hc, if_neg (by omega)]

theorem logf_ref : A_main_v93 x0 x1 x2 x3 x4 (ix3 b s d) = logf (gP x0) (gL x3) (4096 * b.val + s.val) d.val := by
  pointwise [A_main_v78, A_main_v79, A_main_v80, A_main_v82, A_main_v84, A_main_v86, A_main_v87, A_main_v88, A_main_v89, A_main_v90, A_main_v91, A_main_v92, A_main_v93, K_main_v81, K_main_cst_4, K_main_v83, K_main_cst_5, K_main_v85, K_main_cst_6]
  simp only [v14_at, gL_at]
  rfl

theorem kk_ref : A_main_v105 x0 x1 x2 x3 x4 (ix3 b s d) = kk (gP x0) (gL x3) (4096 * b.val + s.val) d.val := by
  pointwise [A_main_v95, A_main_v96, A_main_v97, A_main_v98, A_main_v100, A_main_v102, A_main_v103, A_main_v104, A_main_v105, A_main_v78, K_main_v94, K_main_cst_7, K_main_v99, K_main_cst_8, K_main_v101, K_main_cst_9]
  simp only [v14_at, gL_at]
  unfold kk
  rw [zero_sub]
  rfl

theorem qs_ref : A_main_v106 x0 x1 x2 x3 x4 (ix3 b s d) = qs (gP x0) (4096 * b.val + s.val) d.val := by
  pointwise [A_main_v106, A_main_call0_v0, A_main_call0_v1, A_main_call0_v3, A_main_call0_v5, K_main_call0_cst, K_main_call0_v2, K_main_call0_cst_0, K_main_call0_v4]
  simp only [v11_at]
  rfl
variable (n : Fin 128) (a : Fin 4) (i : Fin 32) (f : Fin 128)

theorem q_ref : A_main_v108 x0 x1 x2 x3 x4 (ix5 n b a i f) = qs (gP x0) (4096 * b.val + (n.val * 32 + i.val)) (a.val * 128 + f.val) := by
  pointwise [A_main_v107, A_main_v108]
  exact qs_ref _ _ _ _ _ _ _ _

theorem k_ref : A_main_v110 x0 x1 x2 x3 x4 (ix5 n b a i f) = kk (gP x0) (gL x3) (4096 * b.val + (n.val * 32 + i.val)) (a.val * 128 + f.val) := by
  pointwise [A_main_v109, A_main_v110]
  exact kk_ref _ _ _ _ _ _ _ _

theorem g_ref : A_main_v114 x0 x1 x2 x3 x4 (ix5 n b a i f) = logf (gP x0) (gL x3) (4096 * b.val + (n.val * 32 + i.val)) (a.val * 128 + f.val) := by
  pointwise [A_main_v113, A_main_v114]
  exact logf_ref _ _ _ _ _ _ _ _

theorem v_ref : A_main_v112 x0 x1 x2 x3 x4 (ix5 n b a i f) = gP x0 (4096 * b.val + (n.val * 32 + i.val)) (2560 + (a.val * 128 + f.val)) := by
  pointwise [A_main_v111, A_main_v112]
  exact v17_at _ _ _ _ _ _ _ _

theorem mid (k : ℕ) : (4096 * b.val + (n.val * 32 + i.val)) / 32 * 32 + k = 4096 * b.val + (n.val * 32 + k) := by omega

theorem place : (4096 * b.val + (n.val * 32 + i.val)) % 32 = i.val := by omega

theorem cum_ref : A_main_v115 x0 x1 x2 x3 x4 (ix5 n b a i f) = cum (gP x0) (gL x3) (4096 * b.val + (n.val * 32 + i.val)) (a.val * 128 + f.val) := by
  unfold cum upTo
  rw [place]
  refine (cum0 x0 x1 x2 x3 x4 (by pointwise [K_main_call1_call0_v0, K_main_call1_call0_cst]) n b a i f (fun k => logf (gP x0) (gL x3) (4096 * b.val + (n.val * 32 + k)) (a.val * 128 + f.val)) (fun k => g_ref x0 x1 x2 x3 x4 b n a k f)).trans ?_
  refine Finset.sum_congr rfl fun j _ => ?_
  by_cases h : j ≤ i.val
  · rw [if_pos h, if_pos h, show 4096 * b.val + (n.val * 32 + (i.val - j)) = 4096 * b.val + (n.val * 32 + i.val) - j by omega]
  · rw [if_neg h, if_neg h]

theorem aa_ref : A_main_v123 x0 x1 x2 x3 x4 (ix5 n b a i f) = aa (gP x0) (gL x3) (4096 * b.val + (n.val * 32 + i.val)) (a.val * 128 + f.val) := by
  pointwise [A_main_v116, A_main_v120, A_main_v121, A_main_v122, A_main_v123]
  unfold aa
  rw [mid, cum_ref, cum_ref, q_ref]
  rfl

theorem bk_ref : A_main_v127 x0 x1 x2 x3 x4 (ix5 n b a i f) = bk (gP x0) (gL x3) (4096 * b.val + (n.val * 32 + i.val)) (a.val * 128 + f.val) := by
  pointwise [A_main_v116, A_main_v124, A_main_v125, A_main_v126, A_main_v127]
  unfold bk
  rw [mid, cum_ref, cum_ref, k_ref]
  rfl

theorem qin_ref : A_main_v131 x0 x1 x2 x3 x4 (ix5 n b a i f) = qin (gP x0) (gL x3) (4096 * b.val + (n.val * 32 + i.val)) (a.val * 128 + f.val) := by
  pointwise [A_main_v130, A_main_v131]
  rw [cum_ref, q_ref]
  rfl

theorem kout_ref : A_main_v135 x0 x1 x2 x3 x4 (ix5 n b a i f) = kout (gP x0) (gL x3) (4096 * b.val + (n.val * 32 + i.val)) (a.val * 128 + f.val) := by
  pointwise [A_main_v117, A_main_v132, A_main_v133, A_main_v134, A_main_v135]
  unfold kout
  rw [mid, cum_ref, cum_ref, k_ref]
  rfl

theorem dec_ref : A_main_v137 x0 x1 x2 x3 x4 (ix4 n b a f) = Ideal.exp (cum (gP x0) (gL x3) (4096 * b.val + (n.val * 32 + 31)) (a.val * 128 + f.val)) := by
  pointwise [A_main_v117, A_main_v136, A_main_v137]
  rw [cum_ref]
  rfl

theorem mask : ∀ i s : Fin 32, Scalar.select (IntOp.cmpi CmpIPredicate.sge (IntOp.addi (BitVec.ofNat 32 i.val) 0#32) (BitVec.ofNat 32 s.val)) 1#1 0#1 = if s.val ≤ i.val then 1#1 else 0#1 := by
  decide +kernel

theorem score_ref (s : Fin 32) : A_main_v129 x0 x1 x2 x3 x4 (ix5 n b a i s) = score (gP x0) (gL x3) (a.val * 128) (4096 * b.val + (n.val * 32 + i.val)) s.val := by
  unfold score
  rw [place, mid]
  pointwise [A_main_v128, A_main_v129, K_main_call3_v1, K_main_call3_v2, K_main_call3_v0, K_main_cst_10, K_main_v119, K_main_call2_v4, K_main_call2_v2, K_main_call2_v0, K_main_call2_v1, K_main_call2_c, K_main_call2_v3, K_main_v118, K_main_c, K_main_call2_v5, K_main_call2_c_0]
  simp only [aa_ref, bk_ref]
  rw [mask]
  by_cases h : s.val ≤ i.val
  · rw [if_pos h, if_pos h]
    rfl
  · rw [if_neg h, if_neg h]
    show (constant S_ .f32 0#32 : FVec Ideal S_ .f32) ix0 = 0
    pointwise

theorem ya_ref (d : Fin 512) : A_main_v73 x0 x1 x2 x3 x4 (ix4 n b i d) = A_main_v47 x0 x1 x2 x3 x4 (ix3 b ⟨n.val * 32 + i.val, by omega⟩ d) := by
  pointwise [A_main_v72, A_main_v73]

theorem yc_ref (d : Fin 512) : A_main_v75 x0 x1 x2 x3 x4 (ix4 n b i d) = A_main_v71 x0 x1 x2 x3 x4 (ix3 b ⟨n.val * 32 + i.val, by omega⟩ d) := by
  pointwise [A_main_v74, A_main_v75]

theorem gate_ref (d : Fin 512) : A_main_v77 x0 x1 x2 x3 x4 (ix4 n b i d) = gP x0 (4096 * b.val + (n.val * 32 + i.val)) (3072 + d.val) := by
  pointwise [A_main_v76, A_main_v77]
  exact v20_at _ _ _ _ _ _ _ _

theorem starts4 (j : ℕ) (hj : j < 128) : ∀ k : Fin 4, ((![(constantI S_ 32 (BitVec.ofNat 32 j) : IVec S_ 32), constantI S_ 32 0#32, constantI S_ 32 0#32, constantI S_ 32 0#32] : Fin 4 → IVec S_ 32) k (Shape.Idx.first h_S_)).toInt = ((![j, 0, 0, 0] : Fin 4 → ℕ) k : ℤ) := by
  intro k
  fin_cases k
  · exact Idealize.ShloMosaic.toInt_ofNat_of_lt (show j < 2 ^ 31 by omega)
  all_goals rfl

theorem starts5 (j : ℕ) (hj : j < 128) : ∀ k : Fin 5, ((![(constantI S_ 32 (BitVec.ofNat 32 j) : IVec S_ 32), constantI S_ 32 0#32, constantI S_ 32 0#32, constantI S_ 32 0#32, constantI S_ 32 0#32] : Fin 5 → IVec S_ 32) k (Shape.Idx.first h_S_)).toInt = ((![j, 0, 0, 0, 0] : Fin 5 → ℕ) k : ℤ) := by
  intro k
  fin_cases k
  · exact Idealize.ShloMosaic.toInt_ofNat_of_lt (show j < 2 ^ 31 by omega)
  all_goals rfl

theorem slice4 {n1 n2 n3 : ℕ} (x : (⟨4, ![128, n1, n2, n3]⟩ : Shape).Idx → EReal) (start : Fin 4 → ℤ) (h : (⟨4, ![128, n1, n2, n3]⟩ : Shape).Slices (fun _ => 0) ⟨4, ![1, n1, n2, n3]⟩) (j : ℕ) (hj : j < 128) (hs : ∀ k, start k = ((![j, 0, 0, 0] : Fin 4 → ℕ) k : ℤ)) (b : Fin n1) (i : Fin n2) (d : Fin n3) :
    Host.dynamicSlice ⟨4, ![1, n1, n2, n3]⟩ x start h (ix4 0 b i d) = x (ix4 ⟨j, hj⟩ b i d) := by
  refine (congrFun (dynamicSlice_eq_extract (s := ⟨4, ![128, n1, n2, n3]⟩) ⟨4, ![1, n1, n2, n3]⟩ x start h ![j, 0, 0, 0] ⟨rfl, fun k => by fin_cases k <;> simp; omega⟩ hs) _).trans ?_
  unfold extractStridedSlice
  congr 1
  funext k
  fin_cases k <;> apply Fin.ext <;> simp [ix4]

theorem slice5 {n1 n2 n3 n4 : ℕ} (x : (⟨5, ![128, n1, n2, n3, n4]⟩ : Shape).Idx → EReal) (start : Fin 5 → ℤ) (h : (⟨5, ![128, n1, n2, n3, n4]⟩ : Shape).Slices (fun _ => 0) ⟨5, ![1, n1, n2, n3, n4]⟩) (j : ℕ) (hj : j < 128) (hs : ∀ k, start k = ((![j, 0, 0, 0, 0] : Fin 5 → ℕ) k : ℤ)) (b : Fin n1) (i : Fin n2) (d : Fin n3) (e : Fin n4) :
    Host.dynamicSlice ⟨5, ![1, n1, n2, n3, n4]⟩ x start h (ix5 0 b i d e) = x (ix5 ⟨j, hj⟩ b i d e) := by
  refine (congrFun (dynamicSlice_eq_extract (s := ⟨5, ![128, n1, n2, n3, n4]⟩) ⟨5, ![1, n1, n2, n3, n4]⟩ x start h ![j, 0, 0, 0, 0] ⟨rfl, fun k => by fin_cases k <;> simp; omega⟩ hs) _).trans ?_
  unfold extractStridedSlice
  congr 1
  funext k
  fin_cases k <;> apply Fin.ext <;> simp [ix5]

theorem update4 {n1 n2 n3 : ℕ} (x : (⟨4, ![128, n1, n2, n3]⟩ : Shape).Idx → EReal) (u : (⟨4, ![1, n1, n2, n3]⟩ : Shape).Idx → EReal) (start : Fin 4 → ℤ) (h : (⟨4, ![128, n1, n2, n3]⟩ : Shape).Slices (fun _ => 0) ⟨4, ![1, n1, n2, n3]⟩) (j : ℕ) (hj : j < 128) (hs : ∀ k, start k = ((![j, 0, 0, 0] : Fin 4 → ℕ) k : ℤ)) (k : Fin 128) (b : Fin n1) (i : Fin n2) (d : Fin n3) :
    Host.dynamicUpdateSlice x u start h (ix4 k b i d) = if k.val = j then u (ix4 0 b i d) else x (ix4 k b i d) := by
  refine (congrFun (dynamicUpdateSlice_eq_update (s := ⟨4, ![128, n1, n2, n3]⟩) (u := ⟨4, ![1, n1, n2, n3]⟩) x u start h ![j, 0, 0, 0] ⟨rfl, fun k => by fin_cases k <;> simp; omega⟩ hs) _).trans ?_
  unfold updateSlice
  by_cases hk : k.val = j
  · rw [if_pos hk, dif_pos (fun q => by fin_cases q <;> simp [ix4, hk])]
    congr 1
    funext q
    fin_cases q <;> apply Fin.ext <;> simp [ix4, hk]
  · rw [if_neg hk, dif_neg]
    intro hq
    have : j ≤ k.val ∧ k.val < j + 1 := hq 0
    omega

theorem update5 {n1 n2 n3 n4 : ℕ} (x : (⟨5, ![128, n1, n2, n3, n4]⟩ : Shape).Idx → EReal) (u : (⟨5, ![1, n1, n2, n3, n4]⟩ : Shape).Idx → EReal) (start : Fin 5 → ℤ) (h : (⟨5, ![128, n1, n2, n3, n4]⟩ : Shape).Slices (fun _ => 0) ⟨5, ![1, n1, n2, n3, n4]⟩) (j : ℕ) (hj : j < 128) (hs : ∀ k, start k = ((![j, 0, 0, 0, 0] : Fin 5 → ℕ) k : ℤ)) (k : Fin 128) (b : Fin n1) (i : Fin n2) (d : Fin n3) (e : Fin n4) :
    Host.dynamicUpdateSlice x u start h (ix5 k b i d e) = if k.val = j then u (ix5 0 b i d e) else x (ix5 k b i d e) := by
  refine (congrFun (dynamicUpdateSlice_eq_update (s := ⟨5, ![128, n1, n2, n3, n4]⟩) (u := ⟨5, ![1, n1, n2, n3, n4]⟩) x u start h ![j, 0, 0, 0, 0] ⟨rfl, fun k => by fin_cases k <;> simp; omega⟩ hs) _).trans ?_
  unfold updateSlice
  by_cases hk : k.val = j
  · rw [if_pos hk, dif_pos (fun q => by fin_cases q <;> simp [ix5, hk])]
    congr 1
    funext q
    fin_cases q <;> apply Fin.ext <;> simp [ix5, hk]
  · rw [if_neg hk, dif_neg]
    intro hq
    have : j ≤ k.val ∧ k.val < j + 1 := hq 0
    omega

section
variable (j : ℕ) (hj : j < 128) (w : State Ideal) (b : Fin 2)
include hj

theorem b4_at (i : Fin 32) (d : Fin 512) : b4 j w (ix3 b i d) = w.main_v142_0 (ix4 ⟨j, hj⟩ b i d) := by
  pointwise [b4]
  exact slice4 _ _ _ j hj (starts4 j hj) b i d

theorem b9_at (i : Fin 32) (d : Fin 512) : b9 j w (ix3 b i d) = w.main_v142_1 (ix4 ⟨j, hj⟩ b i d) := by
  pointwise [b9]
  exact slice4 _ _ _ j hj (starts4 j hj) b i d

theorem b14_at (i : Fin 32) (d : Fin 512) : b14 j w (ix3 b i d) = w.main_v142_2 (ix4 ⟨j, hj⟩ b i d) := by
  pointwise [b14]
  exact slice4 _ _ _ j hj (starts4 j hj) b i d

theorem b20_at (a : Fin 4) (i s : Fin 32) : b20 j w (ix4 b a i s) = w.main_v142_3 (ix5 ⟨j, hj⟩ b a i s) := by
  pointwise [b20]
  exact slice5 _ _ _ j hj (starts5 j hj) b a i s

theorem b26_at (a : Fin 4) (i : Fin 32) (f : Fin 128) : b26 j w (ix4 b a i f) = w.main_v142_4 (ix5 ⟨j, hj⟩ b a i f) := by
  pointwise [b26]
  exact slice5 _ _ _ j hj (starts5 j hj) b a i f

theorem b32_at (a : Fin 4) (i : Fin 32) (f : Fin 128) : b32 j w (ix4 b a i f) = w.main_v142_5 (ix5 ⟨j, hj⟩ b a i f) := by
  pointwise [b32]
  exact slice5 _ _ _ j hj (starts5 j hj) b a i f

theorem b38_at (a : Fin 4) (i : Fin 32) (f : Fin 128) : b38 j w (ix4 b a i f) = w.main_v142_6 (ix5 ⟨j, hj⟩ b a i f) := by
  pointwise [b38]
  exact slice5 _ _ _ j hj (starts5 j hj) b a i f

theorem b43_at (a : Fin 4) (f : Fin 128) : b43 j w (ix3 b a f) = w.main_v142_7 (ix4 ⟨j, hj⟩ b a f) := by
  pointwise [b43]
  exact slice4 _ _ _ j hj (starts4 j hj) b a f

theorem b86_at (k : Fin 128) (i : Fin 32) (d : Fin 1536) : b86 j w (ix4 k b i d) = if k.val = j then b81 j w (ix3 b i d) else w.main_v142_11 (ix4 k b i d) := by
  refine (update4 _ _ _ _ j hj (starts4 j hj) k b i d).trans ?_
  pointwise [b82]

theorem b92_at (k : Fin 128) (a : Fin 4) (f v : Fin 128) : b92 j w (ix5 k b a f v) = if k.val = j then w.main_v142_10 (ix4 b a f v) else w.main_v142_12 (ix5 k b a f v) := by
  refine (update5 _ _ _ _ j hj (starts5 j hj) k b a f v).trans ?_
  pointwise [b87]

theorem b98_at (k : Fin 128) (i : Fin 32) (a : Fin 4) (v : Fin 128) : b98 j w (ix5 k b i a v) = if k.val = j then b52 j w (ix4 b i a v) else w.main_v142_13 (ix5 k b i a v) := by
  refine (update5 _ _ _ _ j hj (starts5 j hj) k b i a v).trans ?_
  pointwise [b93]
end

theorem o_at (j : ℕ) (w : State Ideal) (b : Fin 2) (a : Fin 4) (i : Fin 32) (v : Fin 128) : b52 j w (ix4 b i a v) = (∑ s : Fin 32, b20 j w (ix4 b a i s) * b38 j w (ix4 b a s v)) + ∑ f : Fin 128, b26 j w (ix4 b a i f) * w.main_v142_10 (ix4 b a f v) := by
  pointwise [b44, b45, b46, b52]

theorem next_at (j : ℕ) (w : State Ideal) (b : Fin 2) (a : Fin 4) (f v : Fin 128) : b51 j w (ix4 b a f v) = b43 j w (ix3 b a f) * w.main_v142_10 (ix4 b a f v) + ∑ s : Fin 32, b32 j w (ix4 b a s f) * b38 j w (ix4 b a s v) := by
  pointwise [b47, b48, b49, b50, b51]

theorem n_at (j : ℕ) (w : State Ideal) (b : Fin 2) (i : Fin 32) (d : Fin 512) : b80 j w (ix3 b i d) = b52 j w (ix4 b i ⟨d.val / 128, by omega⟩ ⟨d.val % 128, by omega⟩) * Ideal.rsqrt (Ideal.div (∑ x : Fin 128, b52 j w (ix4 b i ⟨d.val / 128, by omega⟩ x) * b52 j w (ix4 b i ⟨d.val / 128, by omega⟩ x)) (Ideal.ofBits .f32 1124073472#32)
      + Ideal.ofBits .f32 897988541#32) * w.main_v142_8 (ix2 0 ⟨d.val % 128, by omega⟩) * (b14 j w (ix3 b i d) * Ideal.logistic (b14 j w (ix3 b i d))) := by
  pointwise [b53, b54, b55, b56, b57, b58, b59, b60, b61, b62, b63, b64, b65, b66, b67, b68, b69, b70, b71, b72, b73, b74, b75, b76, b77, b78, b79, b80]
  rfl

theorem c_at (j : ℕ) (w : State Ideal) (b : Fin 2) (i : Fin 32) (d : Fin 1536) : b81 j w (ix3 b i d) = if h : d.val < 512 then b4 j w (ix3 b i ⟨d.val, h⟩) else if h' : d.val < 1024 then b80 j w (ix3 b i ⟨d.val - 512, by omega⟩) else b9 j w (ix3 b i ⟨d.val - 1024, by omega⟩) := by
  unfold b81
  pointwise
  by_cases h : d.val < 512
  · rw [dif_pos h, dif_pos h]
  · rw [dif_neg h, dif_neg h]
    by_cases h' : d.val < 1024
    · rw [dif_pos (by omega), dif_pos h']
    · rw [dif_neg (by omega), dif_neg h']
      rfl

end Cert.Proof.MixerFwd

end
-- ==== Proof.MixerFwdLoop.lean ====
/-
  The reference's loop over the chunks: the state it carries and the results it stacks, at each turn.
-/
module

public import proofs.«01_k».proof.Defs
public import proofs.«01_k».proof.Proof.Gen.MixerFwdRefIdeal.Step
public import proofs.«01_k».proof.Proof.MixerFwdReads
public import Idealize.ShloMosaic.Lib.Pointwise
public import Idealize.ShloMosaic.Lib.Pipeline.ValueKit
public import Idealize.ShloMosaic.Lib.DynamicIndex
public import Idealize.ShloMosaic.Lib.WordCmp

@[expose] public section

set_option maxRecDepth 16384

noncomputable section

namespace Cert.Proof.MixerFwd

open Idealize.ShloMosaic Idealize.ShloMosaic.TcCoe Idealize.ShloMosaic.WordCmp Idealize.SL.Sem
open Cert.MixerFwdRefIdeal Cert.MixerFwdRefIdeal.Gen Cert.MixerFwdRefIdeal.Step

variable (x0 : (⟨S8192x7168, .bf16⟩ : BufTy).Contents (Elt Ideal)) (x1 x2 : (⟨S512x512, .bf16⟩ : BufTy).Contents (Elt Ideal))
variable (x3 : (⟨S1x512, .f32⟩ : BufTy).Contents (Elt Ideal)) (x4 : (⟨S3x512, .f32⟩ : BufTy).Contents (Elt Ideal)) (x5 : (⟨S1x128, .f32⟩ : BufTy).Contents (Elt Ideal))

variable (it : ℕ → State Ideal) (h0 : it 0 = init x5 x0 x1 x2 x3 x4) (hs : ∀ n, it (n + 1) = step n (it n))
include h0 hs

/-- What the loop carries unchanged. -/
theorem kept (n : ℕ) : (it n).main_v142_0 = A_main_v73 x0 x1 x2 x3 x4 ∧ (it n).main_v142_1 = A_main_v75 x0 x1 x2 x3 x4 ∧ (it n).main_v142_2 = A_main_v77 x0 x1 x2 x3 x4 ∧ (it n).main_v142_3 = A_main_v129 x0 x1 x2 x3 x4
    ∧ (it n).main_v142_4 = A_main_v131 x0 x1 x2 x3 x4 ∧ (it n).main_v142_5 = A_main_v135 x0 x1 x2 x3 x4 ∧ (it n).main_v142_6 = A_main_v112 x0 x1 x2 x3 x4 ∧ (it n).main_v142_7 = A_main_v137 x0 x1 x2 x3 x4 ∧ (it n).main_v142_8 = x5 := by
  induction n with
  | zero => rw [h0]; exact ⟨rfl, rfl, rfl, rfl, rfl, rfl, rfl, rfl, rfl⟩
  | succ n ih => rw [hs]; exact ih

/-- The carried state before turn `n`. -/
theorem state_ref (b : Fin 2) (a : Fin 4) (f v : Fin 128) : ∀ n ≤ 128, (it n).main_v142_10 (ix4 b a f v) = st (gP x0) (gL x3) b.val (a.val * 128 + v.val) (a.val * 128 + f.val) n := by
  intro n
  induction n with
  | zero =>
    intro _
    rw [h0]
    refine Eq.trans ?_ (rfl : (0 : EReal) = st (gP x0) (gL x3) b.val (a.val * 128 + v.val) (a.val * 128 + f.val) 0)
    show K_main_v138 (F := Ideal) (ix4 b a f v) = 0
    pointwise [K_main_v138, K_main_cst_11]
  | succ n ih =>
    intro hn
    obtain ⟨_, _, _, _, _, e5, e6, e7, _⟩ := kept x0 x1 x2 x3 x4 x5 it h0 hs n
    have e : ∀ k, 4096 * b.val + 32 * n + k = 4096 * b.val + (n * 32 + k) := fun k => by omega
    rw [hs, st_succ, ← ih (by omega)]
    show b51 n (it n) (ix4 b a f v) = _
    rw [next_at, b43_at n (by omega), e7, dec_ref, mul_comm]
    simp only [b32_at n (show n < 128 by omega), b38_at n (show n < 128 by omega), e5, e6, kout_ref, v_ref, e]
    congr 1
    exact Finset.sum_congr (M := EReal) rfl fun s _ => mul_comm _ _

section
variable (n : ℕ) (hn : n < 128) (b : Fin 2) (i : Fin 32)
include hn

/-- The recurrence's output of turn `n`. -/
theorem out_ref (a : Fin 4) (v : Fin 128) : b52 n (it n) (ix4 b i a v) = out (gP x0) (gL x3) (a.val * 128) (4096 * b.val + (n * 32 + i.val)) (a.val * 128 + v.val) := by
  obtain ⟨_, _, _, e3, e4, _, e6, _, _⟩ := kept x0 x1 x2 x3 x4 x5 it h0 hs n
  have hi := i.isLt
  have hm : ∀ k, (4096 * b.val + (n * 32 + i.val)) / 32 * 32 + k = 4096 * b.val + (n * 32 + k) := fun k => by omega
  rw [o_at]
  unfold out
  simp only [hm, show (4096 * b.val + (n * 32 + i.val)) / 4096 = b.val by omega, show (4096 * b.val + (n * 32 + i.val)) % 4096 / 32 = n by omega]
  simp only [b20_at n hn, b26_at n hn, b38_at n hn, e3, e4, e6, score_ref, qin_ref, v_ref, state_ref x0 x1 x2 x3 x4 x5 it h0 hs b a _ v n (by omega)]

/-- The normalized and gated output of turn `n`. -/
theorem gated_ref (d : Fin 512) : b80 n (it n) (ix3 b i d) = gated (gP x0) (gL x3) (gN x5) (d.val / 128 * 128) (4096 * b.val + (n * 32 + i.val)) (d.val % 128) := by
  obtain ⟨_, _, e2, _, _, _, _, _, e8⟩ := kept x0 x1 x2 x3 x4 x5 it h0 hs n
  rw [n_at]
  unfold gated
  simp only [out_ref x0 x1 x2 x3 x4 x5 it h0 hs n hn, b14_at n hn, e2, e8, gate_ref, show d.val / 128 * 128 + d.val % 128 = d.val by omega]
  rw [show x5 (ix2 0 ⟨d.val % 128, by omega⟩) = gN x5 (d.val % 128) from (ofArr_of x5 (by omega) (by omega)).symm]

/-- The three mixers side by side, as turn `n` puts them. -/
theorem mixed_ref (d : Fin 1536) : b81 n (it n) (ix3 b i d) = mixed (gP x0) (gL x3) (gK x1) (gV x2) (gW x4) (gN x5) (4096 * b.val + (n * 32 + i.val)) d.val := by
  obtain ⟨e0, e1, _⟩ := kept x0 x1 x2 x3 x4 x5 it h0 hs n
  rw [c_at]
  unfold mixed
  by_cases h : d.val < 512
  · rw [dif_pos h, if_pos h, b4_at n hn, e0, ya_ref, conv_ref]
  · rw [dif_neg h, if_neg h]
    by_cases h' : d.val < 1024
    · rw [dif_pos h', if_pos h', gated_ref x0 x1 x2 x3 x4 x5 it h0 hs n hn]
    · rw [dif_neg h', if_neg h', b9_at n hn, e1, yc_ref, mem_ref]
end

/-- The stacked results after `n` turns. -/
theorem stacked (n : ℕ) : n ≤ 128 → ∀ (k : Fin 128), k.val < n → ∀ b : Fin 2,
    (∀ i d, (it n).main_v142_11 (ix4 k b i d) = mixed (gP x0) (gL x3) (gK x1) (gV x2) (gW x4) (gN x5) (4096 * b.val + (k.val * 32 + i.val)) d.val)
    ∧ (∀ a f v, (it n).main_v142_12 (ix5 k b a f v) = st (gP x0) (gL x3) b.val (a.val * 128 + v.val) (a.val * 128 + f.val) k.val)
    ∧ (∀ i a v, (it n).main_v142_13 (ix5 k b i a v) = out (gP x0) (gL x3) (a.val * 128) (4096 * b.val + (k.val * 32 + i.val)) (a.val * 128 + v.val)) := by
  induction n with
  | zero => exact fun _ k hk => absurd hk (Nat.not_lt_zero _)
  | succ n ih =>
    intro hn k hk b
    have hn' : n < 128 := hn
    rw [hs]
    show (∀ i d, b86 n (it n) (ix4 k b i d) = _) ∧ (∀ a f v, b92 n (it n) (ix5 k b a f v) = _) ∧ (∀ i a v, b98 n (it n) (ix5 k b i a v) = _)
    by_cases h : k.val = n
    · refine ⟨fun i d => ?_, fun a f v => ?_, fun i a v => ?_⟩
      · rw [b86_at n hn', if_pos h, mixed_ref x0 x1 x2 x3 x4 x5 it h0 hs n hn', h]
      · rw [b92_at n hn', if_pos h, state_ref x0 x1 x2 x3 x4 x5 it h0 hs b a f v n (by omega), h]
      · rw [b98_at n hn', if_pos h, out_ref x0 x1 x2 x3 x4 x5 it h0 hs n hn', h]
    · have hk' := ih (by omega) k (by omega) b
      refine ⟨fun i d => ?_, fun a f v => ?_, fun i a v => ?_⟩
      · rw [b86_at n hn', if_neg h, hk'.1]
      · rw [b92_at n hn', if_neg h, hk'.2.1]
      · rw [b98_at n hn', if_neg h, hk'.2.2]

theorem refY : R_main_v145 (it 128) = specY (gP x0) (gL x3) (gK x1) (gV x2) (gW x4) (gN x5) := by
  funext y
  obtain ⟨r, c, rfl⟩ : ∃ (r : Fin 8192) (c : Fin 1536), y = ix2 r c := ⟨y 0, y 1, (ix2_eta y).symm⟩
  pointwise [R_main_v145]
  refine ((stacked x0 x1 x2 x3 x4 x5 it h0 hs 128 le_rfl ⟨r.val / 32 % 128, by omega⟩ (by show r.val / 32 % 128 < 128; omega) ⟨r.val / 4096, by omega⟩).1 ⟨r.val % 32, by omega⟩ c).trans ?_
  show mixed (gP x0) (gL x3) (gK x1) (gV x2) (gW x4) (gN x5) (4096 * (r.val / 4096) + (r.val / 32 % 128 * 32 + r.val % 32)) c.val = mixed (gP x0) (gL x3) (gK x1) (gV x2) (gW x4) (gN x5) r.val c.val
  congr 1
  omega

theorem refS : R_main_v147 (it 128) = specS (gP x0) (gL x3) := by
  funext y
  obtain ⟨n, a, v, f, rfl⟩ : ∃ (n : Fin 256) (a : Fin 4) (v f : Fin 128), y = ix4 n a v f := ⟨y 0, y 1, y 2, y 3, (ix4_eta y).symm⟩
  pointwise [R_main_v147]
  refine ((stacked x0 x1 x2 x3 x4 x5 it h0 hs 128 le_rfl ⟨n.val % 128, by omega⟩ (by show n.val % 128 < 128; omega) ⟨n.val / 128, by omega⟩).2.1 a f v).trans ?_
  show st (gP x0) (gL x3) (n.val / 128) (a.val * 128 + v.val) (a.val * 128 + f.val) (n.val % 128) = st (gP x0) (gL x3) (n.val / 128) (128 * a.val + v.val) (128 * a.val + f.val) (n.val % 128)
  rw [Nat.mul_comm]

theorem refO : R_main_v149 (it 128) = specO (gP x0) (gL x3) := by
  funext y
  obtain ⟨r, c, rfl⟩ : ∃ (r : Fin 8192) (c : Fin 512), y = ix2 r c := ⟨y 0, y 1, (ix2_eta y).symm⟩
  pointwise [R_main_v149]
  refine ((stacked x0 x1 x2 x3 x4 x5 it h0 hs 128 le_rfl ⟨r.val / 32 % 128, by omega⟩ (by show r.val / 32 % 128 < 128; omega) ⟨r.val / 4096, by omega⟩).2.2 ⟨r.val % 32, by omega⟩ ⟨c.val / 128, by omega⟩ ⟨c.val % 128, by omega⟩).trans ?_
  show out (gP x0) (gL x3) (c.val / 128 * 128) (4096 * (r.val / 4096) + (r.val / 32 % 128 * 32 + r.val % 32)) (c.val / 128 * 128 + c.val % 128) = out (gP x0) (gL x3) (c.val / 128 * 128) r.val c.val
  congr 1 <;> omega

end Cert.Proof.MixerFwd

end
-- ==== Proof.MixerFwdRun.lean ====
/- The run of the mixer's forward reference, stated over the step of its loop over the chunks.
   At a valuation that holds a state (the carried buffers, the loop's constants, the trip's number) each value of one
   trip is the step's value of that name; what is left before the loop holds the first state; so the results are read
   off the last of the states that the step makes one after the other. -/
module

public import proofs.«01_k».proof.Proof.Gen.MixerFwdRefIdeal.Run
public import proofs.«01_k».proof.Proof.Gen.MixerFwdRefIdeal.Step

@[expose] public section

noncomputable section

namespace Cert.MixerFwdRun

open Idealize.ShloMosaic Idealize.ShloMosaic.TcCoe Idealize.SL.Sem Idealize.ShloMosaic.StableHlo
open Cert.MixerFwdRefIdeal Cert.MixerFwdRefIdeal.Gen Cert.MixerFwdRefIdeal.Value
open Cert.MixerFwdRefIdeal.Step (State step init)

variable {F : FTy → Type} [FloatOps F]

variable (V0 : Valuation τ sig (Elt F)) (s : State F) (j : ℕ)

/-- The valuation holds the state, the set-up values and the trip's number. -/
structure Holds : Prop where
  f_10 : V0 (Proc.devRef .tc main_v142_10) = s.main_v142_10
  f_11 : V0 (Proc.devRef .tc main_v142_11) = s.main_v142_11
  f_12 : V0 (Proc.devRef .tc main_v142_12) = s.main_v142_12
  f_13 : V0 (Proc.devRef .tc main_v142_13) = s.main_v142_13
  f_0 : V0 (Proc.devRef .tc main_v142_0) = s.main_v142_0
  f_1 : V0 (Proc.devRef .tc main_v142_1) = s.main_v142_1
  f_2 : V0 (Proc.devRef .tc main_v142_2) = s.main_v142_2
  f_3 : V0 (Proc.devRef .tc main_v142_3) = s.main_v142_3
  f_4 : V0 (Proc.devRef .tc main_v142_4) = s.main_v142_4
  f_5 : V0 (Proc.devRef .tc main_v142_5) = s.main_v142_5
  f_6 : V0 (Proc.devRef .tc main_v142_6) = s.main_v142_6
  f_7 : V0 (Proc.devRef .tc main_v142_7) = s.main_v142_7
  f_8 : V0 (Proc.devRef .tc main_v142_8) = s.main_v142_8
  n_9 : V0 (Proc.devRef .tc main_v142_9) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.MixerFwdRefIdeal.Step.b0 j s := by
  unfold Cert.MixerFwdRefIdeal.Step.b0
  rfl
set_option maxRecDepth 8192 in
theorem al_1 (h : Holds V0 s j) : (constantI S_ 32 0#32 : (Proc.devRef .tc main_while0b_call4_c_0 : DevRef τ sig).ty.Contents (Elt F)) = Cert.MixerFwdRefIdeal.Step.b1 j s := by
  unfold Cert.MixerFwdRefIdeal.Step.b1
  rfl
set_option maxRecDepth 8192 in
theorem al_2 (h : Holds V0 s j) : (constantI S_ 32 0#32 : (Proc.devRef .tc main_while0b_call4_c_1 : DevRef τ sig).ty.Contents (Elt F)) = Cert.MixerFwdRefIdeal.Step.b2 j s := by
  unfold Cert.MixerFwdRefIdeal.Step.b2
  rfl
set_option maxRecDepth 8192 in
theorem al_3 (h : Holds V0 s j) : (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512 : (Proc.devRef .tc main_while0b_call4_v0 : DevRef τ sig).ty.Contents (Elt F)) = Cert.MixerFwdRefIdeal.Step.b3 j s := by
  unfold Cert.MixerFwdRefIdeal.Step.b3
  rw [← al_0 h, ← al_1 h, ← al_2 h, h.f_0, h.n_9]
  try rfl
set_option maxRecDepth 8192 in
theorem al_4 (h : Holds V0 s j) : (shapeCast S2x32x512 (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512 : (Proc.devRef .tc main_while0b_v150 : DevRef τ sig).ty.Contents (Elt F)) = Cert.MixerFwdRefIdeal.Step.b4 j s := by
  unfold Cert.MixerFwdRefIdeal.Step.b4
  rw [← al_3 h]
  try rfl
set_option maxRecDepth 8192 in
theorem al_5 (h : Holds V0 s j) : (constantI S_ 32 0#32 : (Proc.devRef .tc main_while0b_call5_c : DevRef τ sig).ty.Contents (Elt F)) = Cert.MixerFwdRefIdeal.Step.b5 j s := by
  unfold Cert.MixerFwdRefIdeal.Step.b5
  rfl
set_option maxRecDepth 8192 in
theorem al_6 (h : Holds V0 s j) : (constantI S_ 32 0#32 : (Proc.devRef .tc main_while0b_call5_c_0 : DevRef τ sig).ty.Contents (Elt F)) = Cert.MixerFwdRefIdeal.Step.b6 j s := by
  unfold Cert.MixerFwdRefIdeal.Step.b6
  rfl
set_option maxRecDepth 8192 in
theorem al_7 (h : Holds V0 s j) : (constantI S_ 32 0#32 : (Proc.devRef .tc main_while0b_call5_c_1 : DevRef τ sig).ty.Contents (Elt F)) = Cert.MixerFwdRefIdeal.Step.b7 j s := by
  unfold Cert.MixerFwdRefIdeal.Step.b7
  rfl
set_option maxRecDepth 8192 in
theorem al_8 (h : Holds V0 s j) : (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512 : (Proc.devRef .tc main_while0b_call5_v0 : DevRef τ sig).ty.Contents (Elt F)) = Cert.MixerFwdRefIdeal.Step.b8 j s := by
  unfold Cert.MixerFwdRefIdeal.Step.b8
  rw [← al_5 h, ← al_6 h, ← al_7 h, h.f_1, h.n_9]
  try rfl
set_option maxRecDepth 8192 in
theorem al_9 (h : Holds V0 s j) : (shapeCast S2x32x512 (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512 : (Proc.devRef .tc main_while0b_v151 : DevRef τ sig).ty.Contents (Elt F)) = Cert.MixerFwdRefIdeal.Step.b9 j s := by
  unfold Cert.MixerFwdRefIdeal.Step.b9
  rw [← al_8 h]
  try rfl
set_option maxRecDepth 8192 in
theorem al_10 (h : Holds V0 s j) : (constantI S_ 32 0#32 : (Proc.devRef .tc main_while0b_call6_c : DevRef τ sig).ty.Contents (Elt F)) = Cert.MixerFwdRefIdeal.Step.b10 j s := by
  unfold Cert.MixerFwdRefIdeal.Step.b10
  rfl
set_option maxRecDepth 8192 in
theorem al_11 (h : Holds V0 s j) : (constantI S_ 32 0#32 : (Proc.devRef .tc main_while0b_call6_c_0 : DevRef τ sig).ty.Contents (Elt F)) = Cert.MixerFwdRefIdeal.Step.b11 j s := by
  unfold Cert.MixerFwdRefIdeal.Step.b11
  rfl
set_option maxRecDepth 8192 in
theorem al_12 (h : Holds V0 s j) : (constantI S_ 32 0#32 : (Proc.devRef .tc main_while0b_call6_c_1 : DevRef τ sig).ty.Contents (Elt F)) = Cert.MixerFwdRefIdeal.Step.b12 j s := by
  unfold Cert.MixerFwdRefIdeal.Step.b12
  rfl
set_option maxRecDepth 8192 in
theorem al_13 (h : Holds V0 s j) : (Host.dynamicSlice S1x2x32x512 (V0 (Proc.devRef .tc main_v142_2)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512 : (Proc.devRef .tc main_while0b_call6_v0 : DevRef τ sig).ty.Contents (Elt F)) = Cert.MixerFwdRefIdeal.Step.b13 j s := by
  unfold Cert.MixerFwdRefIdeal.Step.b13
  rw [← al_10 h, ← al_11 h, ← al_12 h, h.f_2, h.n_9]
  try rfl
set_option maxRecDepth 8192 in
theorem al_14 (h : Holds V0 s j) : (res_main_while0b_v152 V0 : (Proc.devRef .tc main_while0b_v152 : DevRef τ sig).ty.Contents (Elt F)) = Cert.MixerFwdRefIdeal.Step.b14 j s := by
  unfold res_main_while0b_v152 Cert.MixerFwdRefIdeal.Step.b14
  rw [← al_13 h]
  try rfl
set_option maxRecDepth 8192 in
theorem al_15 (h : Holds V0 s j) : (constantI S_ 32 0#32 : (Proc.devRef .tc main_while0b_call7_c : DevRef τ sig).ty.Contents (Elt F)) = Cert.MixerFwdRefIdeal.Step.b15 j s := by
  unfold Cert.MixerFwdRefIdeal.Step.b15
  rfl
set_option maxRecDepth 8192 in
theorem al_16 (h : Holds V0 s j) : (constantI S_ 32 0#32 : (Proc.devRef .tc main_while0b_call7_c_0 : DevRef τ sig).ty.Contents (Elt F)) = Cert.MixerFwdRefIdeal.Step.b16 j s := by
  unfold Cert.MixerFwdRefIdeal.Step.b16
  rfl
set_option maxRecDepth 8192 in
theorem al_17 (h : Holds V0 s j) : (constantI S_ 32 0#32 : (Proc.devRef .tc main_while0b_call7_c_1 : DevRef τ sig).ty.Contents (Elt F)) = Cert.MixerFwdRefIdeal.Step.b17 j s := by
  unfold Cert.MixerFwdRefIdeal.Step.b17
  rfl
set_option maxRecDepth 8192 in
theorem al_18 (h : Holds V0 s j) : (constantI S_ 32 0#32 : (Proc.devRef .tc main_while0b_call7_c_2 : DevRef τ sig).ty.Contents (Elt F)) = Cert.MixerFwdRefIdeal.Step.b18 j s := by
  unfold Cert.MixerFwdRefIdeal.Step.b18
  rfl
set_option maxRecDepth 8192 in
theorem al_19 (h : Holds V0 s j) : (Host.dynamicSlice S1x2x4x32x32 (V0 (Proc.devRef .tc main_v142_3)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x32_S1x2x4x32x32 : (Proc.devRef .tc main_while0b_call7_v0 : DevRef τ sig).ty.Contents (Elt F)) = Cert.MixerFwdRefIdeal.Step.b19 j s := by
  unfold Cert.MixerFwdRefIdeal.Step.b19
  rw [← al_15 h, ← al_16 h, ← al_17 h, ← al_18 h, h.f_3, h.n_9]
  try rfl
set_option maxRecDepth 8192 in
theorem al_20 (h : Holds V0 s j) : (shapeCast S2x4x32x32 (Host.dynamicSlice S1x2x4x32x32 (V0 (Proc.devRef .tc main_v142_3)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x32_S1x2x4x32x32) shapeCasts_S1x2x4x32x32_S2x4x32x32 : (Proc.devRef .tc main_while0b_v153 : DevRef τ sig).ty.Contents (Elt F)) = Cert.MixerFwdRefIdeal.Step.b20 j s := by
  unfold Cert.MixerFwdRefIdeal.Step.b20
  rw [← al_19 h]
  try rfl
set_option maxRecDepth 8192 in
theorem al_21 (h : Holds V0 s j) : (constantI S_ 32 0#32 : (Proc.devRef .tc main_while0b_call8_c : DevRef τ sig).ty.Contents (Elt F)) = Cert.MixerFwdRefIdeal.Step.b21 j s := by
  unfold Cert.MixerFwdRefIdeal.Step.b21
  rfl
set_option maxRecDepth 8192 in
theorem al_22 (h : Holds V0 s j) : (constantI S_ 32 0#32 : (Proc.devRef .tc main_while0b_call8_c_0 : DevRef τ sig).ty.Contents (Elt F)) = Cert.MixerFwdRefIdeal.Step.b22 j s := by
  unfold Cert.MixerFwdRefIdeal.Step.b22
  rfl
set_option maxRecDepth 8192 in
theorem al_23 (h : Holds V0 s j) : (constantI S_ 32 0#32 : (Proc.devRef .tc main_while0b_call8_c_1 : DevRef τ sig).ty.Contents (Elt F)) = Cert.MixerFwdRefIdeal.Step.b23 j s := by
  unfold Cert.MixerFwdRefIdeal.Step.b23
  rfl
set_option maxRecDepth 8192 in
theorem al_24 (h : Holds V0 s j) : (constantI S_ 32 0#32 : (Proc.devRef .tc main_while0b_call8_c_2 : DevRef τ sig).ty.Contents (Elt F)) = Cert.MixerFwdRefIdeal.Step.b24 j s := by
  unfold Cert.MixerFwdRefIdeal.Step.b24
  rfl
set_option maxRecDepth 8192 in
theorem al_25 (h : Holds V0 s j) : (Host.dynamicSlice S1x2x4x32x128 (V0 (Proc.devRef .tc main_v142_4)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128 : (Proc.devRef .tc main_while0b_call8_v0 : DevRef τ sig).ty.Contents (Elt F)) = Cert.MixerFwdRefIdeal.Step.b25 j s := by
  unfold Cert.MixerFwdRefIdeal.Step.b25
  rw [← al_21 h, ← al_22 h, ← al_23 h, ← al_24 h, h.f_4, h.n_9]
  try rfl
set_option maxRecDepth 8192 in
theorem al_26 (h : Holds V0 s j) : (shapeCast S2x4x32x128 (Host.dynamicSlice S1x2x4x32x128 (V0 (Proc.devRef .tc main_v142_4)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128 : (Proc.devRef .tc main_while0b_v154 : DevRef τ sig).ty.Contents (Elt F)) = Cert.MixerFwdRefIdeal.Step.b26 j s := by
  unfold Cert.MixerFwdRefIdeal.Step.b26
  rw [← al_25 h]
  try rfl
set_option maxRecDepth 8192 in
theorem al_27 (h : Holds V0 s j) : (constantI S_ 32 0#32 : (Proc.devRef .tc main_while0b_call9_c : DevRef τ sig).ty.Contents (Elt F)) = Cert.MixerFwdRefIdeal.Step.b27 j s := by
  unfold Cert.MixerFwdRefIdeal.Step.b27
  rfl
set_option maxRecDepth 8192 in
theorem al_28 (h : Holds V0 s j) : (constantI S_ 32 0#32 : (Proc.devRef .tc main_while0b_call9_c_0 : DevRef τ sig).ty.Contents (Elt F)) = Cert.MixerFwdRefIdeal.Step.b28 j s := by
  unfold Cert.MixerFwdRefIdeal.Step.b28
  rfl
set_option maxRecDepth 8192 in
theorem al_29 (h : Holds V0 s j) : (constantI S_ 32 0#32 : (Proc.devRef .tc main_while0b_call9_c_1 : DevRef τ sig).ty.Contents (Elt F)) = Cert.MixerFwdRefIdeal.Step.b29 j s := by
  unfold Cert.MixerFwdRefIdeal.Step.b29
  rfl
set_option maxRecDepth 8192 in
theorem al_30 (h : Holds V0 s j) : (constantI S_ 32 0#32 : (Proc.devRef .tc main_while0b_call9_c_2 : DevRef τ sig).ty.Contents (Elt F)) = Cert.MixerFwdRefIdeal.Step.b30 j s := by
  unfold Cert.MixerFwdRefIdeal.Step.b30
  rfl
set_option maxRecDepth 8192 in
theorem al_31 (h : Holds V0 s j) : (Host.dynamicSlice S1x2x4x32x128 (V0 (Proc.devRef .tc main_v142_5)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128 : (Proc.devRef .tc main_while0b_call9_v0 : DevRef τ sig).ty.Contents (Elt F)) = Cert.MixerFwdRefIdeal.Step.b31 j s := by
  unfold Cert.MixerFwdRefIdeal.Step.b31
  rw [← al_27 h, ← al_28 h, ← al_29 h, ← al_30 h, h.f_5, h.n_9]
  try rfl
set_option maxRecDepth 8192 in
theorem al_32 (h : Holds V0 s j) : (shapeCast S2x4x32x128 (Host.dynamicSlice S1x2x4x32x128 (V0 (Proc.devRef .tc main_v142_5)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128 : (Proc.devRef .tc main_while0b_v155 : DevRef τ sig).ty.Contents (Elt F)) = Cert.MixerFwdRefIdeal.Step.b32 j s := by
  unfold Cert.MixerFwdRefIdeal.Step.b32
  rw [← al_31 h]
  try rfl
set_option maxRecDepth 8192 in
theorem al_33 (h : Holds V0 s j) : (constantI S_ 32 0#32 : (Proc.devRef .tc main_while0b_call10_c : DevRef τ sig).ty.Contents (Elt F)) = Cert.MixerFwdRefIdeal.Step.b33 j s := by
  unfold Cert.MixerFwdRefIdeal.Step.b33
  rfl
set_option maxRecDepth 8192 in
theorem al_34 (h : Holds V0 s j) : (constantI S_ 32 0#32 : (Proc.devRef .tc main_while0b_call10_c_0 : DevRef τ sig).ty.Contents (Elt F)) = Cert.MixerFwdRefIdeal.Step.b34 j s := by
  unfold Cert.MixerFwdRefIdeal.Step.b34
  rfl
set_option maxRecDepth 8192 in
theorem al_35 (h : Holds V0 s j) : (constantI S_ 32 0#32 : (Proc.devRef .tc main_while0b_call10_c_1 : DevRef τ sig).ty.Contents (Elt F)) = Cert.MixerFwdRefIdeal.Step.b35 j s := by
  unfold Cert.MixerFwdRefIdeal.Step.b35
  rfl
set_option maxRecDepth 8192 in
theorem al_36 (h : Holds V0 s j) : (constantI S_ 32 0#32 : (Proc.devRef .tc main_while0b_call10_c_2 : DevRef τ sig).ty.Contents (Elt F)) = Cert.MixerFwdRefIdeal.Step.b36 j s := by
  unfold Cert.MixerFwdRefIdeal.Step.b36
  rfl
set_option maxRecDepth 8192 in
theorem al_37 (h : Holds V0 s j) : (Host.dynamicSlice S1x2x4x32x128 (V0 (Proc.devRef .tc main_v142_6)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128 : (Proc.devRef .tc main_while0b_call10_v0 : DevRef τ sig).ty.Contents (Elt F)) = Cert.MixerFwdRefIdeal.Step.b37 j s := by
  unfold Cert.MixerFwdRefIdeal.Step.b37
  rw [← al_33 h, ← al_34 h, ← al_35 h, ← al_36 h, h.f_6, h.n_9]
  try rfl
set_option maxRecDepth 8192 in
theorem al_38 (h : Holds V0 s j) : (res_main_while0b_v156 V0 : (Proc.devRef .tc main_while0b_v156 : DevRef τ sig).ty.Contents (Elt F)) = Cert.MixerFwdRefIdeal.Step.b38 j s := by
  unfold res_main_while0b_v156 Cert.MixerFwdRefIdeal.Step.b38
  rw [← al_37 h]
  try rfl
set_option maxRecDepth 8192 in
theorem al_39 (h : Holds V0 s j) : (constantI S_ 32 0#32 : (Proc.devRef .tc main_while0b_call11_c : DevRef τ sig).ty.Contents (Elt F)) = Cert.MixerFwdRefIdeal.Step.b39 j s := by
  unfold Cert.MixerFwdRefIdeal.Step.b39
  rfl
set_option maxRecDepth 8192 in
theorem al_40 (h : Holds V0 s j) : (constantI S_ 32 0#32 : (Proc.devRef .tc main_while0b_call11_c_0 : DevRef τ sig).ty.Contents (Elt F)) = Cert.MixerFwdRefIdeal.Step.b40 j s := by
  unfold Cert.MixerFwdRefIdeal.Step.b40
  rfl
set_option maxRecDepth 8192 in
theorem al_41 (h : Holds V0 s j) : (constantI S_ 32 0#32 : (Proc.devRef .tc main_while0b_call11_c_1 : DevRef τ sig).ty.Contents (Elt F)) = Cert.MixerFwdRefIdeal.Step.b41 j s := by
  unfold Cert.MixerFwdRefIdeal.Step.b41
  rfl
set_option maxRecDepth 8192 in
theorem al_42 (h : Holds V0 s j) : (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128 : (Proc.devRef .tc main_while0b_call11_v0 : DevRef τ sig).ty.Contents (Elt F)) = Cert.MixerFwdRefIdeal.Step.b42 j s := by
  unfold Cert.MixerFwdRefIdeal.Step.b42
  rw [← al_39 h, ← al_40 h, ← al_41 h, h.f_7, h.n_9]
  try rfl
set_option maxRecDepth 8192 in
theorem al_43 (h : Holds V0 s j) : (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128 : (Proc.devRef .tc main_while0b_v157 : DevRef τ sig).ty.Contents (Elt F)) = Cert.MixerFwdRefIdeal.Step.b43 j s := by
  unfold Cert.MixerFwdRefIdeal.Step.b43
  rw [← al_42 h]
  try rfl
set_option maxRecDepth 8192 in
theorem al_44 (h : Holds V0 s j) : (Host.dotGeneral dot_S2x4x32x32_S2x4x32x128_S2x4x32x128_3_2_2_3_01_01 none (shapeCast S2x4x32x32 (Host.dynamicSlice S1x2x4x32x32 (V0 (Proc.devRef .tc main_v142_3)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x32_S1x2x4x32x32) shapeCasts_S1x2x4x32x32_S2x4x32x32) (res_main_while0b_v156 V0) : (Proc.devRef .tc main_while0b_v158 : DevRef τ sig).ty.Contents (Elt F)) = Cert.MixerFwdRefIdeal.Step.b44 j s := by
  unfold Cert.MixerFwdRefIdeal.Step.b44
  rw [← al_20 h, ← al_38 h]
  try rfl
set_option maxRecDepth 8192 in
theorem al_45 (h : Holds V0 s j) : (Host.dotGeneral dot_S2x4x32x128_S2x4x128x128_S2x4x32x128_3_2_2_3_01_01 none (shapeCast S2x4x32x128 (Host.dynamicSlice S1x2x4x32x128 (V0 (Proc.devRef .tc main_v142_4)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128) (V0 (Proc.devRef .tc main_v142_10)) : (Proc.devRef .tc main_while0b_v159 : DevRef τ sig).ty.Contents (Elt F)) = Cert.MixerFwdRefIdeal.Step.b45 j s := by
  unfold Cert.MixerFwdRefIdeal.Step.b45
  rw [← al_26 h, h.f_10]
  try rfl
set_option maxRecDepth 8192 in
theorem al_46 (h : Holds V0 s j) : (addf (Host.dotGeneral dot_S2x4x32x32_S2x4x32x128_S2x4x32x128_3_2_2_3_01_01 none (shapeCast S2x4x32x32 (Host.dynamicSlice S1x2x4x32x32 (V0 (Proc.devRef .tc main_v142_3)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x32_S1x2x4x32x32) shapeCasts_S1x2x4x32x32_S2x4x32x32) (res_main_while0b_v156 V0)) (Host.dotGeneral dot_S2x4x32x128_S2x4x128x128_S2x4x32x128_3_2_2_3_01_01 none (shapeCast S2x4x32x128 (Host.dynamicSlice S1x2x4x32x128 (V0 (Proc.devRef .tc main_v142_4)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128) (V0 (Proc.devRef .tc main_v142_10))) : (Proc.devRef .tc main_while0b_v160 : DevRef τ sig).ty.Contents (Elt F)) = Cert.MixerFwdRefIdeal.Step.b46 j s := by
  unfold Cert.MixerFwdRefIdeal.Step.b46
  rw [← al_44 h, ← al_45 h]
  try rfl
set_option maxRecDepth 8192 in
theorem al_47 (h : Holds V0 s j) : (broadcastInDim S2x4x128x1 ![0, 1, 2] bcast_S2x4x128_S2x4x128x1_0_1_2 (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128) : (Proc.devRef .tc main_while0b_v161 : DevRef τ sig).ty.Contents (Elt F)) = Cert.MixerFwdRefIdeal.Step.b47 j s := by
  unfold Cert.MixerFwdRefIdeal.Step.b47
  rw [← al_43 h]
  try rfl
set_option maxRecDepth 8192 in
theorem al_48 (h : Holds V0 s j) : (broadcastInDim S2x4x128x128 ![0, 1, 2, 3] bcast_S2x4x128x1_S2x4x128x128_0_1_2_3 (broadcastInDim S2x4x128x1 ![0, 1, 2] bcast_S2x4x128_S2x4x128x1_0_1_2 (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128)) : (Proc.devRef .tc main_while0b_v162 : DevRef τ sig).ty.Contents (Elt F)) = Cert.MixerFwdRefIdeal.Step.b48 j s := by
  unfold Cert.MixerFwdRefIdeal.Step.b48
  rw [← al_47 h]
  try rfl
set_option maxRecDepth 8192 in
theorem al_49 (h : Holds V0 s j) : (mulf (broadcastInDim S2x4x128x128 ![0, 1, 2, 3] bcast_S2x4x128x1_S2x4x128x128_0_1_2_3 (broadcastInDim S2x4x128x1 ![0, 1, 2] bcast_S2x4x128_S2x4x128x1_0_1_2 (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128))) (V0 (Proc.devRef .tc main_v142_10)) : (Proc.devRef .tc main_while0b_v163 : DevRef τ sig).ty.Contents (Elt F)) = Cert.MixerFwdRefIdeal.Step.b49 j s := by
  unfold Cert.MixerFwdRefIdeal.Step.b49
  rw [← al_48 h, h.f_10]
  try rfl
set_option maxRecDepth 8192 in
theorem al_50 (h : Holds V0 s j) : (Host.dotGeneral dot_S2x4x32x128_S2x4x32x128_S2x4x128x128_2_2_3_3_01_01 none (shapeCast S2x4x32x128 (Host.dynamicSlice S1x2x4x32x128 (V0 (Proc.devRef .tc main_v142_5)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128) (res_main_while0b_v156 V0) : (Proc.devRef .tc main_while0b_v164 : DevRef τ sig).ty.Contents (Elt F)) = Cert.MixerFwdRefIdeal.Step.b50 j s := by
  unfold Cert.MixerFwdRefIdeal.Step.b50
  rw [← al_32 h, ← al_38 h]
  try rfl
set_option maxRecDepth 8192 in
theorem al_51 (h : Holds V0 s j) : (addf (mulf (broadcastInDim S2x4x128x128 ![0, 1, 2, 3] bcast_S2x4x128x1_S2x4x128x128_0_1_2_3 (broadcastInDim S2x4x128x1 ![0, 1, 2] bcast_S2x4x128_S2x4x128x1_0_1_2 (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128))) (V0 (Proc.devRef .tc main_v142_10))) (Host.dotGeneral dot_S2x4x32x128_S2x4x32x128_S2x4x128x128_2_2_3_3_01_01 none (shapeCast S2x4x32x128 (Host.dynamicSlice S1x2x4x32x128 (V0 (Proc.devRef .tc main_v142_5)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128) (res_main_while0b_v156 V0)) : (Proc.devRef .tc main_while0b_v165 : DevRef τ sig).ty.Contents (Elt F)) = Cert.MixerFwdRefIdeal.Step.b51 j s := by
  unfold Cert.MixerFwdRefIdeal.Step.b51
  rw [← al_49 h, ← al_50 h]
  try rfl
set_option maxRecDepth 8192 in
theorem al_52 (h : Holds V0 s j) : (res_main_while0b_v166 V0 : (Proc.devRef .tc main_while0b_v166 : DevRef τ sig).ty.Contents (Elt F)) = Cert.MixerFwdRefIdeal.Step.b52 j s := by
  unfold res_main_while0b_v166 Cert.MixerFwdRefIdeal.Step.b52
  rw [← al_46 h]
  try rfl
set_option maxRecDepth 8192 in
theorem al_53 (h : Holds V0 s j) : (shapeCast S128 (V0 (Proc.devRef .tc main_v142_8)) shapeCasts_S1x128_S128 : (Proc.devRef .tc main_while0b_v167 : DevRef τ sig).ty.Contents (Elt F)) = Cert.MixerFwdRefIdeal.Step.b53 j s := by
  unfold Cert.MixerFwdRefIdeal.Step.b53
  rw [h.f_8]
  try rfl
set_option maxRecDepth 8192 in
theorem al_54 (h : Holds V0 s j) : (mulf (res_main_while0b_v166 V0) (res_main_while0b_v166 V0) : (Proc.devRef .tc main_while0b_v168 : DevRef τ sig).ty.Contents (Elt F)) = Cert.MixerFwdRefIdeal.Step.b54 j s := by
  unfold Cert.MixerFwdRefIdeal.Step.b54
  rw [← al_52 h]
  try rfl
set_option maxRecDepth 8192 in
theorem al_55 (h : Holds V0 s j) : (constant S_ .f32 0x00000000#32 : (Proc.devRef .tc main_while0b_cst_29 : DevRef τ sig).ty.Contents (Elt F)) = Cert.MixerFwdRefIdeal.Step.b55 j s := by
  unfold Cert.MixerFwdRefIdeal.Step.b55
  rfl
set_option maxRecDepth 8192 in
theorem al_56 (h : Holds V0 s j) : (Host.reduceAdd (mulf (res_main_while0b_v166 V0) (res_main_while0b_v166 V0)) (constant S_ .f32 0x00000000#32) reducesTo_S2x32x4x128_S2x32x4_d3 h_S_ : (Proc.devRef .tc main_while0b_v169 : DevRef τ sig).ty.Contents (Elt F)) = Cert.MixerFwdRefIdeal.Step.b56 j s := by
  unfold Cert.MixerFwdRefIdeal.Step.b56
  rw [← al_54 h, ← al_55 h]
  try rfl
set_option maxRecDepth 8192 in
theorem al_57 (h : Holds V0 s j) : (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_) : (Proc.devRef .tc main_while0b_v170 : DevRef τ sig).ty.Contents (Elt F)) = Cert.MixerFwdRefIdeal.Step.b57 j s := by
  unfold Cert.MixerFwdRefIdeal.Step.b57
  rw [← al_56 h]
  try rfl
set_option maxRecDepth 8192 in
theorem al_58 (h : Holds V0 s j) : (constant S_ .f32 0x43000000#32 : (Proc.devRef .tc main_while0b_cst_30 : DevRef τ sig).ty.Contents (Elt F)) = Cert.MixerFwdRefIdeal.Step.b58 j s := by
  unfold Cert.MixerFwdRefIdeal.Step.b58
  rfl
set_option maxRecDepth 8192 in
theorem al_59 (h : Holds V0 s j) : (broadcastInDim S2x32x4x1 ![] bcast_S_S2x32x4x1 (constant S_ .f32 0x43000000#32) : (Proc.devRef .tc main_while0b_v171 : DevRef τ sig).ty.Contents (Elt F)) = Cert.MixerFwdRefIdeal.Step.b59 j s := by
  unfold Cert.MixerFwdRefIdeal.Step.b59
  rw [← al_58 h]
  try rfl
set_option maxRecDepth 8192 in
theorem al_60 (h : Holds V0 s j) : (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32)) : (Proc.devRef .tc main_while0b_v172 : DevRef τ sig).ty.Contents (Elt F)) = Cert.MixerFwdRefIdeal.Step.b60 j s := by
  unfold Cert.MixerFwdRefIdeal.Step.b60
  rw [← al_57 h, ← al_59 h]
  try rfl
set_option maxRecDepth 8192 in
theorem al_61 (h : Holds V0 s j) : (constant S_ .f32 0x358637BD#32 : (Proc.devRef .tc main_while0b_cst_31 : DevRef τ sig).ty.Contents (Elt F)) = Cert.MixerFwdRefIdeal.Step.b61 j s := by
  unfold Cert.MixerFwdRefIdeal.Step.b61
  rfl
set_option maxRecDepth 8192 in
theorem al_62 (h : Holds V0 s j) : (broadcastInDim S2x32x4x1 ![] bcast_S_S2x32x4x1 (constant S_ .f32 0x358637BD#32) : (Proc.devRef .tc main_while0b_v173 : DevRef τ sig).ty.Contents (Elt F)) = Cert.MixerFwdRefIdeal.Step.b62 j s := by
  unfold Cert.MixerFwdRefIdeal.Step.b62
  rw [← al_61 h]
  try rfl
set_option maxRecDepth 8192 in
theorem al_63 (h : Holds V0 s j) : (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)) : (Proc.devRef .tc main_while0b_v174 : DevRef τ sig).ty.Contents (Elt F)) = Cert.MixerFwdRefIdeal.Step.b63 j s := by
  unfold Cert.MixerFwdRefIdeal.Step.b63
  rw [← al_60 h, ← al_62 h]
  try rfl
set_option maxRecDepth 8192 in
theorem al_64 (h : Holds V0 s j) : (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32))) : (Proc.devRef .tc main_while0b_v175 : DevRef τ sig).ty.Contents (Elt F)) = Cert.MixerFwdRefIdeal.Step.b64 j s := by
  unfold Cert.MixerFwdRefIdeal.Step.b64
  rw [← al_63 h]
  try rfl
set_option maxRecDepth 8192 in
theorem al_65 (h : Holds V0 s j) : (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))) : (Proc.devRef .tc main_while0b_v176 : DevRef τ sig).ty.Contents (Elt F)) = Cert.MixerFwdRefIdeal.Step.b65 j s := by
  unfold Cert.MixerFwdRefIdeal.Step.b65
  rw [← al_64 h]
  try rfl
set_option maxRecDepth 8192 in
theorem al_66 (h : Holds V0 s j) : (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32))))) : (Proc.devRef .tc main_while0b_v177 : DevRef τ sig).ty.Contents (Elt F)) = Cert.MixerFwdRefIdeal.Step.b66 j s := by
  unfold Cert.MixerFwdRefIdeal.Step.b66
  rw [← al_52 h, ← al_65 h]
  try rfl
set_option maxRecDepth 8192 in
theorem al_67 (h : Holds V0 s j) : (broadcastInDim S1x1x1x128 ![3] bcast_S128_S1x1x1x128_3 (shapeCast S128 (V0 (Proc.devRef .tc main_v142_8)) shapeCasts_S1x128_S128) : (Proc.devRef .tc main_while0b_v178 : DevRef τ sig).ty.Contents (Elt F)) = Cert.MixerFwdRefIdeal.Step.b67 j s := by
  unfold Cert.MixerFwdRefIdeal.Step.b67
  rw [← al_53 h]
  try rfl
set_option maxRecDepth 8192 in
theorem al_68 (h : Holds V0 s j) : (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)) : (Proc.devRef .tc main_while0b_v179 : DevRef τ sig).ty.Contents (Elt F)) = Cert.MixerFwdRefIdeal.Step.b68 j s := by
  unfold Cert.MixerFwdRefIdeal.Step.b68
  rw [← al_67 h]
  try rfl
set_option maxRecDepth 8192 in
theorem al_69 (h : Holds V0 s j) : (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128))) : (Proc.devRef .tc main_while0b_v180 : DevRef τ sig).ty.Contents (Elt F)) = Cert.MixerFwdRefIdeal.Step.b69 j s := by
  unfold Cert.MixerFwdRefIdeal.Step.b69
  rw [← al_66 h, ← al_68 h]
  try rfl
set_option maxRecDepth 8192 in
theorem al_70 (h : Holds V0 s j) : (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512 : (Proc.devRef .tc main_while0b_v181 : DevRef τ sig).ty.Contents (Elt F)) = Cert.MixerFwdRefIdeal.Step.b70 j s := by
  unfold Cert.MixerFwdRefIdeal.Step.b70
  rw [← al_69 h]
  try rfl
set_option maxRecDepth 8192 in
theorem al_71 (h : Holds V0 s j) : (Host.negf (res_main_while0b_v152 V0) : (Proc.devRef .tc main_while0b_call12_v0 : DevRef τ sig).ty.Contents (Elt F)) = Cert.MixerFwdRefIdeal.Step.b71 j s := by
  unfold Cert.MixerFwdRefIdeal.Step.b71
  rw [← al_14 h]
  try rfl
set_option maxRecDepth 8192 in
theorem al_72 (h : Holds V0 s j) : (Host.exp (Host.negf (res_main_while0b_v152 V0)) : (Proc.devRef .tc main_while0b_call12_v1 : DevRef τ sig).ty.Contents (Elt F)) = Cert.MixerFwdRefIdeal.Step.b72 j s := by
  unfold Cert.MixerFwdRefIdeal.Step.b72
  rw [← al_71 h]
  try rfl
set_option maxRecDepth 8192 in
theorem al_73 (h : Holds V0 s j) : (constant S_ .f32 0x3F800000#32 : (Proc.devRef .tc main_while0b_call12_cst : DevRef τ sig).ty.Contents (Elt F)) = Cert.MixerFwdRefIdeal.Step.b73 j s := by
  unfold Cert.MixerFwdRefIdeal.Step.b73
  rfl
set_option maxRecDepth 8192 in
theorem al_74 (h : Holds V0 s j) : (broadcastInDim S2x32x512 ![] bcast_S_S2x32x512 (constant S_ .f32 0x3F800000#32) : (Proc.devRef .tc main_while0b_call12_v2 : DevRef τ sig).ty.Contents (Elt F)) = Cert.MixerFwdRefIdeal.Step.b74 j s := by
  unfold Cert.MixerFwdRefIdeal.Step.b74
  rw [← al_73 h]
  try rfl
set_option maxRecDepth 8192 in
theorem al_75 (h : Holds V0 s j) : (addf (broadcastInDim S2x32x512 ![] bcast_S_S2x32x512 (constant S_ .f32 0x3F800000#32)) (Host.exp (Host.negf (res_main_while0b_v152 V0))) : (Proc.devRef .tc main_while0b_call12_v3 : DevRef τ sig).ty.Contents (Elt F)) = Cert.MixerFwdRefIdeal.Step.b75 j s := by
  unfold Cert.MixerFwdRefIdeal.Step.b75
  rw [← al_74 h, ← al_72 h]
  try rfl
set_option maxRecDepth 8192 in
theorem al_76 (h : Holds V0 s j) : (constant S_ .f32 0x3F800000#32 : (Proc.devRef .tc main_while0b_call12_cst_0 : DevRef τ sig).ty.Contents (Elt F)) = Cert.MixerFwdRefIdeal.Step.b76 j s := by
  unfold Cert.MixerFwdRefIdeal.Step.b76
  rfl
set_option maxRecDepth 8192 in
theorem al_77 (h : Holds V0 s j) : (broadcastInDim S2x32x512 ![] bcast_S_S2x32x512 (constant S_ .f32 0x3F800000#32) : (Proc.devRef .tc main_while0b_call12_v4 : DevRef τ sig).ty.Contents (Elt F)) = Cert.MixerFwdRefIdeal.Step.b77 j s := by
  unfold Cert.MixerFwdRefIdeal.Step.b77
  rw [← al_76 h]
  try rfl
set_option maxRecDepth 8192 in
theorem al_78 (h : Holds V0 s j) : (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0)))) : (Proc.devRef .tc main_while0b_call12_v5 : DevRef τ sig).ty.Contents (Elt F)) = Cert.MixerFwdRefIdeal.Step.b78 j s := by
  unfold Cert.MixerFwdRefIdeal.Step.b78
  rw [← al_77 h, ← al_75 h]
  try rfl
set_option maxRecDepth 8192 in
theorem al_79 (h : Holds V0 s j) : (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0))))) : (Proc.devRef .tc main_while0b_v182 : DevRef τ sig).ty.Contents (Elt F)) = Cert.MixerFwdRefIdeal.Step.b79 j s := by
  unfold Cert.MixerFwdRefIdeal.Step.b79
  rw [← al_14 h, ← al_78 h]
  try rfl
set_option maxRecDepth 8192 in
theorem al_80 (h : Holds V0 s j) : (mulf (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512) (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0)))))) : (Proc.devRef .tc main_while0b_v183 : DevRef τ sig).ty.Contents (Elt F)) = Cert.MixerFwdRefIdeal.Step.b80 j s := by
  unfold Cert.MixerFwdRefIdeal.Step.b80
  rw [← al_70 h, ← al_79 h]
  try rfl
set_option maxRecDepth 8192 in
theorem al_81 (h : Holds V0 s j) : ((concatenate S2x32x1536 2 [⟨S2x32x512, ((shapeCast S2x32x512 (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩, ⟨S2x32x512, ((mulf (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512) (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0))))))) : (⟨S2x32x512, .f32⟩ : BufTy).Contents (Elt F))⟩, ⟨S2x32x512, ((shapeCast S2x32x512 (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩] concatenates_S2x32x512_S2x32x512_S2x32x512_S2x32x1536_d2 : (⟨S2x32x1536, .f32⟩ : BufTy).Contents (Elt F)) : (Proc.devRef .tc main_while0b_v184 : DevRef τ sig).ty.Contents (Elt F)) = Cert.MixerFwdRefIdeal.Step.b81 j s := by
  unfold Cert.MixerFwdRefIdeal.Step.b81
  rw [← al_4 h, ← al_80 h, ← al_9 h]
  try rfl
set_option maxRecDepth 8192 in
theorem al_82 (h : Holds V0 s j) : (broadcastInDim S1x2x32x1536 ![1, 2, 3] bcast_S2x32x1536_S1x2x32x1536_1_2_3 ((concatenate S2x32x1536 2 [⟨S2x32x512, ((shapeCast S2x32x512 (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩, ⟨S2x32x512, ((mulf (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512) (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0))))))) : (⟨S2x32x512, .f32⟩ : BufTy).Contents (Elt F))⟩, ⟨S2x32x512, ((shapeCast S2x32x512 (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩] concatenates_S2x32x512_S2x32x512_S2x32x512_S2x32x1536_d2 : (⟨S2x32x1536, .f32⟩ : BufTy).Contents (Elt F))) : (Proc.devRef .tc main_while0b_call13_v0 : DevRef τ sig).ty.Contents (Elt F)) = Cert.MixerFwdRefIdeal.Step.b82 j s := by
  unfold Cert.MixerFwdRefIdeal.Step.b82
  rw [← al_81 h]
  try rfl
set_option maxRecDepth 8192 in
theorem al_83 (h : Holds V0 s j) : (constantI S_ 32 0#32 : (Proc.devRef .tc main_while0b_call13_c : DevRef τ sig).ty.Contents (Elt F)) = Cert.MixerFwdRefIdeal.Step.b83 j s := by
  unfold Cert.MixerFwdRefIdeal.Step.b83
  rfl
set_option maxRecDepth 8192 in
theorem al_84 (h : Holds V0 s j) : (constantI S_ 32 0#32 : (Proc.devRef .tc main_while0b_call13_c_0 : DevRef τ sig).ty.Contents (Elt F)) = Cert.MixerFwdRefIdeal.Step.b84 j s := by
  unfold Cert.MixerFwdRefIdeal.Step.b84
  rfl
set_option maxRecDepth 8192 in
theorem al_85 (h : Holds V0 s j) : (constantI S_ 32 0#32 : (Proc.devRef .tc main_while0b_call13_c_1 : DevRef τ sig).ty.Contents (Elt F)) = Cert.MixerFwdRefIdeal.Step.b85 j s := by
  unfold Cert.MixerFwdRefIdeal.Step.b85
  rfl
set_option maxRecDepth 8192 in
theorem al_86 (h : Holds V0 s j) : (Host.dynamicUpdateSlice (V0 (Proc.devRef .tc main_v142_11)) (broadcastInDim S1x2x32x1536 ![1, 2, 3] bcast_S2x32x1536_S1x2x32x1536_1_2_3 ((concatenate S2x32x1536 2 [⟨S2x32x512, ((shapeCast S2x32x512 (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩, ⟨S2x32x512, ((mulf (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512) (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0))))))) : (⟨S2x32x512, .f32⟩ : BufTy).Contents (Elt F))⟩, ⟨S2x32x512, ((shapeCast S2x32x512 (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩] concatenates_S2x32x512_S2x32x512_S2x32x512_S2x32x1536_d2 : (⟨S2x32x1536, .f32⟩ : BufTy).Contents (Elt F)))) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) updateFits_S128x2x32x1536_S1x2x32x1536 : (Proc.devRef .tc main_while0b_v185 : DevRef τ sig).ty.Contents (Elt F)) = Cert.MixerFwdRefIdeal.Step.b86 j s := by
  unfold Cert.MixerFwdRefIdeal.Step.b86
  rw [← al_82 h, ← al_83 h, ← al_84 h, ← al_85 h, h.f_11, h.n_9]
  try rfl
set_option maxRecDepth 8192 in
theorem al_87 (h : Holds V0 s j) : (broadcastInDim S1x2x4x128x128 ![1, 2, 3, 4] bcast_S2x4x128x128_S1x2x4x128x128_1_2_3_4 (V0 (Proc.devRef .tc main_v142_10)) : (Proc.devRef .tc main_while0b_call14_v0 : DevRef τ sig).ty.Contents (Elt F)) = Cert.MixerFwdRefIdeal.Step.b87 j s := by
  unfold Cert.MixerFwdRefIdeal.Step.b87
  rw [h.f_10]
  try rfl
set_option maxRecDepth 8192 in
theorem al_88 (h : Holds V0 s j) : (constantI S_ 32 0#32 : (Proc.devRef .tc main_while0b_call14_c : DevRef τ sig).ty.Contents (Elt F)) = Cert.MixerFwdRefIdeal.Step.b88 j s := by
  unfold Cert.MixerFwdRefIdeal.Step.b88
  rfl
set_option maxRecDepth 8192 in
theorem al_89 (h : Holds V0 s j) : (constantI S_ 32 0#32 : (Proc.devRef .tc main_while0b_call14_c_0 : DevRef τ sig).ty.Contents (Elt F)) = Cert.MixerFwdRefIdeal.Step.b89 j s := by
  unfold Cert.MixerFwdRefIdeal.Step.b89
  rfl
set_option maxRecDepth 8192 in
theorem al_90 (h : Holds V0 s j) : (constantI S_ 32 0#32 : (Proc.devRef .tc main_while0b_call14_c_1 : DevRef τ sig).ty.Contents (Elt F)) = Cert.MixerFwdRefIdeal.Step.b90 j s := by
  unfold Cert.MixerFwdRefIdeal.Step.b90
  rfl
set_option maxRecDepth 8192 in
theorem al_91 (h : Holds V0 s j) : (constantI S_ 32 0#32 : (Proc.devRef .tc main_while0b_call14_c_2 : DevRef τ sig).ty.Contents (Elt F)) = Cert.MixerFwdRefIdeal.Step.b91 j s := by
  unfold Cert.MixerFwdRefIdeal.Step.b91
  rfl
set_option maxRecDepth 8192 in
theorem al_92 (h : Holds V0 s j) : (Host.dynamicUpdateSlice (V0 (Proc.devRef .tc main_v142_12)) (broadcastInDim S1x2x4x128x128 ![1, 2, 3, 4] bcast_S2x4x128x128_S1x2x4x128x128_1_2_3_4 (V0 (Proc.devRef .tc main_v142_10))) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) updateFits_S128x2x4x128x128_S1x2x4x128x128 : (Proc.devRef .tc main_while0b_v186 : DevRef τ sig).ty.Contents (Elt F)) = Cert.MixerFwdRefIdeal.Step.b92 j s := by
  unfold Cert.MixerFwdRefIdeal.Step.b92
  rw [← al_87 h, ← al_88 h, ← al_89 h, ← al_90 h, ← al_91 h, h.f_12, h.n_9]
  try rfl
set_option maxRecDepth 8192 in
theorem al_93 (h : Holds V0 s j) : (broadcastInDim S1x2x32x4x128 ![1, 2, 3, 4] bcast_S2x32x4x128_S1x2x32x4x128_1_2_3_4 (res_main_while0b_v166 V0) : (Proc.devRef .tc main_while0b_call15_v0 : DevRef τ sig).ty.Contents (Elt F)) = Cert.MixerFwdRefIdeal.Step.b93 j s := by
  unfold Cert.MixerFwdRefIdeal.Step.b93
  rw [← al_52 h]
  try rfl
set_option maxRecDepth 8192 in
theorem al_94 (h : Holds V0 s j) : (constantI S_ 32 0#32 : (Proc.devRef .tc main_while0b_call15_c : DevRef τ sig).ty.Contents (Elt F)) = Cert.MixerFwdRefIdeal.Step.b94 j s := by
  unfold Cert.MixerFwdRefIdeal.Step.b94
  rfl
set_option maxRecDepth 8192 in
theorem al_95 (h : Holds V0 s j) : (constantI S_ 32 0#32 : (Proc.devRef .tc main_while0b_call15_c_0 : DevRef τ sig).ty.Contents (Elt F)) = Cert.MixerFwdRefIdeal.Step.b95 j s := by
  unfold Cert.MixerFwdRefIdeal.Step.b95
  rfl
set_option maxRecDepth 8192 in
theorem al_96 (h : Holds V0 s j) : (constantI S_ 32 0#32 : (Proc.devRef .tc main_while0b_call15_c_1 : DevRef τ sig).ty.Contents (Elt F)) = Cert.MixerFwdRefIdeal.Step.b96 j s := by
  unfold Cert.MixerFwdRefIdeal.Step.b96
  rfl
set_option maxRecDepth 8192 in
theorem al_97 (h : Holds V0 s j) : (constantI S_ 32 0#32 : (Proc.devRef .tc main_while0b_call15_c_2 : DevRef τ sig).ty.Contents (Elt F)) = Cert.MixerFwdRefIdeal.Step.b97 j s := by
  unfold Cert.MixerFwdRefIdeal.Step.b97
  rfl
set_option maxRecDepth 8192 in
theorem al_98 (h : Holds V0 s j) : (Host.dynamicUpdateSlice (V0 (Proc.devRef .tc main_v142_13)) (broadcastInDim S1x2x32x4x128 ![1, 2, 3, 4] bcast_S2x32x4x128_S1x2x32x4x128_1_2_3_4 (res_main_while0b_v166 V0)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) updateFits_S128x2x32x4x128_S1x2x32x4x128 : (Proc.devRef .tc main_while0b_v187 : DevRef τ sig).ty.Contents (Elt F)) = Cert.MixerFwdRefIdeal.Step.b98 j s := by
  unfold Cert.MixerFwdRefIdeal.Step.b98
  rw [← al_93 h, ← al_94 h, ← al_95 h, ← al_96 h, ← al_97 h, h.f_13, h.n_9]
  try rfl

/-! One trip's step of the carried values is `step`, field by field; a counter steps to the next number. -/

theorem step_10 (h : Holds V0 s j) : step_main_v142_10 V0 = (step j s).main_v142_10 := by
  unfold step_main_v142_10 Cert.MixerFwdRefIdeal.Step.step
  show id (addf (mulf (broadcastInDim S2x4x128x128 ![0, 1, 2, 3] bcast_S2x4x128x1_S2x4x128x128_0_1_2_3 (broadcastInDim S2x4x128x1 ![0, 1, 2] bcast_S2x4x128_S2x4x128x1_0_1_2 (shapeCast S2x4x128 (Host.dynamicSlice S1x2x4x128 (V0 (Proc.devRef .tc main_v142_7)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x4x128_S1x2x4x128) shapeCasts_S1x2x4x128_S2x4x128))) (V0 (Proc.devRef .tc main_v142_10))) (Host.dotGeneral dot_S2x4x32x128_S2x4x32x128_S2x4x128x128_2_2_3_3_01_01 none (shapeCast S2x4x32x128 (Host.dynamicSlice S1x2x4x32x128 (V0 (Proc.devRef .tc main_v142_5)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x32x128_S1x2x4x32x128) shapeCasts_S1x2x4x32x128_S2x4x32x128) (res_main_while0b_v156 V0))) = _
  exact al_51 h
  try rfl
theorem step_11 (h : Holds V0 s j) : step_main_v142_11 V0 = (step j s).main_v142_11 := by
  unfold step_main_v142_11 Cert.MixerFwdRefIdeal.Step.step
  show id (Host.dynamicUpdateSlice (V0 (Proc.devRef .tc main_v142_11)) (broadcastInDim S1x2x32x1536 ![1, 2, 3] bcast_S2x32x1536_S1x2x32x1536_1_2_3 ((concatenate S2x32x1536 2 [⟨S2x32x512, ((shapeCast S2x32x512 (Host.dynamicSlice S1x2x32x512 (V0 (Proc.devRef .tc main_v142_0)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩, ⟨S2x32x512, ((mulf (shapeCast S2x32x512 (mulf (mulf (res_main_while0b_v166 V0) (broadcastInDim S2x32x4x128 ![0, 1, 2, 3] bcast_S2x32x4x1_S2x32x4x128_0_1_2_3 (Host.rsqrt (addf (Host.divf (broadcastInDim S2x32x4x1 ![0, 1, 2] bcast_S2x32x4_S2x32x4x1_0_1_2 (Host.reduceAdd (mulf (res_main_while0b_v166 V0) (res_main_while0b_v166 V0)) (constant S_ .f32 0x00000000#32) reducesTo_S2x32x4x128_S2x32x4_d3 h_S_)) (broadcastInDim S2x32x4x1 ![] bcast_S_S2x32x4x1 (constant S_ .f32 0x43000000#32))) (broadcastInDim S2x32x4x1 ![] bcast_S_S2x32x4x1 (constant S_ .f32 0x358637BD#32)))))) (broadcastInDim S2x32x4x128 ![0, 1, 2, 3] bcast_S1x1x1x128_S2x32x4x128_0_1_2_3 (broadcastInDim S1x1x1x128 ![3] bcast_S128_S1x1x1x128_3 (shapeCast S128 (V0 (Proc.devRef .tc main_v142_8)) shapeCasts_S1x128_S128)))) shapeCasts_S2x32x4x128_S2x32x512) (mulf (res_main_while0b_v152 V0) (Host.divf (broadcastInDim S2x32x512 ![] bcast_S_S2x32x512 (constant S_ .f32 0x3F800000#32)) (addf (broadcastInDim S2x32x512 ![] bcast_S_S2x32x512 (constant S_ .f32 0x3F800000#32)) (Host.exp (Host.negf (res_main_while0b_v152 V0))))))) : (⟨S2x32x512, .f32⟩ : BufTy).Contents (Elt F))⟩, ⟨S2x32x512, ((shapeCast S2x32x512 (Host.dynamicSlice S1x2x32x512 (V0 (Proc.devRef .tc main_v142_1)) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) sliceFits_S128x2x32x512_S1x2x32x512) shapeCasts_S1x2x32x512_S2x32x512) : (⟨S2x32x512, .f32⟩ : BufTy).Contents (Elt F))⟩] concatenates_S2x32x512_S2x32x512_S2x32x512_S2x32x1536_d2 : (⟨S2x32x1536, .f32⟩ : BufTy).Contents (Elt F)))) (fun k => (((![V0 (Proc.devRef .tc main_v142_9), constantI S_ 32 0#32, constantI S_ 32 0#32, constantI S_ 32 0#32] : Fin 4 → (⟨S_, .i32⟩ : BufTy).Contents (Elt F))) k (Shape.Idx.first h_S_)).toInt) updateFits_S128x2x32x1536_S1x2x32x1536) = _
  exact al_86 h
  try rfl
theorem step_12 (h : Holds V0 s j) : step_main_v142_12 V0 = (step j s).main_v142_12 := by
  unfold step_main_v142_12 Cert.MixerFwdRefIdeal.Step.step
  show id (Host.dynamicUpdateSlice (V0 (Proc.devRef .tc main_v142_12)) (broadcastInDim S1x2x4x128x128 ![1, 2, 3, 4] bcast_S2x4x128x128_S1x2x4x128x128_1_2_3_4 (V0 (Proc.devRef .tc main_v142_10))) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) updateFits_S128x2x4x128x128_S1x2x4x128x128) = _
  exact al_92 h
  try rfl
theorem step_13 (h : Holds V0 s j) : step_main_v142_13 V0 = (step j s).main_v142_13 := by
  unfold step_main_v142_13 Cert.MixerFwdRefIdeal.Step.step
  show id (Host.dynamicUpdateSlice (V0 (Proc.devRef .tc main_v142_13)) (broadcastInDim S1x2x32x4x128 ![1, 2, 3, 4] bcast_S2x32x4x128_S1x2x32x4x128_1_2_3_4 (res_main_while0b_v166 V0)) (fun k => (((![V0 (Proc.devRef .tc main_v142_9), constantI S_ 32 0#32, constantI S_ 32 0#32, constantI S_ 32 0#32, constantI S_ 32 0#32] : Fin 5 → (⟨S_, .i32⟩ : BufTy).Contents (Elt F))) k (Shape.Idx.first h_S_)).toInt) updateFits_S128x2x32x4x128_S1x2x32x4x128) = _
  exact al_98 h
  try rfl
theorem step_9 (h : Holds V0 s j) : step_main_v142_9 V0 = constantI S_ 32 (BitVec.ofNat 32 (j + 1)) := by
  unfold step_main_v142_9
  rw [h.n_9]
  funext i
  show BitVec.ofNat 32 j + 1#32 = BitVec.ofNat 32 (j + 1)
  simp only [BitVec.ofNat_add]

set_option maxRecDepth 8192 in
theorem out_main_v145_holds (h : Holds V0 s j) : out_main_v145 V0 = Cert.MixerFwdRefIdeal.Step.R_main_v145 s := by
  unfold out_main_v145 Cert.MixerFwdRefIdeal.Step.R_main_v145
  rw [h.f_11]
  try rfl

set_option maxRecDepth 8192 in
theorem out_main_v147_holds (h : Holds V0 s j) : out_main_v147 V0 = Cert.MixerFwdRefIdeal.Step.R_main_v147 s := by
  unfold out_main_v147 Cert.MixerFwdRefIdeal.Step.R_main_v147
  rw [h.f_12]
  try rfl

set_option maxRecDepth 8192 in
theorem out_main_v149_holds (h : Holds V0 s j) : out_main_v149 V0 = Cert.MixerFwdRefIdeal.Step.R_main_v149 s := by
  unfold out_main_v149 Cert.MixerFwdRefIdeal.Step.R_main_v149
  rw [h.f_13]
  try rfl

/-- One trip keeps the valuation holding: `step` of the state, the same set-up values, the next number. -/
theorem holds_step (h : Holds V0 s j) : Holds (STEP V0) (step j s) (j + 1) where
  f_10 := (STEP_main_v142_10 V0).trans (step_10 h)
  f_11 := (STEP_main_v142_11 V0).trans (step_11 h)
  f_12 := (STEP_main_v142_12 V0).trans (step_12 h)
  f_13 := (STEP_main_v142_13 V0).trans (step_13 h)
  n_9 := (STEP_main_v142_9 V0).trans (step_9 h)
  f_0 := (STEP_main_v142_0 V0).trans h.f_0
  f_1 := (STEP_main_v142_1 V0).trans h.f_1
  f_2 := (STEP_main_v142_2 V0).trans h.f_2
  f_3 := (STEP_main_v142_3 V0).trans h.f_3
  f_4 := (STEP_main_v142_4 V0).trans h.f_4
  f_5 := (STEP_main_v142_5 V0).trans h.f_5
  f_6 := (STEP_main_v142_6 V0).trans h.f_6
  f_7 := (STEP_main_v142_7 V0).trans h.f_7
  f_8 := (STEP_main_v142_8 V0).trans h.f_8

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MixerFwdRefIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v145) = Cert.MixerFwdRefIdeal.Step.R_main_v145 (it c 128)
      ∧ r.2.mem ((c.tc : Thread nD τ).loc main_v147) = Cert.MixerFwdRefIdeal.Step.R_main_v147 (it c 128)
      ∧ r.2.mem ((c.tc : Thread nD τ).loc main_v149) = Cert.MixerFwdRefIdeal.Step.R_main_v149 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v145_holds hk), (h c).2.1.trans (out_main_v147_holds hk), (h c).2.2.1.trans (out_main_v149_holds hk), (h c).2.2.2.1, (h c).2.2.2.2.1, (h c).2.2.2.2.2.1, (h c).2.2.2.2.2.2.1, (h c).2.2.2.2.2.2.2.1, (h c).2.2.2.2.2.2.2.2⟩) (Value.run m ρ)

end Cert.MixerFwdRun

end
-- ==== Proof.MixerFwd.lean ====
/-
  The forward mixers: the kernel's idealization leaves what the idealized reference leaves. The kernel's side is in
  MixerFwdKernel, the reference's in MixerFwdLoop; both meet in the functions of MixerFwdSpec.
-/
module

public import proofs.«01_k».proof.Defs
public import proofs.«01_k».proof.Proof.MixerFwdKernel
public import proofs.«01_k».proof.Proof.MixerFwdLoop
public import proofs.«01_k».proof.Proof.MixerFwdRun

@[expose] public section

noncomputable section

namespace Cert.Proof.MixerFwd

open Idealize.ShloMosaic Idealize.ShloMosaic.TcCoe Idealize.SL.Sem
open Cert.MixerFwdIdeal Cert.MixerFwdIdeal.Gen

/-- The states of the reference's loop. -/
def turns (s : Cert.MixerFwdRefIdeal.Step.State Ideal) : ℕ → Cert.MixerFwdRefIdeal.Step.State Ideal
  | 0 => s
  | n + 1 => Cert.MixerFwdRefIdeal.Step.step n (turns s n)

/-- The kernel's idealization computes the idealized reference. -/
theorem algebraic : algebraic_MixerFwdIdeal_MixerFwdRefIdeal := by
  intro m g m' g' _ hagree
  refine ⟨fun c => specY (aP m c) (aL m c) (aK m c) (aV m c) (aW m c) (aN m c), fun c => specS (aP m c) (aL m c), fun c => specO (aP m c) (aL m c), ?_, ?_⟩
  · exact (θ_run _ _ _).mono (fun r h c => by
      obtain ⟨h0, h1, h2, h⟩ := h c
      exact ⟨h0.trans (final6 m c), h1.trans (final7 m c), h2.trans (final8 m c), h⟩) (Value.run_blocks m g)
  · refine (θ_run _ _ _).mono (fun r h c => ?_) (Cert.MixerFwdRun.run_iter m' g' (fun c => turns (Cert.MixerFwdRun.initState m' c)) (fun _ => rfl) (fun _ _ => rfl))
    obtain ⟨h0, h1, h2, h⟩ := h c
    obtain ⟨a0, a1, a2, a3, a4, a5⟩ := hagree c
    refine ⟨h0.trans ?_, h1.trans ?_, h2.trans ?_, h⟩
    · refine (refY _ _ _ _ _ _ _ rfl (fun _ => rfl)).trans ?_
      rw [a0, a1, a2, a3, a4, a5]
    · refine (refS _ _ _ _ _ _ _ rfl (fun _ => rfl)).trans ?_
      rw [a0, a3]
    · refine (refO _ _ _ _ _ _ _ rfl (fun _ => rfl)).trans ?_
      rw [a0, a3]

end Cert.Proof.MixerFwd

end
-- ==== Proof.MlpDa.lean ====
/-
  The gradient at the MLP's first product, `dhid = (dz2 · w_downᵀ) ⊙ 2·max(a, 0)`, blocked by rows: what the idealized
  kernel leaves in its result array is what the idealized reference (the reverse-mode derivative of the squared relu
  followed by the down projection) leaves in its own, element by element over the extended reals.

  The kernel multiplies the product by `2·max(a, 0)`; the reference multiplies by the same factor and then selects `0`
  where `a ≤ 0`. The two agree since there the factor is `0`, and `0` times any extended real is `0`.
-/
module

public import proofs.«01_k».proof.Defs
public import proofs.«01_k».proof.Proof.Gen.MlpDaIdeal.Value
public import proofs.«01_k».proof.Proof.Gen.MlpDaRefIdeal.Run
public import proofs.«01_k».proof.Proof.Gen.MlpDaRefIdeal.Read
public import Idealize.ShloMosaic.Lib.Pointwise
public import Idealize.ShloMosaic.Lib.Claim

@[expose] public section

noncomputable section

namespace Cert.Proof.MlpDa

open Idealize.ShloMosaic Idealize.ShloMosaic.TcCoe Idealize.SL.Sem
open Cert.MlpDaIdeal Cert.MlpDaIdeal.Gen

/-- The result as one function of the arguments. -/
def spec (dz : S8192x1024.Idx → EReal) (w : S4096x1024.Idx → EReal) (a : S8192x4096.Idx → EReal) : S8192x4096.Idx → EReal :=
  fun i => (∑ k : Fin 1024, dz (ix2 (i 0) k) * w (ix2 (i 1) k)) * (Ideal.ofBits .f32 0x40000000#32 * max (a i) 0)

/-- What the body stores, at an index, from the blocks it loads. -/
theorem pay_apply (x0 : Vec Ideal S512x1024 .bf16) (x1 : Vec Ideal S4096x1024 .bf16) (x2 : Vec Ideal S512x4096 .bf16)
    (y : S512x4096.Idx) : k0_pay1 x0 x1 x2 y
      = (∑ k : Fin 1024, x0 (ix2 (y 0) k) * x1 (ix2 (y 1) k)) * (Ideal.ofBits .f32 0x40000000#32 * max (x2 y) 0) := by
  pointwise [k0_pay1]

theorem ref_apply (x0 : S8192x1024.Idx → EReal) (x1 : S4096x1024.Idx → EReal) (x2 : S8192x4096.Idx → EReal)
    (i : S8192x4096.Idx) : Cert.MlpDaRefIdeal.Read.val_main_v15 (F := Ideal) x0 x1 x2 i = spec x0 x1 x2 i := by
  rw [← Cert.MlpDaRefIdeal.Read.val_main_v15_eq]
  unfold spec
  pointwise
  split_ifs with h
  · rfl
  · rw [max_eq_right (not_lt.mp h), mul_zero, mul_zero]

variable (m : (ℓ : Loc nD τ sig) → Buf (Elt Ideal) ℓ)

/-- The block indices at each of the 16 points. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)

/-- Each loaded block at an index is the argument at the place the block stands. -/
theorem blk0 (c : Dev nD) (t : Fin cfg0.N) (z : S512x1024.Idx) (i : S8192x1024.Idx) (h0 : (i 0).val = t.val * 512 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 512 + 1 * (z 0).val = _; rw [e0, h0]; omega
  · show win0_0.index t 1 * 1024 + 1 * (z 1).val = _; rw [e1, h1]; omega
theorem blk1 (c : Dev nD) (t : Fin cfg0.N) (z : S4096x1024.Idx) (i : S4096x1024.Idx) (h0 : (i 0).val = (z 0).val)
    (h1 : (i 1).val = (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 4096 + 1 * (z 0).val = _; rw [e0, h0]; omega
  · show win0_1.index t 1 * 1024 + 1 * (z 1).val = _; rw [e1, h1]; omega
theorem blk2 (c : Dev nD) (t : Fin cfg0.N) (z : S512x4096.Idx) (i : S8192x4096.Idx) (h0 : (i 0).val = t.val * 512 + (z 0).val)
    (h1 : (i 1).val = (z 1).val) : iblk m c 2 t z = m ((c : Thread nD τ).loc main_arg2) i := by
  unfold iblk
  rw [View.read_apply]
  show V m c main_arg2 _ = _
  rw [V_main_arg2]
  obtain ⟨e0, e1⟩ := index2 t
  refine congrArg _ (Shape.idx_ext₂ ?_ ?_)
  · show win0_2.index t 0 * 512 + 1 * (z 0).val = _; rw [e0, h0]; omega
  · show win0_2.index t 1 * 4096 + 1 * (z 1).val = _; rw [e1, h1]; omega

/-- The result of the arguments as launched. -/
abbrev result (c : Dev nD) : S8192x4096.Idx → EReal :=
  spec (m ((c : Thread nD τ).loc main_arg0)) (m ((c : Thread nD τ).loc main_arg1)) (m ((c : Thread nD τ).loc main_arg2))

/-- What a point writes back is its block of the result. -/
theorem flushed_eq (c : Dev nD) (t : Fin cfg0.N) :
    (dats m 0 c).flushed 3 t = ((cfg0.win 3).blk t).view.read (Elt Ideal) (result m c) := by
  rw [Value.flushed3]
  funext y
  have hz : (![0, 0] : Fin 2 → Nat) = fun _ => 0 := funext fun a => by fin_cases a <;> rfl
  show out0_3 (iblk m c 0 t) (iblk m c 1 t) (iblk m c 2 t) ((cfg0.win 3).xinj (grid0.coords t) y) = result m c (((cfg0.win 3).blk t).view.emb y)
  unfold out0_3
  rw [View.canon_unit_zero hz, View.ld_unit_zero hz, View.ld_unit_zero hz, View.ld_unit_zero hz, pay_apply]
  obtain ⟨e0, e1⟩ := index3 t
  have b0 : (((cfg0.win 3).blk t).view.emb y 0).val = t.val * 512 + (y 0).val := by
    show win0_3.index t 0 * 512 + 1 * (y 0).val = _; rw [e0]; omega
  have b1 : (((cfg0.win 3).blk t).view.emb y 1).val = (y 1).val := by
    show win0_3.index t 1 * 4096 + 1 * (y 1).val = _; rw [e1]; omega
  unfold result spec
  rw [blk2 m c t _ (((cfg0.win 3).blk t).view.emb y) b0 b1]
  refine congrArg (· * _) (Finset.sum_congr rfl fun k _ => ?_)
  exact congrArg₂ (· * ·)
    (blk0 m c t (ix2 ((cfg0.win 3).xinj (grid0.coords t) y 0) k) (ix2 (((cfg0.win 3).blk t).view.emb y 0) k) b0 rfl)
    (blk1 m c t (ix2 ((cfg0.win 3).xinj (grid0.coords t) y 1) k) (ix2 (((cfg0.win 3).blk t).view.emb y 1) k) b1 rfl)

/-- The result array after the run. -/
theorem final (c : Dev nD) : (dats m 0 c).arrAt 3 cfg0.N = result m c :=
  (dats m 0 c).arrAt_eq_of_cover 3 (result m c) (fun t _ => flushed_eq m c t) fun i => by
    have h0 : (i 0).val < 8192 := (i 0).isLt
    have h1 : (i 1).val < 4096 := (i 1).isLt
    let t : Fin cfg0.N := ⟨(i 0).val / 512, lt_of_lt_of_eq (by omega : _ < 16) N_0.symm⟩
    obtain ⟨e0, e1⟩ := index3 t
    refine ⟨t, (by decide +kernel : ∀ t : Fin grid0.N, win0_3.flush t = true) t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [e0]; show (i 0).val / 512 * 512 ≤ _ ∧ _ < (i 0).val / 512 * 512 + 512; omega
    | ⟨1, _⟩ => show win0_3.index t 1 * 4096 ≤ (i 1).val ∧ (i 1).val < win0_3.index t 1 * 4096 + 4096; rw [e1]; omega

/-- The kernel's idealization computes the idealized reference. -/
theorem algebraic : algebraic_MlpDaIdeal_MlpDaRefIdeal := by
  intro m g m' g' _ hagree
  refine ⟨fun c => result m c, ?_, ?_⟩
  · exact (θ_run _ _ _).mono (fun r h c => by
      obtain ⟨h0, h⟩ := h c
      exact ⟨h0.trans (final m c), h⟩) (Value.run_blocks m g)
  · refine (θ_run _ _ _).mono (fun r h c => ?_) (Cert.MlpDaRefIdeal.Value.run m' g')
    obtain ⟨h0, h⟩ := h c
    obtain ⟨a0, a1, a2⟩ := hagree c
    refine ⟨h0.trans ?_, h⟩
    rw [a0, a1, a2]
    funext i
    exact ref_apply _ _ _ i

end Cert.Proof.MlpDa
-- ==== Proof.MlpDx.lean ====
/-
  The gradient at the MLP's input, `dx = da · w_upᵀ + α · dz2`, blocked by rows: what the idealized kernel leaves in its
  result array is what the idealized reference (the reverse-mode derivative of the up projection beside the scaled
  residual) leaves in its own, element by element over the extended reals. The two sum the same two terms in either order.
-/
module

public import proofs.«01_k».proof.Defs
public import proofs.«01_k».proof.Proof.Gen.MlpDxIdeal.Value
public import proofs.«01_k».proof.Proof.Gen.MlpDxRefIdeal.Run
public import proofs.«01_k».proof.Proof.Gen.MlpDxRefIdeal.Read
public import Idealize.ShloMosaic.Lib.Pointwise

@[expose] public section

set_option maxRecDepth 16384

noncomputable section

namespace Cert.Proof.MlpDx

open Idealize.ShloMosaic Idealize.ShloMosaic.TcCoe Idealize.SL.Sem
open Cert.MlpDxIdeal Cert.MlpDxIdeal.Gen

/-- The result as one function of the arguments: the product, contracted over the 4096 hidden columns, plus the scaled residual. -/
def spec (x0 : S8192x4096.Idx → EReal) (x1 : S1024x4096.Idx → EReal) (x2 : S8192x1024.Idx → EReal) : S8192x1024.Idx → EReal :=
  fun i => (∑ k : Fin 4096, x0 (ix2 (i 0) k) * x1 (ix2 (i 1) k)) + Ideal.ofBits .f32 0x3FD744FD#32 * x2 i

/-- What the body stores, at an index, from the blocks it loads. -/
theorem pay_apply (x0 : Vec Ideal S512x4096 .bf16) (x1 : Vec Ideal S1024x4096 .bf16) (x2 : Vec Ideal S512x1024 .f32) (y : S512x1024.Idx) :
    k0_pay1 x0 x1 x2 y = (∑ k : Fin 4096, x0 (ix2 (y 0) k) * x1 (ix2 (y 1) k)) + Ideal.ofBits .f32 0x3FD744FD#32 * x2 y := by
  pointwise [k0_pay1]

/-- What the reference computes, at an index. -/
theorem ref_apply (x0 : S8192x4096.Idx → EReal) (x1 : S1024x4096.Idx → EReal) (x2 : S8192x1024.Idx → EReal) (i : S8192x1024.Idx) :
    Cert.MlpDxRefIdeal.Read.val_main_v9 (F := Ideal) x0 x1 x2 i = spec x0 x1 x2 i := by
  rw [← Cert.MlpDxRefIdeal.Read.val_main_v9_eq]
  unfold spec
  pointwise
  rw [add_comm]

variable (m : (ℓ : Loc nD τ sig) → Buf (Elt Ideal) ℓ)

/-- The block indices at each of the 16 points. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)

/-- Each loaded block at an index is the argument at the place the block stands. -/
theorem blk0 (c : Dev nD) (t : Fin cfg0.N) (z : S512x4096.Idx) (i : S8192x4096.Idx) (h0 : (i 0).val = t.val * 512 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 512 + 1 * (z 0).val = _; rw [e0, h0]; omega
  · show win0_0.index t 1 * 4096 + 1 * (z 1).val = _; rw [e1, h1]; omega
theorem blk1 (c : Dev nD) (t : Fin cfg0.N) (z : S1024x4096.Idx) (i : S1024x4096.Idx) (h0 : (i 0).val = (z 0).val)
    (h1 : (i 1).val = (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 1024 + 1 * (z 0).val = _; rw [e0, h0]; omega
  · show win0_1.index t 1 * 4096 + 1 * (z 1).val = _; rw [e1, h1]; omega
theorem blk2 (c : Dev nD) (t : Fin cfg0.N) (z : S512x1024.Idx) (i : S8192x1024.Idx) (h0 : (i 0).val = t.val * 512 + (z 0).val)
    (h1 : (i 1).val = (z 1).val) : iblk m c 2 t z = m ((c : Thread nD τ).loc main_arg2) i := by
  unfold iblk
  rw [View.read_apply]
  show V m c main_arg2 _ = _
  rw [V_main_arg2]
  obtain ⟨e0, e1⟩ := index2 t
  refine congrArg _ (Shape.idx_ext₂ ?_ ?_)
  · show win0_2.index t 0 * 512 + 1 * (z 0).val = _; rw [e0, h0]; omega
  · show win0_2.index t 1 * 1024 + 1 * (z 1).val = _; rw [e1, h1]; omega

/-- The result of the arguments as launched. -/
abbrev result (c : Dev nD) : S8192x1024.Idx → EReal :=
  spec (m ((c : Thread nD τ).loc main_arg0)) (m ((c : Thread nD τ).loc main_arg1)) (m ((c : Thread nD τ).loc main_arg2))

/-- What a point writes back is its block of the result. -/
theorem flushed_eq (c : Dev nD) (t : Fin cfg0.N) :
    (dats m 0 c).flushed 3 t = ((cfg0.win 3).blk t).view.read (Elt Ideal) (result m c) := by
  rw [Value.flushed3]
  funext y
  have hz : (![0, 0] : Fin 2 → Nat) = fun _ => 0 := funext fun a => by fin_cases a <;> rfl
  show out0_3 (iblk m c 0 t) (iblk m c 1 t) (iblk m c 2 t) ((cfg0.win 3).xinj (grid0.coords t) y) = result m c (((cfg0.win 3).blk t).view.emb y)
  unfold out0_3
  rw [View.canon_unit_zero hz, View.ld_unit_zero hz, View.ld_unit_zero hz, View.ld_unit_zero hz, pay_apply]
  obtain ⟨e0, e1⟩ := index3 t
  have b0 : (((cfg0.win 3).blk t).view.emb y 0).val = t.val * 512 + (y 0).val := by
    show win0_3.index t 0 * 512 + 1 * (y 0).val = _; rw [e0]; omega
  have b1 : (((cfg0.win 3).blk t).view.emb y 1).val = (y 1).val := by
    show win0_3.index t 1 * 1024 + 1 * (y 1).val = _; rw [e1]; omega
  unfold result spec
  rw [blk2 m c t _ (((cfg0.win 3).blk t).view.emb y) b0 b1]
  refine congrArg (· + _) (Finset.sum_congr rfl fun k _ => ?_)
  exact congrArg₂ (· * ·)
    (blk0 m c t (ix2 ((cfg0.win 3).xinj (grid0.coords t) y 0) k) (ix2 (((cfg0.win 3).blk t).view.emb y 0) k) b0 rfl)
    (blk1 m c t (ix2 ((cfg0.win 3).xinj (grid0.coords t) y 1) k) (ix2 (((cfg0.win 3).blk t).view.emb y 1) k) b1 rfl)

/-- The result array after the run. -/
theorem final (c : Dev nD) : (dats m 0 c).arrAt 3 cfg0.N = result m c :=
  (dats m 0 c).arrAt_eq_of_cover 3 (result m c) (fun t _ => flushed_eq m c t) fun i => by
    have h0 : (i 0).val < 8192 := (i 0).isLt
    have h1 : (i 1).val < 1024 := (i 1).isLt
    let t : Fin cfg0.N := ⟨(i 0).val / 512, lt_of_lt_of_eq (by omega : _ < 16) N_0.symm⟩
    obtain ⟨e0, e1⟩ := index3 t
    refine ⟨t, (by decide +kernel : ∀ t : Fin grid0.N, win0_3.flush t = true) t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [e0]; show ((i 0).val / 512) * 512 ≤ _ ∧ _ < ((i 0).val / 512) * 512 + 512; omega
    | ⟨1, _⟩ => show win0_3.index t 1 * 1024 ≤ (i 1).val ∧ (i 1).val < win0_3.index t 1 * 1024 + 1024; rw [e1]; show 0 * 1024 ≤ _ ∧ _ < 0 * 1024 + 1024; omega

/-- The kernel's idealization computes the idealized reference. -/
theorem algebraic : algebraic_MlpDxIdeal_MlpDxRefIdeal := by
  intro m g m' g' _ hagree
  refine ⟨fun c => result m c, ?_, ?_⟩
  · exact (θ_run _ _ _).mono (fun r h c => by
      obtain ⟨h0, h⟩ := h c
      exact ⟨h0.trans (final m c), h⟩) (Value.run_blocks m g)
  · refine (θ_run _ _ _).mono (fun r h c => ?_) (Cert.MlpDxRefIdeal.Value.run m' g')
    obtain ⟨h0, h⟩ := h c
    obtain ⟨a0, a1, a2⟩ := hagree c
    refine ⟨h0.trans ?_, h⟩
    rw [a0, a1, a2]
    funext i
    exact ref_apply _ _ _ i

end Cert.Proof.MlpDx
-- ==== Proof.MlpFwd.lean ====
/-
  The forward pass of the MLP block: the up projection, the squared rectifier, the down projection, the residual sum and
  the layer norm, and the scaled and shifted normalized rows. What the idealized kernel leaves in its five result arrays
  is what the idealized reference leaves in its own.
-/
module

public import proofs.«01_k».proof.Defs
public import proofs.«01_k».proof.Proof.Gen.MlpFwdIdeal.Value
public import proofs.«01_k».proof.Proof.Gen.MlpFwdRefIdeal.Run
public import proofs.«01_k».proof.Proof.Gen.MlpFwdRefIdeal.Read
public import Idealize.ShloMosaic.Lib.Pointwise
public import Idealize.ShloMosaic.Lib.Pipeline.ValueKit

@[expose] public section

set_option maxRecDepth 16384

noncomputable section

namespace Cert.Proof.MlpFwd

open Idealize.ShloMosaic Idealize.ShloMosaic.TcCoe Idealize.SL.Sem
open Cert.MlpFwdIdeal Cert.MlpFwdIdeal.Gen

/-- The up-projection of one row. -/
def proj (x : Fin 1024 → EReal) (w : S1024x4096.Idx → EReal) (f : Fin 4096) : EReal := ∑ k : Fin 1024, x k * w (ix2 k f)

/-- The residual sum of one row: the scaled normalized row plus the down-projection of the squared rectified activations. -/
def mix (x xb : Fin 1024 → EReal) (g b : S1x1024.Idx → EReal) (wu : S1024x4096.Idx → EReal) (wd : S4096x1024.Idx → EReal) (d : Fin 1024) : EReal :=
  Ideal.ofBits .f32 1071072509#32 * (x d * g (ix2 0 d) + b (ix2 0 d)) + ∑ f : Fin 4096, max (proj xb wu f) 0 * max (proj xb wu f) 0 * wd (ix2 f d)

/-- A row less its mean. -/
def center (z : Fin 1024 → EReal) (d : Fin 1024) : EReal := z d - Ideal.div (∑ k : Fin 1024, z k) (Ideal.ofBits .f32 1149239296#32)

/-- The inverse of the standard deviation of a row. -/
def scale (z : Fin 1024 → EReal) : EReal :=
  Ideal.rsqrt (Ideal.div (∑ k : Fin 1024, center z k * center z k) (Ideal.ofBits .f32 1149239296#32) + Ideal.ofBits .f32 925353388#32)

/-- A sum over 4096 places by its four tiles, in the order in which the kernel adds them. -/
theorem sum_tiles (g : Fin 4096 → EReal) : ∑ f : Fin 4096, g f =
    (∑ k : Fin 1024, g ⟨k.val, by omega⟩ + ∑ k : Fin 1024, g ⟨1024 + k.val, by omega⟩) + ∑ k : Fin 1024, g ⟨2048 + k.val, by omega⟩
      + ∑ k : Fin 1024, g ⟨3072 + k.val, by omega⟩ := by
  rw [Fin.sum_univ_tiles 4 1024 (show 4 * 1024 = 4096 from rfl), Fin.sum_univ_four]
  refine congrArg₂ (· + ·) (congrArg₂ (· + ·) (congrArg₂ (· + ·) ?_ ?_) ?_) ?_ <;>
    exact Finset.sum_congr rfl fun k _ => congrArg g (Fin.ext (by simp))

section
variable (x0 : Vec Ideal S512x1024 .f32) (x1 : Vec Ideal S512x1024 .bf16) (x2 x3 : Vec Ideal S1x1024 .f32) (x4 : Vec Ideal S1024x4096 .bf16)
  (x5 : Vec Ideal S4096x1024 .bf16) (x6 x7 : Vec Ideal S1x1024 .f32)

/-- The residual sum of a row of the loaded blocks. -/
abbrev rowB (r : Fin 512) : Fin 1024 → EReal := mix (fun k => x0 (ix2 r k)) (fun k => x1 (ix2 r k)) x2 x3 x4 x5

theorem pay19_apply (y : S512x1024.Idx) : k0_pay19 x0 x1 x2 x3 x4 x5 x6 x7 y = center (rowB x0 x1 x2 x3 x4 x5 (y 0)) (y 1) := by
  unfold center rowB mix
  simp only [sum_tiles]
  pointwise [k0_pay19, k0_pay16, k0_pay17, k0_pay18, k0_pay14, k0_pay10, k0_pay8, k0_pay11, k0_pay5, k0_pay6, proj]

theorem pay20_apply (y : S512x1.Idx) : k0_pay1 (k0_pay20 x0 x1 x2 x3 x4 x5 x6 x7) (Scalar.ofBits .f32 0x3727C5AC#32) y = scale (rowB x0 x1 x2 x3 x4 x5 (y 0)) := by
  unfold scale
  have h : ∀ k, k0_pay19 x0 x1 x2 x3 x4 x5 x6 x7 (ix2 (y 0) k) = center (rowB x0 x1 x2 x3 x4 x5 (y 0)) k := fun k => pay19_apply ..
  unfold k0_pay19 at h
  pointwise [k0_pay1, k0_pay20, k0_pay15]
  simp only [h]

theorem pay2_apply (y : S512x1024.Idx) :
    k0_pay2 (k0_pay19 x0 x1 x2 x3 x4 x5 x6 x7) (k0_pay20 x0 x1 x2 x3 x4 x5 x6 x7) (Scalar.ofBits .f32 0x3727C5AC#32) y
      = center (rowB x0 x1 x2 x3 x4 x5 (y 0)) (y 1) * scale (rowB x0 x1 x2 x3 x4 x5 (y 0)) := by
  have h := pay20_apply x0 x1 x2 x3 x4 x5 x6 x7 (ix2 (y 0) 0)
  rw [← pay19_apply x0 x1 x2 x3 x4 x5 x6 x7 y]
  show _ = _ * scale (rowB x0 x1 x2 x3 x4 x5 ((ix2 (y 0) 0 : S512x1.Idx) 0))
  rw [← h]
  pointwise [k0_pay2]

theorem pay3_apply (y : S512x1024.Idx) :
    k0_pay3 (k0_pay19 x0 x1 x2 x3 x4 x5 x6 x7) (k0_pay20 x0 x1 x2 x3 x4 x5 x6 x7) (Scalar.ofBits .f32 0x3727C5AC#32) x6 x7 y
      = center (rowB x0 x1 x2 x3 x4 x5 (y 0)) (y 1) * scale (rowB x0 x1 x2 x3 x4 x5 (y 0)) * x6 (ix2 0 (y 1)) + x7 (ix2 0 (y 1)) := by
  rw [← pay2_apply x0 x1 x2 x3 x4 x5 x6 x7 y]
  pointwise [k0_pay3]
theorem pay4_apply (y : S512x1024.Idx) :
    k0_pay4 (k0_pay19 x0 x1 x2 x3 x4 x5 x6 x7) (k0_pay20 x0 x1 x2 x3 x4 x5 x6 x7) (Scalar.ofBits .f32 0x3727C5AC#32) x6 x7 y
      = center (rowB x0 x1 x2 x3 x4 x5 (y 0)) (y 1) * scale (rowB x0 x1 x2 x3 x4 x5 (y 0)) * x6 (ix2 0 (y 1)) + x7 (ix2 0 (y 1)) := by
  rw [← pay3_apply x0 x1 x2 x3 x4 x5 x6 x7 y]
  pointwise [k0_pay4]
end

/-! ## The result arrays as functions of the arguments -/

section
variable (x0 x1 : S8192x1024.Idx → EReal) (x2 x3 : S1x1024.Idx → EReal) (x4 : S1024x4096.Idx → EReal) (x5 : S4096x1024.Idx → EReal)
  (x6 x7 : S1x1024.Idx → EReal)

/-- The residual sum of a row. -/
abbrev row (r : Fin 8192) : Fin 1024 → EReal := mix (fun k => x0 (ix2 r k)) (fun k => x1 (ix2 r k)) x2 x3 x4 x5

/-- The activations before the rectifier. -/
def specA : S8192x4096.Idx → EReal := fun i => proj (fun k => x1 (ix2 (i 0) k)) x4 (i 1)
/-- The normalized rows. -/
def specX : S8192x1024.Idx → EReal := fun i => center (row x0 x1 x2 x3 x4 x5 (i 0)) (i 1) * scale (row x0 x1 x2 x3 x4 x5 (i 0))
/-- The inverse standard deviations. -/
def specR : S8192x1.Idx → EReal := fun i => scale (row x0 x1 x2 x3 x4 x5 (i 0))
/-- The layer's output. -/
def specY : S8192x1024.Idx → EReal := fun i => specX x0 x1 x2 x3 x4 x5 i * x6 (ix2 0 (i 1)) + x7 (ix2 0 (i 1))

open Cert.MlpFwdRefIdeal.Read

theorem ref_row (i : S8192x1024.Idx) : val_main_v13 (F := Ideal) x0 x1 x2 x3 x4 x5 i = row x0 x1 x2 x3 x4 x5 (i 0) (i 1) := by
  unfold row mix proj
  pointwise [val_main_v13, val_main_v12, val_main_v11, val_main_v10, val_main_cst, val_main_v9, val_main_v8, val_main_call0_v0, val_main_call0_cst, val_main_v7, val_main_v6, val_main_v5, val_main_v4, val_main_v3, val_main_v2, val_main_v1, val_main_v0]
theorem ref_a (i : S8192x4096.Idx) : val_main_v36 (F := Ideal) x1 x4 i = specA x1 x4 i := by
  unfold specA proj
  pointwise [val_main_v36, val_main_v7, val_main_v1, val_main_v0]
theorem ref_center (i : S8192x1024.Idx) : val_main_v19 (F := Ideal) x0 x1 x2 x3 x4 x5 i = center (row x0 x1 x2 x3 x4 x5 (i 0)) (i 1) := by
  unfold center
  have h : ∀ r k, val_main_v13 (F := Ideal) x0 x1 x2 x3 x4 x5 (ix2 r k) = row x0 x1 x2 x3 x4 x5 r k := fun r k => ref_row ..
  have h' : val_main_v13 (F := Ideal) x0 x1 x2 x3 x4 x5 i = row x0 x1 x2 x3 x4 x5 (i 0) (i 1) := ref_row ..
  pointwise [val_main_v19, val_main_v18, val_main_v17, val_main_v16, val_main_cst_1, val_main_v15, val_main_v14, val_main_cst_0]
  rw [h']
  exact congrArg₂ (· - ·) rfl (congrArg₂ Ideal.div (Finset.sum_congr rfl fun k _ => h _ _) rfl)
theorem ref_r (i : S8192x1.Idx) : val_main_v27 (F := Ideal) x0 x1 x2 x3 x4 x5 i = specR x0 x1 x2 x3 x4 x5 i := by
  unfold specR scale
  have h : ∀ r k, val_main_v19 (F := Ideal) x0 x1 x2 x3 x4 x5 (ix2 r k) = center (row x0 x1 x2 x3 x4 x5 r) k := fun r k => ref_center ..
  pointwise [val_main_v27, val_main_v26, val_main_v25, val_main_cst_4, val_main_v24, val_main_v23, val_main_cst_3, val_main_v22, val_main_v21, val_main_cst_2, val_main_v20]
  exact congrArg Ideal.rsqrt (congrArg₂ (· + ·) (congrArg₂ Ideal.div (Finset.sum_congr rfl fun k _ => congrArg₂ (· * ·) (h _ _) (h _ _)) rfl) rfl)
theorem ref_x (i : S8192x1024.Idx) : val_main_v31 (F := Ideal) x0 x1 x2 x3 x4 x5 i = specX x0 x1 x2 x3 x4 x5 i := by
  unfold specX
  have e : val_main_v29 (F := Ideal) x0 x1 x2 x3 x4 x5 i = val_main_v19 (F := Ideal) x0 x1 x2 x3 x4 x5 i := rfl
  have h : val_main_v27 (F := Ideal) x0 x1 x2 x3 x4 x5 (ix2 (i 0) 0) = scale (row x0 x1 x2 x3 x4 x5 (i 0)) := ref_r ..
  pointwise [val_main_v31, val_main_v30]
  rw [e, ref_center]
  exact congrArg (_ * ·) h
theorem ref_y (i : S8192x1024.Idx) : val_main_v35 (F := Ideal) x0 x1 x2 x3 x4 x5 x6 x7 i = specY x0 x1 x2 x3 x4 x5 x6 x7 i := by
  unfold specY
  rw [← ref_x]
  pointwise [val_main_v35, val_main_v34, val_main_v33, val_main_v32]
theorem ref_yb (i : S8192x1024.Idx) : val_main_v37 (F := Ideal) x0 x1 x2 x3 x4 x5 x6 x7 i = specY x0 x1 x2 x3 x4 x5 x6 x7 i := by
  rw [← ref_y]
  pointwise [val_main_v37]
end

variable (m : (ℓ : Loc nD τ sig) → Buf (Elt Ideal) ℓ)

/-- The block indices at each of the 16 points. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, _)

/-- The blocks that stay are the whole arguments. -/
theorem whole2 (c : Dev nD) (t : Fin cfg0.N) : iblk m c 2 t = m ((c : Thread nD τ).loc main_arg2) := by funext z; blk_ext [iblk, V, idx t]
theorem whole3 (c : Dev nD) (t : Fin cfg0.N) : iblk m c 3 t = m ((c : Thread nD τ).loc main_arg3) := by funext z; blk_ext [iblk, V, idx t]
theorem whole4 (c : Dev nD) (t : Fin cfg0.N) : iblk m c 4 t = m ((c : Thread nD τ).loc main_arg4) := by funext z; blk_ext [iblk, V, idx t]
theorem whole5 (c : Dev nD) (t : Fin cfg0.N) : iblk m c 5 t = m ((c : Thread nD τ).loc main_arg5) := by funext z; blk_ext [iblk, V, idx t]
theorem whole6 (c : Dev nD) (t : Fin cfg0.N) : iblk m c 6 t = m ((c : Thread nD τ).loc main_arg6) := by funext z; blk_ext [iblk, V, idx t]
theorem whole7 (c : Dev nD) (t : Fin cfg0.N) : iblk m c 7 t = m ((c : Thread nD τ).loc main_arg7) := by funext z; blk_ext [iblk, V, idx t]

/-- A row of the loaded blocks is the row of the arguments at the place the block stands. -/
theorem rows (c : Dev nD) (t : Fin cfg0.N) (r : Fin 512) (r' : Fin 8192) (h : r'.val = t.val * 512 + r.val) :
    rowB (iblk m c 0 t) (iblk m c 1 t) (iblk m c 2 t) (iblk m c 3 t) (iblk m c 4 t) (iblk m c 5 t) r = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' := by
  have h0 : (fun k : Fin 1024 => iblk m c 0 t (ix2 r k)) = fun k => m ((c : Thread nD τ).loc main_arg0) (ix2 r' k) := by funext k; blk_ext [iblk, V, idx t]
  have h1 : (fun k : Fin 1024 => iblk m c 1 t (ix2 r k)) = fun k => m ((c : Thread nD τ).loc main_arg1) (ix2 r' k) := by funext k; blk_ext [iblk, V, idx t]
  unfold rowB row
  rw [h0, h1, whole2, whole3, whole4, whole5]

theorem final8 (c : Dev nD) : (dats m 0 c).arrAt 8 cfg0.N = specA (m ((c : Thread nD τ).loc main_arg1)) (m ((c : Thread nD τ).loc main_arg4)) := by
  refine (dats m 0 c).arrAt_eq_of_covers 8 _ (by decide +kernel) fun t hf y => ?_
  have e0 : (((cfg0.win 8).blk t).view.emb y 0).val = t.val * 512 + (y 0).val := by blk_simp [idx t]
  have e1 : (((cfg0.win 8).blk t).view.emb y 1).val = (y 1).val := by blk_simp [idx t]
  generalize ((cfg0.win 8).blk t).view.emb y = i at e0 e1
  blk_simp
  rw [after0_8]
  unfold_out out0_8
  canon_tiles x h
  all_goals (open_payloads; unfold specA proj; pointwise; refine Finset.sum_congr rfl fun k _ => ?_; congr 1 <;> blk_ext [iblk, V, idx t])

theorem final9 (c : Dev nD) : (dats m 0 c).arrAt 9 cfg0.N = specX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have e0 : (((cfg0.win 9).blk t).view.emb y 0).val = t.val * 512 + (y 0).val := by blk_simp [idx t]
  have e1 : (((cfg0.win 9).blk t).view.emb y 1).val = (y 1).val := by blk_simp [idx t]
  generalize ((cfg0.win 9).blk t).view.emb y = i at e0 e1
  blk_simp
  rw [after0_9]
  frame_out
  refine (pay2_apply ..).trans ?_
  unfold specX
  rw [rows m c t (y 0) (i 0) e0]
  exact congrArg (fun k => center _ k * _) (Fin.ext e1.symm)

theorem final10 (c : Dev nD) : (dats m 0 c).arrAt 10 cfg0.N = specR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have e0 : (((cfg0.win 10).blk t).view.emb y 0).val = t.val * 512 + (y 0).val := by blk_simp [idx t]
  have e1 : (((cfg0.win 10).blk t).view.emb y 1).val = (y 1).val := by blk_simp [idx t]
  generalize ((cfg0.win 10).blk t).view.emb y = i at e0 e1
  blk_simp
  rw [after0_10]
  frame_out
  refine (pay20_apply (x6 := iblk m c 6 t) (x7 := iblk m c 7 t) ..).trans ?_
  unfold specR
  rw [rows m c t (y 0) (i 0) e0]

theorem final11 (c : Dev nD) : (dats m 0 c).arrAt 11 cfg0.N = specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  have e0 : (((cfg0.win 11).blk t).view.emb y 0).val = t.val * 512 + (y 0).val := by blk_simp [idx t]
  have e1 : (((cfg0.win 11).blk t).view.emb y 1).val = (y 1).val := by blk_simp [idx t]
  generalize ((cfg0.win 11).blk t).view.emb y = i at e0 e1
  blk_simp
  rw [after0_11]
  frame_out
  refine (pay3_apply ..).trans ?_
  unfold specY specX
  have hk : (y 1 : Fin 1024) = i 1 := Fin.ext e1.symm
  rw [rows m c t (y 0) (i 0) e0, whole6, whole7]
  rw [hk]

theorem final12 (c : Dev nD) : (dats m 0 c).arrAt 12 cfg0.N = specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  have e0 : (((cfg0.win 12).blk t).view.emb y 0).val = t.val * 512 + (y 0).val := by blk_simp [idx t]
  have e1 : (((cfg0.win 12).blk t).view.emb y 1).val = (y 1).val := by blk_simp [idx t]
  generalize ((cfg0.win 12).blk t).view.emb y = i at e0 e1
  blk_simp
  rw [after0_12]
  frame_out
  refine (pay4_apply ..).trans ?_
  unfold specY specX
  have hk : (y 1 : Fin 1024) = i 1 := Fin.ext e1.symm
  rw [rows m c t (y 0) (i 0) e0, whole6, whole7]
  rw [hk]

/-- The kernel's idealization computes the idealized reference. -/
theorem algebraic : algebraic_MlpFwdIdeal_MlpFwdRefIdeal := by
  intro m g m' g' _ hagree
  refine ⟨fun c => specA (m ((c : Thread nD τ).loc main_arg1)) (m ((c : Thread nD τ).loc main_arg4)), fun c => specX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => specR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => specY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · exact (θ_run _ _ _).mono (fun r h c => by
      obtain ⟨h0, h1, h2, h3, h4, h⟩ := h c
      exact ⟨h0.trans (final8 m c), h1.trans (final9 m c), h2.trans (final10 m c), h3.trans (final11 m c), h4.trans (final12 m c), h⟩) (Value.run_blocks m g)
  · refine (θ_run _ _ _).mono (fun r h c => ?_) (Cert.MlpFwdRefIdeal.Value.run m' g')
    obtain ⟨h0, h1, h2, h3, h4, h⟩ := h c
    obtain ⟨a0, a1, a2, a3, a4, a5, a6, a7⟩ := hagree c
    refine ⟨h0.trans ?_, h1.trans ?_, h2.trans ?_, h3.trans ?_, h4.trans ?_, h⟩
    · rw [Cert.MlpFwdRefIdeal.Read.val_main_v36_eq, a1, a4]; funext i; exact ref_a _ _ i
    · rw [Cert.MlpFwdRefIdeal.Read.val_main_v31_eq, a0, a1, a2, a3, a4, a5]; funext i; exact ref_x _ _ _ _ _ _ i
    · rw [Cert.MlpFwdRefIdeal.Read.val_main_v27_eq, a0, a1, a2, a3, a4, a5]; funext i; exact ref_r _ _ _ _ _ _ i
    · rw [Cert.MlpFwdRefIdeal.Read.val_main_v35_eq, a0, a1, a2, a3, a4, a5, a6, a7]; funext i; exact ref_y _ _ _ _ _ _ _ _ i
    · rw [Cert.MlpFwdRefIdeal.Read.val_main_v37_eq, a0, a1, a2, a3, a4, a5, a6, a7]; funext i; exact ref_yb _ _ _ _ _ _ _ _ i

end Cert.Proof.MlpFwd
-- ==== Proof.ProjIn.lean ====
/-
  The input projection `p = x · w_in`, blocked by rows and columns: what the idealized kernel leaves in its result array
  is what the idealized reference (one product) leaves in its own, element by element over the extended reals.
-/
module

public import proofs.«01_k».proof.Defs
public import proofs.«01_k».proof.Proof.Gen.ProjInIdeal.Value
public import proofs.«01_k».proof.Proof.Gen.ProjInRefIdeal.Run
public import proofs.«01_k».proof.Proof.Gen.ProjInRefIdeal.Read
public import Idealize.ShloMosaic.Lib.Pointwise

@[expose] public section

set_option maxRecDepth 16384

noncomputable section

namespace Cert.Proof.ProjIn

open Idealize.ShloMosaic Idealize.ShloMosaic.TcCoe Idealize.SL.Sem
open Cert.ProjInIdeal Cert.ProjInIdeal.Gen

/-- The result as one function of the arguments. -/
def spec (x0 : S8192x1024.Idx → EReal) (x1 : S1024x7168.Idx → EReal) : S8192x7168.Idx → EReal :=
  fun i => ∑ k : Fin 1024, x0 (ix2 (i 0) k) * x1 (ix2 k (i 1))

/-- What the body stores, at an index, from the blocks it loads. -/
theorem pay_apply (x0 : Vec Ideal S1024x1024 .bf16) (x1 : Vec Ideal S1024x1792 .bf16) (y : S1024x1792.Idx) :
    k0_pay1 x0 x1 y = ∑ k : Fin 1024, x0 (ix2 (y 0) k) * x1 (ix2 k (y 1)) := by
  pointwise [k0_pay1]

/-- What the reference computes, at an index. -/
theorem ref_apply (x0 : S8192x1024.Idx → EReal) (x1 : S1024x7168.Idx → EReal) (i : S8192x7168.Idx) :
    Cert.ProjInRefIdeal.Read.val_main_v3 (F := Ideal) x0 x1 i = spec x0 x1 i := by
  rw [← Cert.ProjInRefIdeal.Read.val_main_v3_eq]
  unfold spec
  pointwise

variable (m : (ℓ : Loc nD τ sig) → Buf (Elt Ideal) ℓ)

/-- The block indices at each of the 32 points. -/
theorem index0 : ∀ t : Fin cfg0.N, win0_0.index t 0 = t.val % 8 ∧ win0_0.index t 1 = 0 := (by decide +kernel : ∀ t : Fin grid0.N, _)
theorem index1 : ∀ t : Fin cfg0.N, win0_1.index t 0 = 0 ∧ win0_1.index t 1 = t.val / 8 := (by decide +kernel : ∀ t : Fin grid0.N, _)
theorem index2 : ∀ t : Fin cfg0.N, win0_2.index t 0 = t.val % 8 ∧ win0_2.index t 1 = t.val / 8 := (by decide +kernel : ∀ t : Fin grid0.N, _)

/-- Each loaded block at an index is the argument at the place the block stands. -/
theorem blk0 (c : Dev nD) (t : Fin cfg0.N) (z : S1024x1024.Idx) (i : S8192x1024.Idx) (h0 : (i 0).val = t.val % 8 * 1024 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 1024 + 1 * (z 0).val = _; rw [e0, h0]; omega
  · show win0_0.index t 1 * 1024 + 1 * (z 1).val = _; rw [e1, h1]; omega
theorem blk1 (c : Dev nD) (t : Fin cfg0.N) (z : S1024x1792.Idx) (i : S1024x7168.Idx) (h0 : (i 0).val = (z 0).val)
    (h1 : (i 1).val = t.val / 8 * 1792 + (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 1024 + 1 * (z 0).val = _; rw [e0, h0]; omega
  · show win0_1.index t 1 * 1792 + 1 * (z 1).val = _; rw [e1, h1]; omega

/-- The result of the arguments as launched. -/
abbrev result (c : Dev nD) : S8192x7168.Idx → EReal :=
  spec (m ((c : Thread nD τ).loc main_arg0)) (m ((c : Thread nD τ).loc main_arg1))

/-- What a point writes back is its block of the result. -/
theorem flushed_eq (c : Dev nD) (t : Fin cfg0.N) :
    (dats m 0 c).flushed 2 t = ((cfg0.win 2).blk t).view.read (Elt Ideal) (result m c) := by
  rw [Value.flushed2]
  funext y
  have hz : (![0, 0] : Fin 2 → Nat) = fun _ => 0 := funext fun a => by fin_cases a <;> rfl
  show out0_2 (iblk m c 0 t) (iblk m c 1 t) ((cfg0.win 2).xinj (grid0.coords t) y) = result m c (((cfg0.win 2).blk t).view.emb y)
  unfold out0_2
  rw [View.canon_unit_zero hz, View.ld_unit_zero hz, View.ld_unit_zero hz, pay_apply]
  obtain ⟨e0, e1⟩ := index2 t
  have b0 : (((cfg0.win 2).blk t).view.emb y 0).val = t.val % 8 * 1024 + (y 0).val := by
    show win0_2.index t 0 * 1024 + 1 * (y 0).val = _; rw [e0]; omega
  have b1 : (((cfg0.win 2).blk t).view.emb y 1).val = t.val / 8 * 1792 + (y 1).val := by
    show win0_2.index t 1 * 1792 + 1 * (y 1).val = _; rw [e1]; omega
  unfold result spec
  refine Finset.sum_congr rfl fun k _ => ?_
  exact congrArg₂ (· * ·)
    (blk0 m c t (ix2 ((cfg0.win 2).xinj (grid0.coords t) y 0) k) (ix2 (((cfg0.win 2).blk t).view.emb y 0) k) b0 rfl)
    (blk1 m c t (ix2 k ((cfg0.win 2).xinj (grid0.coords t) y 1)) (ix2 k (((cfg0.win 2).blk t).view.emb y 1)) rfl b1)

/-- The result array after the run. -/
theorem final (c : Dev nD) : (dats m 0 c).arrAt 2 cfg0.N = result m c :=
  (dats m 0 c).arrAt_eq_of_cover 2 (result m c) (fun t _ => flushed_eq m c t) fun i => by
    have h0 : (i 0).val < 8192 := (i 0).isLt
    have h1 : (i 1).val < 7168 := (i 1).isLt
    let t : Fin cfg0.N := ⟨(i 1).val / 1792 * 8 + (i 0).val / 1024, lt_of_lt_of_eq (by omega : _ < 32) N_0.symm⟩
    obtain ⟨e0, e1⟩ := index2 t
    refine ⟨t, (by decide +kernel : ∀ t : Fin grid0.N, win0_2.flush t = true) t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [e0]; show ((i 1).val / 1792 * 8 + (i 0).val / 1024) % 8 * 1024 ≤ _ ∧ _ < ((i 1).val / 1792 * 8 + (i 0).val / 1024) % 8 * 1024 + 1024; omega
    | ⟨1, _⟩ => show win0_2.index t 1 * 1792 ≤ (i 1).val ∧ (i 1).val < win0_2.index t 1 * 1792 + 1792; rw [e1]; show ((i 1).val / 1792 * 8 + (i 0).val / 1024) / 8 * 1792 ≤ _ ∧ _ < ((i 1).val / 1792 * 8 + (i 0).val / 1024) / 8 * 1792 + 1792; omega

/-- The kernel's idealization computes the idealized reference. -/
theorem algebraic : algebraic_ProjInIdeal_ProjInRefIdeal := by
  intro m g m' g' _ hagree
  refine ⟨fun c => result m c, ?_, ?_⟩
  · exact (θ_run _ _ _).mono (fun r h c => by
      obtain ⟨h0, h⟩ := h c
      exact ⟨h0.trans (final m c), h⟩) (Value.run_blocks m g)
  · refine (θ_run _ _ _).mono (fun r h c => ?_) (Cert.ProjInRefIdeal.Value.run m' g')
    obtain ⟨h0, h⟩ := h c
    obtain ⟨a0, a1⟩ := hagree c
    refine ⟨h0.trans ?_, h⟩
    rw [a0, a1]
    funext i
    exact ref_apply _ _ i

end Cert.Proof.ProjIn
-- ==== Proof.ProjInDx.lean ====
/-
  The gradient at the block's input, `dx = dp · w_inᵀ + α · dz1`, blocked by rows: what the idealized kernel leaves in its
  result array is what the idealized reference (the reverse-mode derivative of the input projection beside the scaled
  residual) leaves in its own, element by element over the extended reals. The two sum the same two terms in either order.
-/
module

public import proofs.«01_k».proof.Defs
public import proofs.«01_k».proof.Proof.Gen.ProjInDxIdeal.Value
public import proofs.«01_k».proof.Proof.Gen.ProjInDxRefIdeal.Run
public import proofs.«01_k».proof.Proof.Gen.ProjInDxRefIdeal.Read
public import Idealize.ShloMosaic.Lib.Pointwise

@[expose] public section

set_option maxRecDepth 16384

noncomputable section

namespace Cert.Proof.ProjInDx

open Idealize.ShloMosaic Idealize.ShloMosaic.TcCoe Idealize.SL.Sem
open Cert.ProjInDxIdeal Cert.ProjInDxIdeal.Gen

/-- The result as one function of the arguments: the product, contracted over the 7168 projected columns, plus the scaled residual. -/
def spec (x0 : S8192x7168.Idx → EReal) (x1 : S1024x7168.Idx → EReal) (x2 : S8192x1024.Idx → EReal) : S8192x1024.Idx → EReal :=
  fun i => (∑ k : Fin 7168, x0 (ix2 (i 0) k) * x1 (ix2 (i 1) k)) + Ideal.ofBits .f32 0x3FD744FD#32 * x2 i

/-- What the body stores, at an index, from the blocks it loads. -/
theorem pay_apply (x0 : Vec Ideal S512x7168 .bf16) (x1 : Vec Ideal S1024x7168 .bf16) (x2 : Vec Ideal S512x1024 .f32) (y : S512x1024.Idx) :
    k0_pay1 x0 x1 x2 y = (∑ k : Fin 7168, x0 (ix2 (y 0) k) * x1 (ix2 (y 1) k)) + Ideal.ofBits .f32 0x3FD744FD#32 * x2 y := by
  pointwise [k0_pay1]

/-- What the reference computes, at an index. -/
theorem ref_apply (x0 : S8192x7168.Idx → EReal) (x1 : S1024x7168.Idx → EReal) (x2 : S8192x1024.Idx → EReal) (i : S8192x1024.Idx) :
    Cert.ProjInDxRefIdeal.Read.val_main_v9 (F := Ideal) x0 x1 x2 i = spec x0 x1 x2 i := by
  rw [← Cert.ProjInDxRefIdeal.Read.val_main_v9_eq]
  unfold spec
  pointwise
  rw [add_comm]

variable (m : (ℓ : Loc nD τ sig) → Buf (Elt Ideal) ℓ)

/-- The block indices at each of the 16 points. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)

/-- Each loaded block at an index is the argument at the place the block stands. -/
theorem blk0 (c : Dev nD) (t : Fin cfg0.N) (z : S512x7168.Idx) (i : S8192x7168.Idx) (h0 : (i 0).val = t.val * 512 + (z 0).val)
    (h1 : (i 1).val = (z 1).val) : iblk m c 0 t z = m ((c : Thread nD τ).loc main_arg0) i := by
  unfold iblk
  rw [View.read_apply]
  show V m c main_arg0 _ = _
  rw [V_main_arg0]
  obtain ⟨e0, e1⟩ := index0 t
  refine congrArg _ (Shape.idx_ext₂ ?_ ?_)
  · show win0_0.index t 0 * 512 + 1 * (z 0).val = _; rw [e0, h0]; omega
  · show win0_0.index t 1 * 7168 + 1 * (z 1).val = _; rw [e1, h1]; omega
theorem blk1 (c : Dev nD) (t : Fin cfg0.N) (z : S1024x7168.Idx) (i : S1024x7168.Idx) (h0 : (i 0).val = (z 0).val)
    (h1 : (i 1).val = (z 1).val) : iblk m c 1 t z = m ((c : Thread nD τ).loc main_arg1) i := by
  unfold iblk
  rw [View.read_apply]
  show V m c main_arg1 _ = _
  rw [V_main_arg1]
  obtain ⟨e0, e1⟩ := index1 t
  refine congrArg _ (Shape.idx_ext₂ ?_ ?_)
  · show win0_1.index t 0 * 1024 + 1 * (z 0).val = _; rw [e0, h0]; omega
  · show win0_1.index t 1 * 7168 + 1 * (z 1).val = _; rw [e1, h1]; omega
theorem blk2 (c : Dev nD) (t : Fin cfg0.N) (z : S512x1024.Idx) (i : S8192x1024.Idx) (h0 : (i 0).val = t.val * 512 + (z 0).val)
    (h1 : (i 1).val = (z 1).val) : iblk m c 2 t z = m ((c : Thread nD τ).loc main_arg2) i := by
  unfold iblk
  rw [View.read_apply]
  show V m c main_arg2 _ = _
  rw [V_main_arg2]
  obtain ⟨e0, e1⟩ := index2 t
  refine congrArg _ (Shape.idx_ext₂ ?_ ?_)
  · show win0_2.index t 0 * 512 + 1 * (z 0).val = _; rw [e0, h0]; omega
  · show win0_2.index t 1 * 1024 + 1 * (z 1).val = _; rw [e1, h1]; omega

/-- The result of the arguments as launched. -/
abbrev result (c : Dev nD) : S8192x1024.Idx → EReal :=
  spec (m ((c : Thread nD τ).loc main_arg0)) (m ((c : Thread nD τ).loc main_arg1)) (m ((c : Thread nD τ).loc main_arg2))

/-- What a point writes back is its block of the result. -/
theorem flushed_eq (c : Dev nD) (t : Fin cfg0.N) :
    (dats m 0 c).flushed 3 t = ((cfg0.win 3).blk t).view.read (Elt Ideal) (result m c) := by
  rw [Value.flushed3]
  funext y
  have hz : (![0, 0] : Fin 2 → Nat) = fun _ => 0 := funext fun a => by fin_cases a <;> rfl
  show out0_3 (iblk m c 0 t) (iblk m c 1 t) (iblk m c 2 t) ((cfg0.win 3).xinj (grid0.coords t) y) = result m c (((cfg0.win 3).blk t).view.emb y)
  unfold out0_3
  rw [View.canon_unit_zero hz, View.ld_unit_zero hz, View.ld_unit_zero hz, View.ld_unit_zero hz, pay_apply]
  obtain ⟨e0, e1⟩ := index3 t
  have b0 : (((cfg0.win 3).blk t).view.emb y 0).val = t.val * 512 + (y 0).val := by
    show win0_3.index t 0 * 512 + 1 * (y 0).val = _; rw [e0]; omega
  have b1 : (((cfg0.win 3).blk t).view.emb y 1).val = (y 1).val := by
    show win0_3.index t 1 * 1024 + 1 * (y 1).val = _; rw [e1]; omega
  unfold result spec
  rw [blk2 m c t _ (((cfg0.win 3).blk t).view.emb y) b0 b1]
  refine congrArg (· + _) (Finset.sum_congr rfl fun k _ => ?_)
  exact congrArg₂ (· * ·)
    (blk0 m c t (ix2 ((cfg0.win 3).xinj (grid0.coords t) y 0) k) (ix2 (((cfg0.win 3).blk t).view.emb y 0) k) b0 rfl)
    (blk1 m c t (ix2 ((cfg0.win 3).xinj (grid0.coords t) y 1) k) (ix2 (((cfg0.win 3).blk t).view.emb y 1) k) b1 rfl)

/-- The result array after the run. -/
theorem final (c : Dev nD) : (dats m 0 c).arrAt 3 cfg0.N = result m c :=
  (dats m 0 c).arrAt_eq_of_cover 3 (result m c) (fun t _ => flushed_eq m c t) fun i => by
    have h0 : (i 0).val < 8192 := (i 0).isLt
    have h1 : (i 1).val < 1024 := (i 1).isLt
    let t : Fin cfg0.N := ⟨(i 0).val / 512, lt_of_lt_of_eq (by omega : _ < 16) N_0.symm⟩
    obtain ⟨e0, e1⟩ := index3 t
    refine ⟨t, (by decide +kernel : ∀ t : Fin grid0.N, win0_3.flush t = true) t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [e0]; show ((i 0).val / 512) * 512 ≤ _ ∧ _ < ((i 0).val / 512) * 512 + 512; omega
    | ⟨1, _⟩ => show win0_3.index t 1 * 1024 ≤ (i 1).val ∧ (i 1).val < win0_3.index t 1 * 1024 + 1024; rw [e1]; show 0 * 1024 ≤ _ ∧ _ < 0 * 1024 + 1024; omega

/-- The kernel's idealization computes the idealized reference. -/
theorem algebraic : algebraic_ProjInDxIdeal_ProjInDxRefIdeal := by
  intro m g m' g' _ hagree
  refine ⟨fun c => result m c, ?_, ?_⟩
  · exact (θ_run _ _ _).mono (fun r h c => by
      obtain ⟨h0, h⟩ := h c
      exact ⟨h0.trans (final m c), h⟩) (Value.run_blocks m g)
  · refine (θ_run _ _ _).mono (fun r h c => ?_) (Cert.ProjInDxRefIdeal.Value.run m' g')
    obtain ⟨h0, h⟩ := h c
    obtain ⟨a0, a1, a2⟩ := hagree c
    refine ⟨h0.trans ?_, h⟩
    rw [a0, a1, a2]
    funext i
    exact ref_apply _ _ _ i

end Cert.Proof.ProjInDx
-- ==== Proof.lean ====
/-
  The proof of `Cert.Claim`: that every program runs, ends with its arguments unchanged and its semaphores at zero; that
  the idealized programs are the printed ones; and that the idealized kernels leave what the idealized references leave.
  The values are proved one call to a module, beside this file in Proof/.
-/
module

public import Idealize.ShloMosaic.Adequacy
public import Idealize.ShloMosaic.Init
public import proofs.«01_k».proof.Defs
public import proofs.«01_k».proof.Proof.AdamW
public import proofs.«01_k».proof.Proof.AdamWGate
public import proofs.«01_k».proof.Proof.Gen.AdamW
public import proofs.«01_k».proof.Proof.Gen.AdamW.Frame
public import proofs.«01_k».proof.Proof.Gen.AdamW.Launch
public import proofs.«01_k».proof.Proof.Gen.AdamW.Points
public import proofs.«01_k».proof.Proof.Gen.AdamW.Skeleton
public import proofs.«01_k».proof.Proof.Gen.AdamWGateIdeal.Value
public import proofs.«01_k».proof.Proof.Gen.AdamWGateRefIdeal.Read
public import proofs.«01_k».proof.Proof.Gen.AdamWGateRefIdeal.Run
public import proofs.«01_k».proof.Proof.Gen.AdamWIdeal
public import proofs.«01_k».proof.Proof.Gen.AdamWIdeal.Frame
public import proofs.«01_k».proof.Proof.Gen.AdamWIdeal.Launch
public import proofs.«01_k».proof.Proof.Gen.AdamWIdeal.Points
public import proofs.«01_k».proof.Proof.Gen.AdamWIdeal.Skeleton
public import proofs.«01_k».proof.Proof.Gen.AdamWIdeal.Value
public import proofs.«01_k».proof.Proof.Gen.AdamWRefIdeal
public import proofs.«01_k».proof.Proof.Gen.AdamWRefIdeal.Read
public import proofs.«01_k».proof.Proof.Gen.AdamWRefIdeal.Run
public import proofs.«01_k».proof.Proof.Gen.GradWBranch
public import proofs.«01_k».proof.Proof.Gen.GradWBranch.Frame
public import proofs.«01_k».proof.Proof.Gen.GradWBranch.Launch
public import proofs.«01_k».proof.Proof.Gen.GradWBranch.Points
public import proofs.«01_k».proof.Proof.Gen.GradWBranch.Skeleton
public import proofs.«01_k».proof.Proof.Gen.GradWBranchIdeal
public import proofs.«01_k».proof.Proof.Gen.GradWBranchIdeal.Frame
public import proofs.«01_k».proof.Proof.Gen.GradWBranchIdeal.Launch
public import proofs.«01_k».proof.Proof.Gen.GradWBranchIdeal.Points
public import proofs.«01_k».proof.Proof.Gen.GradWBranchIdeal.Skeleton
public import proofs.«01_k».proof.Proof.Gen.GradWBranchIdeal.Value
public import proofs.«01_k».proof.Proof.Gen.GradWBranchRefIdeal
public import proofs.«01_k».proof.Proof.Gen.GradWBranchRefIdeal.Read
public import proofs.«01_k».proof.Proof.Gen.GradWBranchRefIdeal.Run
public import proofs.«01_k».proof.Proof.Gen.GradWDown
public import proofs.«01_k».proof.Proof.Gen.GradWDown.Frame
public import proofs.«01_k».proof.Proof.Gen.GradWDown.Launch
public import proofs.«01_k».proof.Proof.Gen.GradWDown.Points
public import proofs.«01_k».proof.Proof.Gen.GradWDown.Skeleton
public import proofs.«01_k».proof.Proof.Gen.GradWDownIdeal
public import proofs.«01_k».proof.Proof.Gen.GradWDownIdeal.Frame
public import proofs.«01_k».proof.Proof.Gen.GradWDownIdeal.Launch
public import proofs.«01_k».proof.Proof.Gen.GradWDownIdeal.Points
public import proofs.«01_k».proof.Proof.Gen.GradWDownIdeal.Skeleton
public import proofs.«01_k».proof.Proof.Gen.GradWDownIdeal.Value
public import proofs.«01_k».proof.Proof.Gen.GradWDownRefIdeal
public import proofs.«01_k».proof.Proof.Gen.GradWDownRefIdeal.Read
public import proofs.«01_k».proof.Proof.Gen.GradWDownRefIdeal.Run
public import proofs.«01_k».proof.Proof.Gen.GradWIn
public import proofs.«01_k».proof.Proof.Gen.GradWIn.Frame
public import proofs.«01_k».proof.Proof.Gen.GradWIn.Launch
public import proofs.«01_k».proof.Proof.Gen.GradWIn.Points
public import proofs.«01_k».proof.Proof.Gen.GradWIn.Skeleton
public import proofs.«01_k».proof.Proof.Gen.GradWInIdeal
public import proofs.«01_k».proof.Proof.Gen.GradWInIdeal.Frame
public import proofs.«01_k».proof.Proof.Gen.GradWInIdeal.Launch
public import proofs.«01_k».proof.Proof.Gen.GradWInIdeal.Points
public import proofs.«01_k».proof.Proof.Gen.GradWInIdeal.Skeleton
public import proofs.«01_k».proof.Proof.Gen.GradWInIdeal.Value
public import proofs.«01_k».proof.Proof.Gen.GradWInRefIdeal
public import proofs.«01_k».proof.Proof.Gen.GradWInRefIdeal.Read
public import proofs.«01_k».proof.Proof.Gen.GradWInRefIdeal.Run
public import proofs.«01_k».proof.Proof.Gen.GradWO
public import proofs.«01_k».proof.Proof.Gen.GradWO.Frame
public import proofs.«01_k».proof.Proof.Gen.GradWO.Launch
public import proofs.«01_k».proof.Proof.Gen.GradWO.Points
public import proofs.«01_k».proof.Proof.Gen.GradWO.Skeleton
public import proofs.«01_k».proof.Proof.Gen.GradWOIdeal
public import proofs.«01_k».proof.Proof.Gen.GradWOIdeal.Frame
public import proofs.«01_k».proof.Proof.Gen.GradWOIdeal.Launch
public import proofs.«01_k».proof.Proof.Gen.GradWOIdeal.Points
public import proofs.«01_k».proof.Proof.Gen.GradWOIdeal.Skeleton
public import proofs.«01_k».proof.Proof.Gen.GradWOIdeal.Value
public import proofs.«01_k».proof.Proof.Gen.GradWORefIdeal
public import proofs.«01_k».proof.Proof.Gen.GradWORefIdeal.Read
public import proofs.«01_k».proof.Proof.Gen.GradWORefIdeal.Run
public import proofs.«01_k».proof.Proof.Gen.GradWUp
public import proofs.«01_k».proof.Proof.Gen.GradWUp.Frame
public import proofs.«01_k».proof.Proof.Gen.GradWUp.Launch
public import proofs.«01_k».proof.Proof.Gen.GradWUp.Points
public import proofs.«01_k».proof.Proof.Gen.GradWUp.Skeleton
public import proofs.«01_k».proof.Proof.Gen.GradWUpIdeal
public import proofs.«01_k».proof.Proof.Gen.GradWUpIdeal.Frame
public import proofs.«01_k».proof.Proof.Gen.GradWUpIdeal.Launch
public import proofs.«01_k».proof.Proof.Gen.GradWUpIdeal.Points
public import proofs.«01_k».proof.Proof.Gen.GradWUpIdeal.Skeleton
public import proofs.«01_k».proof.Proof.Gen.GradWUpIdeal.Value
public import proofs.«01_k».proof.Proof.Gen.GradWUpRefIdeal
public import proofs.«01_k».proof.Proof.Gen.GradWUpRefIdeal.Read
public import proofs.«01_k».proof.Proof.Gen.GradWUpRefIdeal.Run
public import proofs.«01_k».proof.Proof.Gen.LnBwd
public import proofs.«01_k».proof.Proof.Gen.LnBwd.Frame
public import proofs.«01_k».proof.Proof.Gen.LnBwd.Launch
public import proofs.«01_k».proof.Proof.Gen.LnBwd.Points
public import proofs.«01_k».proof.Proof.Gen.LnBwd.Skeleton
public import proofs.«01_k».proof.Proof.Gen.LnBwdIdeal
public import proofs.«01_k».proof.Proof.Gen.LnBwdIdeal.Frame
public import proofs.«01_k».proof.Proof.Gen.LnBwdIdeal.Launch
public import proofs.«01_k».proof.Proof.Gen.LnBwdIdeal.Points
public import proofs.«01_k».proof.Proof.Gen.LnBwdIdeal.Skeleton
public import proofs.«01_k».proof.Proof.Gen.LnBwdIdeal.Value
public import proofs.«01_k».proof.Proof.Gen.LnBwdRefIdeal
public import proofs.«01_k».proof.Proof.Gen.LnBwdRefIdeal.Read
public import proofs.«01_k».proof.Proof.Gen.LnBwdRefIdeal.Run
public import proofs.«01_k».proof.Proof.Gen.MemGrads
public import proofs.«01_k».proof.Proof.Gen.MemGrads.Frame
public import proofs.«01_k».proof.Proof.Gen.MemGrads.Launch
public import proofs.«01_k».proof.Proof.Gen.MemGrads.Points
public import proofs.«01_k».proof.Proof.Gen.MemGrads.Skeleton
public import proofs.«01_k».proof.Proof.Gen.MemGradsIdeal
public import proofs.«01_k».proof.Proof.Gen.MemGradsIdeal.Frame
public import proofs.«01_k».proof.Proof.Gen.MemGradsIdeal.Launch
public import proofs.«01_k».proof.Proof.Gen.MemGradsIdeal.Points
public import proofs.«01_k».proof.Proof.Gen.MemGradsIdeal.Skeleton
public import proofs.«01_k».proof.Proof.Gen.MemGradsIdeal.Value
public import proofs.«01_k».proof.Proof.Gen.MemGradsRefIdeal
public import proofs.«01_k».proof.Proof.Gen.MemGradsRefIdeal.Read
public import proofs.«01_k».proof.Proof.Gen.MemGradsRefIdeal.Run
public import proofs.«01_k».proof.Proof.Gen.MemProj
public import proofs.«01_k».proof.Proof.Gen.MemProj.Frame
public import proofs.«01_k».proof.Proof.Gen.MemProj.Launch
public import proofs.«01_k».proof.Proof.Gen.MemProj.Points
public import proofs.«01_k».proof.Proof.Gen.MemProj.Skeleton
public import proofs.«01_k».proof.Proof.Gen.MemProjIdeal
public import proofs.«01_k».proof.Proof.Gen.MemProjIdeal.Frame
public import proofs.«01_k».proof.Proof.Gen.MemProjIdeal.Launch
public import proofs.«01_k».proof.Proof.Gen.MemProjIdeal.Points
public import proofs.«01_k».proof.Proof.Gen.MemProjIdeal.Skeleton
public import proofs.«01_k».proof.Proof.Gen.MemProjIdeal.Value
public import proofs.«01_k».proof.Proof.Gen.MemProjRefIdeal
public import proofs.«01_k».proof.Proof.Gen.MemProjRefIdeal.Read
public import proofs.«01_k».proof.Proof.Gen.MemProjRefIdeal.Run
public import proofs.«01_k».proof.Proof.Gen.MergeBwd
public import proofs.«01_k».proof.Proof.Gen.MergeBwd.Frame
public import proofs.«01_k».proof.Proof.Gen.MergeBwd.Launch
public import proofs.«01_k».proof.Proof.Gen.MergeBwd.Points
public import proofs.«01_k».proof.Proof.Gen.MergeBwd.Skeleton
public import proofs.«01_k».proof.Proof.Gen.MergeBwdIdeal
public import proofs.«01_k».proof.Proof.Gen.MergeBwdIdeal.Frame
public import proofs.«01_k».proof.Proof.Gen.MergeBwdIdeal.Launch
public import proofs.«01_k».proof.Proof.Gen.MergeBwdIdeal.Points
public import proofs.«01_k».proof.Proof.Gen.MergeBwdIdeal.Skeleton
public import proofs.«01_k».proof.Proof.Gen.MergeBwdIdeal.Value
public import proofs.«01_k».proof.Proof.Gen.MergeBwdRefIdeal
public import proofs.«01_k».proof.Proof.Gen.MergeBwdRefIdeal.Read
public import proofs.«01_k».proof.Proof.Gen.MergeBwdRefIdeal.Run
public import proofs.«01_k».proof.Proof.Gen.MergeFwd
public import proofs.«01_k».proof.Proof.Gen.MergeFwd.Frame
public import proofs.«01_k».proof.Proof.Gen.MergeFwd.Launch
public import proofs.«01_k».proof.Proof.Gen.MergeFwd.Points
public import proofs.«01_k».proof.Proof.Gen.MergeFwd.Skeleton
public import proofs.«01_k».proof.Proof.Gen.MergeFwdIdeal
public import proofs.«01_k».proof.Proof.Gen.MergeFwdIdeal.Frame
public import proofs.«01_k».proof.Proof.Gen.MergeFwdIdeal.Launch
public import proofs.«01_k».proof.Proof.Gen.MergeFwdIdeal.Points
public import proofs.«01_k».proof.Proof.Gen.MergeFwdIdeal.Skeleton
public import proofs.«01_k».proof.Proof.Gen.MergeFwdIdeal.Value
public import proofs.«01_k».proof.Proof.Gen.MergeFwdRefIdeal
public import proofs.«01_k».proof.Proof.Gen.MergeFwdRefIdeal.Read
public import proofs.«01_k».proof.Proof.Gen.MergeFwdRefIdeal.Run
public import proofs.«01_k».proof.Proof.Gen.MixerFwd
public import proofs.«01_k».proof.Proof.Gen.MixerFwd.Frame
public import proofs.«01_k».proof.Proof.Gen.MixerFwd.Launch
public import proofs.«01_k».proof.Proof.Gen.MixerFwd.Points
public import proofs.«01_k».proof.Proof.Gen.MixerFwd.Skeleton
public import proofs.«01_k».proof.Proof.Gen.MixerFwdIdeal
public import proofs.«01_k».proof.Proof.Gen.MixerFwdIdeal.Frame
public import proofs.«01_k».proof.Proof.Gen.MixerFwdIdeal.Launch
public import proofs.«01_k».proof.Proof.Gen.MixerFwdIdeal.Points
public import proofs.«01_k».proof.Proof.Gen.MixerFwdIdeal.Skeleton
public import proofs.«01_k».proof.Proof.Gen.MixerFwdIdeal.Value
public import proofs.«01_k».proof.Proof.Gen.MixerFwdRefIdeal
public import proofs.«01_k».proof.Proof.Gen.MixerFwdRefIdeal.Run
public import proofs.«01_k».proof.Proof.Gen.MixerFwdRefIdeal.Step
public import proofs.«01_k».proof.Proof.Gen.MlpDa
public import proofs.«01_k».proof.Proof.Gen.MlpDa.Frame
public import proofs.«01_k».proof.Proof.Gen.MlpDa.Launch
public import proofs.«01_k».proof.Proof.Gen.MlpDa.Points
public import proofs.«01_k».proof.Proof.Gen.MlpDa.Skeleton
public import proofs.«01_k».proof.Proof.Gen.MlpDaIdeal
public import proofs.«01_k».proof.Proof.Gen.MlpDaIdeal.Frame
public import proofs.«01_k».proof.Proof.Gen.MlpDaIdeal.Launch
public import proofs.«01_k».proof.Proof.Gen.MlpDaIdeal.Points
public import proofs.«01_k».proof.Proof.Gen.MlpDaIdeal.Skeleton
public import proofs.«01_k».proof.Proof.Gen.MlpDaIdeal.Value
public import proofs.«01_k».proof.Proof.Gen.MlpDaRefIdeal
public import proofs.«01_k».proof.Proof.Gen.MlpDaRefIdeal.Read
public import proofs.«01_k».proof.Proof.Gen.MlpDaRefIdeal.Run
public import proofs.«01_k».proof.Proof.Gen.MlpDx
public import proofs.«01_k».proof.Proof.Gen.MlpDx.Frame
public import proofs.«01_k».proof.Proof.Gen.MlpDx.Launch
public import proofs.«01_k».proof.Proof.Gen.MlpDx.Points
public import proofs.«01_k».proof.Proof.Gen.MlpDx.Skeleton
public import proofs.«01_k».proof.Proof.Gen.MlpDxIdeal
public import proofs.«01_k».proof.Proof.Gen.MlpDxIdeal.Frame
public import proofs.«01_k».proof.Proof.Gen.MlpDxIdeal.Launch
public import proofs.«01_k».proof.Proof.Gen.MlpDxIdeal.Points
public import proofs.«01_k».proof.Proof.Gen.MlpDxIdeal.Skeleton
public import proofs.«01_k».proof.Proof.Gen.MlpDxIdeal.Value
public import proofs.«01_k».proof.Proof.Gen.MlpDxRefIdeal
public import proofs.«01_k».proof.Proof.Gen.MlpDxRefIdeal.Read
public import proofs.«01_k».proof.Proof.Gen.MlpDxRefIdeal.Run
public import proofs.«01_k».proof.Proof.Gen.MlpFwd
public import proofs.«01_k».proof.Proof.Gen.MlpFwd.Frame
public import proofs.«01_k».proof.Proof.Gen.MlpFwd.Launch
public import proofs.«01_k».proof.Proof.Gen.MlpFwd.Points
public import proofs.«01_k».proof.Proof.Gen.MlpFwd.Skeleton
public import proofs.«01_k».proof.Proof.Gen.MlpFwdIdeal
public import proofs.«01_k».proof.Proof.Gen.MlpFwdIdeal.Frame
public import proofs.«01_k».proof.Proof.Gen.MlpFwdIdeal.Launch
public import proofs.«01_k».proof.Proof.Gen.MlpFwdIdeal.Points
public import proofs.«01_k».proof.Proof.Gen.MlpFwdIdeal.Skeleton
public import proofs.«01_k».proof.Proof.Gen.MlpFwdIdeal.Value
public import proofs.«01_k».proof.Proof.Gen.MlpFwdRefIdeal
public import proofs.«01_k».proof.Proof.Gen.MlpFwdRefIdeal.Read
public import proofs.«01_k».proof.Proof.Gen.MlpFwdRefIdeal.Run
public import proofs.«01_k».proof.Proof.Gen.Pre_finite
public import proofs.«01_k».proof.Proof.Gen.ProjIn
public import proofs.«01_k».proof.Proof.Gen.ProjIn.Frame
public import proofs.«01_k».proof.Proof.Gen.ProjIn.Launch
public import proofs.«01_k».proof.Proof.Gen.ProjIn.Points
public import proofs.«01_k».proof.Proof.Gen.ProjIn.Skeleton
public import proofs.«01_k».proof.Proof.Gen.ProjInDx
public import proofs.«01_k».proof.Proof.Gen.ProjInDx.Frame
public import proofs.«01_k».proof.Proof.Gen.ProjInDx.Launch
public import proofs.«01_k».proof.Proof.Gen.ProjInDx.Points
public import proofs.«01_k».proof.Proof.Gen.ProjInDx.Skeleton
public import proofs.«01_k».proof.Proof.Gen.ProjInDxIdeal
public import proofs.«01_k».proof.Proof.Gen.ProjInDxIdeal.Frame
public import proofs.«01_k».proof.Proof.Gen.ProjInDxIdeal.Launch
public import proofs.«01_k».proof.Proof.Gen.ProjInDxIdeal.Points
public import proofs.«01_k».proof.Proof.Gen.ProjInDxIdeal.Skeleton
public import proofs.«01_k».proof.Proof.Gen.ProjInDxIdeal.Value
public import proofs.«01_k».proof.Proof.Gen.ProjInDxRefIdeal
public import proofs.«01_k».proof.Proof.Gen.ProjInDxRefIdeal.Read
public import proofs.«01_k».proof.Proof.Gen.ProjInDxRefIdeal.Run
public import proofs.«01_k».proof.Proof.Gen.ProjInIdeal
public import proofs.«01_k».proof.Proof.Gen.ProjInIdeal.Frame
public import proofs.«01_k».proof.Proof.Gen.ProjInIdeal.Launch
public import proofs.«01_k».proof.Proof.Gen.ProjInIdeal.Points
public import proofs.«01_k».proof.Proof.Gen.ProjInIdeal.Skeleton
public import proofs.«01_k».proof.Proof.Gen.ProjInIdeal.Value
public import proofs.«01_k».proof.Proof.Gen.ProjInRefIdeal
public import proofs.«01_k».proof.Proof.Gen.ProjInRefIdeal.Read
public import proofs.«01_k».proof.Proof.Gen.ProjInRefIdeal.Run
public import proofs.«01_k».proof.Proof.GradWBranch
public import proofs.«01_k».proof.Proof.GradWDown
public import proofs.«01_k».proof.Proof.GradWIn
public import proofs.«01_k».proof.Proof.GradWO
public import proofs.«01_k».proof.Proof.GradWUp
public import proofs.«01_k».proof.Proof.LnBwd
public import proofs.«01_k».proof.Proof.MemGrads
public import proofs.«01_k».proof.Proof.MemProj
public import proofs.«01_k».proof.Proof.MergeBwd
public import proofs.«01_k».proof.Proof.MergeFwd
public import proofs.«01_k».proof.Proof.MixerFwd
public import proofs.«01_k».proof.Proof.MlpDa
public import proofs.«01_k».proof.Proof.MlpDx
public import proofs.«01_k».proof.Proof.MlpFwd
public import proofs.«01_k».proof.Proof.ProjIn
public import proofs.«01_k».proof.Proof.ProjInDx
public import proofs.«01_k».proof.Proof.Gen.AdamWGate
public import proofs.«01_k».proof.Proof.Gen.AdamWGate.Frame
public import proofs.«01_k».proof.Proof.Gen.AdamWGate.Launch
public import proofs.«01_k».proof.Proof.Gen.AdamWGate.Points
public import proofs.«01_k».proof.Proof.Gen.AdamWGate.Skeleton
public import proofs.«01_k».proof.Proof.Gen.AdamWGateIdeal
public import proofs.«01_k».proof.Proof.Gen.AdamWGateIdeal.Frame
public import proofs.«01_k».proof.Proof.Gen.AdamWGateIdeal.Launch
public import proofs.«01_k».proof.Proof.Gen.AdamWGateIdeal.Points
public import proofs.«01_k».proof.Proof.Gen.AdamWGateIdeal.Skeleton
public import proofs.«01_k».proof.Proof.Gen.AdamWGateRefIdeal

@[expose] public section

noncomputable section

namespace Cert.Proof

open Idealize.ShloMosaic Idealize.SL.Sem

/-- The reference runs, its arguments are unchanged, and it has no semaphore. -/
theorem frame_MlpDaRefIdeal : Cert.quiescent_MlpDaRefIdeal := fun m ρ _ =>
  (θ_run Cert.MlpDaRefIdeal.defs _ _).mono (fun r h => ⟨fun c => (h c).2, sem_eq_zero_of_no_sems (by decide) r.2⟩) (Cert.MlpDaRefIdeal.Value.run m ρ)

/-- The reference runs, its arguments are unchanged, and it has no semaphore. -/
theorem frame_GradWDownRefIdeal : Cert.quiescent_GradWDownRefIdeal := fun m ρ _ =>
  (θ_run Cert.GradWDownRefIdeal.defs _ _).mono (fun r h => ⟨fun c => (h c).2, sem_eq_zero_of_no_sems (by decide) r.2⟩) (Cert.GradWDownRefIdeal.Value.run m ρ)

/-- The reference runs, its arguments are unchanged, and it has no semaphore. -/
theorem frame_GradWUpRefIdeal : Cert.quiescent_GradWUpRefIdeal := fun m ρ _ =>
  (θ_run Cert.GradWUpRefIdeal.defs _ _).mono (fun r h => ⟨fun c => (h c).2, sem_eq_zero_of_no_sems (by decide) r.2⟩) (Cert.GradWUpRefIdeal.Value.run m ρ)

/-- The reference runs, its arguments are unchanged, and it has no semaphore. -/
theorem frame_MlpDxRefIdeal : Cert.quiescent_MlpDxRefIdeal := fun m ρ _ =>
  (θ_run Cert.MlpDxRefIdeal.defs _ _).mono (fun r h => ⟨fun c => (h c).2, sem_eq_zero_of_no_sems (by decide) r.2⟩) (Cert.MlpDxRefIdeal.Value.run m ρ)

/-- The reference runs, its arguments are unchanged, and it has no semaphore. -/
theorem frame_GradWORefIdeal : Cert.quiescent_GradWORefIdeal := fun m ρ _ =>
  (θ_run Cert.GradWORefIdeal.defs _ _).mono (fun r h => ⟨fun c => (h c).2, sem_eq_zero_of_no_sems (by decide) r.2⟩) (Cert.GradWORefIdeal.Value.run m ρ)

/-- The reference runs, its arguments are unchanged, and it has no semaphore. -/
theorem frame_GradWBranchRefIdeal : Cert.quiescent_GradWBranchRefIdeal := fun m ρ _ =>
  (θ_run Cert.GradWBranchRefIdeal.defs _ _).mono (fun r h => ⟨fun c => (h c).2, sem_eq_zero_of_no_sems (by decide) r.2⟩) (Cert.GradWBranchRefIdeal.Value.run m ρ)

/-- The reference runs, its arguments are unchanged, and it has no semaphore. -/
theorem frame_GradWInRefIdeal : Cert.quiescent_GradWInRefIdeal := fun m ρ _ =>
  (θ_run Cert.GradWInRefIdeal.defs _ _).mono (fun r h => ⟨fun c => (h c).2, sem_eq_zero_of_no_sems (by decide) r.2⟩) (Cert.GradWInRefIdeal.Value.run m ρ)

/-- The reference runs, its arguments are unchanged, and it has no semaphore. -/
theorem frame_ProjInDxRefIdeal : Cert.quiescent_ProjInDxRefIdeal := fun m ρ _ =>
  (θ_run Cert.ProjInDxRefIdeal.defs _ _).mono (fun r h => ⟨fun c => (h c).2, sem_eq_zero_of_no_sems (by decide) r.2⟩) (Cert.ProjInDxRefIdeal.Value.run m ρ)

/-- The reference runs, its arguments are unchanged, and it has no semaphore. -/
theorem frame_ProjInRefIdeal : Cert.quiescent_ProjInRefIdeal := fun m ρ _ =>
  (θ_run Cert.ProjInRefIdeal.defs _ _).mono (fun r h => ⟨fun c => (h c).2, sem_eq_zero_of_no_sems (by decide) r.2⟩) (Cert.ProjInRefIdeal.Value.run m ρ)

/-- The reference runs, its arguments are unchanged, and it has no semaphore. -/
theorem frame_MergeFwdRefIdeal : Cert.quiescent_MergeFwdRefIdeal := fun m ρ _ =>
  (θ_run Cert.MergeFwdRefIdeal.defs _ _).mono (fun r h => ⟨fun c => (h c).2.2.2.2, sem_eq_zero_of_no_sems (by decide) r.2⟩) (Cert.MergeFwdRefIdeal.Value.run m ρ)

/-- The reference runs, its arguments are unchanged, and it has no semaphore. -/
theorem frame_MlpFwdRefIdeal : Cert.quiescent_MlpFwdRefIdeal := fun m ρ _ =>
  (θ_run Cert.MlpFwdRefIdeal.defs _ _).mono (fun r h => ⟨fun c => (h c).2.2.2.2.2, sem_eq_zero_of_no_sems (by decide) r.2⟩) (Cert.MlpFwdRefIdeal.Value.run m ρ)

/-- The reference runs, its arguments are unchanged, and it has no semaphore. -/
theorem frame_MemProjRefIdeal : Cert.quiescent_MemProjRefIdeal := fun m ρ _ =>
  (θ_run Cert.MemProjRefIdeal.defs _ _).mono (fun r h => ⟨fun c => (h c).2.2, sem_eq_zero_of_no_sems (by decide) r.2⟩) (Cert.MemProjRefIdeal.Value.run m ρ)

/-- The reference runs, its arguments are unchanged, and it has no semaphore. -/
theorem frame_MemGradsRefIdeal : Cert.quiescent_MemGradsRefIdeal := fun m ρ _ =>
  (θ_run Cert.MemGradsRefIdeal.defs _ _).mono (fun r h => ⟨fun c => (h c).2.2, sem_eq_zero_of_no_sems (by decide) r.2⟩) (Cert.MemGradsRefIdeal.Value.run m ρ)

/-- The reference runs, its arguments are unchanged, and it has no semaphore. -/
theorem frame_MergeBwdRefIdeal : Cert.quiescent_MergeBwdRefIdeal := fun m ρ _ =>
  (θ_run Cert.MergeBwdRefIdeal.defs _ _).mono (fun r h => ⟨fun c => (h c).2.2.2.2, sem_eq_zero_of_no_sems (by decide) r.2⟩) (Cert.MergeBwdRefIdeal.Value.run m ρ)

/-- The reference runs, its arguments are unchanged, and it has no semaphore. -/
theorem frame_MixerFwdRefIdeal : Cert.quiescent_MixerFwdRefIdeal := fun m ρ _ =>
  (θ_run Cert.MixerFwdRefIdeal.defs _ _).mono (fun r h => ⟨fun c => (h c).2.2.2, sem_eq_zero_of_no_sems (by decide) r.2⟩) (Cert.MixerFwdRefIdeal.Value.run m ρ)

/-- The reference runs, its arguments are unchanged, and it has no semaphore. -/
theorem frame_AdamWRefIdeal : Cert.quiescent_AdamWRefIdeal := fun m ρ _ =>
  (θ_run Cert.AdamWRefIdeal.defs _ _).mono (fun r h => ⟨fun c => (h c).2.2.2.2, sem_eq_zero_of_no_sems (by decide) r.2⟩) (Cert.AdamWRefIdeal.Value.run m ρ)

/-- The reference runs, its arguments are unchanged, and it has no semaphore. -/
theorem frame_LnBwdRefIdeal : Cert.quiescent_LnBwdRefIdeal := fun m ρ _ =>
  (θ_run Cert.LnBwdRefIdeal.defs _ _).mono (fun r h => ⟨fun c => (h c).2.2.2.2, sem_eq_zero_of_no_sems (by decide) r.2⟩) (Cert.LnBwdRefIdeal.Value.run m ρ)

/-- The reference runs, its arguments are unchanged, and it has no semaphore. -/
theorem frame_LnBwdRefIdeal_pre_finite : Cert.quiescent_LnBwdRefIdeal_pre_finite := fun m ρ _ =>
  (θ_run Cert.LnBwdRefIdeal.defs _ _).mono (fun r h => ⟨fun c => (h c).2.2.2.2, sem_eq_zero_of_no_sems (by decide) r.2⟩) (Cert.LnBwdRefIdeal.Value.run m ρ)

/-- The reference runs, its arguments are unchanged, and it has no semaphore. -/
theorem frame_AdamWGateRefIdeal : Cert.quiescent_AdamWGateRefIdeal := fun m ρ _ =>
  (θ_run Cert.AdamWGateRefIdeal.defs _ _).mono (fun r h => ⟨fun c => (h c).2.2.2.2, sem_eq_zero_of_no_sems (by decide) r.2⟩) (Cert.AdamWGateRefIdeal.Value.run m ρ)

theorem claim : Cert.Claim :=
  ⟨Cert.MlpDa.Gen.facts, Cert.MlpDaIdeal.Gen.facts, Cert.MlpDaRefIdeal.Gen.facts, Cert.GradWDown.Gen.facts, Cert.GradWDownIdeal.Gen.facts, Cert.GradWDownRefIdeal.Gen.facts, Cert.GradWUp.Gen.facts, Cert.GradWUpIdeal.Gen.facts, Cert.GradWUpRefIdeal.Gen.facts, Cert.MlpDx.Gen.facts, Cert.MlpDxIdeal.Gen.facts, Cert.MlpDxRefIdeal.Gen.facts, Cert.GradWO.Gen.facts, Cert.GradWOIdeal.Gen.facts, Cert.GradWORefIdeal.Gen.facts, Cert.GradWBranch.Gen.facts, Cert.GradWBranchIdeal.Gen.facts, Cert.GradWBranchRefIdeal.Gen.facts, Cert.GradWIn.Gen.facts, Cert.GradWInIdeal.Gen.facts, Cert.GradWInRefIdeal.Gen.facts, Cert.ProjInDx.Gen.facts, Cert.ProjInDxIdeal.Gen.facts, Cert.ProjInDxRefIdeal.Gen.facts, Cert.ProjIn.Gen.facts, Cert.ProjInIdeal.Gen.facts, Cert.ProjInRefIdeal.Gen.facts, Cert.MergeFwd.Gen.facts, Cert.MergeFwdIdeal.Gen.facts, Cert.MergeFwdRefIdeal.Gen.facts, Cert.MlpFwd.Gen.facts, Cert.MlpFwdIdeal.Gen.facts, Cert.MlpFwdRefIdeal.Gen.facts, Cert.MemProj.Gen.facts, Cert.MemProjIdeal.Gen.facts, Cert.MemProjRefIdeal.Gen.facts, Cert.MemGrads.Gen.facts, Cert.MemGradsIdeal.Gen.facts, Cert.MemGradsRefIdeal.Gen.facts, Cert.MergeBwd.Gen.facts, Cert.MergeBwdIdeal.Gen.facts, Cert.MergeBwdRefIdeal.Gen.facts, Cert.MixerFwd.Gen.facts, Cert.MixerFwdIdeal.Gen.facts, Cert.MixerFwdRefIdeal.Gen.facts, Cert.AdamW.Gen.facts, Cert.AdamWIdeal.Gen.facts, Cert.AdamWRefIdeal.Gen.facts, Cert.LnBwd.Gen.facts, Cert.LnBwdIdeal.Gen.facts, Cert.LnBwdRefIdeal.Gen.facts, Cert.AdamWGate.Gen.facts, Cert.AdamWGateIdeal.Gen.facts, Cert.AdamWGateRefIdeal.Gen.facts, Cert.Pre_finite.Gen.facts,
    fun m ρ _ => Cert.MlpDa.Gen.frame m ρ,
    fun m ρ _ => Cert.MlpDaIdeal.Gen.frame m ρ,
    frame_MlpDaRefIdeal,
    fun m ρ _ => Cert.GradWDown.Gen.frame m ρ,
    fun m ρ _ => Cert.GradWDownIdeal.Gen.frame m ρ,
    frame_GradWDownRefIdeal,
    fun m ρ _ => Cert.GradWUp.Gen.frame m ρ,
    fun m ρ _ => Cert.GradWUpIdeal.Gen.frame m ρ,
    frame_GradWUpRefIdeal,
    fun m ρ _ => Cert.MlpDx.Gen.frame m ρ,
    fun m ρ _ => Cert.MlpDxIdeal.Gen.frame m ρ,
    frame_MlpDxRefIdeal,
    fun m ρ _ => Cert.GradWO.Gen.frame m ρ,
    fun m ρ _ => Cert.GradWOIdeal.Gen.frame m ρ,
    frame_GradWORefIdeal,
    fun m ρ _ => Cert.GradWBranch.Gen.frame m ρ,
    fun m ρ _ => Cert.GradWBranchIdeal.Gen.frame m ρ,
    frame_GradWBranchRefIdeal,
    fun m ρ _ => Cert.GradWIn.Gen.frame m ρ,
    fun m ρ _ => Cert.GradWInIdeal.Gen.frame m ρ,
    frame_GradWInRefIdeal,
    fun m ρ _ => Cert.ProjInDx.Gen.frame m ρ,
    fun m ρ _ => Cert.ProjInDxIdeal.Gen.frame m ρ,
    frame_ProjInDxRefIdeal,
    fun m ρ _ => Cert.ProjIn.Gen.frame m ρ,
    fun m ρ _ => Cert.ProjInIdeal.Gen.frame m ρ,
    frame_ProjInRefIdeal,
    fun m ρ _ => Cert.MergeFwd.Gen.frame m ρ,
    fun m ρ _ => Cert.MergeFwdIdeal.Gen.frame m ρ,
    frame_MergeFwdRefIdeal,
    fun m ρ _ => Cert.MlpFwd.Gen.frame m ρ,
    fun m ρ _ => Cert.MlpFwdIdeal.Gen.frame m ρ,
    frame_MlpFwdRefIdeal,
    fun m ρ _ => Cert.MemProj.Gen.frame m ρ,
    fun m ρ _ => Cert.MemProjIdeal.Gen.frame m ρ,
    frame_MemProjRefIdeal,
    fun m ρ _ => Cert.MemGrads.Gen.frame m ρ,
    fun m ρ _ => Cert.MemGradsIdeal.Gen.frame m ρ,
    frame_MemGradsRefIdeal,
    fun m ρ _ => Cert.MergeBwd.Gen.frame m ρ,
    fun m ρ _ => Cert.MergeBwdIdeal.Gen.frame m ρ,
    frame_MergeBwdRefIdeal,
    fun m ρ _ => Cert.MixerFwd.Gen.frame m ρ,
    fun m ρ _ => Cert.MixerFwdIdeal.Gen.frame m ρ,
    frame_MixerFwdRefIdeal,
    fun m ρ _ => Cert.AdamW.Gen.frame m ρ,
    fun m ρ _ => Cert.AdamWIdeal.Gen.frame m ρ,
    frame_AdamWRefIdeal,
    fun m ρ _ => Cert.LnBwd.Gen.frame m ρ,
    fun m ρ _ => Cert.LnBwdIdeal.Gen.frame m ρ,
    fun m ρ _ => Cert.LnBwdIdeal.Gen.frame m ρ,
    frame_LnBwdRefIdeal,
    frame_LnBwdRefIdeal_pre_finite,
    fun m ρ _ => Cert.AdamWGate.Gen.frame m ρ,
    fun m ρ _ => Cert.AdamWGateIdeal.Gen.frame m ρ,
    frame_AdamWGateRefIdeal,
    trivial,
    Cert.Proof.MlpDa.algebraic,
    trivial,
    Cert.Proof.GradWDown.algebraic,
    trivial,
    Cert.Proof.GradWUp.algebraic,
    trivial,
    Cert.Proof.MlpDx.algebraic,
    trivial,
    Cert.Proof.GradWO.algebraic,
    trivial,
    Cert.Proof.GradWBranch.algebraic,
    trivial,
    Cert.Proof.GradWIn.algebraic,
    trivial,
    Cert.Proof.ProjInDx.algebraic,
    trivial,
    Cert.Proof.ProjIn.algebraic,
    trivial,
    Cert.Proof.MergeFwd.algebraic,
    trivial,
    Cert.Proof.MlpFwd.algebraic,
    trivial,
    Cert.Proof.MemProj.algebraic,
    trivial,
    Cert.Proof.MemGrads.algebraic,
    trivial,
    Cert.Proof.MergeBwd.algebraic,
    trivial,
    Cert.Proof.MixerFwd.algebraic,
    trivial,
    Cert.Proof.AdamW.algebraic,
    trivial,
    Cert.Proof.LnBwd.algebraic,
    trivial,
    Cert.Proof.AdamWGate.algebraic⟩

end Cert.Proof

end
